-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_InWeight (m : (ℓ : Loc Cert.InWeight.nD Cert.InWeight.τ Cert.InWeight.sig) → Buf (Elt Bits) ℓ) : Prop :=
  True

def Pre_InWeightIdeal (m : (ℓ : Loc Cert.InWeightIdeal.nD Cert.InWeightIdeal.τ Cert.InWeightIdeal.sig) → Buf (Elt Ideal) ℓ) : Prop :=
  True

def Pre_InWeightRefIdeal (m : (ℓ : Loc Cert.InWeightRefIdeal.nD Cert.InWeightRefIdeal.τ Cert.InWeightRefIdeal.sig) → Buf (Elt Ideal) ℓ) : Prop :=
  True

def Pre_InInput (m : (ℓ : Loc Cert.InInput.nD Cert.InInput.τ Cert.InInput.sig) → Buf (Elt Bits) ℓ) : Prop :=
  True

def Pre_InInputIdeal (m : (ℓ : Loc Cert.InInputIdeal.nD Cert.InInputIdeal.τ Cert.InInputIdeal.sig) → Buf (Elt Ideal) ℓ) : Prop :=
  True

def Pre_InInputRefIdeal (m : (ℓ : Loc Cert.InInputRefIdeal.nD Cert.InInputRefIdeal.τ Cert.InInputRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutInput (m : (ℓ : Loc Cert.OutInput.nD Cert.OutInput.τ Cert.OutInput.sig) → Buf (Elt Bits) ℓ) : Prop :=
  True

def Pre_OutInputIdeal (m : (ℓ : Loc Cert.OutInputIdeal.nD Cert.OutInputIdeal.τ Cert.OutInputIdeal.sig) → Buf (Elt Ideal) ℓ) : Prop :=
  True

def Pre_OutInputRefIdeal (m : (ℓ : Loc Cert.OutInputRefIdeal.nD Cert.OutInputRefIdeal.τ Cert.OutInputRefIdeal.sig) → Buf (Elt Ideal) ℓ) : Prop :=
  True

def Pre_OutWeight (m : (ℓ : Loc Cert.OutWeight.nD Cert.OutWeight.τ Cert.OutWeight.sig) → Buf (Elt Bits) ℓ) : Prop :=
  True

def Pre_OutWeightIdeal (m : (ℓ : Loc Cert.OutWeightIdeal.nD Cert.OutWeightIdeal.τ Cert.OutWeightIdeal.sig) → Buf (Elt Ideal) ℓ) : Prop :=
  True

def Pre_OutWeightRefIdeal (m : (ℓ : Loc Cert.OutWeightRefIdeal.nD Cert.OutWeightRefIdeal.τ Cert.OutWeightRefIdeal.sig) → Buf (Elt Ideal) ℓ) : Prop :=
  True

def Pre_SsmInput (m : (ℓ : Loc Cert.SsmInput.nD Cert.SsmInput.τ Cert.SsmInput.sig) → Buf (Elt Bits) ℓ) : Prop :=
  True

def Pre_SsmInputIdeal (m : (ℓ : Loc Cert.SsmInputIdeal.nD Cert.SsmInputIdeal.τ Cert.SsmInputIdeal.sig) → Buf (Elt Ideal) ℓ) : Prop :=
  True

def Pre_SsmInputRefIdeal (m : (ℓ : Loc Cert.SsmInputRefIdeal.nD Cert.SsmInputRefIdeal.τ Cert.SsmInputRefIdeal.sig) → Buf (Elt Ideal) ℓ) : Prop :=
  True

def Pre_SsmWeight (m : (ℓ : Loc Cert.SsmWeight.nD Cert.SsmWeight.τ Cert.SsmWeight.sig) → Buf (Elt Bits) ℓ) : Prop :=
  True

def Pre_SsmWeightIdeal (m : (ℓ : Loc Cert.SsmWeightIdeal.nD Cert.SsmWeightIdeal.τ Cert.SsmWeightIdeal.sig) → Buf (Elt Ideal) ℓ) : Prop :=
  True

def Pre_SsmWeightRefIdeal (m : (ℓ : Loc Cert.SsmWeightRefIdeal.nD Cert.SsmWeightRefIdeal.τ Cert.SsmWeightRefIdeal.sig) → Buf (Elt Ideal) ℓ) : Prop :=
  True

def Pre_InProduct (m : (ℓ : Loc Cert.InProduct.nD Cert.InProduct.τ Cert.InProduct.sig) → Buf (Elt Bits) ℓ) : Prop :=
  True

def Pre_InProductIdeal (m : (ℓ : Loc Cert.InProductIdeal.nD Cert.InProductIdeal.τ Cert.InProductIdeal.sig) → Buf (Elt Ideal) ℓ) : Prop :=
  True

def Pre_InProductRefIdeal (m : (ℓ : Loc Cert.InProductRefIdeal.nD Cert.InProductRefIdeal.τ Cert.InProductRefIdeal.sig) → Buf (Elt Ideal) ℓ) : Prop :=
  True

def Pre_SsmProduct (m : (ℓ : Loc Cert.SsmProduct.nD Cert.SsmProduct.τ Cert.SsmProduct.sig) → Buf (Elt Bits) ℓ) : Prop :=
  True

def Pre_SsmProductIdeal (m : (ℓ : Loc Cert.SsmProductIdeal.nD Cert.SsmProductIdeal.τ Cert.SsmProductIdeal.sig) → Buf (Elt Ideal) ℓ) : Prop :=
  True

def Pre_SsmProductRefIdeal (m : (ℓ : Loc Cert.SsmProductRefIdeal.nD Cert.SsmProductRefIdeal.τ Cert.SsmProductRefIdeal.sig) → Buf (Elt Ideal) ℓ) : Prop :=
  True

def Pre_BranchProduct (m : (ℓ : Loc Cert.BranchProduct.nD Cert.BranchProduct.τ Cert.BranchProduct.sig) → Buf (Elt Bits) ℓ) : Prop :=
  True

def Pre_BranchProductIdeal (m : (ℓ : Loc Cert.BranchProductIdeal.nD Cert.BranchProductIdeal.τ Cert.BranchProductIdeal.sig) → Buf (Elt Ideal) ℓ) : Prop :=
  True

def Pre_BranchProductRefIdeal (m : (ℓ : Loc Cert.BranchProductRefIdeal.nD Cert.BranchProductRefIdeal.τ Cert.BranchProductRefIdeal.sig) → Buf (Elt Ideal) ℓ) : Prop :=
  True

def Pre_OutProduct (m : (ℓ : Loc Cert.OutProduct.nD Cert.OutProduct.τ Cert.OutProduct.sig) → Buf (Elt Bits) ℓ) : Prop :=
  True

def Pre_OutProductIdeal (m : (ℓ : Loc Cert.OutProductIdeal.nD Cert.OutProductIdeal.τ Cert.OutProductIdeal.sig) → Buf (Elt Ideal) ℓ) : Prop :=
  True

def Pre_OutProductRefIdeal (m : (ℓ : Loc Cert.OutProductRefIdeal.nD Cert.OutProductRefIdeal.τ Cert.OutProductRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_GatedNorm (m : (ℓ : Loc Cert.GatedNorm.nD Cert.GatedNorm.τ Cert.GatedNorm.sig) → Buf (Elt Bits) ℓ) : Prop :=
  True

def Pre_GatedNormIdeal (m : (ℓ : Loc Cert.GatedNormIdeal.nD Cert.GatedNormIdeal.τ Cert.GatedNormIdeal.sig) → Buf (Elt Ideal) ℓ) : Prop :=
  True

def Pre_GatedNormIdeal_finite_gnorm [hPre_finite_gnorm : Cert.Pre_finite_gnorm.Facts] (m : (ℓ : Loc Cert.GatedNormIdeal.nD Cert.GatedNormIdeal.τ Cert.GatedNormIdeal.sig) → Buf (Elt Ideal) ℓ) : Prop :=
  ∀ c : Dev Cert.GatedNormIdeal.nD,
    (Cert.Pre_finite_gnorm.fn (F := Ideal) (m ((c.tc : Thread Cert.GatedNormIdeal.nD Cert.GatedNormIdeal.τ).loc Cert.GatedNormIdeal.main_arg0)) (m ((c.tc : Thread Cert.GatedNormIdeal.nD Cert.GatedNormIdeal.τ).loc Cert.GatedNormIdeal.main_arg1)) (m ((c.tc : Thread Cert.GatedNormIdeal.nD Cert.GatedNormIdeal.τ).loc Cert.GatedNormIdeal.main_arg2)) (m ((c.tc : Thread Cert.GatedNormIdeal.nD Cert.GatedNormIdeal.τ).loc Cert.GatedNormIdeal.main_arg3))) = (fun _ => 1#1)

def Pre_GatedNormRefIdeal (m : (ℓ : Loc Cert.GatedNormRefIdeal.nD Cert.GatedNormRefIdeal.τ Cert.GatedNormRefIdeal.sig) → Buf (Elt Ideal) ℓ) : Prop :=
  True

def Pre_GatedNormRefIdeal_finite_gnorm [hPre_finite_gnorm : Cert.Pre_finite_gnorm.Facts] (m : (ℓ : Loc Cert.GatedNormRefIdeal.nD Cert.GatedNormRefIdeal.τ Cert.GatedNormRefIdeal.sig) → Buf (Elt Ideal) ℓ) : Prop :=
  ∀ c : Dev Cert.GatedNormRefIdeal.nD,
    (Cert.Pre_finite_gnorm.fn (F := Ideal) (m ((c.tc : Thread Cert.GatedNormRefIdeal.nD Cert.GatedNormRefIdeal.τ).loc Cert.GatedNormRefIdeal.main_arg0)) (m ((c.tc : Thread Cert.GatedNormRefIdeal.nD Cert.GatedNormRefIdeal.τ).loc Cert.GatedNormRefIdeal.main_arg1)) (m ((c.tc : Thread Cert.GatedNormRefIdeal.nD Cert.GatedNormRefIdeal.τ).loc Cert.GatedNormRefIdeal.main_arg2)) (m ((c.tc : Thread Cert.GatedNormRefIdeal.nD Cert.GatedNormRefIdeal.τ).loc Cert.GatedNormRefIdeal.main_arg3))) = (fun _ => 1#1)

def Pre_NormForward (m : (ℓ : Loc Cert.NormForward.nD Cert.NormForward.τ Cert.NormForward.sig) → Buf (Elt Bits) ℓ) : Prop :=
  True

def Pre_NormForwardIdeal (m : (ℓ : Loc Cert.NormForwardIdeal.nD Cert.NormForwardIdeal.τ Cert.NormForwardIdeal.sig) → Buf (Elt Ideal) ℓ) : Prop :=
  True

def Pre_NormForwardRefIdeal (m : (ℓ : Loc Cert.NormForwardRefIdeal.nD Cert.NormForwardRefIdeal.τ Cert.NormForwardRefIdeal.sig) → Buf (Elt Ideal) ℓ) : Prop :=
  True

def Pre_GatedForward (m : (ℓ : Loc Cert.GatedForward.nD Cert.GatedForward.τ Cert.GatedForward.sig) → Buf (Elt Bits) ℓ) : Prop :=
  True

def Pre_GatedForwardIdeal (m : (ℓ : Loc Cert.GatedForwardIdeal.nD Cert.GatedForwardIdeal.τ Cert.GatedForwardIdeal.sig) → Buf (Elt Ideal) ℓ) : Prop :=
  True

def Pre_GatedForwardRefIdeal (m : (ℓ : Loc Cert.GatedForwardRefIdeal.nD Cert.GatedForwardRefIdeal.τ Cert.GatedForwardRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_InWeight [hInWeight : Cert.InWeight.Facts] : Prop :=
  ∀ (m : (ℓ : Loc Cert.InWeight.nD Cert.InWeight.τ Cert.InWeight.sig) → Buf (Elt Bits) ℓ) (g : Dev Cert.InWeight.nD → PrngReg), Pre_InWeight m →
    θ_run (Cert.InWeight.defs (F := Bits)) (onTc (τ := Cert.InWeight.τ) (Cert.InWeight.main (F := Bits))) ⟨m, fun _ => 0, g⟩ (fun r => (∀ c : Dev Cert.InWeight.nD,
      r.2.mem ((c.tc : Thread Cert.InWeight.nD Cert.InWeight.τ).loc Cert.InWeight.main_arg0) = m ((c.tc : Thread Cert.InWeight.nD Cert.InWeight.τ).loc Cert.InWeight.main_arg0)
      ∧ r.2.mem ((c.tc : Thread Cert.InWeight.nD Cert.InWeight.τ).loc Cert.InWeight.main_arg1) = m ((c.tc : Thread Cert.InWeight.nD Cert.InWeight.τ).loc Cert.InWeight.main_arg1))
      ∧ r.2.sem = fun _ => 0)

def quiescent_InWeightIdeal [hInWeightIdeal : Cert.InWeightIdeal.Facts] : Prop :=
  ∀ (m : (ℓ : Loc Cert.InWeightIdeal.nD Cert.InWeightIdeal.τ Cert.InWeightIdeal.sig) → Buf (Elt Ideal) ℓ) (g : Dev Cert.InWeightIdeal.nD → PrngReg), Pre_InWeightIdeal m →
    θ_run (Cert.InWeightIdeal.defs (F := Ideal)) (onTc (τ := Cert.InWeightIdeal.τ) (Cert.InWeightIdeal.main (F := Ideal))) ⟨m, fun _ => 0, g⟩ (fun r => (∀ c : Dev Cert.InWeightIdeal.nD,
      r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
      ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1))
      ∧ r.2.sem = fun _ => 0)

def quiescent_InWeightRefIdeal [hInWeightRefIdeal : Cert.InWeightRefIdeal.Facts] : Prop :=
  ∀ (m : (ℓ : Loc Cert.InWeightRefIdeal.nD Cert.InWeightRefIdeal.τ Cert.InWeightRefIdeal.sig) → Buf (Elt Ideal) ℓ) (g : Dev Cert.InWeightRefIdeal.nD → PrngReg), Pre_InWeightRefIdeal m →
    θ_run (Cert.InWeightRefIdeal.defs (F := Ideal)) (onTc (τ := Cert.InWeightRefIdeal.τ) (Cert.InWeightRefIdeal.main (F := Ideal))) ⟨m, fun _ => 0, g⟩ (fun r => (∀ c : Dev Cert.InWeightRefIdeal.nD,
      r.2.mem ((c.tc : Thread Cert.InWeightRefIdeal.nD Cert.InWeightRefIdeal.τ).loc Cert.InWeightRefIdeal.main_arg0) = m ((c.tc : Thread Cert.InWeightRefIdeal.nD Cert.InWeightRefIdeal.τ).loc Cert.InWeightRefIdeal.main_arg0)
      ∧ r.2.mem ((c.tc : Thread Cert.InWeightRefIdeal.nD Cert.InWeightRefIdeal.τ).loc Cert.InWeightRefIdeal.main_arg1) = m ((c.tc : Thread Cert.InWeightRefIdeal.nD Cert.InWeightRefIdeal.τ).loc Cert.InWeightRefIdeal.main_arg1))
      ∧ r.2.sem = fun _ => 0)

def quiescent_InInput [hInInput : Cert.InInput.Facts] : Prop :=
  ∀ (m : (ℓ : Loc Cert.InInput.nD Cert.InInput.τ Cert.InInput.sig) → Buf (Elt Bits) ℓ) (g : Dev Cert.InInput.nD → PrngReg), Pre_InInput m →
    θ_run (Cert.InInput.defs (F := Bits)) (onTc (τ := Cert.InInput.τ) (Cert.InInput.main (F := Bits))) ⟨m, fun _ => 0, g⟩ (fun r => (∀ c : Dev Cert.InInput.nD,
      r.2.mem ((c.tc : Thread Cert.InInput.nD Cert.InInput.τ).loc Cert.InInput.main_arg0) = m ((c.tc : Thread Cert.InInput.nD Cert.InInput.τ).loc Cert.InInput.main_arg0)
      ∧ r.2.mem ((c.tc : Thread Cert.InInput.nD Cert.InInput.τ).loc Cert.InInput.main_arg1) = m ((c.tc : Thread Cert.InInput.nD Cert.InInput.τ).loc Cert.InInput.main_arg1))
      ∧ r.2.sem = fun _ => 0)

def quiescent_InInputIdeal [hInInputIdeal : Cert.InInputIdeal.Facts] : Prop :=
  ∀ (m : (ℓ : Loc Cert.InInputIdeal.nD Cert.InInputIdeal.τ Cert.InInputIdeal.sig) → Buf (Elt Ideal) ℓ) (g : Dev Cert.InInputIdeal.nD → PrngReg), Pre_InInputIdeal m →
    θ_run (Cert.InInputIdeal.defs (F := Ideal)) (onTc (τ := Cert.InInputIdeal.τ) (Cert.InInputIdeal.main (F := Ideal))) ⟨m, fun _ => 0, g⟩ (fun r => (∀ c : Dev Cert.InInputIdeal.nD,
      r.2.mem ((c.tc : Thread Cert.InInputIdeal.nD Cert.InInputIdeal.τ).loc Cert.InInputIdeal.main_arg0) = m ((c.tc : Thread Cert.InInputIdeal.nD Cert.InInputIdeal.τ).loc Cert.InInputIdeal.main_arg0)
      ∧ r.2.mem ((c.tc : Thread Cert.InInputIdeal.nD Cert.InInputIdeal.τ).loc Cert.InInputIdeal.main_arg1) = m ((c.tc : Thread Cert.InInputIdeal.nD Cert.InInputIdeal.τ).loc Cert.InInputIdeal.main_arg1))
      ∧ r.2.sem = fun _ => 0)

def quiescent_InInputRefIdeal [hInInputRefIdeal : Cert.InInputRefIdeal.Facts] : Prop :=
  ∀ (m : (ℓ : Loc Cert.InInputRefIdeal.nD Cert.InInputRefIdeal.τ Cert.InInputRefIdeal.sig) → Buf (Elt Ideal) ℓ) (g : Dev Cert.InInputRefIdeal.nD → PrngReg), Pre_InInputRefIdeal m →
    θ_run (Cert.InInputRefIdeal.defs (F := Ideal)) (onTc (τ := Cert.InInputRefIdeal.τ) (Cert.InInputRefIdeal.main (F := Ideal))) ⟨m, fun _ => 0, g⟩ (fun r => (∀ c : Dev Cert.InInputRefIdeal.nD,
      r.2.mem ((c.tc : Thread Cert.InInputRefIdeal.nD Cert.InInputRefIdeal.τ).loc Cert.InInputRefIdeal.main_arg0) = m ((c.tc : Thread Cert.InInputRefIdeal.nD Cert.InInputRefIdeal.τ).loc Cert.InInputRefIdeal.main_arg0)
      ∧ r.2.mem ((c.tc : Thread Cert.InInputRefIdeal.nD Cert.InInputRefIdeal.τ).loc Cert.InInputRefIdeal.main_arg1) = m ((c.tc : Thread Cert.InInputRefIdeal.nD Cert.InInputRefIdeal.τ).loc Cert.InInputRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_OutInput [hOutInput : Cert.OutInput.Facts] : Prop :=
  ∀ (m : (ℓ : Loc Cert.OutInput.nD Cert.OutInput.τ Cert.OutInput.sig) → Buf (Elt Bits) ℓ) (g : Dev Cert.OutInput.nD → PrngReg), Pre_OutInput m →
    θ_run (Cert.OutInput.defs (F := Bits)) (onTc (τ := Cert.OutInput.τ) (Cert.OutInput.main (F := Bits))) ⟨m, fun _ => 0, g⟩ (fun r => (∀ c : Dev Cert.OutInput.nD,
      r.2.mem ((c.tc : Thread Cert.OutInput.nD Cert.OutInput.τ).loc Cert.OutInput.main_arg0) = m ((c.tc : Thread Cert.OutInput.nD Cert.OutInput.τ).loc Cert.OutInput.main_arg0)
      ∧ r.2.mem ((c.tc : Thread Cert.OutInput.nD Cert.OutInput.τ).loc Cert.OutInput.main_arg1) = m ((c.tc : Thread Cert.OutInput.nD Cert.OutInput.τ).loc Cert.OutInput.main_arg1))
      ∧ r.2.sem = fun _ => 0)

def quiescent_OutInputIdeal [hOutInputIdeal : Cert.OutInputIdeal.Facts] : Prop :=
  ∀ (m : (ℓ : Loc Cert.OutInputIdeal.nD Cert.OutInputIdeal.τ Cert.OutInputIdeal.sig) → Buf (Elt Ideal) ℓ) (g : Dev Cert.OutInputIdeal.nD → PrngReg), Pre_OutInputIdeal m →
    θ_run (Cert.OutInputIdeal.defs (F := Ideal)) (onTc (τ := Cert.OutInputIdeal.τ) (Cert.OutInputIdeal.main (F := Ideal))) ⟨m, fun _ => 0, g⟩ (fun r => (∀ c : Dev Cert.OutInputIdeal.nD,
      r.2.mem ((c.tc : Thread Cert.OutInputIdeal.nD Cert.OutInputIdeal.τ).loc Cert.OutInputIdeal.main_arg0) = m ((c.tc : Thread Cert.OutInputIdeal.nD Cert.OutInputIdeal.τ).loc Cert.OutInputIdeal.main_arg0)
      ∧ r.2.mem ((c.tc : Thread Cert.OutInputIdeal.nD Cert.OutInputIdeal.τ).loc Cert.OutInputIdeal.main_arg1) = m ((c.tc : Thread Cert.OutInputIdeal.nD Cert.OutInputIdeal.τ).loc Cert.OutInputIdeal.main_arg1))
      ∧ r.2.sem = fun _ => 0)

def quiescent_OutInputRefIdeal [hOutInputRefIdeal : Cert.OutInputRefIdeal.Facts] : Prop :=
  ∀ (m : (ℓ : Loc Cert.OutInputRefIdeal.nD Cert.OutInputRefIdeal.τ Cert.OutInputRefIdeal.sig) → Buf (Elt Ideal) ℓ) (g : Dev Cert.OutInputRefIdeal.nD → PrngReg), Pre_OutInputRefIdeal m →
    θ_run (Cert.OutInputRefIdeal.defs (F := Ideal)) (onTc (τ := Cert.OutInputRefIdeal.τ) (Cert.OutInputRefIdeal.main (F := Ideal))) ⟨m, fun _ => 0, g⟩ (fun r => (∀ c : Dev Cert.OutInputRefIdeal.nD,
      r.2.mem ((c.tc : Thread Cert.OutInputRefIdeal.nD Cert.OutInputRefIdeal.τ).loc Cert.OutInputRefIdeal.main_arg0) = m ((c.tc : Thread Cert.OutInputRefIdeal.nD Cert.OutInputRefIdeal.τ).loc Cert.OutInputRefIdeal.main_arg0)
      ∧ r.2.mem ((c.tc : Thread Cert.OutInputRefIdeal.nD Cert.OutInputRefIdeal.τ).loc Cert.OutInputRefIdeal.main_arg1) = m ((c.tc : Thread Cert.OutInputRefIdeal.nD Cert.OutInputRefIdeal.τ).loc Cert.OutInputRefIdeal.main_arg1))
      ∧ r.2.sem = fun _ => 0)

def quiescent_OutWeight [hOutWeight : Cert.OutWeight.Facts] : Prop :=
  ∀ (m : (ℓ : Loc Cert.OutWeight.nD Cert.OutWeight.τ Cert.OutWeight.sig) → Buf (Elt Bits) ℓ) (g : Dev Cert.OutWeight.nD → PrngReg), Pre_OutWeight m →
    θ_run (Cert.OutWeight.defs (F := Bits)) (onTc (τ := Cert.OutWeight.τ) (Cert.OutWeight.main (F := Bits))) ⟨m, fun _ => 0, g⟩ (fun r => (∀ c : Dev Cert.OutWeight.nD,
      r.2.mem ((c.tc : Thread Cert.OutWeight.nD Cert.OutWeight.τ).loc Cert.OutWeight.main_arg0) = m ((c.tc : Thread Cert.OutWeight.nD Cert.OutWeight.τ).loc Cert.OutWeight.main_arg0)
      ∧ r.2.mem ((c.tc : Thread Cert.OutWeight.nD Cert.OutWeight.τ).loc Cert.OutWeight.main_arg1) = m ((c.tc : Thread Cert.OutWeight.nD Cert.OutWeight.τ).loc Cert.OutWeight.main_arg1))
      ∧ r.2.sem = fun _ => 0)

def quiescent_OutWeightIdeal [hOutWeightIdeal : Cert.OutWeightIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg), Pre_OutWeightIdeal m →
    θ_run (Cert.OutWeightIdeal.defs (F := Ideal)) (onTc (τ := Cert.OutWeightIdeal.τ) (Cert.OutWeightIdeal.main (F := Ideal))) ⟨m, fun _ => 0, g⟩ (fun r => (∀ c : Dev Cert.OutWeightIdeal.nD,
      r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
      ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1))
      ∧ r.2.sem = fun _ => 0)

def quiescent_OutWeightRefIdeal [hOutWeightRefIdeal : Cert.OutWeightRefIdeal.Facts] : Prop :=
  ∀ (m : (ℓ : Loc Cert.OutWeightRefIdeal.nD Cert.OutWeightRefIdeal.τ Cert.OutWeightRefIdeal.sig) → Buf (Elt Ideal) ℓ) (g : Dev Cert.OutWeightRefIdeal.nD → PrngReg), Pre_OutWeightRefIdeal m →
    θ_run (Cert.OutWeightRefIdeal.defs (F := Ideal)) (onTc (τ := Cert.OutWeightRefIdeal.τ) (Cert.OutWeightRefIdeal.main (F := Ideal))) ⟨m, fun _ => 0, g⟩ (fun r => (∀ c : Dev Cert.OutWeightRefIdeal.nD,
      r.2.mem ((c.tc : Thread Cert.OutWeightRefIdeal.nD Cert.OutWeightRefIdeal.τ).loc Cert.OutWeightRefIdeal.main_arg0) = m ((c.tc : Thread Cert.OutWeightRefIdeal.nD Cert.OutWeightRefIdeal.τ).loc Cert.OutWeightRefIdeal.main_arg0)
      ∧ r.2.mem ((c.tc : Thread Cert.OutWeightRefIdeal.nD Cert.OutWeightRefIdeal.τ).loc Cert.OutWeightRefIdeal.main_arg1) = m ((c.tc : Thread Cert.OutWeightRefIdeal.nD Cert.OutWeightRefIdeal.τ).loc Cert.OutWeightRefIdeal.main_arg1))
      ∧ r.2.sem = fun _ => 0)

def quiescent_SsmInput [hSsmInput : Cert.SsmInput.Facts] : Prop :=
  ∀ (m : (ℓ : Loc Cert.SsmInput.nD Cert.SsmInput.τ Cert.SsmInput.sig) → Buf (Elt Bits) ℓ) (g : Dev Cert.SsmInput.nD → PrngReg), Pre_SsmInput m →
    θ_run (Cert.SsmInput.defs (F := Bits)) (onTc (τ := Cert.SsmInput.τ) (Cert.SsmInput.main (F := Bits))) ⟨m, fun _ => 0, g⟩ (fun r => (∀ c : Dev Cert.SsmInput.nD,
      r.2.mem ((c.tc : Thread Cert.SsmInput.nD Cert.SsmInput.τ).loc Cert.SsmInput.main_arg0) = m ((c.tc : Thread Cert.SsmInput.nD Cert.SsmInput.τ).loc Cert.SsmInput.main_arg0)
      ∧ r.2.mem ((c.tc : Thread Cert.SsmInput.nD Cert.SsmInput.τ).loc Cert.SsmInput.main_arg1) = m ((c.tc : Thread Cert.SsmInput.nD Cert.SsmInput.τ).loc Cert.SsmInput.main_arg1))
      ∧ r.2.sem = fun _ => 0)

def quiescent_SsmInputIdeal [hSsmInputIdeal : Cert.SsmInputIdeal.Facts] : Prop :=
  ∀ (m : (ℓ : Loc Cert.SsmInputIdeal.nD Cert.SsmInputIdeal.τ Cert.SsmInputIdeal.sig) → Buf (Elt Ideal) ℓ) (g : Dev Cert.SsmInputIdeal.nD → PrngReg), Pre_SsmInputIdeal m →
    θ_run (Cert.SsmInputIdeal.defs (F := Ideal)) (onTc (τ := Cert.SsmInputIdeal.τ) (Cert.SsmInputIdeal.main (F := Ideal))) ⟨m, fun _ => 0, g⟩ (fun r => (∀ c : Dev Cert.SsmInputIdeal.nD,
      r.2.mem ((c.tc : Thread Cert.SsmInputIdeal.nD Cert.SsmInputIdeal.τ).loc Cert.SsmInputIdeal.main_arg0) = m ((c.tc : Thread Cert.SsmInputIdeal.nD Cert.SsmInputIdeal.τ).loc Cert.SsmInputIdeal.main_arg0)
      ∧ r.2.mem ((c.tc : Thread Cert.SsmInputIdeal.nD Cert.SsmInputIdeal.τ).loc Cert.SsmInputIdeal.main_arg1) = m ((c.tc : Thread Cert.SsmInputIdeal.nD Cert.SsmInputIdeal.τ).loc Cert.SsmInputIdeal.main_arg1))
      ∧ r.2.sem = fun _ => 0)

def quiescent_SsmInputRefIdeal [hSsmInputRefIdeal : Cert.SsmInputRefIdeal.Facts] : Prop :=
  ∀ (m : (ℓ : Loc Cert.SsmInputRefIdeal.nD Cert.SsmInputRefIdeal.τ Cert.SsmInputRefIdeal.sig) → Buf (Elt Ideal) ℓ) (g : Dev Cert.SsmInputRefIdeal.nD → PrngReg), Pre_SsmInputRefIdeal m →
    θ_run (Cert.SsmInputRefIdeal.defs (F := Ideal)) (onTc (τ := Cert.SsmInputRefIdeal.τ) (Cert.SsmInputRefIdeal.main (F := Ideal))) ⟨m, fun _ => 0, g⟩ (fun r => (∀ c : Dev Cert.SsmInputRefIdeal.nD,
      r.2.mem ((c.tc : Thread Cert.SsmInputRefIdeal.nD Cert.SsmInputRefIdeal.τ).loc Cert.SsmInputRefIdeal.main_arg0) = m ((c.tc : Thread Cert.SsmInputRefIdeal.nD Cert.SsmInputRefIdeal.τ).loc Cert.SsmInputRefIdeal.main_arg0)
      ∧ r.2.mem ((c.tc : Thread Cert.SsmInputRefIdeal.nD Cert.SsmInputRefIdeal.τ).loc Cert.SsmInputRefIdeal.main_arg1) = m ((c.tc : Thread Cert.SsmInputRefIdeal.nD Cert.SsmInputRefIdeal.τ).loc Cert.SsmInputRefIdeal.main_arg1))
      ∧ r.2.sem = fun _ => 0)

def quiescent_SsmWeight [hSsmWeight : Cert.SsmWeight.Facts] : Prop :=
  ∀ (m : (ℓ : Loc Cert.SsmWeight.nD Cert.SsmWeight.τ Cert.SsmWeight.sig) → Buf (Elt Bits) ℓ) (g : Dev Cert.SsmWeight.nD → PrngReg), Pre_SsmWeight m →
    θ_run (Cert.SsmWeight.defs (F := Bits)) (onTc (τ := Cert.SsmWeight.τ) (Cert.SsmWeight.main (F := Bits))) ⟨m, fun _ => 0, g⟩ (fun r => (∀ c : Dev Cert.SsmWeight.nD,
      r.2.mem ((c.tc : Thread Cert.SsmWeight.nD Cert.SsmWeight.τ).loc Cert.SsmWeight.main_arg0) = m ((c.tc : Thread Cert.SsmWeight.nD Cert.SsmWeight.τ).loc Cert.SsmWeight.main_arg0)
      ∧ r.2.mem ((c.tc : Thread Cert.SsmWeight.nD Cert.SsmWeight.τ).loc Cert.SsmWeight.main_arg1) = m ((c.tc : Thread Cert.SsmWeight.nD Cert.SsmWeight.τ).loc Cert.SsmWeight.main_arg1))
      ∧ r.2.sem = fun _ => 0)

def quiescent_SsmWeightIdeal [hSsmWeightIdeal : Cert.SsmWeightIdeal.Facts] : Prop :=
  ∀ (m : (ℓ : Loc Cert.SsmWeightIdeal.nD Cert.SsmWeightIdeal.τ Cert.SsmWeightIdeal.sig) → Buf (Elt Ideal) ℓ) (g : Dev Cert.SsmWeightIdeal.nD → PrngReg), Pre_SsmWeightIdeal m →
    θ_run (Cert.SsmWeightIdeal.defs (F := Ideal)) (onTc (τ := Cert.SsmWeightIdeal.τ) (Cert.SsmWeightIdeal.main (F := Ideal))) ⟨m, fun _ => 0, g⟩ (fun r => (∀ c : Dev Cert.SsmWeightIdeal.nD,
      r.2.mem ((c.tc : Thread Cert.SsmWeightIdeal.nD Cert.SsmWeightIdeal.τ).loc Cert.SsmWeightIdeal.main_arg0) = m ((c.tc : Thread Cert.SsmWeightIdeal.nD Cert.SsmWeightIdeal.τ).loc Cert.SsmWeightIdeal.main_arg0)
      ∧ r.2.mem ((c.tc : Thread Cert.SsmWeightIdeal.nD Cert.SsmWeightIdeal.τ).loc Cert.SsmWeightIdeal.main_arg1) = m ((c.tc : Thread Cert.SsmWeightIdeal.nD Cert.SsmWeightIdeal.τ).loc Cert.SsmWeightIdeal.main_arg1))
      ∧ r.2.sem = fun _ => 0)

def quiescent_SsmWeightRefIdeal [hSsmWeightRefIdeal : Cert.SsmWeightRefIdeal.Facts] : Prop :=
  ∀ (m : (ℓ : Loc Cert.SsmWeightRefIdeal.nD Cert.SsmWeightRefIdeal.τ Cert.SsmWeightRefIdeal.sig) → Buf (Elt Ideal) ℓ) (g : Dev Cert.SsmWeightRefIdeal.nD → PrngReg), Pre_SsmWeightRefIdeal m →
    θ_run (Cert.SsmWeightRefIdeal.defs (F := Ideal)) (onTc (τ := Cert.SsmWeightRefIdeal.τ) (Cert.SsmWeightRefIdeal.main (F := Ideal))) ⟨m, fun _ => 0, g⟩ (fun r => (∀ c : Dev Cert.SsmWeightRefIdeal.nD,
      r.2.mem ((c.tc : Thread Cert.SsmWeightRefIdeal.nD Cert.SsmWeightRefIdeal.τ).loc Cert.SsmWeightRefIdeal.main_arg0) = m ((c.tc : Thread Cert.SsmWeightRefIdeal.nD Cert.SsmWeightRefIdeal.τ).loc Cert.SsmWeightRefIdeal.main_arg0)
      ∧ r.2.mem ((c.tc : Thread Cert.SsmWeightRefIdeal.nD Cert.SsmWeightRefIdeal.τ).loc Cert.SsmWeightRefIdeal.main_arg1) = m ((c.tc : Thread Cert.SsmWeightRefIdeal.nD Cert.SsmWeightRefIdeal.τ).loc Cert.SsmWeightRefIdeal.main_arg1))
      ∧ r.2.sem = fun _ => 0)

def quiescent_InProduct [hInProduct : Cert.InProduct.Facts] : Prop :=
  ∀ (m : (ℓ : Loc Cert.InProduct.nD Cert.InProduct.τ Cert.InProduct.sig) → Buf (Elt Bits) ℓ) (g : Dev Cert.InProduct.nD → PrngReg), Pre_InProduct m →
    θ_run (Cert.InProduct.defs (F := Bits)) (onTc (τ := Cert.InProduct.τ) (Cert.InProduct.main (F := Bits))) ⟨m, fun _ => 0, g⟩ (fun r => (∀ c : Dev Cert.InProduct.nD,
      r.2.mem ((c.tc : Thread Cert.InProduct.nD Cert.InProduct.τ).loc Cert.InProduct.main_arg0) = m ((c.tc : Thread Cert.InProduct.nD Cert.InProduct.τ).loc Cert.InProduct.main_arg0)
      ∧ r.2.mem ((c.tc : Thread Cert.InProduct.nD Cert.InProduct.τ).loc Cert.InProduct.main_arg1) = m ((c.tc : Thread Cert.InProduct.nD Cert.InProduct.τ).loc Cert.InProduct.main_arg1))
      ∧ r.2.sem = fun _ => 0)

def quiescent_InProductIdeal [hInProductIdeal : Cert.InProductIdeal.Facts] : Prop :=
  ∀ (m : (ℓ : Loc Cert.InProductIdeal.nD Cert.InProductIdeal.τ Cert.InProductIdeal.sig) → Buf (Elt Ideal) ℓ) (g : Dev Cert.InProductIdeal.nD → PrngReg), Pre_InProductIdeal m →
    θ_run (Cert.InProductIdeal.defs (F := Ideal)) (onTc (τ := Cert.InProductIdeal.τ) (Cert.InProductIdeal.main (F := Ideal))) ⟨m, fun _ => 0, g⟩ (fun r => (∀ c : Dev Cert.InProductIdeal.nD,
      r.2.mem ((c.tc : Thread Cert.InProductIdeal.nD Cert.InProductIdeal.τ).loc Cert.InProductIdeal.main_arg0) = m ((c.tc : Thread Cert.InProductIdeal.nD Cert.InProductIdeal.τ).loc Cert.InProductIdeal.main_arg0)
      ∧ r.2.mem ((c.tc : Thread Cert.InProductIdeal.nD Cert.InProductIdeal.τ).loc Cert.InProductIdeal.main_arg1) = m ((c.tc : Thread Cert.InProductIdeal.nD Cert.InProductIdeal.τ).loc Cert.InProductIdeal.main_arg1))
      ∧ r.2.sem = fun _ => 0)

def quiescent_InProductRefIdeal [hInProductRefIdeal : Cert.InProductRefIdeal.Facts] : Prop :=
  ∀ (m : (ℓ : Loc Cert.InProductRefIdeal.nD Cert.InProductRefIdeal.τ Cert.InProductRefIdeal.sig) → Buf (Elt Ideal) ℓ) (g : Dev Cert.InProductRefIdeal.nD → PrngReg), Pre_InProductRefIdeal m →
    θ_run (Cert.InProductRefIdeal.defs (F := Ideal)) (onTc (τ := Cert.InProductRefIdeal.τ) (Cert.InProductRefIdeal.main (F := Ideal))) ⟨m, fun _ => 0, g⟩ (fun r => (∀ c : Dev Cert.InProductRefIdeal.nD,
      r.2.mem ((c.tc : Thread Cert.InProductRefIdeal.nD Cert.InProductRefIdeal.τ).loc Cert.InProductRefIdeal.main_arg0) = m ((c.tc : Thread Cert.InProductRefIdeal.nD Cert.InProductRefIdeal.τ).loc Cert.InProductRefIdeal.main_arg0)
      ∧ r.2.mem ((c.tc : Thread Cert.InProductRefIdeal.nD Cert.InProductRefIdeal.τ).loc Cert.InProductRefIdeal.main_arg1) = m ((c.tc : Thread Cert.InProductRefIdeal.nD Cert.InProductRefIdeal.τ).loc Cert.InProductRefIdeal.main_arg1))
      ∧ r.2.sem = fun _ => 0)

def quiescent_SsmProduct [hSsmProduct : Cert.SsmProduct.Facts] : Prop :=
  ∀ (m : (ℓ : Loc Cert.SsmProduct.nD Cert.SsmProduct.τ Cert.SsmProduct.sig) → Buf (Elt Bits) ℓ) (g : Dev Cert.SsmProduct.nD → PrngReg), Pre_SsmProduct m →
    θ_run (Cert.SsmProduct.defs (F := Bits)) (onTc (τ := Cert.SsmProduct.τ) (Cert.SsmProduct.main (F := Bits))) ⟨m, fun _ => 0, g⟩ (fun r => (∀ c : Dev Cert.SsmProduct.nD,
      r.2.mem ((c.tc : Thread Cert.SsmProduct.nD Cert.SsmProduct.τ).loc Cert.SsmProduct.main_arg0) = m ((c.tc : Thread Cert.SsmProduct.nD Cert.SsmProduct.τ).loc Cert.SsmProduct.main_arg0)
      ∧ r.2.mem ((c.tc : Thread Cert.SsmProduct.nD Cert.SsmProduct.τ).loc Cert.SsmProduct.main_arg1) = m ((c.tc : Thread Cert.SsmProduct.nD Cert.SsmProduct.τ).loc Cert.SsmProduct.main_arg1))
      ∧ r.2.sem = fun _ => 0)

def quiescent_SsmProductIdeal [hSsmProductIdeal : Cert.SsmProductIdeal.Facts] : Prop :=
  ∀ (m : (ℓ : Loc Cert.SsmProductIdeal.nD Cert.SsmProductIdeal.τ Cert.SsmProductIdeal.sig) → Buf (Elt Ideal) ℓ) (g : Dev Cert.SsmProductIdeal.nD → PrngReg), Pre_SsmProductIdeal m →
    θ_run (Cert.SsmProductIdeal.defs (F := Ideal)) (onTc (τ := Cert.SsmProductIdeal.τ) (Cert.SsmProductIdeal.main (F := Ideal))) ⟨m, fun _ => 0, g⟩ (fun r => (∀ c : Dev Cert.SsmProductIdeal.nD,
      r.2.mem ((c.tc : Thread Cert.SsmProductIdeal.nD Cert.SsmProductIdeal.τ).loc Cert.SsmProductIdeal.main_arg0) = m ((c.tc : Thread Cert.SsmProductIdeal.nD Cert.SsmProductIdeal.τ).loc Cert.SsmProductIdeal.main_arg0)
      ∧ r.2.mem ((c.tc : Thread Cert.SsmProductIdeal.nD Cert.SsmProductIdeal.τ).loc Cert.SsmProductIdeal.main_arg1) = m ((c.tc : Thread Cert.SsmProductIdeal.nD Cert.SsmProductIdeal.τ).loc Cert.SsmProductIdeal.main_arg1))
      ∧ r.2.sem = fun _ => 0)

def quiescent_SsmProductRefIdeal [hSsmProductRefIdeal : Cert.SsmProductRefIdeal.Facts] : Prop :=
  ∀ (m : (ℓ : Loc Cert.SsmProductRefIdeal.nD Cert.SsmProductRefIdeal.τ Cert.SsmProductRefIdeal.sig) → Buf (Elt Ideal) ℓ) (g : Dev Cert.SsmProductRefIdeal.nD → PrngReg), Pre_SsmProductRefIdeal m →
    θ_run (Cert.SsmProductRefIdeal.defs (F := Ideal)) (onTc (τ := Cert.SsmProductRefIdeal.τ) (Cert.SsmProductRefIdeal.main (F := Ideal))) ⟨m, fun _ => 0, g⟩ (fun r => (∀ c : Dev Cert.SsmProductRefIdeal.nD,
      r.2.mem ((c.tc : Thread Cert.SsmProductRefIdeal.nD Cert.SsmProductRefIdeal.τ).loc Cert.SsmProductRefIdeal.main_arg0) = m ((c.tc : Thread Cert.SsmProductRefIdeal.nD Cert.SsmProductRefIdeal.τ).loc Cert.SsmProductRefIdeal.main_arg0)
      ∧ r.2.mem ((c.tc : Thread Cert.SsmProductRefIdeal.nD Cert.SsmProductRefIdeal.τ).loc Cert.SsmProductRefIdeal.main_arg1) = m ((c.tc : Thread Cert.SsmProductRefIdeal.nD Cert.SsmProductRefIdeal.τ).loc Cert.SsmProductRefIdeal.main_arg1))
      ∧ r.2.sem = fun _ => 0)

def quiescent_BranchProduct [hBranchProduct : Cert.BranchProduct.Facts] : Prop :=
  ∀ (m : (ℓ : Loc Cert.BranchProduct.nD Cert.BranchProduct.τ Cert.BranchProduct.sig) → Buf (Elt Bits) ℓ) (g : Dev Cert.BranchProduct.nD → PrngReg), Pre_BranchProduct m →
    θ_run (Cert.BranchProduct.defs (F := Bits)) (onTc (τ := Cert.BranchProduct.τ) (Cert.BranchProduct.main (F := Bits))) ⟨m, fun _ => 0, g⟩ (fun r => (∀ c : Dev Cert.BranchProduct.nD,
      r.2.mem ((c.tc : Thread Cert.BranchProduct.nD Cert.BranchProduct.τ).loc Cert.BranchProduct.main_arg0) = m ((c.tc : Thread Cert.BranchProduct.nD Cert.BranchProduct.τ).loc Cert.BranchProduct.main_arg0)
      ∧ r.2.mem ((c.tc : Thread Cert.BranchProduct.nD Cert.BranchProduct.τ).loc Cert.BranchProduct.main_arg1) = m ((c.tc : Thread Cert.BranchProduct.nD Cert.BranchProduct.τ).loc Cert.BranchProduct.main_arg1))
      ∧ r.2.sem = fun _ => 0)

def quiescent_BranchProductIdeal [hBranchProductIdeal : Cert.BranchProductIdeal.Facts] : Prop :=
  ∀ (m : (ℓ : Loc Cert.BranchProductIdeal.nD Cert.BranchProductIdeal.τ Cert.BranchProductIdeal.sig) → Buf (Elt Ideal) ℓ) (g : Dev Cert.BranchProductIdeal.nD → PrngReg), Pre_BranchProductIdeal m →
    θ_run (Cert.BranchProductIdeal.defs (F := Ideal)) (onTc (τ := Cert.BranchProductIdeal.τ) (Cert.BranchProductIdeal.main (F := Ideal))) ⟨m, fun _ => 0, g⟩ (fun r => (∀ c : Dev Cert.BranchProductIdeal.nD,
      r.2.mem ((c.tc : Thread Cert.BranchProductIdeal.nD Cert.BranchProductIdeal.τ).loc Cert.BranchProductIdeal.main_arg0) = m ((c.tc : Thread Cert.BranchProductIdeal.nD Cert.BranchProductIdeal.τ).loc Cert.BranchProductIdeal.main_arg0)
      ∧ r.2.mem ((c.tc : Thread Cert.BranchProductIdeal.nD Cert.BranchProductIdeal.τ).loc Cert.BranchProductIdeal.main_arg1) = m ((c.tc : Thread Cert.BranchProductIdeal.nD Cert.BranchProductIdeal.τ).loc Cert.BranchProductIdeal.main_arg1))
      ∧ r.2.sem = fun _ => 0)

def quiescent_BranchProductRefIdeal [hBranchProductRefIdeal : Cert.BranchProductRefIdeal.Facts] : Prop :=
  ∀ (m : (ℓ : Loc Cert.BranchProductRefIdeal.nD Cert.BranchProductRefIdeal.τ Cert.BranchProductRefIdeal.sig) → Buf (Elt Ideal) ℓ) (g : Dev Cert.BranchProductRefIdeal.nD → PrngReg), Pre_BranchProductRefIdeal m →
    θ_run (Cert.BranchProductRefIdeal.defs (F := Ideal)) (onTc (τ := Cert.BranchProductRefIdeal.τ) (Cert.BranchProductRefIdeal.main (F := Ideal))) ⟨m, fun _ => 0, g⟩ (fun r => (∀ c : Dev Cert.BranchProductRefIdeal.nD,
      r.2.mem ((c.tc : Thread Cert.BranchProductRefIdeal.nD Cert.BranchProductRefIdeal.τ).loc Cert.BranchProductRefIdeal.main_arg0) = m ((c.tc : Thread Cert.BranchProductRefIdeal.nD Cert.BranchProductRefIdeal.τ).loc Cert.BranchProductRefIdeal.main_arg0)
      ∧ r.2.mem ((c.tc : Thread Cert.BranchProductRefIdeal.nD Cert.BranchProductRefIdeal.τ).loc Cert.BranchProductRefIdeal.main_arg1) = m ((c.tc : Thread Cert.BranchProductRefIdeal.nD Cert.BranchProductRefIdeal.τ).loc Cert.BranchProductRefIdeal.main_arg1))
      ∧ r.2.sem = fun _ => 0)

def quiescent_OutProduct [hOutProduct : Cert.OutProduct.Facts] : Prop :=
  ∀ (m : (ℓ : Loc Cert.OutProduct.nD Cert.OutProduct.τ Cert.OutProduct.sig) → Buf (Elt Bits) ℓ) (g : Dev Cert.OutProduct.nD → PrngReg), Pre_OutProduct m →
    θ_run (Cert.OutProduct.defs (F := Bits)) (onTc (τ := Cert.OutProduct.τ) (Cert.OutProduct.main (F := Bits))) ⟨m, fun _ => 0, g⟩ (fun r => (∀ c : Dev Cert.OutProduct.nD,
      r.2.mem ((c.tc : Thread Cert.OutProduct.nD Cert.OutProduct.τ).loc Cert.OutProduct.main_arg0) = m ((c.tc : Thread Cert.OutProduct.nD Cert.OutProduct.τ).loc Cert.OutProduct.main_arg0)
      ∧ r.2.mem ((c.tc : Thread Cert.OutProduct.nD Cert.OutProduct.τ).loc Cert.OutProduct.main_arg1) = m ((c.tc : Thread Cert.OutProduct.nD Cert.OutProduct.τ).loc Cert.OutProduct.main_arg1)
      ∧ r.2.mem ((c.tc : Thread Cert.OutProduct.nD Cert.OutProduct.τ).loc Cert.OutProduct.main_arg2) = m ((c.tc : Thread Cert.OutProduct.nD Cert.OutProduct.τ).loc Cert.OutProduct.main_arg2))
      ∧ r.2.sem = fun _ => 0)

def quiescent_OutProductIdeal [hOutProductIdeal : Cert.OutProductIdeal.Facts] : Prop :=
  ∀ (m : (ℓ : Loc Cert.OutProductIdeal.nD Cert.OutProductIdeal.τ Cert.OutProductIdeal.sig) → Buf (Elt Ideal) ℓ) (g : Dev Cert.OutProductIdeal.nD → PrngReg), Pre_OutProductIdeal m →
    θ_run (Cert.OutProductIdeal.defs (F := Ideal)) (onTc (τ := Cert.OutProductIdeal.τ) (Cert.OutProductIdeal.main (F := Ideal))) ⟨m, fun _ => 0, g⟩ (fun r => (∀ c : Dev Cert.OutProductIdeal.nD,
      r.2.mem ((c.tc : Thread Cert.OutProductIdeal.nD Cert.OutProductIdeal.τ).loc Cert.OutProductIdeal.main_arg0) = m ((c.tc : Thread Cert.OutProductIdeal.nD Cert.OutProductIdeal.τ).loc Cert.OutProductIdeal.main_arg0)
      ∧ r.2.mem ((c.tc : Thread Cert.OutProductIdeal.nD Cert.OutProductIdeal.τ).loc Cert.OutProductIdeal.main_arg1) = m ((c.tc : Thread Cert.OutProductIdeal.nD Cert.OutProductIdeal.τ).loc Cert.OutProductIdeal.main_arg1)
      ∧ r.2.mem ((c.tc : Thread Cert.OutProductIdeal.nD Cert.OutProductIdeal.τ).loc Cert.OutProductIdeal.main_arg2) = m ((c.tc : Thread Cert.OutProductIdeal.nD Cert.OutProductIdeal.τ).loc Cert.OutProductIdeal.main_arg2))
      ∧ r.2.sem = fun _ => 0)

def quiescent_OutProductRefIdeal [hOutProductRefIdeal : Cert.OutProductRefIdeal.Facts] : Prop :=
  ∀ (m : (ℓ : Loc Cert.OutProductRefIdeal.nD Cert.OutProductRefIdeal.τ Cert.OutProductRefIdeal.sig) → Buf (Elt Ideal) ℓ) (g : Dev Cert.OutProductRefIdeal.nD → PrngReg), Pre_OutProductRefIdeal m →
    θ_run (Cert.OutProductRefIdeal.defs (F := Ideal)) (onTc (τ := Cert.OutProductRefIdeal.τ) (Cert.OutProductRefIdeal.main (F := Ideal))) ⟨m, fun _ => 0, g⟩ (fun r => (∀ c : Dev Cert.OutProductRefIdeal.nD,
      r.2.mem ((c.tc : Thread Cert.OutProductRefIdeal.nD Cert.OutProductRefIdeal.τ).loc Cert.OutProductRefIdeal.main_arg0) = m ((c.tc : Thread Cert.OutProductRefIdeal.nD Cert.OutProductRefIdeal.τ).loc Cert.OutProductRefIdeal.main_arg0)
      ∧ r.2.mem ((c.tc : Thread Cert.OutProductRefIdeal.nD Cert.OutProductRefIdeal.τ).loc Cert.OutProductRefIdeal.main_arg1) = m ((c.tc : Thread Cert.OutProductRefIdeal.nD Cert.OutProductRefIdeal.τ).loc Cert.OutProductRefIdeal.main_arg1)
      ∧ r.2.mem ((c.tc : Thread Cert.OutProductRefIdeal.nD Cert.OutProductRefIdeal.τ).loc Cert.OutProductRefIdeal.main_arg2) = m ((c.tc : Thread Cert.OutProductRefIdeal.nD Cert.OutProductRefIdeal.τ).loc Cert.OutProductRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_GatedNorm [hGatedNorm : Cert.GatedNorm.Facts] : Prop :=
  ∀ (m : (ℓ : Loc Cert.GatedNorm.nD Cert.GatedNorm.τ Cert.GatedNorm.sig) → Buf (Elt Bits) ℓ) (g : Dev Cert.GatedNorm.nD → PrngReg), Pre_GatedNorm m →
    θ_run (Cert.GatedNorm.defs (F := Bits)) (onTc (τ := Cert.GatedNorm.τ) (Cert.GatedNorm.main (F := Bits))) ⟨m, fun _ => 0, g⟩ (fun r => (∀ c : Dev Cert.GatedNorm.nD,
      r.2.mem ((c.tc : Thread Cert.GatedNorm.nD Cert.GatedNorm.τ).loc Cert.GatedNorm.main_arg0) = m ((c.tc : Thread Cert.GatedNorm.nD Cert.GatedNorm.τ).loc Cert.GatedNorm.main_arg0)
      ∧ r.2.mem ((c.tc : Thread Cert.GatedNorm.nD Cert.GatedNorm.τ).loc Cert.GatedNorm.main_arg1) = m ((c.tc : Thread Cert.GatedNorm.nD Cert.GatedNorm.τ).loc Cert.GatedNorm.main_arg1)
      ∧ r.2.mem ((c.tc : Thread Cert.GatedNorm.nD Cert.GatedNorm.τ).loc Cert.GatedNorm.main_arg2) = m ((c.tc : Thread Cert.GatedNorm.nD Cert.GatedNorm.τ).loc Cert.GatedNorm.main_arg2)
      ∧ r.2.mem ((c.tc : Thread Cert.GatedNorm.nD Cert.GatedNorm.τ).loc Cert.GatedNorm.main_arg3) = m ((c.tc : Thread Cert.GatedNorm.nD Cert.GatedNorm.τ).loc Cert.GatedNorm.main_arg3))
      ∧ r.2.sem = fun _ => 0)

def quiescent_GatedNormIdeal [hGatedNormIdeal : Cert.GatedNormIdeal.Facts] : Prop :=
  ∀ (m : (ℓ : Loc Cert.GatedNormIdeal.nD Cert.GatedNormIdeal.τ Cert.GatedNormIdeal.sig) → Buf (Elt Ideal) ℓ) (g : Dev Cert.GatedNormIdeal.nD → PrngReg), Pre_GatedNormIdeal m →
    θ_run (Cert.GatedNormIdeal.defs (F := Ideal)) (onTc (τ := Cert.GatedNormIdeal.τ) (Cert.GatedNormIdeal.main (F := Ideal))) ⟨m, fun _ => 0, g⟩ (fun r => (∀ c : Dev Cert.GatedNormIdeal.nD,
      r.2.mem ((c.tc : Thread Cert.GatedNormIdeal.nD Cert.GatedNormIdeal.τ).loc Cert.GatedNormIdeal.main_arg0) = m ((c.tc : Thread Cert.GatedNormIdeal.nD Cert.GatedNormIdeal.τ).loc Cert.GatedNormIdeal.main_arg0)
      ∧ r.2.mem ((c.tc : Thread Cert.GatedNormIdeal.nD Cert.GatedNormIdeal.τ).loc Cert.GatedNormIdeal.main_arg1) = m ((c.tc : Thread Cert.GatedNormIdeal.nD Cert.GatedNormIdeal.τ).loc Cert.GatedNormIdeal.main_arg1)
      ∧ r.2.mem ((c.tc : Thread Cert.GatedNormIdeal.nD Cert.GatedNormIdeal.τ).loc Cert.GatedNormIdeal.main_arg2) = m ((c.tc : Thread Cert.GatedNormIdeal.nD Cert.GatedNormIdeal.τ).loc Cert.GatedNormIdeal.main_arg2)
      ∧ r.2.mem ((c.tc : Thread Cert.GatedNormIdeal.nD Cert.GatedNormIdeal.τ).loc Cert.GatedNormIdeal.main_arg3) = m ((c.tc : Thread Cert.GatedNormIdeal.nD Cert.GatedNormIdeal.τ).loc Cert.GatedNormIdeal.main_arg3))
      ∧ r.2.sem = fun _ => 0)

def quiescent_GatedNormIdeal_pre_finite_gnorm [hGatedNormIdeal : Cert.GatedNormIdeal.Facts] [hPre_finite_gnorm : Cert.Pre_finite_gnorm.Facts] : Prop :=
  ∀ (m : (ℓ : Loc Cert.GatedNormIdeal.nD Cert.GatedNormIdeal.τ Cert.GatedNormIdeal.sig) → Buf (Elt Ideal) ℓ) (g : Dev Cert.GatedNormIdeal.nD → PrngReg), Pre_GatedNormIdeal_finite_gnorm m →
    θ_run (Cert.GatedNormIdeal.defs (F := Ideal)) (onTc (τ := Cert.GatedNormIdeal.τ) (Cert.GatedNormIdeal.main (F := Ideal))) ⟨m, fun _ => 0, g⟩ (fun r => (∀ c : Dev Cert.GatedNormIdeal.nD,
      r.2.mem ((c.tc : Thread Cert.GatedNormIdeal.nD Cert.GatedNormIdeal.τ).loc Cert.GatedNormIdeal.main_arg0) = m ((c.tc : Thread Cert.GatedNormIdeal.nD Cert.GatedNormIdeal.τ).loc Cert.GatedNormIdeal.main_arg0)
      ∧ r.2.mem ((c.tc : Thread Cert.GatedNormIdeal.nD Cert.GatedNormIdeal.τ).loc Cert.GatedNormIdeal.main_arg1) = m ((c.tc : Thread Cert.GatedNormIdeal.nD Cert.GatedNormIdeal.τ).loc Cert.GatedNormIdeal.main_arg1)
      ∧ r.2.mem ((c.tc : Thread Cert.GatedNormIdeal.nD Cert.GatedNormIdeal.τ).loc Cert.GatedNormIdeal.main_arg2) = m ((c.tc : Thread Cert.GatedNormIdeal.nD Cert.GatedNormIdeal.τ).loc Cert.GatedNormIdeal.main_arg2)
      ∧ r.2.mem ((c.tc : Thread Cert.GatedNormIdeal.nD Cert.GatedNormIdeal.τ).loc Cert.GatedNormIdeal.main_arg3) = m ((c.tc : Thread Cert.GatedNormIdeal.nD Cert.GatedNormIdeal.τ).loc Cert.GatedNormIdeal.main_arg3))
      ∧ r.2.sem = fun _ => 0)

def quiescent_GatedNormRefIdeal [hGatedNormRefIdeal : Cert.GatedNormRefIdeal.Facts] : Prop :=
  ∀ (m : (ℓ : Loc Cert.GatedNormRefIdeal.nD Cert.GatedNormRefIdeal.τ Cert.GatedNormRefIdeal.sig) → Buf (Elt Ideal) ℓ) (g : Dev Cert.GatedNormRefIdeal.nD → PrngReg), Pre_GatedNormRefIdeal m →
    θ_run (Cert.GatedNormRefIdeal.defs (F := Ideal)) (onTc (τ := Cert.GatedNormRefIdeal.τ) (Cert.GatedNormRefIdeal.main (F := Ideal))) ⟨m, fun _ => 0, g⟩ (fun r => (∀ c : Dev Cert.GatedNormRefIdeal.nD,
      r.2.mem ((c.tc : Thread Cert.GatedNormRefIdeal.nD Cert.GatedNormRefIdeal.τ).loc Cert.GatedNormRefIdeal.main_arg0) = m ((c.tc : Thread Cert.GatedNormRefIdeal.nD Cert.GatedNormRefIdeal.τ).loc Cert.GatedNormRefIdeal.main_arg0)
      ∧ r.2.mem ((c.tc : Thread Cert.GatedNormRefIdeal.nD Cert.GatedNormRefIdeal.τ).loc Cert.GatedNormRefIdeal.main_arg1) = m ((c.tc : Thread Cert.GatedNormRefIdeal.nD Cert.GatedNormRefIdeal.τ).loc Cert.GatedNormRefIdeal.main_arg1)
      ∧ r.2.mem ((c.tc : Thread Cert.GatedNormRefIdeal.nD Cert.GatedNormRefIdeal.τ).loc Cert.GatedNormRefIdeal.main_arg2) = m ((c.tc : Thread Cert.GatedNormRefIdeal.nD Cert.GatedNormRefIdeal.τ).loc Cert.GatedNormRefIdeal.main_arg2)
      ∧ r.2.mem ((c.tc : Thread Cert.GatedNormRefIdeal.nD Cert.GatedNormRefIdeal.τ).loc Cert.GatedNormRefIdeal.main_arg3) = m ((c.tc : Thread Cert.GatedNormRefIdeal.nD Cert.GatedNormRefIdeal.τ).loc Cert.GatedNormRefIdeal.main_arg3))
      ∧ r.2.sem = fun _ => 0)

def quiescent_GatedNormRefIdeal_pre_finite_gnorm [hGatedNormRefIdeal : Cert.GatedNormRefIdeal.Facts] [hPre_finite_gnorm : Cert.Pre_finite_gnorm.Facts] : Prop :=
  ∀ (m : (ℓ : Loc Cert.GatedNormRefIdeal.nD Cert.GatedNormRefIdeal.τ Cert.GatedNormRefIdeal.sig) → Buf (Elt Ideal) ℓ) (g : Dev Cert.GatedNormRefIdeal.nD → PrngReg), Pre_GatedNormRefIdeal_finite_gnorm m →
    θ_run (Cert.GatedNormRefIdeal.defs (F := Ideal)) (onTc (τ := Cert.GatedNormRefIdeal.τ) (Cert.GatedNormRefIdeal.main (F := Ideal))) ⟨m, fun _ => 0, g⟩ (fun r => (∀ c : Dev Cert.GatedNormRefIdeal.nD,
      r.2.mem ((c.tc : Thread Cert.GatedNormRefIdeal.nD Cert.GatedNormRefIdeal.τ).loc Cert.GatedNormRefIdeal.main_arg0) = m ((c.tc : Thread Cert.GatedNormRefIdeal.nD Cert.GatedNormRefIdeal.τ).loc Cert.GatedNormRefIdeal.main_arg0)
      ∧ r.2.mem ((c.tc : Thread Cert.GatedNormRefIdeal.nD Cert.GatedNormRefIdeal.τ).loc Cert.GatedNormRefIdeal.main_arg1) = m ((c.tc : Thread Cert.GatedNormRefIdeal.nD Cert.GatedNormRefIdeal.τ).loc Cert.GatedNormRefIdeal.main_arg1)
      ∧ r.2.mem ((c.tc : Thread Cert.GatedNormRefIdeal.nD Cert.GatedNormRefIdeal.τ).loc Cert.GatedNormRefIdeal.main_arg2) = m ((c.tc : Thread Cert.GatedNormRefIdeal.nD Cert.GatedNormRefIdeal.τ).loc Cert.GatedNormRefIdeal.main_arg2)
      ∧ r.2.mem ((c.tc : Thread Cert.GatedNormRefIdeal.nD Cert.GatedNormRefIdeal.τ).loc Cert.GatedNormRefIdeal.main_arg3) = m ((c.tc : Thread Cert.GatedNormRefIdeal.nD Cert.GatedNormRefIdeal.τ).loc Cert.GatedNormRefIdeal.main_arg3))
      ∧ r.2.sem = fun _ => 0)

def quiescent_NormForward [hNormForward : Cert.NormForward.Facts] : Prop :=
  ∀ (m : (ℓ : Loc Cert.NormForward.nD Cert.NormForward.τ Cert.NormForward.sig) → Buf (Elt Bits) ℓ) (g : Dev Cert.NormForward.nD → PrngReg), Pre_NormForward m →
    θ_run (Cert.NormForward.defs (F := Bits)) (onTc (τ := Cert.NormForward.τ) (Cert.NormForward.main (F := Bits))) ⟨m, fun _ => 0, g⟩ (fun r => (∀ c : Dev Cert.NormForward.nD,
      r.2.mem ((c.tc : Thread Cert.NormForward.nD Cert.NormForward.τ).loc Cert.NormForward.main_arg0) = m ((c.tc : Thread Cert.NormForward.nD Cert.NormForward.τ).loc Cert.NormForward.main_arg0)
      ∧ r.2.mem ((c.tc : Thread Cert.NormForward.nD Cert.NormForward.τ).loc Cert.NormForward.main_arg1) = m ((c.tc : Thread Cert.NormForward.nD Cert.NormForward.τ).loc Cert.NormForward.main_arg1))
      ∧ r.2.sem = fun _ => 0)

def quiescent_NormForwardIdeal [hNormForwardIdeal : Cert.NormForwardIdeal.Facts] : Prop :=
  ∀ (m : (ℓ : Loc Cert.NormForwardIdeal.nD Cert.NormForwardIdeal.τ Cert.NormForwardIdeal.sig) → Buf (Elt Ideal) ℓ) (g : Dev Cert.NormForwardIdeal.nD → PrngReg), Pre_NormForwardIdeal m →
    θ_run (Cert.NormForwardIdeal.defs (F := Ideal)) (onTc (τ := Cert.NormForwardIdeal.τ) (Cert.NormForwardIdeal.main (F := Ideal))) ⟨m, fun _ => 0, g⟩ (fun r => (∀ c : Dev Cert.NormForwardIdeal.nD,
      r.2.mem ((c.tc : Thread Cert.NormForwardIdeal.nD Cert.NormForwardIdeal.τ).loc Cert.NormForwardIdeal.main_arg0) = m ((c.tc : Thread Cert.NormForwardIdeal.nD Cert.NormForwardIdeal.τ).loc Cert.NormForwardIdeal.main_arg0)
      ∧ r.2.mem ((c.tc : Thread Cert.NormForwardIdeal.nD Cert.NormForwardIdeal.τ).loc Cert.NormForwardIdeal.main_arg1) = m ((c.tc : Thread Cert.NormForwardIdeal.nD Cert.NormForwardIdeal.τ).loc Cert.NormForwardIdeal.main_arg1))
      ∧ r.2.sem = fun _ => 0)

def quiescent_NormForwardRefIdeal [hNormForwardRefIdeal : Cert.NormForwardRefIdeal.Facts] : Prop :=
  ∀ (m : (ℓ : Loc Cert.NormForwardRefIdeal.nD Cert.NormForwardRefIdeal.τ Cert.NormForwardRefIdeal.sig) → Buf (Elt Ideal) ℓ) (g : Dev Cert.NormForwardRefIdeal.nD → PrngReg), Pre_NormForwardRefIdeal m →
    θ_run (Cert.NormForwardRefIdeal.defs (F := Ideal)) (onTc (τ := Cert.NormForwardRefIdeal.τ) (Cert.NormForwardRefIdeal.main (F := Ideal))) ⟨m, fun _ => 0, g⟩ (fun r => (∀ c : Dev Cert.NormForwardRefIdeal.nD,
      r.2.mem ((c.tc : Thread Cert.NormForwardRefIdeal.nD Cert.NormForwardRefIdeal.τ).loc Cert.NormForwardRefIdeal.main_arg0) = m ((c.tc : Thread Cert.NormForwardRefIdeal.nD Cert.NormForwardRefIdeal.τ).loc Cert.NormForwardRefIdeal.main_arg0)
      ∧ r.2.mem ((c.tc : Thread Cert.NormForwardRefIdeal.nD Cert.NormForwardRefIdeal.τ).loc Cert.NormForwardRefIdeal.main_arg1) = m ((c.tc : Thread Cert.NormForwardRefIdeal.nD Cert.NormForwardRefIdeal.τ).loc Cert.NormForwardRefIdeal.main_arg1))
      ∧ r.2.sem = fun _ => 0)

def quiescent_GatedForward [hGatedForward : Cert.GatedForward.Facts] : Prop :=
  ∀ (m : (ℓ : Loc Cert.GatedForward.nD Cert.GatedForward.τ Cert.GatedForward.sig) → Buf (Elt Bits) ℓ) (g : Dev Cert.GatedForward.nD → PrngReg), Pre_GatedForward m →
    θ_run (Cert.GatedForward.defs (F := Bits)) (onTc (τ := Cert.GatedForward.τ) (Cert.GatedForward.main (F := Bits))) ⟨m, fun _ => 0, g⟩ (fun r => (∀ c : Dev Cert.GatedForward.nD,
      r.2.mem ((c.tc : Thread Cert.GatedForward.nD Cert.GatedForward.τ).loc Cert.GatedForward.main_arg0) = m ((c.tc : Thread Cert.GatedForward.nD Cert.GatedForward.τ).loc Cert.GatedForward.main_arg0)
      ∧ r.2.mem ((c.tc : Thread Cert.GatedForward.nD Cert.GatedForward.τ).loc Cert.GatedForward.main_arg1) = m ((c.tc : Thread Cert.GatedForward.nD Cert.GatedForward.τ).loc Cert.GatedForward.main_arg1)
      ∧ r.2.mem ((c.tc : Thread Cert.GatedForward.nD Cert.GatedForward.τ).loc Cert.GatedForward.main_arg2) = m ((c.tc : Thread Cert.GatedForward.nD Cert.GatedForward.τ).loc Cert.GatedForward.main_arg2))
      ∧ r.2.sem = fun _ => 0)

def quiescent_GatedForwardIdeal [hGatedForwardIdeal : Cert.GatedForwardIdeal.Facts] : Prop :=
  ∀ (m : (ℓ : Loc Cert.GatedForwardIdeal.nD Cert.GatedForwardIdeal.τ Cert.GatedForwardIdeal.sig) → Buf (Elt Ideal) ℓ) (g : Dev Cert.GatedForwardIdeal.nD → PrngReg), Pre_GatedForwardIdeal m →
    θ_run (Cert.GatedForwardIdeal.defs (F := Ideal)) (onTc (τ := Cert.GatedForwardIdeal.τ) (Cert.GatedForwardIdeal.main (F := Ideal))) ⟨m, fun _ => 0, g⟩ (fun r => (∀ c : Dev Cert.GatedForwardIdeal.nD,
      r.2.mem ((c.tc : Thread Cert.GatedForwardIdeal.nD Cert.GatedForwardIdeal.τ).loc Cert.GatedForwardIdeal.main_arg0) = m ((c.tc : Thread Cert.GatedForwardIdeal.nD Cert.GatedForwardIdeal.τ).loc Cert.GatedForwardIdeal.main_arg0)
      ∧ r.2.mem ((c.tc : Thread Cert.GatedForwardIdeal.nD Cert.GatedForwardIdeal.τ).loc Cert.GatedForwardIdeal.main_arg1) = m ((c.tc : Thread Cert.GatedForwardIdeal.nD Cert.GatedForwardIdeal.τ).loc Cert.GatedForwardIdeal.main_arg1)
      ∧ r.2.mem ((c.tc : Thread Cert.GatedForwardIdeal.nD Cert.GatedForwardIdeal.τ).loc Cert.GatedForwardIdeal.main_arg2) = m ((c.tc : Thread Cert.GatedForwardIdeal.nD Cert.GatedForwardIdeal.τ).loc Cert.GatedForwardIdeal.main_arg2))
      ∧ r.2.sem = fun _ => 0)

def quiescent_GatedForwardRefIdeal [hGatedForwardRefIdeal : Cert.GatedForwardRefIdeal.Facts] : Prop :=
  ∀ (m : (ℓ : Loc Cert.GatedForwardRefIdeal.nD Cert.GatedForwardRefIdeal.τ Cert.GatedForwardRefIdeal.sig) → Buf (Elt Ideal) ℓ) (g : Dev Cert.GatedForwardRefIdeal.nD → PrngReg), Pre_GatedForwardRefIdeal m →
    θ_run (Cert.GatedForwardRefIdeal.defs (F := Ideal)) (onTc (τ := Cert.GatedForwardRefIdeal.τ) (Cert.GatedForwardRefIdeal.main (F := Ideal))) ⟨m, fun _ => 0, g⟩ (fun r => (∀ c : Dev Cert.GatedForwardRefIdeal.nD,
      r.2.mem ((c.tc : Thread Cert.GatedForwardRefIdeal.nD Cert.GatedForwardRefIdeal.τ).loc Cert.GatedForwardRefIdeal.main_arg0) = m ((c.tc : Thread Cert.GatedForwardRefIdeal.nD Cert.GatedForwardRefIdeal.τ).loc Cert.GatedForwardRefIdeal.main_arg0)
      ∧ r.2.mem ((c.tc : Thread Cert.GatedForwardRefIdeal.nD Cert.GatedForwardRefIdeal.τ).loc Cert.GatedForwardRefIdeal.main_arg1) = m ((c.tc : Thread Cert.GatedForwardRefIdeal.nD Cert.GatedForwardRefIdeal.τ).loc Cert.GatedForwardRefIdeal.main_arg1)
      ∧ r.2.mem ((c.tc : Thread Cert.GatedForwardRefIdeal.nD Cert.GatedForwardRefIdeal.τ).loc Cert.GatedForwardRefIdeal.main_arg2) = m ((c.tc : Thread Cert.GatedForwardRefIdeal.nD Cert.GatedForwardRefIdeal.τ).loc Cert.GatedForwardRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)) (v2 : (c : Dev Cert.KernelIdeal.nD) → Buf (Elt Ideal) ((c.tc : Thread Cert.KernelIdeal.nD Cert.KernelIdeal.τ).loc Cert.KernelIdeal.main_v46_2)) (v3 : (c : Dev Cert.KernelIdeal.nD) → Buf (Elt Ideal) ((c.tc : Thread Cert.KernelIdeal.nD Cert.KernelIdeal.τ).loc Cert.KernelIdeal.main_v46_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_v46_2) = v2 c
          ∧ r.2.mem ((c.tc : Thread Cert.KernelIdeal.nD Cert.KernelIdeal.τ).loc Cert.KernelIdeal.main_v46_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_v63) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_InWeight_InWeightIdeal : Prop :=
  True

def algebraic_InWeightIdeal_InWeightRefIdeal [hInWeightIdeal : Cert.InWeightIdeal.Facts] [hInWeightRefIdeal : Cert.InWeightRefIdeal.Facts] : Prop :=
  ∀ (m : (ℓ : Loc Cert.InWeightIdeal.nD Cert.InWeightIdeal.τ Cert.InWeightIdeal.sig) → Buf (Elt Ideal) ℓ) (g : Dev Cert.InWeightIdeal.nD → PrngReg)
    (m' : (ℓ : Loc Cert.InWeightRefIdeal.nD Cert.InWeightRefIdeal.τ Cert.InWeightRefIdeal.sig) → Buf (Elt Ideal) ℓ) (g' : Dev Cert.InWeightRefIdeal.nD → PrngReg), Pre_InWeightIdeal m →
    (∀ c : Dev Cert.InWeightIdeal.nD,
      m' ((c.tc : Thread Cert.InWeightRefIdeal.nD Cert.InWeightRefIdeal.τ).loc Cert.InWeightRefIdeal.main_arg0) = m ((c.tc : Thread Cert.InWeightIdeal.nD Cert.InWeightIdeal.τ).loc Cert.InWeightIdeal.main_arg0)
      ∧ m' ((c.tc : Thread Cert.InWeightRefIdeal.nD Cert.InWeightRefIdeal.τ).loc Cert.InWeightRefIdeal.main_arg1) = m ((c.tc : Thread Cert.InWeightIdeal.nD Cert.InWeightIdeal.τ).loc Cert.InWeightIdeal.main_arg1)) →
    ∃ (v0 : (c : Dev Cert.InWeightIdeal.nD) → Buf (Elt Ideal) ((c.tc : Thread Cert.InWeightIdeal.nD Cert.InWeightIdeal.τ).loc Cert.InWeightIdeal.main_v0)),
      θ_run (Cert.InWeightIdeal.defs (F := Ideal)) (onTc (τ := Cert.InWeightIdeal.τ) (Cert.InWeightIdeal.main (F := Ideal))) ⟨m, fun _ => 0, g⟩ (fun r => ∀ c : Dev Cert.InWeightIdeal.nD,
          r.2.mem ((c.tc : Thread Cert.InWeightIdeal.nD Cert.InWeightIdeal.τ).loc Cert.InWeightIdeal.main_v0) = v0 c
          ∧ r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
          ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1))
      ∧ θ_run (Cert.InWeightRefIdeal.defs (F := Ideal)) (onTc (τ := Cert.InWeightRefIdeal.τ) (Cert.InWeightRefIdeal.main (F := Ideal))) ⟨m', fun _ => 0, g'⟩ (fun r => ∀ c : Dev Cert.InWeightRefIdeal.nD,
          r.2.mem ((c.tc : Thread Cert.InWeightRefIdeal.nD Cert.InWeightRefIdeal.τ).loc Cert.InWeightRefIdeal.main_v8) = v0 c
          ∧ r.2.mem ((c.tc : Thread Cert.InWeightRefIdeal.nD Cert.InWeightRefIdeal.τ).loc Cert.InWeightRefIdeal.main_arg0) = m' ((c.tc : Thread Cert.InWeightRefIdeal.nD Cert.InWeightRefIdeal.τ).loc Cert.InWeightRefIdeal.main_arg0)
          ∧ r.2.mem ((c.tc : Thread Cert.InWeightRefIdeal.nD Cert.InWeightRefIdeal.τ).loc Cert.InWeightRefIdeal.main_arg1) = m' ((c.tc : Thread Cert.InWeightRefIdeal.nD Cert.InWeightRefIdeal.τ).loc Cert.InWeightRefIdeal.main_arg1))

def preserves_InInput_InInputIdeal : Prop :=
  True

def algebraic_InInputIdeal_InInputRefIdeal [hInInputIdeal : Cert.InInputIdeal.Facts] [hInInputRefIdeal : Cert.InInputRefIdeal.Facts] : Prop :=
  ∀ (m : (ℓ : Loc Cert.InInputIdeal.nD Cert.InInputIdeal.τ Cert.InInputIdeal.sig) → Buf (Elt Ideal) ℓ) (g : Dev Cert.InInputIdeal.nD → PrngReg)
    (m' : (ℓ : Loc Cert.InInputRefIdeal.nD Cert.InInputRefIdeal.τ Cert.InInputRefIdeal.sig) → Buf (Elt Ideal) ℓ) (g' : Dev Cert.InInputRefIdeal.nD → PrngReg), Pre_InInputIdeal m →
    (∀ c : Dev Cert.InInputIdeal.nD,
      m' ((c.tc : Thread Cert.InInputRefIdeal.nD Cert.InInputRefIdeal.τ).loc Cert.InInputRefIdeal.main_arg0) = m ((c.tc : Thread Cert.InInputIdeal.nD Cert.InInputIdeal.τ).loc Cert.InInputIdeal.main_arg0)
      ∧ m' ((c.tc : Thread Cert.InInputRefIdeal.nD Cert.InInputRefIdeal.τ).loc Cert.InInputRefIdeal.main_arg1) = m ((c.tc : Thread Cert.InInputIdeal.nD Cert.InInputIdeal.τ).loc Cert.InInputIdeal.main_arg1)) →
    ∃ (v0 : (c : Dev Cert.InInputIdeal.nD) → Buf (Elt Ideal) ((c.tc : Thread Cert.InInputIdeal.nD Cert.InInputIdeal.τ).loc Cert.InInputIdeal.main_v0)),
      θ_run (Cert.InInputIdeal.defs (F := Ideal)) (onTc (τ := Cert.InInputIdeal.τ) (Cert.InInputIdeal.main (F := Ideal))) ⟨m, fun _ => 0, g⟩ (fun r => ∀ c : Dev Cert.InInputIdeal.nD,
          r.2.mem ((c.tc : Thread Cert.InInputIdeal.nD Cert.InInputIdeal.τ).loc Cert.InInputIdeal.main_v0) = v0 c
          ∧ r.2.mem ((c.tc : Thread Cert.InInputIdeal.nD Cert.InInputIdeal.τ).loc Cert.InInputIdeal.main_arg0) = m ((c.tc : Thread Cert.InInputIdeal.nD Cert.InInputIdeal.τ).loc Cert.InInputIdeal.main_arg0)
          ∧ r.2.mem ((c.tc : Thread Cert.InInputIdeal.nD Cert.InInputIdeal.τ).loc Cert.InInputIdeal.main_arg1) = m ((c.tc : Thread Cert.InInputIdeal.nD Cert.InInputIdeal.τ).loc Cert.InInputIdeal.main_arg1))
      ∧ θ_run (Cert.InInputRefIdeal.defs (F := Ideal)) (onTc (τ := Cert.InInputRefIdeal.τ) (Cert.InInputRefIdeal.main (F := Ideal))) ⟨m', fun _ => 0, g'⟩ (fun r => ∀ c : Dev Cert.InInputRefIdeal.nD,
          r.2.mem ((c.tc : Thread Cert.InInputRefIdeal.nD Cert.InInputRefIdeal.τ).loc Cert.InInputRefIdeal.main_v5) = v0 c
          ∧ r.2.mem ((c.tc : Thread Cert.InInputRefIdeal.nD Cert.InInputRefIdeal.τ).loc Cert.InInputRefIdeal.main_arg0) = m' ((c.tc : Thread Cert.InInputRefIdeal.nD Cert.InInputRefIdeal.τ).loc Cert.InInputRefIdeal.main_arg0)
          ∧ r.2.mem ((c.tc : Thread Cert.InInputRefIdeal.nD Cert.InInputRefIdeal.τ).loc Cert.InInputRefIdeal.main_arg1) = m' ((c.tc : Thread Cert.InInputRefIdeal.nD Cert.InInputRefIdeal.τ).loc Cert.InInputRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)) (v3 : (c : Dev Cert.MergeIdeal.nD) → Buf (Elt Ideal) ((c.tc : Thread Cert.MergeIdeal.nD Cert.MergeIdeal.τ).loc Cert.MergeIdeal.main_v0_3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_v0_3) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v52) = v0 c
          ∧ r.2.mem ((c.tc : Thread Cert.MergeRefIdeal.nD Cert.MergeRefIdeal.τ).loc Cert.MergeRefIdeal.main_v50) = v1 c
          ∧ r.2.mem ((c.tc : Thread Cert.MergeRefIdeal.nD Cert.MergeRefIdeal.τ).loc Cert.MergeRefIdeal.main_v48) = v2 c
          ∧ r.2.mem ((c.tc : Thread Cert.MergeRefIdeal.nD Cert.MergeRefIdeal.τ).loc Cert.MergeRefIdeal.main_v55) = v3 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_OutInput_OutInputIdeal : Prop :=
  True

def algebraic_OutInputIdeal_OutInputRefIdeal [hOutInputIdeal : Cert.OutInputIdeal.Facts] [hOutInputRefIdeal : Cert.OutInputRefIdeal.Facts] : Prop :=
  ∀ (m : (ℓ : Loc Cert.OutInputIdeal.nD Cert.OutInputIdeal.τ Cert.OutInputIdeal.sig) → Buf (Elt Ideal) ℓ) (g : Dev Cert.OutInputIdeal.nD → PrngReg)
    (m' : (ℓ : Loc Cert.OutInputRefIdeal.nD Cert.OutInputRefIdeal.τ Cert.OutInputRefIdeal.sig) → Buf (Elt Ideal) ℓ) (g' : Dev Cert.OutInputRefIdeal.nD → PrngReg), Pre_OutInputIdeal m →
    (∀ c : Dev Cert.OutInputIdeal.nD,
      m' ((c.tc : Thread Cert.OutInputRefIdeal.nD Cert.OutInputRefIdeal.τ).loc Cert.OutInputRefIdeal.main_arg0) = m ((c.tc : Thread Cert.OutInputIdeal.nD Cert.OutInputIdeal.τ).loc Cert.OutInputIdeal.main_arg0)
      ∧ m' ((c.tc : Thread Cert.OutInputRefIdeal.nD Cert.OutInputRefIdeal.τ).loc Cert.OutInputRefIdeal.main_arg1) = m ((c.tc : Thread Cert.OutInputIdeal.nD Cert.OutInputIdeal.τ).loc Cert.OutInputIdeal.main_arg1)) →
    ∃ (v0 : (c : Dev Cert.OutInputIdeal.nD) → Buf (Elt Ideal) ((c.tc : Thread Cert.OutInputIdeal.nD Cert.OutInputIdeal.τ).loc Cert.OutInputIdeal.main_v0)),
      θ_run (Cert.OutInputIdeal.defs (F := Ideal)) (onTc (τ := Cert.OutInputIdeal.τ) (Cert.OutInputIdeal.main (F := Ideal))) ⟨m, fun _ => 0, g⟩ (fun r => ∀ c : Dev Cert.OutInputIdeal.nD,
          r.2.mem ((c.tc : Thread Cert.OutInputIdeal.nD Cert.OutInputIdeal.τ).loc Cert.OutInputIdeal.main_v0) = v0 c
          ∧ r.2.mem ((c.tc : Thread Cert.OutInputIdeal.nD Cert.OutInputIdeal.τ).loc Cert.OutInputIdeal.main_arg0) = m ((c.tc : Thread Cert.OutInputIdeal.nD Cert.OutInputIdeal.τ).loc Cert.OutInputIdeal.main_arg0)
          ∧ r.2.mem ((c.tc : Thread Cert.OutInputIdeal.nD Cert.OutInputIdeal.τ).loc Cert.OutInputIdeal.main_arg1) = m ((c.tc : Thread Cert.OutInputIdeal.nD Cert.OutInputIdeal.τ).loc Cert.OutInputIdeal.main_arg1))
      ∧ θ_run (Cert.OutInputRefIdeal.defs (F := Ideal)) (onTc (τ := Cert.OutInputRefIdeal.τ) (Cert.OutInputRefIdeal.main (F := Ideal))) ⟨m', fun _ => 0, g'⟩ (fun r => ∀ c : Dev Cert.OutInputRefIdeal.nD,
          r.2.mem ((c.tc : Thread Cert.OutInputRefIdeal.nD Cert.OutInputRefIdeal.τ).loc Cert.OutInputRefIdeal.main_v5) = v0 c
          ∧ r.2.mem ((c.tc : Thread Cert.OutInputRefIdeal.nD Cert.OutInputRefIdeal.τ).loc Cert.OutInputRefIdeal.main_arg0) = m' ((c.tc : Thread Cert.OutInputRefIdeal.nD Cert.OutInputRefIdeal.τ).loc Cert.OutInputRefIdeal.main_arg0)
          ∧ r.2.mem ((c.tc : Thread Cert.OutInputRefIdeal.nD Cert.OutInputRefIdeal.τ).loc Cert.OutInputRefIdeal.main_arg1) = m' ((c.tc : Thread Cert.OutInputRefIdeal.nD Cert.OutInputRefIdeal.τ).loc Cert.OutInputRefIdeal.main_arg1))

def preserves_OutWeight_OutWeightIdeal : Prop :=
  True

def algebraic_OutWeightIdeal_OutWeightRefIdeal [hOutWeightIdeal : Cert.OutWeightIdeal.Facts] [hOutWeightRefIdeal : Cert.OutWeightRefIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg)
    (m' : (ℓ : Loc Cert.OutWeightRefIdeal.nD Cert.OutWeightRefIdeal.τ Cert.OutWeightRefIdeal.sig) → Buf (Elt Ideal) ℓ) (g' : Dev Cert.OutWeightRefIdeal.nD → PrngReg), Pre_OutWeightIdeal m →
    (∀ c : Dev Cert.OutWeightIdeal.nD,
      m' ((c.tc : Thread Cert.OutWeightRefIdeal.nD Cert.OutWeightRefIdeal.τ).loc Cert.OutWeightRefIdeal.main_arg0) = m ((c.tc : Thread Cert.OutWeightIdeal.nD Cert.OutWeightIdeal.τ).loc Cert.OutWeightIdeal.main_arg0)
      ∧ m' ((c.tc : Thread Cert.OutWeightRefIdeal.nD Cert.OutWeightRefIdeal.τ).loc Cert.OutWeightRefIdeal.main_arg1) = m ((c.tc : Thread Cert.OutWeightIdeal.nD Cert.OutWeightIdeal.τ).loc Cert.OutWeightIdeal.main_arg1)) →
    ∃ (v0 : (c : Dev Cert.OutWeightIdeal.nD) → Buf (Elt Ideal) ((c.tc : Thread Cert.OutWeightIdeal.nD Cert.OutWeightIdeal.τ).loc Cert.OutWeightIdeal.main_v0)),
      θ_run (Cert.OutWeightIdeal.defs (F := Ideal)) (onTc (τ := Cert.OutWeightIdeal.τ) (Cert.OutWeightIdeal.main (F := Ideal))) ⟨m, fun _ => 0, g⟩ (fun r => ∀ c : Dev Cert.OutWeightIdeal.nD,
          r.2.mem ((c.tc : Thread Cert.OutWeightIdeal.nD Cert.OutWeightIdeal.τ).loc Cert.OutWeightIdeal.main_v0) = v0 c
          ∧ r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
          ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1))
      ∧ θ_run (Cert.OutWeightRefIdeal.defs (F := Ideal)) (onTc (τ := Cert.OutWeightRefIdeal.τ) (Cert.OutWeightRefIdeal.main (F := Ideal))) ⟨m', fun _ => 0, g'⟩ (fun r => ∀ c : Dev Cert.OutWeightRefIdeal.nD,
          r.2.mem ((c.tc : Thread Cert.OutWeightRefIdeal.nD Cert.OutWeightRefIdeal.τ).loc Cert.OutWeightRefIdeal.main_v6) = v0 c
          ∧ r.2.mem ((c.tc : Thread Cert.OutWeightRefIdeal.nD Cert.OutWeightRefIdeal.τ).loc Cert.OutWeightRefIdeal.main_arg0) = m' ((c.tc : Thread Cert.OutWeightRefIdeal.nD Cert.OutWeightRefIdeal.τ).loc Cert.OutWeightRefIdeal.main_arg0)
          ∧ r.2.mem ((c.tc : Thread Cert.OutWeightRefIdeal.nD Cert.OutWeightRefIdeal.τ).loc Cert.OutWeightRefIdeal.main_arg1) = m' ((c.tc : Thread Cert.OutWeightRefIdeal.nD Cert.OutWeightRefIdeal.τ).loc Cert.OutWeightRefIdeal.main_arg1))

def preserves_SsmInput_SsmInputIdeal : Prop :=
  True

def algebraic_SsmInputIdeal_SsmInputRefIdeal [hSsmInputIdeal : Cert.SsmInputIdeal.Facts] [hSsmInputRefIdeal : Cert.SsmInputRefIdeal.Facts] : Prop :=
  ∀ (m : (ℓ : Loc Cert.SsmInputIdeal.nD Cert.SsmInputIdeal.τ Cert.SsmInputIdeal.sig) → Buf (Elt Ideal) ℓ) (g : Dev Cert.SsmInputIdeal.nD → PrngReg)
    (m' : (ℓ : Loc Cert.SsmInputRefIdeal.nD Cert.SsmInputRefIdeal.τ Cert.SsmInputRefIdeal.sig) → Buf (Elt Ideal) ℓ) (g' : Dev Cert.SsmInputRefIdeal.nD → PrngReg), Pre_SsmInputIdeal m →
    (∀ c : Dev Cert.SsmInputIdeal.nD,
      m' ((c.tc : Thread Cert.SsmInputRefIdeal.nD Cert.SsmInputRefIdeal.τ).loc Cert.SsmInputRefIdeal.main_arg0) = m ((c.tc : Thread Cert.SsmInputIdeal.nD Cert.SsmInputIdeal.τ).loc Cert.SsmInputIdeal.main_arg0)
      ∧ m' ((c.tc : Thread Cert.SsmInputRefIdeal.nD Cert.SsmInputRefIdeal.τ).loc Cert.SsmInputRefIdeal.main_arg1) = m ((c.tc : Thread Cert.SsmInputIdeal.nD Cert.SsmInputIdeal.τ).loc Cert.SsmInputIdeal.main_arg1)) →
    ∃ (v0 : (c : Dev Cert.SsmInputIdeal.nD) → Buf (Elt Ideal) ((c.tc : Thread Cert.SsmInputIdeal.nD Cert.SsmInputIdeal.τ).loc Cert.SsmInputIdeal.main_v0)),
      θ_run (Cert.SsmInputIdeal.defs (F := Ideal)) (onTc (τ := Cert.SsmInputIdeal.τ) (Cert.SsmInputIdeal.main (F := Ideal))) ⟨m, fun _ => 0, g⟩ (fun r => ∀ c : Dev Cert.SsmInputIdeal.nD,
          r.2.mem ((c.tc : Thread Cert.SsmInputIdeal.nD Cert.SsmInputIdeal.τ).loc Cert.SsmInputIdeal.main_v0) = v0 c
          ∧ r.2.mem ((c.tc : Thread Cert.SsmInputIdeal.nD Cert.SsmInputIdeal.τ).loc Cert.SsmInputIdeal.main_arg0) = m ((c.tc : Thread Cert.SsmInputIdeal.nD Cert.SsmInputIdeal.τ).loc Cert.SsmInputIdeal.main_arg0)
          ∧ r.2.mem ((c.tc : Thread Cert.SsmInputIdeal.nD Cert.SsmInputIdeal.τ).loc Cert.SsmInputIdeal.main_arg1) = m ((c.tc : Thread Cert.SsmInputIdeal.nD Cert.SsmInputIdeal.τ).loc Cert.SsmInputIdeal.main_arg1))
      ∧ θ_run (Cert.SsmInputRefIdeal.defs (F := Ideal)) (onTc (τ := Cert.SsmInputRefIdeal.τ) (Cert.SsmInputRefIdeal.main (F := Ideal))) ⟨m', fun _ => 0, g'⟩ (fun r => ∀ c : Dev Cert.SsmInputRefIdeal.nD,
          r.2.mem ((c.tc : Thread Cert.SsmInputRefIdeal.nD Cert.SsmInputRefIdeal.τ).loc Cert.SsmInputRefIdeal.main_v5) = v0 c
          ∧ r.2.mem ((c.tc : Thread Cert.SsmInputRefIdeal.nD Cert.SsmInputRefIdeal.τ).loc Cert.SsmInputRefIdeal.main_arg0) = m' ((c.tc : Thread Cert.SsmInputRefIdeal.nD Cert.SsmInputRefIdeal.τ).loc Cert.SsmInputRefIdeal.main_arg0)
          ∧ r.2.mem ((c.tc : Thread Cert.SsmInputRefIdeal.nD Cert.SsmInputRefIdeal.τ).loc Cert.SsmInputRefIdeal.main_arg1) = m' ((c.tc : Thread Cert.SsmInputRefIdeal.nD Cert.SsmInputRefIdeal.τ).loc Cert.SsmInputRefIdeal.main_arg1))

def preserves_SsmWeight_SsmWeightIdeal : Prop :=
  True

def algebraic_SsmWeightIdeal_SsmWeightRefIdeal [hSsmWeightIdeal : Cert.SsmWeightIdeal.Facts] [hSsmWeightRefIdeal : Cert.SsmWeightRefIdeal.Facts] : Prop :=
  ∀ (m : (ℓ : Loc Cert.SsmWeightIdeal.nD Cert.SsmWeightIdeal.τ Cert.SsmWeightIdeal.sig) → Buf (Elt Ideal) ℓ) (g : Dev Cert.SsmWeightIdeal.nD → PrngReg)
    (m' : (ℓ : Loc Cert.SsmWeightRefIdeal.nD Cert.SsmWeightRefIdeal.τ Cert.SsmWeightRefIdeal.sig) → Buf (Elt Ideal) ℓ) (g' : Dev Cert.SsmWeightRefIdeal.nD → PrngReg), Pre_SsmWeightIdeal m →
    (∀ c : Dev Cert.SsmWeightIdeal.nD,
      m' ((c.tc : Thread Cert.SsmWeightRefIdeal.nD Cert.SsmWeightRefIdeal.τ).loc Cert.SsmWeightRefIdeal.main_arg0) = m ((c.tc : Thread Cert.SsmWeightIdeal.nD Cert.SsmWeightIdeal.τ).loc Cert.SsmWeightIdeal.main_arg0)
      ∧ m' ((c.tc : Thread Cert.SsmWeightRefIdeal.nD Cert.SsmWeightRefIdeal.τ).loc Cert.SsmWeightRefIdeal.main_arg1) = m ((c.tc : Thread Cert.SsmWeightIdeal.nD Cert.SsmWeightIdeal.τ).loc Cert.SsmWeightIdeal.main_arg1)) →
    ∃ (v0 : (c : Dev Cert.SsmWeightIdeal.nD) → Buf (Elt Ideal) ((c.tc : Thread Cert.SsmWeightIdeal.nD Cert.SsmWeightIdeal.τ).loc Cert.SsmWeightIdeal.main_v0)),
      θ_run (Cert.SsmWeightIdeal.defs (F := Ideal)) (onTc (τ := Cert.SsmWeightIdeal.τ) (Cert.SsmWeightIdeal.main (F := Ideal))) ⟨m, fun _ => 0, g⟩ (fun r => ∀ c : Dev Cert.SsmWeightIdeal.nD,
          r.2.mem ((c.tc : Thread Cert.SsmWeightIdeal.nD Cert.SsmWeightIdeal.τ).loc Cert.SsmWeightIdeal.main_v0) = v0 c
          ∧ r.2.mem ((c.tc : Thread Cert.SsmWeightIdeal.nD Cert.SsmWeightIdeal.τ).loc Cert.SsmWeightIdeal.main_arg0) = m ((c.tc : Thread Cert.SsmWeightIdeal.nD Cert.SsmWeightIdeal.τ).loc Cert.SsmWeightIdeal.main_arg0)
          ∧ r.2.mem ((c.tc : Thread Cert.SsmWeightIdeal.nD Cert.SsmWeightIdeal.τ).loc Cert.SsmWeightIdeal.main_arg1) = m ((c.tc : Thread Cert.SsmWeightIdeal.nD Cert.SsmWeightIdeal.τ).loc Cert.SsmWeightIdeal.main_arg1))
      ∧ θ_run (Cert.SsmWeightRefIdeal.defs (F := Ideal)) (onTc (τ := Cert.SsmWeightRefIdeal.τ) (Cert.SsmWeightRefIdeal.main (F := Ideal))) ⟨m', fun _ => 0, g'⟩ (fun r => ∀ c : Dev Cert.SsmWeightRefIdeal.nD,
          r.2.mem ((c.tc : Thread Cert.SsmWeightRefIdeal.nD Cert.SsmWeightRefIdeal.τ).loc Cert.SsmWeightRefIdeal.main_v6) = v0 c
          ∧ r.2.mem ((c.tc : Thread Cert.SsmWeightRefIdeal.nD Cert.SsmWeightRefIdeal.τ).loc Cert.SsmWeightRefIdeal.main_arg0) = m' ((c.tc : Thread Cert.SsmWeightRefIdeal.nD Cert.SsmWeightRefIdeal.τ).loc Cert.SsmWeightRefIdeal.main_arg0)
          ∧ r.2.mem ((c.tc : Thread Cert.SsmWeightRefIdeal.nD Cert.SsmWeightRefIdeal.τ).loc Cert.SsmWeightRefIdeal.main_arg1) = m' ((c.tc : Thread Cert.SsmWeightRefIdeal.nD Cert.SsmWeightRefIdeal.τ).loc Cert.SsmWeightRefIdeal.main_arg1))

def preserves_InProduct_InProductIdeal : Prop :=
  True

def algebraic_InProductIdeal_InProductRefIdeal [hInProductIdeal : Cert.InProductIdeal.Facts] [hInProductRefIdeal : Cert.InProductRefIdeal.Facts] : Prop :=
  ∀ (m : (ℓ : Loc Cert.InProductIdeal.nD Cert.InProductIdeal.τ Cert.InProductIdeal.sig) → Buf (Elt Ideal) ℓ) (g : Dev Cert.InProductIdeal.nD → PrngReg)
    (m' : (ℓ : Loc Cert.InProductRefIdeal.nD Cert.InProductRefIdeal.τ Cert.InProductRefIdeal.sig) → Buf (Elt Ideal) ℓ) (g' : Dev Cert.InProductRefIdeal.nD → PrngReg), Pre_InProductIdeal m →
    (∀ c : Dev Cert.InProductIdeal.nD,
      m' ((c.tc : Thread Cert.InProductRefIdeal.nD Cert.InProductRefIdeal.τ).loc Cert.InProductRefIdeal.main_arg0) = m ((c.tc : Thread Cert.InProductIdeal.nD Cert.InProductIdeal.τ).loc Cert.InProductIdeal.main_arg0)
      ∧ m' ((c.tc : Thread Cert.InProductRefIdeal.nD Cert.InProductRefIdeal.τ).loc Cert.InProductRefIdeal.main_arg1) = m ((c.tc : Thread Cert.InProductIdeal.nD Cert.InProductIdeal.τ).loc Cert.InProductIdeal.main_arg1)) →
    ∃ (v0 : (c : Dev Cert.InProductIdeal.nD) → Buf (Elt Ideal) ((c.tc : Thread Cert.InProductIdeal.nD Cert.InProductIdeal.τ).loc Cert.InProductIdeal.main_v0)),
      θ_run (Cert.InProductIdeal.defs (F := Ideal)) (onTc (τ := Cert.InProductIdeal.τ) (Cert.InProductIdeal.main (F := Ideal))) ⟨m, fun _ => 0, g⟩ (fun r => ∀ c : Dev Cert.InProductIdeal.nD,
          r.2.mem ((c.tc : Thread Cert.InProductIdeal.nD Cert.InProductIdeal.τ).loc Cert.InProductIdeal.main_v0) = v0 c
          ∧ r.2.mem ((c.tc : Thread Cert.InProductIdeal.nD Cert.InProductIdeal.τ).loc Cert.InProductIdeal.main_arg0) = m ((c.tc : Thread Cert.InProductIdeal.nD Cert.InProductIdeal.τ).loc Cert.InProductIdeal.main_arg0)
          ∧ r.2.mem ((c.tc : Thread Cert.InProductIdeal.nD Cert.InProductIdeal.τ).loc Cert.InProductIdeal.main_arg1) = m ((c.tc : Thread Cert.InProductIdeal.nD Cert.InProductIdeal.τ).loc Cert.InProductIdeal.main_arg1))
      ∧ θ_run (Cert.InProductRefIdeal.defs (F := Ideal)) (onTc (τ := Cert.InProductRefIdeal.τ) (Cert.InProductRefIdeal.main (F := Ideal))) ⟨m', fun _ => 0, g'⟩ (fun r => ∀ c : Dev Cert.InProductRefIdeal.nD,
          r.2.mem ((c.tc : Thread Cert.InProductRefIdeal.nD Cert.InProductRefIdeal.τ).loc Cert.InProductRefIdeal.main_v4) = v0 c
          ∧ r.2.mem ((c.tc : Thread Cert.InProductRefIdeal.nD Cert.InProductRefIdeal.τ).loc Cert.InProductRefIdeal.main_arg0) = m' ((c.tc : Thread Cert.InProductRefIdeal.nD Cert.InProductRefIdeal.τ).loc Cert.InProductRefIdeal.main_arg0)
          ∧ r.2.mem ((c.tc : Thread Cert.InProductRefIdeal.nD Cert.InProductRefIdeal.τ).loc Cert.InProductRefIdeal.main_arg1) = m' ((c.tc : Thread Cert.InProductRefIdeal.nD Cert.InProductRefIdeal.τ).loc Cert.InProductRefIdeal.main_arg1))

def preserves_SsmProduct_SsmProductIdeal : Prop :=
  True

def algebraic_SsmProductIdeal_SsmProductRefIdeal [hSsmProductIdeal : Cert.SsmProductIdeal.Facts] [hSsmProductRefIdeal : Cert.SsmProductRefIdeal.Facts] : Prop :=
  ∀ (m : (ℓ : Loc Cert.SsmProductIdeal.nD Cert.SsmProductIdeal.τ Cert.SsmProductIdeal.sig) → Buf (Elt Ideal) ℓ) (g : Dev Cert.SsmProductIdeal.nD → PrngReg)
    (m' : (ℓ : Loc Cert.SsmProductRefIdeal.nD Cert.SsmProductRefIdeal.τ Cert.SsmProductRefIdeal.sig) → Buf (Elt Ideal) ℓ) (g' : Dev Cert.SsmProductRefIdeal.nD → PrngReg), Pre_SsmProductIdeal m →
    (∀ c : Dev Cert.SsmProductIdeal.nD,
      m' ((c.tc : Thread Cert.SsmProductRefIdeal.nD Cert.SsmProductRefIdeal.τ).loc Cert.SsmProductRefIdeal.main_arg0) = m ((c.tc : Thread Cert.SsmProductIdeal.nD Cert.SsmProductIdeal.τ).loc Cert.SsmProductIdeal.main_arg0)
      ∧ m' ((c.tc : Thread Cert.SsmProductRefIdeal.nD Cert.SsmProductRefIdeal.τ).loc Cert.SsmProductRefIdeal.main_arg1) = m ((c.tc : Thread Cert.SsmProductIdeal.nD Cert.SsmProductIdeal.τ).loc Cert.SsmProductIdeal.main_arg1)) →
    ∃ (v0 : (c : Dev Cert.SsmProductIdeal.nD) → Buf (Elt Ideal) ((c.tc : Thread Cert.SsmProductIdeal.nD Cert.SsmProductIdeal.τ).loc Cert.SsmProductIdeal.main_v0)),
      θ_run (Cert.SsmProductIdeal.defs (F := Ideal)) (onTc (τ := Cert.SsmProductIdeal.τ) (Cert.SsmProductIdeal.main (F := Ideal))) ⟨m, fun _ => 0, g⟩ (fun r => ∀ c : Dev Cert.SsmProductIdeal.nD,
          r.2.mem ((c.tc : Thread Cert.SsmProductIdeal.nD Cert.SsmProductIdeal.τ).loc Cert.SsmProductIdeal.main_v0) = v0 c
          ∧ r.2.mem ((c.tc : Thread Cert.SsmProductIdeal.nD Cert.SsmProductIdeal.τ).loc Cert.SsmProductIdeal.main_arg0) = m ((c.tc : Thread Cert.SsmProductIdeal.nD Cert.SsmProductIdeal.τ).loc Cert.SsmProductIdeal.main_arg0)
          ∧ r.2.mem ((c.tc : Thread Cert.SsmProductIdeal.nD Cert.SsmProductIdeal.τ).loc Cert.SsmProductIdeal.main_arg1) = m ((c.tc : Thread Cert.SsmProductIdeal.nD Cert.SsmProductIdeal.τ).loc Cert.SsmProductIdeal.main_arg1))
      ∧ θ_run (Cert.SsmProductRefIdeal.defs (F := Ideal)) (onTc (τ := Cert.SsmProductRefIdeal.τ) (Cert.SsmProductRefIdeal.main (F := Ideal))) ⟨m', fun _ => 0, g'⟩ (fun r => ∀ c : Dev Cert.SsmProductRefIdeal.nD,
          r.2.mem ((c.tc : Thread Cert.SsmProductRefIdeal.nD Cert.SsmProductRefIdeal.τ).loc Cert.SsmProductRefIdeal.main_v3) = v0 c
          ∧ r.2.mem ((c.tc : Thread Cert.SsmProductRefIdeal.nD Cert.SsmProductRefIdeal.τ).loc Cert.SsmProductRefIdeal.main_arg0) = m' ((c.tc : Thread Cert.SsmProductRefIdeal.nD Cert.SsmProductRefIdeal.τ).loc Cert.SsmProductRefIdeal.main_arg0)
          ∧ r.2.mem ((c.tc : Thread Cert.SsmProductRefIdeal.nD Cert.SsmProductRefIdeal.τ).loc Cert.SsmProductRefIdeal.main_arg1) = m' ((c.tc : Thread Cert.SsmProductRefIdeal.nD Cert.SsmProductRefIdeal.τ).loc Cert.SsmProductRefIdeal.main_arg1))

def preserves_BranchProduct_BranchProductIdeal : Prop :=
  True

def algebraic_BranchProductIdeal_BranchProductRefIdeal [hBranchProductIdeal : Cert.BranchProductIdeal.Facts] [hBranchProductRefIdeal : Cert.BranchProductRefIdeal.Facts] : Prop :=
  ∀ (m : (ℓ : Loc Cert.BranchProductIdeal.nD Cert.BranchProductIdeal.τ Cert.BranchProductIdeal.sig) → Buf (Elt Ideal) ℓ) (g : Dev Cert.BranchProductIdeal.nD → PrngReg)
    (m' : (ℓ : Loc Cert.BranchProductRefIdeal.nD Cert.BranchProductRefIdeal.τ Cert.BranchProductRefIdeal.sig) → Buf (Elt Ideal) ℓ) (g' : Dev Cert.BranchProductRefIdeal.nD → PrngReg), Pre_BranchProductIdeal m →
    (∀ c : Dev Cert.BranchProductIdeal.nD,
      m' ((c.tc : Thread Cert.BranchProductRefIdeal.nD Cert.BranchProductRefIdeal.τ).loc Cert.BranchProductRefIdeal.main_arg0) = m ((c.tc : Thread Cert.BranchProductIdeal.nD Cert.BranchProductIdeal.τ).loc Cert.BranchProductIdeal.main_arg0)
      ∧ m' ((c.tc : Thread Cert.BranchProductRefIdeal.nD Cert.BranchProductRefIdeal.τ).loc Cert.BranchProductRefIdeal.main_arg1) = m ((c.tc : Thread Cert.BranchProductIdeal.nD Cert.BranchProductIdeal.τ).loc Cert.BranchProductIdeal.main_arg1)) →
    ∃ (v0 : (c : Dev Cert.BranchProductIdeal.nD) → Buf (Elt Ideal) ((c.tc : Thread Cert.BranchProductIdeal.nD Cert.BranchProductIdeal.τ).loc Cert.BranchProductIdeal.main_v0)),
      θ_run (Cert.BranchProductIdeal.defs (F := Ideal)) (onTc (τ := Cert.BranchProductIdeal.τ) (Cert.BranchProductIdeal.main (F := Ideal))) ⟨m, fun _ => 0, g⟩ (fun r => ∀ c : Dev Cert.BranchProductIdeal.nD,
          r.2.mem ((c.tc : Thread Cert.BranchProductIdeal.nD Cert.BranchProductIdeal.τ).loc Cert.BranchProductIdeal.main_v0) = v0 c
          ∧ r.2.mem ((c.tc : Thread Cert.BranchProductIdeal.nD Cert.BranchProductIdeal.τ).loc Cert.BranchProductIdeal.main_arg0) = m ((c.tc : Thread Cert.BranchProductIdeal.nD Cert.BranchProductIdeal.τ).loc Cert.BranchProductIdeal.main_arg0)
          ∧ r.2.mem ((c.tc : Thread Cert.BranchProductIdeal.nD Cert.BranchProductIdeal.τ).loc Cert.BranchProductIdeal.main_arg1) = m ((c.tc : Thread Cert.BranchProductIdeal.nD Cert.BranchProductIdeal.τ).loc Cert.BranchProductIdeal.main_arg1))
      ∧ θ_run (Cert.BranchProductRefIdeal.defs (F := Ideal)) (onTc (τ := Cert.BranchProductRefIdeal.τ) (Cert.BranchProductRefIdeal.main (F := Ideal))) ⟨m', fun _ => 0, g'⟩ (fun r => ∀ c : Dev Cert.BranchProductRefIdeal.nD,
          r.2.mem ((c.tc : Thread Cert.BranchProductRefIdeal.nD Cert.BranchProductRefIdeal.τ).loc Cert.BranchProductRefIdeal.main_v3) = v0 c
          ∧ r.2.mem ((c.tc : Thread Cert.BranchProductRefIdeal.nD Cert.BranchProductRefIdeal.τ).loc Cert.BranchProductRefIdeal.main_arg0) = m' ((c.tc : Thread Cert.BranchProductRefIdeal.nD Cert.BranchProductRefIdeal.τ).loc Cert.BranchProductRefIdeal.main_arg0)
          ∧ r.2.mem ((c.tc : Thread Cert.BranchProductRefIdeal.nD Cert.BranchProductRefIdeal.τ).loc Cert.BranchProductRefIdeal.main_arg1) = m' ((c.tc : Thread Cert.BranchProductRefIdeal.nD Cert.BranchProductRefIdeal.τ).loc Cert.BranchProductRefIdeal.main_arg1))

def preserves_OutProduct_OutProductIdeal : Prop :=
  True

def algebraic_OutProductIdeal_OutProductRefIdeal [hOutProductIdeal : Cert.OutProductIdeal.Facts] [hOutProductRefIdeal : Cert.OutProductRefIdeal.Facts] : Prop :=
  ∀ (m : (ℓ : Loc Cert.OutProductIdeal.nD Cert.OutProductIdeal.τ Cert.OutProductIdeal.sig) → Buf (Elt Ideal) ℓ) (g : Dev Cert.OutProductIdeal.nD → PrngReg)
    (m' : (ℓ : Loc Cert.OutProductRefIdeal.nD Cert.OutProductRefIdeal.τ Cert.OutProductRefIdeal.sig) → Buf (Elt Ideal) ℓ) (g' : Dev Cert.OutProductRefIdeal.nD → PrngReg), Pre_OutProductIdeal m →
    (∀ c : Dev Cert.OutProductIdeal.nD,
      m' ((c.tc : Thread Cert.OutProductRefIdeal.nD Cert.OutProductRefIdeal.τ).loc Cert.OutProductRefIdeal.main_arg0) = m ((c.tc : Thread Cert.OutProductIdeal.nD Cert.OutProductIdeal.τ).loc Cert.OutProductIdeal.main_arg0)
      ∧ m' ((c.tc : Thread Cert.OutProductRefIdeal.nD Cert.OutProductRefIdeal.τ).loc Cert.OutProductRefIdeal.main_arg1) = m ((c.tc : Thread Cert.OutProductIdeal.nD Cert.OutProductIdeal.τ).loc Cert.OutProductIdeal.main_arg1)
      ∧ m' ((c.tc : Thread Cert.OutProductRefIdeal.nD Cert.OutProductRefIdeal.τ).loc Cert.OutProductRefIdeal.main_arg2) = m ((c.tc : Thread Cert.OutProductIdeal.nD Cert.OutProductIdeal.τ).loc Cert.OutProductIdeal.main_arg2)) →
    ∃ (v0 : (c : Dev Cert.OutProductIdeal.nD) → Buf (Elt Ideal) ((c.tc : Thread Cert.OutProductIdeal.nD Cert.OutProductIdeal.τ).loc Cert.OutProductIdeal.main_v0)),
      θ_run (Cert.OutProductIdeal.defs (F := Ideal)) (onTc (τ := Cert.OutProductIdeal.τ) (Cert.OutProductIdeal.main (F := Ideal))) ⟨m, fun _ => 0, g⟩ (fun r => ∀ c : Dev Cert.OutProductIdeal.nD,
          r.2.mem ((c.tc : Thread Cert.OutProductIdeal.nD Cert.OutProductIdeal.τ).loc Cert.OutProductIdeal.main_v0) = v0 c
          ∧ r.2.mem ((c.tc : Thread Cert.OutProductIdeal.nD Cert.OutProductIdeal.τ).loc Cert.OutProductIdeal.main_arg0) = m ((c.tc : Thread Cert.OutProductIdeal.nD Cert.OutProductIdeal.τ).loc Cert.OutProductIdeal.main_arg0)
          ∧ r.2.mem ((c.tc : Thread Cert.OutProductIdeal.nD Cert.OutProductIdeal.τ).loc Cert.OutProductIdeal.main_arg1) = m ((c.tc : Thread Cert.OutProductIdeal.nD Cert.OutProductIdeal.τ).loc Cert.OutProductIdeal.main_arg1)
          ∧ r.2.mem ((c.tc : Thread Cert.OutProductIdeal.nD Cert.OutProductIdeal.τ).loc Cert.OutProductIdeal.main_arg2) = m ((c.tc : Thread Cert.OutProductIdeal.nD Cert.OutProductIdeal.τ).loc Cert.OutProductIdeal.main_arg2))
      ∧ θ_run (Cert.OutProductRefIdeal.defs (F := Ideal)) (onTc (τ := Cert.OutProductRefIdeal.τ) (Cert.OutProductRefIdeal.main (F := Ideal))) ⟨m', fun _ => 0, g'⟩ (fun r => ∀ c : Dev Cert.OutProductRefIdeal.nD,
          r.2.mem ((c.tc : Thread Cert.OutProductRefIdeal.nD Cert.OutProductRefIdeal.τ).loc Cert.OutProductRefIdeal.main_v3) = v0 c
          ∧ r.2.mem ((c.tc : Thread Cert.OutProductRefIdeal.nD Cert.OutProductRefIdeal.τ).loc Cert.OutProductRefIdeal.main_arg0) = m' ((c.tc : Thread Cert.OutProductRefIdeal.nD Cert.OutProductRefIdeal.τ).loc Cert.OutProductRefIdeal.main_arg0)
          ∧ r.2.mem ((c.tc : Thread Cert.OutProductRefIdeal.nD Cert.OutProductRefIdeal.τ).loc Cert.OutProductRefIdeal.main_arg1) = m' ((c.tc : Thread Cert.OutProductRefIdeal.nD Cert.OutProductRefIdeal.τ).loc Cert.OutProductRefIdeal.main_arg1)
          ∧ r.2.mem ((c.tc : Thread Cert.OutProductRefIdeal.nD Cert.OutProductRefIdeal.τ).loc Cert.OutProductRefIdeal.main_arg2) = m' ((c.tc : Thread Cert.OutProductRefIdeal.nD Cert.OutProductRefIdeal.τ).loc Cert.OutProductRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v1_0)) (v1 : (c : Dev Cert.NormIdeal.nD) → Buf (Elt Ideal) ((c.tc : Thread Cert.NormIdeal.nD Cert.NormIdeal.τ).loc Cert.NormIdeal.main_v1_1)) (v2 : (c : Dev Cert.NormIdeal.nD) → Buf (Elt Ideal) ((c.tc : Thread Cert.NormIdeal.nD Cert.NormIdeal.τ).loc Cert.NormIdeal.main_v1_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_v1_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v36) = v0 c
          ∧ r.2.mem ((c.tc : Thread Cert.NormRefIdeal.nD Cert.NormRefIdeal.τ).loc Cert.NormRefIdeal.main_v38) = v1 c
          ∧ r.2.mem ((c.tc : Thread Cert.NormRefIdeal.nD Cert.NormRefIdeal.τ).loc Cert.NormRefIdeal.main_v39) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_GatedNorm_GatedNormIdeal : Prop :=
  True

def algebraic_GatedNormIdeal_GatedNormRefIdeal_pre_finite_gnorm [hGatedNormIdeal : Cert.GatedNormIdeal.Facts] [hGatedNormRefIdeal : Cert.GatedNormRefIdeal.Facts] [hPre_finite_gnorm : Cert.Pre_finite_gnorm.Facts] : Prop :=
  ∀ (m : (ℓ : Loc Cert.GatedNormIdeal.nD Cert.GatedNormIdeal.τ Cert.GatedNormIdeal.sig) → Buf (Elt Ideal) ℓ) (g : Dev Cert.GatedNormIdeal.nD → PrngReg)
    (m' : (ℓ : Loc Cert.GatedNormRefIdeal.nD Cert.GatedNormRefIdeal.τ Cert.GatedNormRefIdeal.sig) → Buf (Elt Ideal) ℓ) (g' : Dev Cert.GatedNormRefIdeal.nD → PrngReg), Pre_GatedNormIdeal_finite_gnorm m →
    (∀ c : Dev Cert.GatedNormIdeal.nD,
      m' ((c.tc : Thread Cert.GatedNormRefIdeal.nD Cert.GatedNormRefIdeal.τ).loc Cert.GatedNormRefIdeal.main_arg0) = m ((c.tc : Thread Cert.GatedNormIdeal.nD Cert.GatedNormIdeal.τ).loc Cert.GatedNormIdeal.main_arg0)
      ∧ m' ((c.tc : Thread Cert.GatedNormRefIdeal.nD Cert.GatedNormRefIdeal.τ).loc Cert.GatedNormRefIdeal.main_arg1) = m ((c.tc : Thread Cert.GatedNormIdeal.nD Cert.GatedNormIdeal.τ).loc Cert.GatedNormIdeal.main_arg1)
      ∧ m' ((c.tc : Thread Cert.GatedNormRefIdeal.nD Cert.GatedNormRefIdeal.τ).loc Cert.GatedNormRefIdeal.main_arg2) = m ((c.tc : Thread Cert.GatedNormIdeal.nD Cert.GatedNormIdeal.τ).loc Cert.GatedNormIdeal.main_arg2)
      ∧ m' ((c.tc : Thread Cert.GatedNormRefIdeal.nD Cert.GatedNormRefIdeal.τ).loc Cert.GatedNormRefIdeal.main_arg3) = m ((c.tc : Thread Cert.GatedNormIdeal.nD Cert.GatedNormIdeal.τ).loc Cert.GatedNormIdeal.main_arg3)) →
    ∃ (v0 : (c : Dev Cert.GatedNormIdeal.nD) → Buf (Elt Ideal) ((c.tc : Thread Cert.GatedNormIdeal.nD Cert.GatedNormIdeal.τ).loc Cert.GatedNormIdeal.main_v1_0)) (v1 : (c : Dev Cert.GatedNormIdeal.nD) → Buf (Elt Ideal) ((c.tc : Thread Cert.GatedNormIdeal.nD Cert.GatedNormIdeal.τ).loc Cert.GatedNormIdeal.main_v1_1)) (v2 : (c : Dev Cert.GatedNormIdeal.nD) → Buf (Elt Ideal) ((c.tc : Thread Cert.GatedNormIdeal.nD Cert.GatedNormIdeal.τ).loc Cert.GatedNormIdeal.main_v1_2)),
      θ_run (Cert.GatedNormIdeal.defs (F := Ideal)) (onTc (τ := Cert.GatedNormIdeal.τ) (Cert.GatedNormIdeal.main (F := Ideal))) ⟨m, fun _ => 0, g⟩ (fun r => ∀ c : Dev Cert.GatedNormIdeal.nD,
          r.2.mem ((c.tc : Thread Cert.GatedNormIdeal.nD Cert.GatedNormIdeal.τ).loc Cert.GatedNormIdeal.main_v1_0) = v0 c
          ∧ r.2.mem ((c.tc : Thread Cert.GatedNormIdeal.nD Cert.GatedNormIdeal.τ).loc Cert.GatedNormIdeal.main_v1_1) = v1 c
          ∧ r.2.mem ((c.tc : Thread Cert.GatedNormIdeal.nD Cert.GatedNormIdeal.τ).loc Cert.GatedNormIdeal.main_v1_2) = v2 c
          ∧ r.2.mem ((c.tc : Thread Cert.GatedNormIdeal.nD Cert.GatedNormIdeal.τ).loc Cert.GatedNormIdeal.main_arg0) = m ((c.tc : Thread Cert.GatedNormIdeal.nD Cert.GatedNormIdeal.τ).loc Cert.GatedNormIdeal.main_arg0)
          ∧ r.2.mem ((c.tc : Thread Cert.GatedNormIdeal.nD Cert.GatedNormIdeal.τ).loc Cert.GatedNormIdeal.main_arg1) = m ((c.tc : Thread Cert.GatedNormIdeal.nD Cert.GatedNormIdeal.τ).loc Cert.GatedNormIdeal.main_arg1)
          ∧ r.2.mem ((c.tc : Thread Cert.GatedNormIdeal.nD Cert.GatedNormIdeal.τ).loc Cert.GatedNormIdeal.main_arg2) = m ((c.tc : Thread Cert.GatedNormIdeal.nD Cert.GatedNormIdeal.τ).loc Cert.GatedNormIdeal.main_arg2)
          ∧ r.2.mem ((c.tc : Thread Cert.GatedNormIdeal.nD Cert.GatedNormIdeal.τ).loc Cert.GatedNormIdeal.main_arg3) = m ((c.tc : Thread Cert.GatedNormIdeal.nD Cert.GatedNormIdeal.τ).loc Cert.GatedNormIdeal.main_arg3))
      ∧ θ_run (Cert.GatedNormRefIdeal.defs (F := Ideal)) (onTc (τ := Cert.GatedNormRefIdeal.τ) (Cert.GatedNormRefIdeal.main (F := Ideal))) ⟨m', fun _ => 0, g'⟩ (fun r => ∀ c : Dev Cert.GatedNormRefIdeal.nD,
          r.2.mem ((c.tc : Thread Cert.GatedNormRefIdeal.nD Cert.GatedNormRefIdeal.τ).loc Cert.GatedNormRefIdeal.main_v47) = v0 c
          ∧ r.2.mem ((c.tc : Thread Cert.GatedNormRefIdeal.nD Cert.GatedNormRefIdeal.τ).loc Cert.GatedNormRefIdeal.main_v46) = v1 c
          ∧ r.2.mem ((c.tc : Thread Cert.GatedNormRefIdeal.nD Cert.GatedNormRefIdeal.τ).loc Cert.GatedNormRefIdeal.main_v48) = v2 c
          ∧ r.2.mem ((c.tc : Thread Cert.GatedNormRefIdeal.nD Cert.GatedNormRefIdeal.τ).loc Cert.GatedNormRefIdeal.main_arg0) = m' ((c.tc : Thread Cert.GatedNormRefIdeal.nD Cert.GatedNormRefIdeal.τ).loc Cert.GatedNormRefIdeal.main_arg0)
          ∧ r.2.mem ((c.tc : Thread Cert.GatedNormRefIdeal.nD Cert.GatedNormRefIdeal.τ).loc Cert.GatedNormRefIdeal.main_arg1) = m' ((c.tc : Thread Cert.GatedNormRefIdeal.nD Cert.GatedNormRefIdeal.τ).loc Cert.GatedNormRefIdeal.main_arg1)
          ∧ r.2.mem ((c.tc : Thread Cert.GatedNormRefIdeal.nD Cert.GatedNormRefIdeal.τ).loc Cert.GatedNormRefIdeal.main_arg2) = m' ((c.tc : Thread Cert.GatedNormRefIdeal.nD Cert.GatedNormRefIdeal.τ).loc Cert.GatedNormRefIdeal.main_arg2)
          ∧ r.2.mem ((c.tc : Thread Cert.GatedNormRefIdeal.nD Cert.GatedNormRefIdeal.τ).loc Cert.GatedNormRefIdeal.main_arg3) = m' ((c.tc : Thread Cert.GatedNormRefIdeal.nD Cert.GatedNormRefIdeal.τ).loc Cert.GatedNormRefIdeal.main_arg3))

def preserves_NormForward_NormForwardIdeal : Prop :=
  True

def algebraic_NormForwardIdeal_NormForwardRefIdeal [hNormForwardIdeal : Cert.NormForwardIdeal.Facts] [hNormForwardRefIdeal : Cert.NormForwardRefIdeal.Facts] : Prop :=
  ∀ (m : (ℓ : Loc Cert.NormForwardIdeal.nD Cert.NormForwardIdeal.τ Cert.NormForwardIdeal.sig) → Buf (Elt Ideal) ℓ) (g : Dev Cert.NormForwardIdeal.nD → PrngReg)
    (m' : (ℓ : Loc Cert.NormForwardRefIdeal.nD Cert.NormForwardRefIdeal.τ Cert.NormForwardRefIdeal.sig) → Buf (Elt Ideal) ℓ) (g' : Dev Cert.NormForwardRefIdeal.nD → PrngReg), Pre_NormForwardIdeal m →
    (∀ c : Dev Cert.NormForwardIdeal.nD,
      m' ((c.tc : Thread Cert.NormForwardRefIdeal.nD Cert.NormForwardRefIdeal.τ).loc Cert.NormForwardRefIdeal.main_arg0) = m ((c.tc : Thread Cert.NormForwardIdeal.nD Cert.NormForwardIdeal.τ).loc Cert.NormForwardIdeal.main_arg0)
      ∧ m' ((c.tc : Thread Cert.NormForwardRefIdeal.nD Cert.NormForwardRefIdeal.τ).loc Cert.NormForwardRefIdeal.main_arg1) = m ((c.tc : Thread Cert.NormForwardIdeal.nD Cert.NormForwardIdeal.τ).loc Cert.NormForwardIdeal.main_arg1)) →
    ∃ (v0 : (c : Dev Cert.NormForwardIdeal.nD) → Buf (Elt Ideal) ((c.tc : Thread Cert.NormForwardIdeal.nD Cert.NormForwardIdeal.τ).loc Cert.NormForwardIdeal.main_v1)),
      θ_run (Cert.NormForwardIdeal.defs (F := Ideal)) (onTc (τ := Cert.NormForwardIdeal.τ) (Cert.NormForwardIdeal.main (F := Ideal))) ⟨m, fun _ => 0, g⟩ (fun r => ∀ c : Dev Cert.NormForwardIdeal.nD,
          r.2.mem ((c.tc : Thread Cert.NormForwardIdeal.nD Cert.NormForwardIdeal.τ).loc Cert.NormForwardIdeal.main_v1) = v0 c
          ∧ r.2.mem ((c.tc : Thread Cert.NormForwardIdeal.nD Cert.NormForwardIdeal.τ).loc Cert.NormForwardIdeal.main_arg0) = m ((c.tc : Thread Cert.NormForwardIdeal.nD Cert.NormForwardIdeal.τ).loc Cert.NormForwardIdeal.main_arg0)
          ∧ r.2.mem ((c.tc : Thread Cert.NormForwardIdeal.nD Cert.NormForwardIdeal.τ).loc Cert.NormForwardIdeal.main_arg1) = m ((c.tc : Thread Cert.NormForwardIdeal.nD Cert.NormForwardIdeal.τ).loc Cert.NormForwardIdeal.main_arg1))
      ∧ θ_run (Cert.NormForwardRefIdeal.defs (F := Ideal)) (onTc (τ := Cert.NormForwardRefIdeal.τ) (Cert.NormForwardRefIdeal.main (F := Ideal))) ⟨m', fun _ => 0, g'⟩ (fun r => ∀ c : Dev Cert.NormForwardRefIdeal.nD,
          r.2.mem ((c.tc : Thread Cert.NormForwardRefIdeal.nD Cert.NormForwardRefIdeal.τ).loc Cert.NormForwardRefIdeal.main_v13) = v0 c
          ∧ r.2.mem ((c.tc : Thread Cert.NormForwardRefIdeal.nD Cert.NormForwardRefIdeal.τ).loc Cert.NormForwardRefIdeal.main_arg0) = m' ((c.tc : Thread Cert.NormForwardRefIdeal.nD Cert.NormForwardRefIdeal.τ).loc Cert.NormForwardRefIdeal.main_arg0)
          ∧ r.2.mem ((c.tc : Thread Cert.NormForwardRefIdeal.nD Cert.NormForwardRefIdeal.τ).loc Cert.NormForwardRefIdeal.main_arg1) = m' ((c.tc : Thread Cert.NormForwardRefIdeal.nD Cert.NormForwardRefIdeal.τ).loc Cert.NormForwardRefIdeal.main_arg1))

def preserves_GatedForward_GatedForwardIdeal : Prop :=
  True

def algebraic_GatedForwardIdeal_GatedForwardRefIdeal [hGatedForwardIdeal : Cert.GatedForwardIdeal.Facts] [hGatedForwardRefIdeal : Cert.GatedForwardRefIdeal.Facts] : Prop :=
  ∀ (m : (ℓ : Loc Cert.GatedForwardIdeal.nD Cert.GatedForwardIdeal.τ Cert.GatedForwardIdeal.sig) → Buf (Elt Ideal) ℓ) (g : Dev Cert.GatedForwardIdeal.nD → PrngReg)
    (m' : (ℓ : Loc Cert.GatedForwardRefIdeal.nD Cert.GatedForwardRefIdeal.τ Cert.GatedForwardRefIdeal.sig) → Buf (Elt Ideal) ℓ) (g' : Dev Cert.GatedForwardRefIdeal.nD → PrngReg), Pre_GatedForwardIdeal m →
    (∀ c : Dev Cert.GatedForwardIdeal.nD,
      m' ((c.tc : Thread Cert.GatedForwardRefIdeal.nD Cert.GatedForwardRefIdeal.τ).loc Cert.GatedForwardRefIdeal.main_arg0) = m ((c.tc : Thread Cert.GatedForwardIdeal.nD Cert.GatedForwardIdeal.τ).loc Cert.GatedForwardIdeal.main_arg0)
      ∧ m' ((c.tc : Thread Cert.GatedForwardRefIdeal.nD Cert.GatedForwardRefIdeal.τ).loc Cert.GatedForwardRefIdeal.main_arg1) = m ((c.tc : Thread Cert.GatedForwardIdeal.nD Cert.GatedForwardIdeal.τ).loc Cert.GatedForwardIdeal.main_arg1)
      ∧ m' ((c.tc : Thread Cert.GatedForwardRefIdeal.nD Cert.GatedForwardRefIdeal.τ).loc Cert.GatedForwardRefIdeal.main_arg2) = m ((c.tc : Thread Cert.GatedForwardIdeal.nD Cert.GatedForwardIdeal.τ).loc Cert.GatedForwardIdeal.main_arg2)) →
    ∃ (v0 : (c : Dev Cert.GatedForwardIdeal.nD) → Buf (Elt Ideal) ((c.tc : Thread Cert.GatedForwardIdeal.nD Cert.GatedForwardIdeal.τ).loc Cert.GatedForwardIdeal.main_v1)),
      θ_run (Cert.GatedForwardIdeal.defs (F := Ideal)) (onTc (τ := Cert.GatedForwardIdeal.τ) (Cert.GatedForwardIdeal.main (F := Ideal))) ⟨m, fun _ => 0, g⟩ (fun r => ∀ c : Dev Cert.GatedForwardIdeal.nD,
          r.2.mem ((c.tc : Thread Cert.GatedForwardIdeal.nD Cert.GatedForwardIdeal.τ).loc Cert.GatedForwardIdeal.main_v1) = v0 c
          ∧ r.2.mem ((c.tc : Thread Cert.GatedForwardIdeal.nD Cert.GatedForwardIdeal.τ).loc Cert.GatedForwardIdeal.main_arg0) = m ((c.tc : Thread Cert.GatedForwardIdeal.nD Cert.GatedForwardIdeal.τ).loc Cert.GatedForwardIdeal.main_arg0)
          ∧ r.2.mem ((c.tc : Thread Cert.GatedForwardIdeal.nD Cert.GatedForwardIdeal.τ).loc Cert.GatedForwardIdeal.main_arg1) = m ((c.tc : Thread Cert.GatedForwardIdeal.nD Cert.GatedForwardIdeal.τ).loc Cert.GatedForwardIdeal.main_arg1)
          ∧ r.2.mem ((c.tc : Thread Cert.GatedForwardIdeal.nD Cert.GatedForwardIdeal.τ).loc Cert.GatedForwardIdeal.main_arg2) = m ((c.tc : Thread Cert.GatedForwardIdeal.nD Cert.GatedForwardIdeal.τ).loc Cert.GatedForwardIdeal.main_arg2))
      ∧ θ_run (Cert.GatedForwardRefIdeal.defs (F := Ideal)) (onTc (τ := Cert.GatedForwardRefIdeal.τ) (Cert.GatedForwardRefIdeal.main (F := Ideal))) ⟨m', fun _ => 0, g'⟩ (fun r => ∀ c : Dev Cert.GatedForwardRefIdeal.nD,
          r.2.mem ((c.tc : Thread Cert.GatedForwardRefIdeal.nD Cert.GatedForwardRefIdeal.τ).loc Cert.GatedForwardRefIdeal.main_v18) = v0 c
          ∧ r.2.mem ((c.tc : Thread Cert.GatedForwardRefIdeal.nD Cert.GatedForwardRefIdeal.τ).loc Cert.GatedForwardRefIdeal.main_arg0) = m' ((c.tc : Thread Cert.GatedForwardRefIdeal.nD Cert.GatedForwardRefIdeal.τ).loc Cert.GatedForwardRefIdeal.main_arg0)
          ∧ r.2.mem ((c.tc : Thread Cert.GatedForwardRefIdeal.nD Cert.GatedForwardRefIdeal.τ).loc Cert.GatedForwardRefIdeal.main_arg1) = m' ((c.tc : Thread Cert.GatedForwardRefIdeal.nD Cert.GatedForwardRefIdeal.τ).loc Cert.GatedForwardRefIdeal.main_arg1)
          ∧ r.2.mem ((c.tc : Thread Cert.GatedForwardRefIdeal.nD Cert.GatedForwardRefIdeal.τ).loc Cert.GatedForwardRefIdeal.main_arg2) = m' ((c.tc : Thread Cert.GatedForwardRefIdeal.nD Cert.GatedForwardRefIdeal.τ).loc Cert.GatedForwardRefIdeal.main_arg2))

def Claim : Prop :=
  ∃ (hKernel : Cert.Kernel.Facts) (hKernelIdeal : Cert.KernelIdeal.Facts) (hReferenceIdeal : Cert.ReferenceIdeal.Facts) (hInWeight : Cert.InWeight.Facts) (hInWeightIdeal : Cert.InWeightIdeal.Facts) (hInWeightRefIdeal : Cert.InWeightRefIdeal.Facts) (hInInput : Cert.InInput.Facts) (hInInputIdeal : Cert.InInputIdeal.Facts) (hInInputRefIdeal : Cert.InInputRefIdeal.Facts) (hMerge : Cert.Merge.Facts) (hMergeIdeal : Cert.MergeIdeal.Facts) (hMergeRefIdeal : Cert.MergeRefIdeal.Facts) (hOutInput : Cert.OutInput.Facts) (hOutInputIdeal : Cert.OutInputIdeal.Facts) (hOutInputRefIdeal : Cert.OutInputRefIdeal.Facts) (hOutWeight : Cert.OutWeight.Facts) (hOutWeightIdeal : Cert.OutWeightIdeal.Facts) (hOutWeightRefIdeal : Cert.OutWeightRefIdeal.Facts) (hSsmInput : Cert.SsmInput.Facts) (hSsmInputIdeal : Cert.SsmInputIdeal.Facts) (hSsmInputRefIdeal : Cert.SsmInputRefIdeal.Facts) (hSsmWeight : Cert.SsmWeight.Facts) (hSsmWeightIdeal : Cert.SsmWeightIdeal.Facts) (hSsmWeightRefIdeal : Cert.SsmWeightRefIdeal.Facts) (hInProduct : Cert.InProduct.Facts) (hInProductIdeal : Cert.InProductIdeal.Facts) (hInProductRefIdeal : Cert.InProductRefIdeal.Facts) (hSsmProduct : Cert.SsmProduct.Facts) (hSsmProductIdeal : Cert.SsmProductIdeal.Facts) (hSsmProductRefIdeal : Cert.SsmProductRefIdeal.Facts) (hBranchProduct : Cert.BranchProduct.Facts) (hBranchProductIdeal : Cert.BranchProductIdeal.Facts) (hBranchProductRefIdeal : Cert.BranchProductRefIdeal.Facts) (hOutProduct : Cert.OutProduct.Facts) (hOutProductIdeal : Cert.OutProductIdeal.Facts) (hOutProductRefIdeal : Cert.OutProductRefIdeal.Facts) (hNorm : Cert.Norm.Facts) (hNormIdeal : Cert.NormIdeal.Facts) (hNormRefIdeal : Cert.NormRefIdeal.Facts) (hGatedNorm : Cert.GatedNorm.Facts) (hGatedNormIdeal : Cert.GatedNormIdeal.Facts) (hGatedNormRefIdeal : Cert.GatedNormRefIdeal.Facts) (hNormForward : Cert.NormForward.Facts) (hNormForwardIdeal : Cert.NormForwardIdeal.Facts) (hNormForwardRefIdeal : Cert.NormForwardRefIdeal.Facts) (hGatedForward : Cert.GatedForward.Facts) (hGatedForwardIdeal : Cert.GatedForwardIdeal.Facts) (hGatedForwardRefIdeal : Cert.GatedForwardRefIdeal.Facts) (hPre_finite : Cert.Pre_finite.Facts) (hPre_finite_gnorm : Cert.Pre_finite_gnorm.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InWeight (hInWeight := hInWeight)
    ∧ quiescent_InWeightIdeal (hInWeightIdeal := hInWeightIdeal)
    ∧ quiescent_InWeightRefIdeal (hInWeightRefIdeal := hInWeightRefIdeal)
    ∧ quiescent_InInput (hInInput := hInInput)
    ∧ quiescent_InInputIdeal (hInInputIdeal := hInInputIdeal)
    ∧ quiescent_InInputRefIdeal (hInInputRefIdeal := hInInputRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutInput (hOutInput := hOutInput)
    ∧ quiescent_OutInputIdeal (hOutInputIdeal := hOutInputIdeal)
    ∧ quiescent_OutInputRefIdeal (hOutInputRefIdeal := hOutInputRefIdeal)
    ∧ quiescent_OutWeight (hOutWeight := hOutWeight)
    ∧ quiescent_OutWeightIdeal (hOutWeightIdeal := hOutWeightIdeal)
    ∧ quiescent_OutWeightRefIdeal (hOutWeightRefIdeal := hOutWeightRefIdeal)
    ∧ quiescent_SsmInput (hSsmInput := hSsmInput)
    ∧ quiescent_SsmInputIdeal (hSsmInputIdeal := hSsmInputIdeal)
    ∧ quiescent_SsmInputRefIdeal (hSsmInputRefIdeal := hSsmInputRefIdeal)
    ∧ quiescent_SsmWeight (hSsmWeight := hSsmWeight)
    ∧ quiescent_SsmWeightIdeal (hSsmWeightIdeal := hSsmWeightIdeal)
    ∧ quiescent_SsmWeightRefIdeal (hSsmWeightRefIdeal := hSsmWeightRefIdeal)
    ∧ quiescent_InProduct (hInProduct := hInProduct)
    ∧ quiescent_InProductIdeal (hInProductIdeal := hInProductIdeal)
    ∧ quiescent_InProductRefIdeal (hInProductRefIdeal := hInProductRefIdeal)
    ∧ quiescent_SsmProduct (hSsmProduct := hSsmProduct)
    ∧ quiescent_SsmProductIdeal (hSsmProductIdeal := hSsmProductIdeal)
    ∧ quiescent_SsmProductRefIdeal (hSsmProductRefIdeal := hSsmProductRefIdeal)
    ∧ quiescent_BranchProduct (hBranchProduct := hBranchProduct)
    ∧ quiescent_BranchProductIdeal (hBranchProductIdeal := hBranchProductIdeal)
    ∧ quiescent_BranchProductRefIdeal (hBranchProductRefIdeal := hBranchProductRefIdeal)
    ∧ quiescent_OutProduct (hOutProduct := hOutProduct)
    ∧ quiescent_OutProductIdeal (hOutProductIdeal := hOutProductIdeal)
    ∧ quiescent_OutProductRefIdeal (hOutProductRefIdeal := hOutProductRefIdeal)
    ∧ quiescent_Norm (hNorm := hNorm)
    ∧ quiescent_NormIdeal (hNormIdeal := hNormIdeal)
    ∧ quiescent_NormRefIdeal (hNormRefIdeal := hNormRefIdeal)
    ∧ quiescent_GatedNorm (hGatedNorm := hGatedNorm)
    ∧ quiescent_GatedNormIdeal (hGatedNormIdeal := hGatedNormIdeal)
    ∧ quiescent_GatedNormIdeal_pre_finite_gnorm (hGatedNormIdeal := hGatedNormIdeal) (hPre_finite_gnorm := hPre_finite_gnorm)
    ∧ quiescent_GatedNormRefIdeal (hGatedNormRefIdeal := hGatedNormRefIdeal)
    ∧ quiescent_GatedNormRefIdeal_pre_finite_gnorm (hGatedNormRefIdeal := hGatedNormRefIdeal) (hPre_finite_gnorm := hPre_finite_gnorm)
    ∧ quiescent_NormForward (hNormForward := hNormForward)
    ∧ quiescent_NormForwardIdeal (hNormForwardIdeal := hNormForwardIdeal)
    ∧ quiescent_NormForwardRefIdeal (hNormForwardRefIdeal := hNormForwardRefIdeal)
    ∧ quiescent_GatedForward (hGatedForward := hGatedForward)
    ∧ quiescent_GatedForwardIdeal (hGatedForwardIdeal := hGatedForwardIdeal)
    ∧ quiescent_GatedForwardRefIdeal (hGatedForwardRefIdeal := hGatedForwardRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InWeight_InWeightIdeal
    ∧ algebraic_InWeightIdeal_InWeightRefIdeal (hInWeightIdeal := hInWeightIdeal) (hInWeightRefIdeal := hInWeightRefIdeal)
    ∧ preserves_InInput_InInputIdeal
    ∧ algebraic_InInputIdeal_InInputRefIdeal (hInInputIdeal := hInInputIdeal) (hInInputRefIdeal := hInInputRefIdeal)
    ∧ preserves_Merge_MergeIdeal
    ∧ algebraic_MergeIdeal_MergeRefIdeal (hMergeIdeal := hMergeIdeal) (hMergeRefIdeal := hMergeRefIdeal)
    ∧ preserves_OutInput_OutInputIdeal
    ∧ algebraic_OutInputIdeal_OutInputRefIdeal (hOutInputIdeal := hOutInputIdeal) (hOutInputRefIdeal := hOutInputRefIdeal)
    ∧ preserves_OutWeight_OutWeightIdeal
    ∧ algebraic_OutWeightIdeal_OutWeightRefIdeal (hOutWeightIdeal := hOutWeightIdeal) (hOutWeightRefIdeal := hOutWeightRefIdeal)
    ∧ preserves_SsmInput_SsmInputIdeal
    ∧ algebraic_SsmInputIdeal_SsmInputRefIdeal (hSsmInputIdeal := hSsmInputIdeal) (hSsmInputRefIdeal := hSsmInputRefIdeal)
    ∧ preserves_SsmWeight_SsmWeightIdeal
    ∧ algebraic_SsmWeightIdeal_SsmWeightRefIdeal (hSsmWeightIdeal := hSsmWeightIdeal) (hSsmWeightRefIdeal := hSsmWeightRefIdeal)
    ∧ preserves_InProduct_InProductIdeal
    ∧ algebraic_InProductIdeal_InProductRefIdeal (hInProductIdeal := hInProductIdeal) (hInProductRefIdeal := hInProductRefIdeal)
    ∧ preserves_SsmProduct_SsmProductIdeal
    ∧ algebraic_SsmProductIdeal_SsmProductRefIdeal (hSsmProductIdeal := hSsmProductIdeal) (hSsmProductRefIdeal := hSsmProductRefIdeal)
    ∧ preserves_BranchProduct_BranchProductIdeal
    ∧ algebraic_BranchProductIdeal_BranchProductRefIdeal (hBranchProductIdeal := hBranchProductIdeal) (hBranchProductRefIdeal := hBranchProductRefIdeal)
    ∧ preserves_OutProduct_OutProductIdeal
    ∧ algebraic_OutProductIdeal_OutProductRefIdeal (hOutProductIdeal := hOutProductIdeal) (hOutProductRefIdeal := hOutProductRefIdeal)
    ∧ preserves_Norm_NormIdeal
    ∧ algebraic_NormIdeal_NormRefIdeal (hNormIdeal := hNormIdeal) (hNormRefIdeal := hNormRefIdeal)
    ∧ preserves_GatedNorm_GatedNormIdeal
    ∧ algebraic_GatedNormIdeal_GatedNormRefIdeal_pre_finite_gnorm (hGatedNormIdeal := hGatedNormIdeal) (hGatedNormRefIdeal := hGatedNormRefIdeal) (hPre_finite_gnorm := hPre_finite_gnorm)
    ∧ preserves_NormForward_NormForwardIdeal
    ∧ algebraic_NormForwardIdeal_NormForwardRefIdeal (hNormForwardIdeal := hNormForwardIdeal) (hNormForwardRefIdeal := hNormForwardRefIdeal)
    ∧ preserves_GatedForward_GatedForwardIdeal
    ∧ algebraic_GatedForwardIdeal_GatedForwardRefIdeal (hGatedForwardIdeal := hGatedForwardIdeal) (hGatedForwardRefIdeal := hGatedForwardRefIdeal)
-- ==== Pre_finite.lean ====
abbrev S4096x1024 : Shape := ⟨2, ![4096, 1024]⟩
abbrev S4096x14336 : Shape := ⟨2, ![4096, 14336]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x14336 : S_.BroadcastsInDim S4096x14336 (![] : Fin 0 → Fin S4096x14336.rank)
  reducesTo_S4096x14336_S_d0_1 : S4096x14336.ReducesTo [0, 1] S_

variable [Facts]

def fn {F : FTy → Type} [FloatOps F] (main_arg0 : FVec F S4096x1024 .bf16) (main_arg1 : FVec F S4096x14336 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x14336 .f32 := (extf .f32 · bitsLt_bf16_f32) main_arg1
  let main_v6 : FVec F S4096x14336 .f32 := Host.absf main_v5
  let main_cst_0 : FVec F S_ .f32 := constant S_ .f32 0x7F800000#32
  let main_v7 : FVec F S4096x14336 .f32 := broadcastInDim S4096x14336 ![] bcast_S_S4096x14336 main_cst_0
  let main_v8 : IVec S4096x14336 1 := cmpf .olt main_v6 main_v7
  let main_c_1 : IVec S_ 1 := constantI S_ 1 1#1
  let main_v9 : IVec S_ 1 := (fun x v => Host.reduce IntOp.andi x v reducesTo_S4096x14336_S_d0_1 h_S_) main_v8 main_c_1
  let main_v10 : IVec S_ 1 := andi main_v4 main_v9
  main_v10
-- ==== Pre_finite_gnorm.lean ====
abbrev S4096x2048 : Shape := ⟨2, ![4096, 2048]⟩
abbrev S4096x14336 : Shape := ⟨2, ![4096, 14336]⟩
abbrev S2048 : Shape := ⟨1, ![2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4096x2048 .bf16) (main_arg1 : FVec F S4096x2048 .bf16) (main_arg2 : FVec F S4096x14336 .bf16) (main_arg3 : FVec F S2048 .f32) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S2048 .f32 := Host.absf main_arg3
  let main_cst_0 : FVec F S_ .f32 := constant S_ .f32 0x7F800000#32
  let main_v6 : FVec F S2048 .f32 := broadcastInDim S2048 ![] bcast_S_S2048 main_cst_0
  let main_v7 : IVec S2048 1 := cmpf .olt main_v5 main_v6
  let main_c_1 : IVec S_ 1 := constantI S_ 1 1#1
  let main_v8 : IVec S_ 1 := (fun x v => Host.reduce IntOp.andi x v reducesTo_S2048_S_d0 h_S_) main_v7 main_c_1
  let main_v9 : IVec S_ 1 := andi main_v4 main_v8
  main_v9
-- ==== Kernel.lean ====
abbrev S4096x1024 : Shape := ⟨2, ![4096, 1024]⟩
abbrev S4096x14336 : Shape := ⟨2, ![4096, 14336]⟩
abbrev S4096x3072 : Shape := ⟨2, ![4096, 3072]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x16x2048x8 : Shape := ⟨4, ![2, 16, 2048, 8]⟩
abbrev S2x8x2x8x256x8 : Shape := ⟨6, ![2, 8, 2, 8, 256, 8]⟩
abbrev S2x8x8x256x2x8 : Shape := ⟨6, ![2, 8, 8, 256, 2, 8]⟩
abbrev S16x8x256x16 : Shape := ⟨4, ![16, 8, 256, 16]⟩
abbrev S16x8x256x128 : Shape := ⟨4, ![16, 8, 256, 128]⟩
abbrev S256x512 : Shape := ⟨2, ![256, 512]⟩
abbrev S1x4x256x128 : Shape := ⟨4, ![1, 4, 256, 128]⟩
abbrev S2048x512 : Shape := ⟨2, ![2048, 512]⟩
abbrev S8x512x256 : Shape := ⟨3, ![8, 512, 256]⟩
abbrev S256x128 : Shape := ⟨2, ![256, 128]⟩
abbrev S512x256 : Shape := ⟨2, ![512, 256]⟩
abbrev S256x256 : Shape := ⟨2, ![256, 256]⟩
abbrev S512x128 : Shape := ⟨2, ![512, 128]⟩
abbrev S128x512 : Shape := ⟨2, ![128, 512]⟩
abbrev S512x1 : Shape := ⟨2, ![512, 1]⟩
abbrev S1x1x256x128 : Shape := ⟨4, ![1, 1, 256, 128]⟩
abbrev S256 : Shape := ⟨1, ![256]⟩
abbrev S256x1 : Shape := ⟨2, ![256, 1]⟩
abbrev S1x128x256 : Shape := ⟨3, ![1, 128, 256]⟩
abbrev S128x256 : Shape := ⟨2, ![128, 256]⟩
abbrev S512 : Shape := ⟨1, ![512]⟩

abbrev nBuf : Space → Nat
  | .hbm => 103
  | .vmem => 24
  | .smem => 0
  | _ => 0

abbrev bufTy : (tb : Table) → Fin (tcTables nBuf tb) → BufTy
  | .hbm, ⟨0, _⟩ => ⟨S4096x1024, .bf16⟩
  | .hbm, ⟨1, _⟩ => ⟨S4096x14336, .bf16⟩
  | .hbm, ⟨2, _⟩ => ⟨S4096x3072, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .f32⟩
  | .hbm, ⟨8, _⟩ => ⟨S2x2048x16x64, .f32⟩
  | .hbm, ⟨9, _⟩ => ⟨S2x16x2048x64, .f32⟩
  | .hbm, ⟨10, _⟩ => ⟨S4096x1024, .f32⟩
  | .hbm, ⟨11, _⟩ => ⟨S2x2048x16x64, .f32⟩
  | .hbm, ⟨12, _⟩ => ⟨S2x16x2048x64, .f32⟩
  | .hbm, ⟨13, _⟩ => ⟨S4096x1024, .f32⟩
  | .hbm, ⟨14, _⟩ => ⟨S2x2048x16x64, .f32⟩
  | .hbm, ⟨15, _⟩ => ⟨S2x16x2048x64, .f32⟩
  | .hbm, ⟨16, _⟩ => ⟨S4096x1024, .f32⟩
  | .hbm, ⟨17, _⟩ => ⟨S2x16x2048x2048, .f32⟩
  | .hbm, ⟨18, _⟩ => ⟨S_, .f32⟩
  | .hbm, ⟨19, _⟩ => ⟨S2x16x2048x2048, .f32⟩
  | .hbm, ⟨20, _⟩ => ⟨S2x16x2048x2048, .f32⟩
  | .hbm, ⟨21, _⟩ => ⟨S2048, .i32⟩
  | .hbm, ⟨22, _⟩ => ⟨S2048x1, .i32⟩
  | .hbm, ⟨23, _⟩ => ⟨S2048, .i32⟩
  | .hbm, ⟨24, _⟩ => ⟨S1x2048, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S2x16x2048x2048, .f32⟩
  | .hbm, ⟨29, _⟩ => ⟨S_, .f32⟩
  | .hbm, ⟨30, _⟩ => ⟨S2x16x2048x2048, .f32⟩
  | .hbm, ⟨31, _⟩ => ⟨S2x16x2048x2048, .f32⟩
  | .hbm, ⟨32, _⟩ => ⟨S2x16x2048x2048, .f32⟩
  | .hbm, ⟨33, _⟩ => ⟨S2x16x2048x2048, .f32⟩
  | .hbm, ⟨34, _⟩ => ⟨S2x16x2048x2048, .i1⟩
  | .hbm, ⟨35, _⟩ => ⟨S2x16x2048x2048, .f32⟩
  | .hbm, ⟨36, _⟩ => ⟨S2x16x2048x2048, .f32⟩
  | .hbm, ⟨37, _⟩ => ⟨S2x16x2048x2048, .f32⟩
  | .hbm, ⟨38, _⟩ => ⟨S2x16x2048x2048, .f32⟩
  | .hbm, ⟨39, _⟩ => ⟨S2x16x2048x2048, .f32⟩
  | .hbm, ⟨40, _⟩ => ⟨S2x16x2048x2048, .f32⟩
  | .hbm, ⟨41, _⟩ => ⟨S2x16x2048x2048, .f32⟩
  | .hbm, ⟨42, _⟩ => ⟨S2x16x2048x2048, .f32⟩
  | .hbm, ⟨43, _⟩ => ⟨S2x16x2048x2048, .f32⟩
  | .hbm, ⟨44, _⟩ => ⟨S2x16x2048x2048, .f32⟩
  | .hbm, ⟨45, _⟩ => ⟨S2x16x2048x2048, .f32⟩
  | .hbm, ⟨46, _⟩ => ⟨S_, .f32⟩
  | .hbm, ⟨47, _⟩ => ⟨S2x16x2048x2048, .f32⟩
  | .hbm, ⟨48, _⟩ => ⟨S2x16x2048x2048, .f32⟩
  | .hbm, ⟨49, _⟩ => ⟨S2x16x2048x2048, .f32⟩
  | .hbm, ⟨50, _⟩ => ⟨S2x16x2048x2048, .f32⟩
  | .hbm, ⟨51, _⟩ => ⟨S2x16x2048x2048, .i1⟩
  | .hbm, ⟨52, _⟩ => ⟨S2x16x2048x2048, .f32⟩
  | .hbm, ⟨53, _⟩ => ⟨S2x16x2048x2048, .f32⟩
  | .hbm, ⟨54, _⟩ => ⟨S2x16x2048x2048, .f32⟩
  | .hbm, ⟨55, _⟩ => ⟨S2x16x2048x2048, .f32⟩
  | .hbm, ⟨56, _⟩ => ⟨S2x16x2048x2048, .f32⟩
  | .hbm, ⟨57, _⟩ => ⟨S2x16x2048x2048, .f32⟩
  | .hbm, ⟨58, _⟩ => ⟨S2x16x2048x2048, .f32⟩
  | .hbm, ⟨59, _⟩ => ⟨S2x16x2048x2048, .f32⟩
  | .hbm, ⟨60, _⟩ => ⟨S2x16x2048x2048, .f32⟩
  | .hbm, ⟨61, _⟩ => ⟨S_, .f32⟩
  | .hbm, ⟨62, _⟩ => ⟨S_, .f32⟩
  | .hbm, ⟨63, _⟩ => ⟨S2x16x2048x2048, .i1⟩
  | .hbm, ⟨64, _⟩ => ⟨S2x16x2048x2048, .f32⟩
  | .hbm, ⟨65, _⟩ => ⟨S2x16x2048x2048, .f32⟩
  | .hbm, ⟨66, _⟩ => ⟨S_, .f32⟩
  | .hbm, ⟨67, _⟩ => ⟨S_, .f32⟩
  | .hbm, ⟨68, _⟩ => ⟨S2x16x2048x2048, .f32⟩
  | .hbm, ⟨69, _⟩ => ⟨S2x16x2048x2048, .f32⟩
  | .hbm, ⟨70, _⟩ => ⟨S2x16x2048x2048, .f32⟩
  | .hbm, ⟨71, _⟩ => ⟨S2x16x2048x2048, .f32⟩
  | .hbm, ⟨72, _⟩ => ⟨S_, .f32⟩
  | .hbm, ⟨73, _⟩ => ⟨S_, .f32⟩
  | .hbm, ⟨74, _⟩ => ⟨S2x16x2048x2048, .i1⟩
  | .hbm, ⟨75, _⟩ => ⟨S2x16x2048x2048, .f32⟩
  | .hbm, ⟨76, _⟩ => ⟨S2x16x2048x2048, .f32⟩
  | .hbm, ⟨77, _⟩ => ⟨S2x16x2048x64, .f32⟩
  | .hbm, ⟨78, _⟩ => ⟨S2x2048x16x64, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S4096x1024, .f32⟩
  | .hbm, ⟨84, _⟩ => ⟨S4096x1024, .f32⟩
  | .hbm, ⟨85, _⟩ => ⟨S_, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .bf16⟩
  | .hbm, ⟨91, _⟩ => ⟨S2x16x2048x8, .f32⟩
  | .hbm, ⟨92, _⟩ => ⟨S2x8x2x8x256x8, .f32⟩
  | .hbm, ⟨93, _⟩ => ⟨S2x8x8x256x2x8, .f32⟩
  | .hbm, ⟨94, _⟩ => ⟨S16x8x256x16, .f32⟩
  | .hbm, ⟨95, _⟩ => ⟨S_, .i32⟩
  | .hbm, ⟨96, _⟩ => ⟨S_, .f32⟩
  | .hbm, ⟨97, _⟩ => ⟨S16x8x256x128, .f32⟩
  | .hbm, ⟨98, _⟩ => ⟨S4096x1024, .bf16⟩
  | .hbm, ⟨99, _⟩ => ⟨S4096x1024, .bf16⟩
  | .hbm, ⟨100, _⟩ => ⟨S4096x1024, .bf16⟩
  | .hbm, ⟨101, _⟩ => ⟨S4096x1024, .bf16⟩
  | .hbm, ⟨102, _⟩ => ⟨S4096x1024, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S1x4x256x128, .f32⟩
  | .local _ .vmem, ⟨5, _⟩ => ⟨S1x4x256x128, .f32⟩
  | .local _ .vmem, ⟨6, _⟩ => ⟨S256x512, .bf16⟩
  | .local _ .vmem, ⟨7, _⟩ => ⟨S256x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S2048x512, .bf16⟩
  | .local _ .vmem, ⟨17, _⟩ => ⟨S2048x512, .bf16⟩
  | .local _ .vmem, ⟨18, _⟩ => ⟨S2048x512, .bf16⟩
  | .local _ .vmem, ⟨19, _⟩ => ⟨S2048x512, .bf16⟩
  | .local _ .vmem, ⟨20, _⟩ => ⟨S256x512, .bf16⟩
  | .local _ .vmem, ⟨21, _⟩ => ⟨S256x512, .bf16⟩
  | .local _ .vmem, ⟨22, _⟩ => ⟨S8x512x256, .f32⟩
  | .local _ .vmem, ⟨23, _⟩ => ⟨S8x512x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v25 : Ref sig .tc := ⟨.hbm, 43, rfl⟩
abbrev main_v26 : Ref sig .tc := ⟨.hbm, 44, rfl⟩
abbrev main_call1_v0 : Ref sig .tc := ⟨.hbm, 45, rfl⟩
abbrev main_call1_call0_cst : Ref sig .tc := ⟨.hbm, 46, rfl⟩
abbrev main_call1_call0_v0 : Ref sig .tc := ⟨.hbm, 47, rfl⟩
abbrev main_call1_call0_v1 : Ref sig .tc := ⟨.hbm, 48, rfl⟩
abbrev main_call1_call0_v2 : Ref sig .tc := ⟨.hbm, 49, rfl⟩
abbrev main_call1_call0_v3 : Ref sig .tc := ⟨.hbm, 50, rfl⟩
abbrev main_call1_call0_v4 : Ref sig .tc := ⟨.hbm, 51, rfl⟩
abbrev main_call1_call0_v5 : Ref sig .tc := ⟨.hbm, 52, rfl⟩
abbrev main_call1_call0_v6 : Ref sig .tc := ⟨.hbm, 53, rfl⟩
abbrev main_call1_call0_v7 : Ref sig .tc := ⟨.hbm, 54, rfl⟩
abbrev main_call1_call0_v8 : Ref sig .tc := ⟨.hbm, 55, rfl⟩
abbrev main_call1_call0_v9 : Ref sig .tc := ⟨.hbm, 56, rfl⟩
abbrev main_call1_call0_v10 : Ref sig .tc := ⟨.hbm, 57, rfl⟩
abbrev main_call1_call0_v11 : Ref sig .tc := ⟨.hbm, 58, rfl⟩
abbrev main_call1_v1 : Ref sig .tc := ⟨.hbm, 59, rfl⟩
abbrev main_v27 : Ref sig .tc := ⟨.hbm, 60, rfl⟩
abbrev main_cst_0 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v28 : Ref sig .tc := ⟨.hbm, 65, rfl⟩
abbrev main_call3_cst : Ref sig .tc := ⟨.hbm, 66, rfl⟩
abbrev main_call3_v0 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_cst_1 : Ref sig .tc := ⟨.hbm, 72, rfl⟩
abbrev main_call4_v0 : Ref sig .tc := ⟨.hbm, 73, rfl⟩
abbrev main_call4_v1 : Ref sig .tc := ⟨.hbm, 74, rfl⟩
abbrev main_call4_v2 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_call5_v0 : Ref sig .tc := ⟨.hbm, 80, rfl⟩
abbrev main_call5_v1 : Ref sig .tc := ⟨.hbm, 81, rfl⟩
abbrev main_call5_cst : Ref sig .tc := ⟨.hbm, 82, rfl⟩
abbrev main_call5_v2 : Ref sig .tc := ⟨.hbm, 83, rfl⟩
abbrev main_call5_v3 : Ref sig .tc := ⟨.hbm, 84, rfl⟩
abbrev main_call5_cst_0 : Ref sig .tc := ⟨.hbm, 85, rfl⟩
abbrev main_call5_v4 : Ref sig .tc := ⟨.hbm, 86, rfl⟩
abbrev main_call5_v5 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_c : Ref sig .tc := ⟨.hbm, 95, rfl⟩
abbrev main_call6_v0 : Ref sig .tc := ⟨.hbm, 96, rfl⟩
abbrev main_v44 : Ref sig .tc := ⟨.hbm, 97, rfl⟩
abbrev main_v45 : Ref sig .tc := ⟨.hbm, 98, rfl⟩
abbrev main_v46_0 : Ref sig .tc := ⟨.hbm, 99, rfl⟩
abbrev main_v46_1 : Ref sig .tc := ⟨.hbm, 100, rfl⟩
abbrev main_v46_2 : Ref sig .tc := ⟨.hbm, 101, rfl⟩
abbrev main_v46_3 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 2, 8], ![false, false, false]⟩

@[reducible] def k0_t1_loop (i : grid0.Coords) : Scf.Loop 32 :=
  let c0_i32_73 : BitVec 32 := 0#32
  let arg2 : BitVec 32 := BitVec.ofNat 32 (i 2).val
  let v219 : BitVec 32 := Scalar.subi arg2 c0_i32_73
  let c1_i32_74 : BitVec 32 := 1#32
  let v221 : BitVec 32 := Scalar.divsi v219 c1_i32_74
  let v222 : BitVec 32 := Scalar.muli v221 c1_i32_74
  let v223 : BitVec 32 := Scalar.addi c0_i32_73 v222
  let c1_i32_75 : BitVec 32 := 1#32
  ⟨c0_i32_73, v223, c1_i32_75⟩
def k0_mult1 (i : grid0.Coords) (k0_t1 : Fin (k0_t1_loop i).trips) : BitVec 32 :=
  let c0_i32_73 : BitVec 32 := 0#32
  let c1_i32_75 : BitVec 32 := 1#32
  let arg16 : BitVec 32 := Scf.iv c0_i32_73 c1_i32_75 k0_t1
  let c256_i32_221 : BitVec 32 := 256#32
  let v593 : BitVec 32 := Scalar.muli arg16 c256_i32_221
  v593
def k0_off1 (i : grid0.Coords) (k0_t1 : Fin (k0_t1_loop i).trips) : Fin 2 → Nat :=
  let c0_i32_73 : BitVec 32 := 0#32
  let c1_i32_75 : BitVec 32 := 1#32
  let arg16 : BitVec 32 := Scf.iv c0_i32_73 c1_i32_75 k0_t1
  let c256_i32_221 : BitVec 32 := 256#32
  let v593 : BitVec 32 := Scalar.muli arg16 c256_i32_221
  let v594 : BitVec 32 := v593
  let v595 : Index := Scalar.indexCast v594
  let c0_222 : Index := 0#32
  ![v595.toNat, 0]
def k0_off2 (i : grid0.Coords) (k0_t1 : Fin (k0_t1_loop i).trips) : Fin 3 → Nat :=
  let c0_i32_73 : BitVec 32 := 0#32
  let c1_i32_75 : BitVec 32 := 1#32
  let arg16 : BitVec 32 := Scf.iv c0_i32_73 c1_i32_75 k0_t1
  let v649 : Index := Scalar.indexCast arg16
  let c0_241 : Index := 0#32
  let c0_242 : Index := 0#32
  ![v649.toNat, 0, 0]
def k0_off3 (i : grid0.Coords) (k0_t1 : Fin (k0_t1_loop i).trips) : Fin 2 → Nat :=
  let c0_i32_73 : BitVec 32 := 0#32
  let c1_i32_75 : BitVec 32 := 1#32
  let arg16 : BitVec 32 := Scf.iv c0_i32_73 c1_i32_75 k0_t1
  let c256_i32_221 : BitVec 32 := 256#32
  let v593 : BitVec 32 := Scalar.muli arg16 c256_i32_221
  let v594 : BitVec 32 := v593
  let v673 : Index := Scalar.indexCast v594
  let c128_253 : Index := 128#32
  ![v673.toNat, 128]
def k0_off4 (i : grid0.Coords) (k0_t1 : Fin (k0_t1_loop i).trips) : Fin 3 → Nat :=
  let c0_i32_73 : BitVec 32 := 0#32
  let c1_i32_75 : BitVec 32 := 1#32
  let arg16 : BitVec 32 := Scf.iv c0_i32_73 c1_i32_75 k0_t1
  let v727 : Index := Scalar.indexCast arg16
  let c128_272 : Index := 128#32
  let c0_273 : Index := 0#32
  ![v727.toNat, 128, 0]
def k0_off5 (i : grid0.Coords) (k0_t1 : Fin (k0_t1_loop i).trips) : Fin 2 → Nat :=
  let c0_i32_73 : BitVec 32 := 0#32
  let c1_i32_75 : BitVec 32 := 1#32
  let arg16 : BitVec 32 := Scf.iv c0_i32_73 c1_i32_75 k0_t1
  let c256_i32_221 : BitVec 32 := 256#32
  let v593 : BitVec 32 := Scalar.muli arg16 c256_i32_221
  let v594 : BitVec 32 := v593
  let v751 : Index := Scalar.indexCast v594
  let c256_284 : Index := 256#32
  ![v751.toNat, 256]
def k0_off6 (i : grid0.Coords) (k0_t1 : Fin (k0_t1_loop i).trips) : Fin 3 → Nat :=
  let c0_i32_73 : BitVec 32 := 0#32
  let c1_i32_75 : BitVec 32 := 1#32
  let arg16 : BitVec 32 := Scf.iv c0_i32_73 c1_i32_75 k0_t1
  let v805 : Index := Scalar.indexCast arg16
  let c256_303 : Index := 256#32
  let c0_304 : Index := 0#32
  ![v805.toNat, 256, 0]
def k0_off7 (i : grid0.Coords) (k0_t1 : Fin (k0_t1_loop i).trips) : Fin 2 → Nat :=
  let c0_i32_73 : BitVec 32 := 0#32
  let c1_i32_75 : BitVec 32 := 1#32
  let arg16 : BitVec 32 := Scf.iv c0_i32_73 c1_i32_75 k0_t1
  let c256_i32_221 : BitVec 32 := 256#32
  let v593 : BitVec 32 := Scalar.muli arg16 c256_i32_221
  let v594 : BitVec 32 := v593
  let v829 : Index := Scalar.indexCast v594
  let c384_315 : Index := 384#32
  ![v829.toNat, 384]
def k0_off8 (i : grid0.Coords) (k0_t1 : Fin (k0_t1_loop i).trips) : Fin 3 → Nat :=
  let c0_i32_73 : BitVec 32 := 0#32
  let c1_i32_75 : BitVec 32 := 1#32
  let arg16 : BitVec 32 := Scf.iv c0_i32_73 c1_i32_75 k0_t1
  let v883 : Index := Scalar.indexCast arg16
  let c384_334 : Index := 384#32
  let c0_335 : Index := 0#32
  ![v883.toNat, 384, 0]
@[reducible] def k0_t2_loop (i : grid0.Coords) : Scf.Loop 32 :=
  let c0_i32_73 : BitVec 32 := 0#32
  let arg2 : BitVec 32 := BitVec.ofNat 32 (i 2).val
  let v219 : BitVec 32 := Scalar.subi arg2 c0_i32_73
  let c1_i32_74 : BitVec 32 := 1#32
  let v221 : BitVec 32 := Scalar.divsi v219 c1_i32_74
  let v222 : BitVec 32 := Scalar.muli v221 c1_i32_74
  let v223 : BitVec 32 := Scalar.addi c0_i32_73 v222
  let v220 : BitVec 32 := Scalar.addi c0_i32_73 v219
  let c1_i32_76 : BitVec 32 := 1#32
  ⟨v223, v220, c1_i32_76⟩
def k0_mult2 (i : grid0.Coords) (k0_t2 : Fin (k0_t2_loop i).trips) : BitVec 32 :=
  let c0_i32_73 : BitVec 32 := 0#32
  let arg2 : BitVec 32 := BitVec.ofNat 32 (i 2).val
  let v219 : BitVec 32 := Scalar.subi arg2 c0_i32_73
  let c1_i32_74 : BitVec 32 := 1#32
  let v221 : BitVec 32 := Scalar.divsi v219 c1_i32_74
  let v222 : BitVec 32 := Scalar.muli v221 c1_i32_74
  let v223 : BitVec 32 := Scalar.addi c0_i32_73 v222
  let c1_i32_76 : BitVec 32 := 1#32
  let arg16 : BitVec 32 := Scf.iv v223 c1_i32_76 k0_t2
  let c256_i32_221 : BitVec 32 := 256#32
  let v593 : BitVec 32 := Scalar.muli arg16 c256_i32_221
  v593
def k0_off9 (i : grid0.Coords) (k0_t2 : Fin (k0_t2_loop i).trips) : Fin 2 → Nat :=
  let c0_i32_73 : BitVec 32 := 0#32
  let arg2 : BitVec 32 := BitVec.ofNat 32 (i 2).val
  let v219 : BitVec 32 := Scalar.subi arg2 c0_i32_73
  let c1_i32_74 : BitVec 32 := 1#32
  let v221 : BitVec 32 := Scalar.divsi v219 c1_i32_74
  let v222 : BitVec 32 := Scalar.muli v221 c1_i32_74
  let v223 : BitVec 32 := Scalar.addi c0_i32_73 v222
  let c1_i32_76 : BitVec 32 := 1#32
  let arg16 : BitVec 32 := Scf.iv v223 c1_i32_76 k0_t2
  let c256_i32_221 : BitVec 32 := 256#32
  let v593 : BitVec 32 := Scalar.muli arg16 c256_i32_221
  let v594 : BitVec 32 := v593
  let v595 : Index := Scalar.indexCast v594
  let c0_222 : Index := 0#32
  ![v595.toNat, 0]
def k0_off10 (i : grid0.Coords) (k0_t2 : Fin (k0_t2_loop i).trips) : Fin 3 → Nat :=
  let c0_i32_73 : BitVec 32 := 0#32
  let arg2 : BitVec 32 := BitVec.ofNat 32 (i 2).val
  let v219 : BitVec 32 := Scalar.subi arg2 c0_i32_73
  let c1_i32_74 : BitVec 32 := 1#32
  let v221 : BitVec 32 := Scalar.divsi v219 c1_i32_74
  let v222 : BitVec 32 := Scalar.muli v221 c1_i32_74
  let v223 : BitVec 32 := Scalar.addi c0_i32_73 v222
  let c1_i32_76 : BitVec 32 := 1#32
  let arg16 : BitVec 32 := Scf.iv v223 c1_i32_76 k0_t2
  let v649 : Index := Scalar.indexCast arg16
  let c0_241 : Index := 0#32
  let c0_242 : Index := 0#32
  ![v649.toNat, 0, 0]
def k0_off11 (i : grid0.Coords) (k0_t2 : Fin (k0_t2_loop i).trips) : Fin 2 → Nat :=
  let c0_i32_73 : BitVec 32 := 0#32
  let arg2 : BitVec 32 := BitVec.ofNat 32 (i 2).val
  let v219 : BitVec 32 := Scalar.subi arg2 c0_i32_73
  let c1_i32_74 : BitVec 32 := 1#32
  let v221 : BitVec 32 := Scalar.divsi v219 c1_i32_74
  let v222 : BitVec 32 := Scalar.muli v221 c1_i32_74
  let v223 : BitVec 32 := Scalar.addi c0_i32_73 v222
  let c1_i32_76 : BitVec 32 := 1#32
  let arg16 : BitVec 32 := Scf.iv v223 c1_i32_76 k0_t2
  let c256_i32_221 : BitVec 32 := 256#32
  let v593 : BitVec 32 := Scalar.muli arg16 c256_i32_221
  let v594 : BitVec 32 := v593
  let v673 : Index := Scalar.indexCast v594
  let c128_253 : Index := 128#32
  ![v673.toNat, 128]
def k0_off12 (i : grid0.Coords) (k0_t2 : Fin (k0_t2_loop i).trips) : Fin 3 → Nat :=
  let c0_i32_73 : BitVec 32 := 0#32
  let arg2 : BitVec 32 := BitVec.ofNat 32 (i 2).val
  let v219 : BitVec 32 := Scalar.subi arg2 c0_i32_73
  let c1_i32_74 : BitVec 32 := 1#32
  let v221 : BitVec 32 := Scalar.divsi v219 c1_i32_74
  let v222 : BitVec 32 := Scalar.muli v221 c1_i32_74
  let v223 : BitVec 32 := Scalar.addi c0_i32_73 v222
  let c1_i32_76 : BitVec 32 := 1#32
  let arg16 : BitVec 32 := Scf.iv v223 c1_i32_76 k0_t2
  let v727 : Index := Scalar.indexCast arg16
  let c128_272 : Index := 128#32
  let c0_273 : Index := 0#32
  ![v727.toNat, 128, 0]
def k0_off13 (i : grid0.Coords) (k0_t2 : Fin (k0_t2_loop i).trips) : Fin 2 → Nat :=
  let c0_i32_73 : BitVec 32 := 0#32
  let arg2 : BitVec 32 := BitVec.ofNat 32 (i 2).val
  let v219 : BitVec 32 := Scalar.subi arg2 c0_i32_73
  let c1_i32_74 : BitVec 32 := 1#32
  let v221 : BitVec 32 := Scalar.divsi v219 c1_i32_74
  let v222 : BitVec 32 := Scalar.muli v221 c1_i32_74
  let v223 : BitVec 32 := Scalar.addi c0_i32_73 v222
  let c1_i32_76 : BitVec 32 := 1#32
  let arg16 : BitVec 32 := Scf.iv v223 c1_i32_76 k0_t2
  let c256_i32_221 : BitVec 32 := 256#32
  let v593 : BitVec 32 := Scalar.muli arg16 c256_i32_221
  let v594 : BitVec 32 := v593
  let v751 : Index := Scalar.indexCast v594
  let c256_284 : Index := 256#32
  ![v751.toNat, 256]
def k0_off14 (i : grid0.Coords) (k0_t2 : Fin (k0_t2_loop i).trips) : Fin 3 → Nat :=
  let c0_i32_73 : BitVec 32 := 0#32
  let arg2 : BitVec 32 := BitVec.ofNat 32 (i 2).val
  let v219 : BitVec 32 := Scalar.subi arg2 c0_i32_73
  let c1_i32_74 : BitVec 32 := 1#32
  let v221 : BitVec 32 := Scalar.divsi v219 c1_i32_74
  let v222 : BitVec 32 := Scalar.muli v221 c1_i32_74
  let v223 : BitVec 32 := Scalar.addi c0_i32_73 v222
  let c1_i32_76 : BitVec 32 := 1#32
  let arg16 : BitVec 32 := Scf.iv v223 c1_i32_76 k0_t2
  let v805 : Index := Scalar.indexCast arg16
  let c256_303 : Index := 256#32
  let c0_304 : Index := 0#32
  ![v805.toNat, 256, 0]
def k0_off15 (i : grid0.Coords) (k0_t2 : Fin (k0_t2_loop i).trips) : Fin 2 → Nat :=
  let c0_i32_73 : BitVec 32 := 0#32
  let arg2 : BitVec 32 := BitVec.ofNat 32 (i 2).val
  let v219 : BitVec 32 := Scalar.subi arg2 c0_i32_73
  let c1_i32_74 : BitVec 32 := 1#32
  let v221 : BitVec 32 := Scalar.divsi v219 c1_i32_74
  let v222 : BitVec 32 := Scalar.muli v221 c1_i32_74
  let v223 : BitVec 32 := Scalar.addi c0_i32_73 v222
  let c1_i32_76 : BitVec 32 := 1#32
  let arg16 : BitVec 32 := Scf.iv v223 c1_i32_76 k0_t2
  let c256_i32_221 : BitVec 32 := 256#32
  let v593 : BitVec 32 := Scalar.muli arg16 c256_i32_221
  let v594 : BitVec 32 := v593
  let v829 : Index := Scalar.indexCast v594
  let c384_315 : Index := 384#32
  ![v829.toNat, 384]
def k0_off16 (i : grid0.Coords) (k0_t2 : Fin (k0_t2_loop i).trips) : Fin 3 → Nat :=
  let c0_i32_73 : BitVec 32 := 0#32
  let arg2 : BitVec 32 := BitVec.ofNat 32 (i 2).val
  let v219 : BitVec 32 := Scalar.subi arg2 c0_i32_73
  let c1_i32_74 : BitVec 32 := 1#32
  let v221 : BitVec 32 := Scalar.divsi v219 c1_i32_74
  let v222 : BitVec 32 := Scalar.muli v221 c1_i32_74
  let v223 : BitVec 32 := Scalar.addi c0_i32_73 v222
  let c1_i32_76 : BitVec 32 := 1#32
  let arg16 : BitVec 32 := Scf.iv v223 c1_i32_76 k0_t2
  let v883 : Index := Scalar.indexCast arg16
  let c384_334 : Index := 384#32
  let c0_335 : Index := 0#32
  ![v883.toNat, 384, 0]
def k0_mult3 (i : grid0.Coords) : BitVec 32 :=
  let arg2 : BitVec 32 := BitVec.ofNat 32 (i 2).val
  let c256_i32_77 : BitVec 32 := 256#32
  let v226 : BitVec 32 := Scalar.muli arg2 c256_i32_77
  v226
def k0_off17 (i : grid0.Coords) : Fin 2 → Nat :=
  let arg2 : BitVec 32 := BitVec.ofNat 32 (i 2).val
  let c256_i32_77 : BitVec 32 := 256#32
  let v226 : BitVec 32 := Scalar.muli arg2 c256_i32_77
  let v227 : BitVec 32 := v226
  let v234 : Index := Scalar.indexCast v227
  let c0_80 : Index := 0#32
  ![v234.toNat, 0]
def k0_off18 (i : grid0.Coords) : Fin 3 → Nat :=
  let arg2 : BitVec 32 := BitVec.ofNat 32 (i 2).val
  let v295 : Index := Scalar.indexCast arg2
  let c0_101 : Index := 0#32
  let c0_102 : Index := 0#32
  ![v295.toNat, 0, 0]
def k0_off19 (i : grid0.Coords) : Fin 2 → Nat :=
  let arg2 : BitVec 32 := BitVec.ofNat 32 (i 2).val
  let c256_i32_77 : BitVec 32 := 256#32
  let v226 : BitVec 32 := Scalar.muli arg2 c256_i32_77
  let v227 : BitVec 32 := v226
  let v316 : Index := Scalar.indexCast v227
  let c128_112 : Index := 128#32
  ![v316.toNat, 128]
def k0_off20 (i : grid0.Coords) : Fin 3 → Nat :=
  let arg2 : BitVec 32 := BitVec.ofNat 32 (i 2).val
  let v377 : Index := Scalar.indexCast arg2
  let c128_133 : Index := 128#32
  let c0_134 : Index := 0#32
  ![v377.toNat, 128, 0]
def k0_off21 (i : grid0.Coords) : Fin 2 → Nat :=
  let arg2 : BitVec 32 := BitVec.ofNat 32 (i 2).val
  let c256_i32_77 : BitVec 32 := 256#32
  let v226 : BitVec 32 := Scalar.muli arg2 c256_i32_77
  let v227 : BitVec 32 := v226
  let v398 : Index := Scalar.indexCast v227
  let c256_144 : Index := 256#32
  ![v398.toNat, 256]
def k0_off22 (i : grid0.Coords) : Fin 3 → Nat :=
  let arg2 : BitVec 32 := BitVec.ofNat 32 (i 2).val
  let v459 : Index := Scalar.indexCast arg2
  let c256_165 : Index := 256#32
  let c0_166 : Index := 0#32
  ![v459.toNat, 256, 0]
def k0_off23 (i : grid0.Coords) : Fin 2 → Nat :=
  let arg2 : BitVec 32 := BitVec.ofNat 32 (i 2).val
  let c256_i32_77 : BitVec 32 := 256#32
  let v226 : BitVec 32 := Scalar.muli arg2 c256_i32_77
  let v227 : BitVec 32 := v226
  let v480 : Index := Scalar.indexCast v227
  let c384_176 : Index := 384#32
  ![v480.toNat, 384]
def k0_off24 (i : grid0.Coords) : Fin 3 → Nat :=
  let arg2 : BitVec 32 := BitVec.ofNat 32 (i 2).val
  let v541 : Index := Scalar.indexCast arg2
  let c384_197 : Index := 384#32
  let c0_198 : Index := 0#32
  ![v541.toNat, 384, 0]
def k0_cond2 (i : grid0.Coords) : BitVec 1 :=
  let arg2 : BitVec 32 := BitVec.ofNat 32 (i 2).val
  let c7_i32 : BitVec 32 := 7#32
  let v590 : BitVec 1 := Scalar.cmpi .eq arg2 c7_i32
  let v591 : BitVec 32 := Scalar.extui v590
  let c0_i32_220 : BitVec 32 := 0#32
  let v592 : BitVec 1 := Scalar.cmpi .ne v591 c0_i32_220
  v592

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  let c0_i32_1 : BitVec 32 := 0#32
  ![v1.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c16_i32 : BitVec 32 := 16#32
  let v2 : BitVec 32 := Scalar.addi c16_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi c18_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c6_i32 : BitVec 32 := 6#32
  let v2 : BitVec 32 := Scalar.addi c6_i32 arg1
  let c0_i32 : BitVec 32 := 0#32
  ![v1.toNat, v2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== ReferenceIdeal.lean ====
abbrev S4096x1024 : Shape := ⟨2, ![4096, 1024]⟩
abbrev S4096x14336 : Shape := ⟨2, ![4096, 14336]⟩
abbrev S4096x3072 : Shape := ⟨2, ![4096, 3072]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x16x64x2048 : Shape := ⟨4, ![2, 16, 64, 2048]⟩

abbrev nBuf : Space → Nat
  | .hbm => 210
  | .vmem => 0
  | .smem => 0
  | _ => 0

abbrev hbmTy0_0 (i : Nat) : BufTy := match i % 128 with
  | 0 => ⟨S4096x1024, .bf16⟩
  | 1 => ⟨S4096x14336, .bf16⟩
  | 2 => ⟨S4096x3072, .bf16⟩
  | 3 => ⟨S4096x1024, .bf16⟩
  | 4 => ⟨S4096x1024, .bf16⟩
  | 5 => ⟨S4096x1024, .bf16⟩
  | 6 => ⟨S4096x1024, .bf16⟩
  | 7 => ⟨S4096x1024, .f32⟩
  | 8 => ⟨S2x2048x16x64, .f32⟩
  | 9 => ⟨S2x16x2048x64, .f32⟩
  | 10 => ⟨S4096x1024, .f32⟩
  | 11 => ⟨S2x2048x16x64, .f32⟩
  | 12 => ⟨S2x16x2048x64, .f32⟩
  | 13 => ⟨S4096x1024, .f32⟩
  | 14 => ⟨S2x2048x16x64, .f32⟩
  | 15 => ⟨S2x16x2048x64, .f32⟩
  | 16 => ⟨S4096x1024, .f32⟩
  | 17 => ⟨S2x16x2048x2048, .f32⟩
  | 18 => ⟨S_, .f32⟩
  | 19 => ⟨S2x16x2048x2048, .f32⟩
  | 20 => ⟨S2x16x2048x2048, .f32⟩
  | 21 => ⟨S2048, .i32⟩
  | 22 => ⟨S2048x1, .i32⟩
  | 23 => ⟨S2048, .i32⟩
  | 24 => ⟨S1x2048, .i32⟩
  | 25 => ⟨S2048x2048, .i32⟩
  | 26 => ⟨S2048x2048, .i32⟩
  | 27 => ⟨S2048x2048, .i1⟩
  | 28 => ⟨S2x16x2048x2048, .f32⟩
  | 29 => ⟨S_, .f32⟩
  | 30 => ⟨S2x16x2048x2048, .f32⟩
  | 31 => ⟨S2x16x2048x2048, .f32⟩
  | 32 => ⟨S2x16x2048x2048, .f32⟩
  | 33 => ⟨S2x16x2048x2048, .f32⟩
  | 34 => ⟨S2x16x2048x2048, .i1⟩
  | 35 => ⟨S2x16x2048x2048, .f32⟩
  | 36 => ⟨S2x16x2048x2048, .f32⟩
  | 37 => ⟨S2x16x2048x2048, .f32⟩
  | 38 => ⟨S2x16x2048x2048, .f32⟩
  | 39 => ⟨S2x16x2048x2048, .f32⟩
  | 40 => ⟨S2x16x2048x2048, .f32⟩
  | 41 => ⟨S2x16x2048x2048, .f32⟩
  | 42 => ⟨S2x16x2048x2048, .f32⟩
  | 43 => ⟨S_, .f32⟩
  | 44 => ⟨S2x16x2048x2048, .f32⟩
  | 45 => ⟨S2x16x2048x2048, .i1⟩
  | 46 => ⟨S_, .f32⟩
  | 47 => ⟨S2x16x2048x2048, .f32⟩
  | 48 => ⟨S2x16x2048x2048, .f32⟩
  | 49 => ⟨S_, .f32⟩
  | 50 => ⟨S2x16x2048x2048, .f32⟩
  | 51 => ⟨S2x16x2048x2048, .i1⟩
  | 52 => ⟨S_, .f32⟩
  | 53 => ⟨S2x16x2048x2048, .f32⟩
  | 54 => ⟨S2x16x2048x2048, .f32⟩
  | 55 => ⟨S2x16x2048x2048, .f32⟩
  | 56 => ⟨S2x16x2048x2048, .f32⟩
  | 57 => ⟨S_, .f32⟩
  | 58 => ⟨S_, .f32⟩
  | 59 => ⟨S_, .i1⟩
  | 60 => ⟨S_, .f32⟩
  | 61 => ⟨S_, .f32⟩
  | 62 => ⟨S_, .f32⟩
  | 63 => ⟨S_, .f32⟩
  | 64 => ⟨S2x16x2048x2048, .f32⟩
  | 65 => ⟨S2x16x2048x2048, .i1⟩
  | 66 => ⟨S_, .f32⟩
  | 67 => ⟨S2x16x2048x2048, .f32⟩
  | 68 => ⟨S2x16x2048x2048, .f32⟩
  | 69 => ⟨S2x16x2048x2048, .f32⟩
  | 70 => ⟨S2x16x2048x2048, .f32⟩
  | 71 => ⟨S2x16x2048x2048, .f32⟩
  | 72 => ⟨S_, .f32⟩
  | 73 => ⟨S2x16x2048x2048, .f32⟩
  | 74 => ⟨S2x16x2048x2048, .f32⟩
  | 75 => ⟨S2x16x2048x2048, .f32⟩
  | 76 => ⟨S2x16x2048x2048, .f32⟩
  | 77 => ⟨S2x16x2048x2048, .f32⟩
  | 78 => ⟨S_, .f32⟩
  | 79 => ⟨S2x16x2048x2048, .f32⟩
  | 80 => ⟨S2x16x2048x2048, .f32⟩
  | 81 => ⟨S2x16x2048x2048, .f32⟩
  | 82 => ⟨S2x16x2048x2048, .f32⟩
  | 83 => ⟨S2x16x2048x2048, .i1⟩
  | 84 => ⟨S2x16x2048x2048, .f32⟩
  | 85 => ⟨S2x16x2048x2048, .f32⟩
  | 86 => ⟨S2x16x2048x2048, .f32⟩
  | 87 => ⟨S2x16x2048x2048, .f32⟩
  | 88 => ⟨S2x16x2048x2048, .f32⟩
  | 89 => ⟨S2x16x2048x2048, .f32⟩
  | 90 => ⟨S2x16x2048x2048, .f32⟩
  | 91 => ⟨S2x16x2048x2048, .f32⟩
  | 92 => ⟨S_, .f32⟩
  | 93 => ⟨S2x16x2048x2048, .f32⟩
  | 94 => ⟨S2x16x2048x2048, .i1⟩
  | 95 => ⟨S_, .f32⟩
  | 96 => ⟨S2x16x2048x2048, .f32⟩
  | 97 => ⟨S2x16x2048x2048, .f32⟩
  | 98 => ⟨S_, .f32⟩
  | 99 => ⟨S2x16x2048x2048, .f32⟩
  | 100 => ⟨S2x16x2048x2048, .i1⟩
  | 101 => ⟨S_, .f32⟩
  | 102 => ⟨S2x16x2048x2048, .f32⟩
  | 103 => ⟨S2x16x2048x2048, .f32⟩
  | 104 => ⟨S2x16x2048x2048, .f32⟩
  | 105 => ⟨S2x16x2048x2048, .f32⟩
  | 106 => ⟨S_, .f32⟩
  | 107 => ⟨S_, .f32⟩
  | 108 => ⟨S_, .i1⟩
  | 109 => ⟨S_, .f32⟩
  | 110 => ⟨S_, .f32⟩
  | 111 => ⟨S_, .f32⟩
  | 112 => ⟨S_, .f32⟩
  | 113 => ⟨S2x16x2048x2048, .f32⟩
  | 114 => ⟨S2x16x2048x2048, .i1⟩
  | 115 => ⟨S_, .f32⟩
  | 116 => ⟨S2x16x2048x2048, .f32⟩
  | 117 => ⟨S2x16x2048x2048, .f32⟩
  | 118 => ⟨S2x16x2048x2048, .f32⟩
  | 119 => ⟨S2x16x2048x2048, .f32⟩
  | 120 => ⟨S2x16x2048x2048, .f32⟩
  | 121 => ⟨S_, .f32⟩
  | 122 => ⟨S2x16x2048x2048, .f32⟩
  | 123 => ⟨S2x16x2048x2048, .f32⟩
  | 124 => ⟨S2x16x2048x2048, .f32⟩
  | 125 => ⟨S_, .f32⟩
  | 126 => ⟨S_, .f32⟩
  | 127 => ⟨S2x16x2048x2048, .i1⟩
  | _ => ⟨S4096x1024, .bf16⟩

abbrev hbmTy0_1 (i : Nat) : BufTy := match i % 128 with
  | 0 => ⟨S2x16x2048x2048, .f32⟩
  | 1 => ⟨S2x16x2048x2048, .f32⟩
  | 2 => ⟨S_, .f32⟩
  | 3 => ⟨S2x16x2048x2048, .f32⟩
  | 4 => ⟨S_, .f32⟩
  | 5 => ⟨S_, .f32⟩
  | 6 => ⟨S2x16x2048x2048, .f32⟩
  | 7 => ⟨S2x16x2048x2048, .f32⟩
  | 8 => ⟨S2x16x2048x2048, .f32⟩
  | 9 => ⟨S2x16x2048x2048, .f32⟩
  | 10 => ⟨S_, .f32⟩
  | 11 => ⟨S_, .f32⟩
  | 12 => ⟨S2x16x2048x2048, .i1⟩
  | 13 => ⟨S2x16x2048x2048, .f32⟩
  | 14 => ⟨S2x16x2048x2048, .f32⟩
  | 15 => ⟨S_, .f32⟩
  | 16 => ⟨S2x16x2048x2048, .f32⟩
  | 17 => ⟨S2x16x2048x64, .f32⟩
  | 18 => ⟨S2x2048x16x64, .f32⟩
  | 19 => ⟨S4096x1024, .f32⟩
  | 20 => ⟨S4096x1024, .f32⟩
  | 21 => ⟨S4096x1024, .f32⟩
  | 22 => ⟨S_, .f32⟩
  | 23 => ⟨S4096x1024, .f32⟩
  | 24 => ⟨S4096x1024, .f32⟩
  | 25 => ⟨S_, .f32⟩
  | 26 => ⟨S4096x1024, .f32⟩
  | 27 => ⟨S4096x1024, .f32⟩
  | 28 => ⟨S_, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x1024, .bf16⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S4096x1024, .f32⟩
  | 41 => ⟨S4096x1024, .f32⟩
  | 42 => ⟨S2x2048x16x64, .f32⟩
  | 43 => ⟨S2x16x2048x64, .f32⟩
  | 44 => ⟨S2x16x64x2048, .f32⟩
  | 45 => ⟨S2x16x2048x64, .f32⟩
  | 46 => ⟨S2x16x2048x2048, .f32⟩
  | 47 => ⟨S_, .f32⟩
  | 48 => ⟨S2x16x2048x2048, .f32⟩
  | 49 => ⟨S2x16x2048x2048, .f32⟩
  | 50 => ⟨S2x16x2048x2048, .f32⟩
  | 51 => ⟨S2x16x2048x2048, .f32⟩
  | 52 => ⟨S_, .f32⟩
  | 53 => ⟨S_, .f32⟩
  | 54 => ⟨S2x16x2048x2048, .f32⟩
  | 55 => ⟨S2x16x2048x2048, .f32⟩
  | 56 => ⟨S_, .f32⟩
  | 57 => ⟨S2x16x2048x2048, .f32⟩
  | 58 => ⟨S2x16x2048x2048, .f32⟩
  | 59 => ⟨S2x16x2048x2048, .f32⟩
  | 60 => ⟨S2x16x2048x2048, .f32⟩
  | 61 => ⟨S2x16x2048x2048, .f32⟩
  | 62 => ⟨S2x16x2048x2048, .f32⟩
  | 63 => ⟨S2x16x2048x2048, .f32⟩
  | 64 => ⟨S2x16x2048x2048, .f32⟩
  | 65 => ⟨S2x16x2048x2048, .f32⟩
  | 66 => ⟨S2x16x2048x2048, .f32⟩
  | 67 => ⟨S_, .f32⟩
  | 68 => ⟨S2x16x2048x2048, .f32⟩
  | 69 => ⟨S2x16x2048x2048, .f32⟩
  | 70 => ⟨S2x16x2048x64, .f32⟩
  | 71 => ⟨S2x16x2048x64, .f32⟩
  | 72 => ⟨S4096x1024, .bf16⟩
  | 73 => ⟨S2x2048x16x64, .f32⟩
  | 74 => ⟨S4096x1024, .f32⟩
  | 75 => ⟨S4096x1024, .bf16⟩
  | 76 => ⟨S2x2048x16x64, .f32⟩
  | 77 => ⟨S4096x1024, .f32⟩
  | 78 => ⟨S4096x1024, .bf16⟩
  | 79 => ⟨S2x2048x16x64, .f32⟩
  | 80 => ⟨S4096x1024, .f32⟩
  | 81 => ⟨S4096x1024, .bf16⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1_0 : Ref sig .tc := ⟨.hbm, 42, rfl⟩
abbrev main_call0_call0_cst_0 : Ref sig .tc := ⟨.hbm, 43, rfl⟩
abbrev main_call0_call0_v13 : Ref sig .tc := ⟨.hbm, 44, rfl⟩
abbrev main_call0_call0_v14 : Ref sig .tc := ⟨.hbm, 45, rfl⟩
abbrev main_call0_call0_cst_1 : Ref sig .tc := ⟨.hbm, 46, rfl⟩
abbrev main_call0_call0_v15 : Ref sig .tc := ⟨.hbm, 47, rfl⟩
abbrev main_call0_call0_v16 : Ref sig .tc := ⟨.hbm, 48, rfl⟩
abbrev main_call0_call0_cst_2 : Ref sig .tc := ⟨.hbm, 49, rfl⟩
abbrev main_call0_call0_v17 : Ref sig .tc := ⟨.hbm, 50, rfl⟩
abbrev main_call0_call0_v18 : Ref sig .tc := ⟨.hbm, 51, rfl⟩
abbrev main_call0_call0_cst_3 : Ref sig .tc := ⟨.hbm, 52, rfl⟩
abbrev main_call0_call0_v19 : Ref sig .tc := ⟨.hbm, 53, rfl⟩
abbrev main_call0_call0_v20 : Ref sig .tc := ⟨.hbm, 54, rfl⟩
abbrev main_call0_call0_v21 : Ref sig .tc := ⟨.hbm, 55, rfl⟩
abbrev main_v25_1 : Ref sig .tc := ⟨.hbm, 56, rfl⟩
abbrev main_call0_call0_cst_4 : Ref sig .tc := ⟨.hbm, 57, rfl⟩
abbrev main_call0_call0_cst_5 : Ref sig .tc := ⟨.hbm, 58, rfl⟩
abbrev main_call0_call0_v23 : Ref sig .tc := ⟨.hbm, 59, rfl⟩
abbrev main_call0_call0_cst_6 : Ref sig .tc := ⟨.hbm, 60, rfl⟩
abbrev main_call0_call0_cst_7 : Ref sig .tc := ⟨.hbm, 61, rfl⟩
abbrev main_call0_call0_v24 : Ref sig .tc := ⟨.hbm, 62, rfl⟩
abbrev main_call0_call0_cst_8 : Ref sig .tc := ⟨.hbm, 63, rfl⟩
abbrev main_call0_call0_v25 : Ref sig .tc := ⟨.hbm, 64, rfl⟩
abbrev main_call0_call0_v26 : Ref sig .tc := ⟨.hbm, 65, rfl⟩
abbrev main_call0_call0_cst_9 : Ref sig .tc := ⟨.hbm, 66, rfl⟩
abbrev main_call0_call0_v27 : Ref sig .tc := ⟨.hbm, 67, rfl⟩
abbrev main_call0_call0_v28 : Ref sig .tc := ⟨.hbm, 68, rfl⟩
abbrev main_call0_call0_v29 : Ref sig .tc := ⟨.hbm, 69, rfl⟩
abbrev main_call0_call0_v30 : Ref sig .tc := ⟨.hbm, 70, rfl⟩
abbrev main_call0_call0_v31 : Ref sig .tc := ⟨.hbm, 71, rfl⟩
abbrev main_call0_call0_cst_10 : Ref sig .tc := ⟨.hbm, 72, rfl⟩
abbrev main_call0_call0_v32 : Ref sig .tc := ⟨.hbm, 73, rfl⟩
abbrev main_v25_2 : Ref sig .tc := ⟨.hbm, 74, rfl⟩
abbrev main_v25_0 : Ref sig .tc := ⟨.hbm, 75, rfl⟩
abbrev main_v26 : Ref sig .tc := ⟨.hbm, 76, rfl⟩
abbrev main_call1_v0 : Ref sig .tc := ⟨.hbm, 77, rfl⟩
abbrev main_call1_call0_cst : Ref sig .tc := ⟨.hbm, 78, rfl⟩
abbrev main_call1_call0_v0 : Ref sig .tc := ⟨.hbm, 79, rfl⟩
abbrev main_call1_call0_v1 : Ref sig .tc := ⟨.hbm, 80, rfl⟩
abbrev main_call1_call0_v2 : Ref sig .tc := ⟨.hbm, 81, rfl⟩
abbrev main_call1_call0_v3 : Ref sig .tc := ⟨.hbm, 82, rfl⟩
abbrev main_call1_call0_v4 : Ref sig .tc := ⟨.hbm, 83, rfl⟩
abbrev main_call1_call0_v5 : Ref sig .tc := ⟨.hbm, 84, rfl⟩
abbrev main_call1_call0_v6 : Ref sig .tc := ⟨.hbm, 85, rfl⟩
abbrev main_call1_call0_v7 : Ref sig .tc := ⟨.hbm, 86, rfl⟩
abbrev main_call1_call0_v8 : Ref sig .tc := ⟨.hbm, 87, rfl⟩
abbrev main_call1_call0_v9 : Ref sig .tc := ⟨.hbm, 88, rfl⟩
abbrev main_call1_call0_v10 : Ref sig .tc := ⟨.hbm, 89, rfl⟩
abbrev main_call1_call0_v11 : Ref sig .tc := ⟨.hbm, 90, rfl⟩
abbrev main_call1_v1_0 : Ref sig .tc := ⟨.hbm, 91, rfl⟩
abbrev main_call1_call0_cst_0 : Ref sig .tc := ⟨.hbm, 92, rfl⟩
abbrev main_call1_call0_v13 : Ref sig .tc := ⟨.hbm, 93, rfl⟩
abbrev main_call1_call0_v14 : Ref sig .tc := ⟨.hbm, 94, rfl⟩
abbrev main_call1_call0_cst_1 : Ref sig .tc := ⟨.hbm, 95, rfl⟩
abbrev main_call1_call0_v15 : Ref sig .tc := ⟨.hbm, 96, rfl⟩
abbrev main_call1_call0_v16 : Ref sig .tc := ⟨.hbm, 97, rfl⟩
abbrev main_call1_call0_cst_2 : Ref sig .tc := ⟨.hbm, 98, rfl⟩
abbrev main_call1_call0_v17 : Ref sig .tc := ⟨.hbm, 99, rfl⟩
abbrev main_call1_call0_v18 : Ref sig .tc := ⟨.hbm, 100, rfl⟩
abbrev main_call1_call0_cst_3 : Ref sig .tc := ⟨.hbm, 101, rfl⟩
abbrev main_call1_call0_v19 : Ref sig .tc := ⟨.hbm, 102, rfl⟩
abbrev main_call1_call0_v20 : Ref sig .tc := ⟨.hbm, 103, rfl⟩
abbrev main_call1_call0_v21 : Ref sig .tc := ⟨.hbm, 104, rfl⟩
abbrev main_v27_1 : Ref sig .tc := ⟨.hbm, 105, rfl⟩
abbrev main_call1_call0_cst_4 : Ref sig .tc := ⟨.hbm, 106, rfl⟩
abbrev main_call1_call0_cst_5 : Ref sig .tc := ⟨.hbm, 107, rfl⟩
abbrev main_call1_call0_v23 : Ref sig .tc := ⟨.hbm, 108, rfl⟩
abbrev main_call1_call0_cst_6 : Ref sig .tc := ⟨.hbm, 109, rfl⟩
abbrev main_call1_call0_cst_7 : Ref sig .tc := ⟨.hbm, 110, rfl⟩
abbrev main_call1_call0_v24 : Ref sig .tc := ⟨.hbm, 111, rfl⟩
abbrev main_call1_call0_cst_8 : Ref sig .tc := ⟨.hbm, 112, rfl⟩
abbrev main_call1_call0_v25 : Ref sig .tc := ⟨.hbm, 113, rfl⟩
abbrev main_call1_call0_v26 : Ref sig .tc := ⟨.hbm, 114, rfl⟩
abbrev main_call1_call0_cst_9 : Ref sig .tc := ⟨.hbm, 115, rfl⟩
abbrev main_call1_call0_v27 : Ref sig .tc := ⟨.hbm, 116, rfl⟩
abbrev main_call1_call0_v28 : Ref sig .tc := ⟨.hbm, 117, rfl⟩
abbrev main_call1_call0_v29 : Ref sig .tc := ⟨.hbm, 118, rfl⟩
abbrev main_call1_call0_v30 : Ref sig .tc := ⟨.hbm, 119, rfl⟩
abbrev main_call1_call0_v31 : Ref sig .tc := ⟨.hbm, 120, rfl⟩
abbrev main_call1_call0_cst_10 : Ref sig .tc := ⟨.hbm, 121, rfl⟩
abbrev main_call1_call0_v32 : Ref sig .tc := ⟨.hbm, 122, rfl⟩
abbrev main_v27_2 : Ref sig .tc := ⟨.hbm, 123, rfl⟩
abbrev main_v27_0 : Ref sig .tc := ⟨.hbm, 124, rfl⟩
abbrev main_cst_0 : Ref sig .tc := ⟨.hbm, 125, rfl⟩
abbrev main_call2_v0 : Ref sig .tc := ⟨.hbm, 126, rfl⟩
abbrev main_v28_1 : Ref sig .tc := ⟨.hbm, 127, rfl⟩
abbrev main_call2_v2 : Ref sig .tc := ⟨.hbm, 128, rfl⟩
abbrev main_v28_0 : Ref sig .tc := ⟨.hbm, 129, rfl⟩
abbrev main_call2_cst : Ref sig .tc := ⟨.hbm, 130, rfl⟩
abbrev main_v28_2 : Ref sig .tc := ⟨.hbm, 131, rfl⟩
abbrev main_call3_cst : Ref sig .tc := ⟨.hbm, 132, rfl⟩
abbrev main_call3_v0 : Ref sig .tc := ⟨.hbm, 133, rfl⟩
abbrev main_v29 : Ref sig .tc := ⟨.hbm, 134, rfl⟩
abbrev main_v30 : Ref sig .tc := ⟨.hbm, 135, rfl⟩
abbrev main_v31 : Ref sig .tc := ⟨.hbm, 136, rfl⟩
abbrev main_v32 : Ref sig .tc := ⟨.hbm, 137, rfl⟩
abbrev main_cst_1 : Ref sig .tc := ⟨.hbm, 138, rfl⟩
abbrev main_call4_v0 : Ref sig .tc := ⟨.hbm, 139, rfl⟩
abbrev main_v33_1 : Ref sig .tc := ⟨.hbm, 140, rfl⟩
abbrev main_call4_v2 : Ref sig .tc := ⟨.hbm, 141, rfl⟩
abbrev main_v33_0 : Ref sig .tc := ⟨.hbm, 142, rfl⟩
abbrev main_call4_cst : Ref sig .tc := ⟨.hbm, 143, rfl⟩
abbrev main_v33_2 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_call5_v0 : Ref sig .tc := ⟨.hbm, 148, rfl⟩
abbrev main_call5_v1 : Ref sig .tc := ⟨.hbm, 149, rfl⟩
abbrev main_call5_cst : Ref sig .tc := ⟨.hbm, 150, rfl⟩
abbrev main_call5_v2 : Ref sig .tc := ⟨.hbm, 151, rfl⟩
abbrev main_call5_v3 : Ref sig .tc := ⟨.hbm, 152, rfl⟩
abbrev main_call5_cst_0 : Ref sig .tc := ⟨.hbm, 153, rfl⟩
abbrev main_call5_v4 : Ref sig .tc := ⟨.hbm, 154, rfl⟩
abbrev main_v37_2 : Ref sig .tc := ⟨.hbm, 155, rfl⟩
abbrev main_call5_cst_1 : Ref sig .tc := ⟨.hbm, 156, rfl⟩
abbrev main_call5_v6 : Ref sig .tc := ⟨.hbm, 157, rfl⟩
abbrev main_call5_v7 : Ref sig .tc := ⟨.hbm, 158, rfl⟩
abbrev main_v37_1 : Ref sig .tc := ⟨.hbm, 159, rfl⟩
abbrev main_v37_0 : Ref sig .tc := ⟨.hbm, 160, rfl⟩
abbrev main_v38 : Ref sig .tc := ⟨.hbm, 161, rfl⟩
abbrev main_v39 : Ref sig .tc := ⟨.hbm, 162, rfl⟩
abbrev main_v40 : Ref sig .tc := ⟨.hbm, 163, rfl⟩
abbrev main_v41 : Ref sig .tc := ⟨.hbm, 164, rfl⟩
abbrev main_v42 : Ref sig .tc := ⟨.hbm, 165, rfl⟩
abbrev main_call6_v0 : Ref sig .tc := ⟨.hbm, 166, rfl⟩
abbrev main_call6_v1 : Ref sig .tc := ⟨.hbm, 167, rfl⟩
abbrev main_call6_v2 : Ref sig .tc := ⟨.hbm, 168, rfl⟩
abbrev main_v43 : Ref sig .tc := ⟨.hbm, 169, rfl⟩
abbrev main_v44 : Ref sig .tc := ⟨.hbm, 170, rfl⟩
abbrev main_v45 : Ref sig .tc := ⟨.hbm, 171, rfl⟩
abbrev main_v46 : Ref sig .tc := ⟨.hbm, 172, rfl⟩
abbrev main_v47 : Ref sig .tc := ⟨.hbm, 173, rfl⟩
abbrev main_v48 : Ref sig .tc := ⟨.hbm, 174, rfl⟩
abbrev main_call7_cst : Ref sig .tc := ⟨.hbm, 175, rfl⟩
abbrev main_call7_v0 : Ref sig .tc := ⟨.hbm, 176, rfl⟩
abbrev main_v49 : Ref sig .tc := ⟨.hbm, 177, rfl⟩
abbrev main_v50 : Ref sig .tc := ⟨.hbm, 178, rfl⟩
abbrev main_v51 : Ref sig .tc := ⟨.hbm, 179, rfl⟩
abbrev main_call8_cst : Ref sig .tc := ⟨.hbm, 180, rfl⟩
abbrev main_call8_v0 : Ref sig .tc := ⟨.hbm, 181, rfl⟩
abbrev main_v52 : Ref sig .tc := ⟨.hbm, 182, rfl⟩
abbrev main_v53 : Ref sig .tc := ⟨.hbm, 183, rfl⟩
abbrev main_call9_cst : Ref sig .tc := ⟨.hbm, 184, rfl⟩
abbrev main_call9_v0 : Ref sig .tc := ⟨.hbm, 185, rfl⟩
abbrev main_v54 : Ref sig .tc := ⟨.hbm, 186, rfl⟩
abbrev main_call10_v0 : Ref sig .tc := ⟨.hbm, 187, rfl⟩
abbrev main_call10_v1 : Ref sig .tc := ⟨.hbm, 188, rfl⟩
abbrev main_v55 : Ref sig .tc := ⟨.hbm, 189, rfl⟩
abbrev main_v56 : Ref sig .tc := ⟨.hbm, 190, rfl⟩
abbrev main_call11_v0 : Ref sig .tc := ⟨.hbm, 191, rfl⟩
abbrev main_call11_v1 : Ref sig .tc := ⟨.hbm, 192, rfl⟩
abbrev main_v57 : Ref sig .tc := ⟨.hbm, 193, rfl⟩
abbrev main_v58 : Ref sig .tc := ⟨.hbm, 194, rfl⟩
abbrev main_cst_2 : Ref sig .tc := ⟨.hbm, 195, rfl⟩
abbrev main_v59 : Ref sig .tc := ⟨.hbm, 196, rfl⟩
abbrev main_v60 : Ref sig .tc := ⟨.hbm, 197, rfl⟩
abbrev main_v61 : Ref sig .tc := ⟨.hbm, 198, rfl⟩
abbrev main_v62 : Ref sig .tc := ⟨.hbm, 199, rfl⟩
abbrev main_v63 : Ref sig .tc := ⟨.hbm, 200, rfl⟩
abbrev main_v64 : Ref sig .tc := ⟨.hbm, 201, rfl⟩
abbrev main_v65 : Ref sig .tc := ⟨.hbm, 202, rfl⟩
abbrev main_v66 : Ref sig .tc := ⟨.hbm, 203, rfl⟩
abbrev main_v67 : Ref sig .tc := ⟨.hbm, 204, rfl⟩
abbrev main_v68 : Ref sig .tc := ⟨.hbm, 205, rfl⟩
abbrev main_v69 : Ref sig .tc := ⟨.hbm, 206, rfl⟩
abbrev main_v70 : Ref sig .tc := ⟨.hbm, 207, rfl⟩
abbrev main_v71 : Ref sig .tc := ⟨.hbm, 208, rfl⟩
abbrev main_v72 : Ref sig .tc := ⟨.hbm, 209, rfl⟩

abbrev nD : Nat := 1
abbrev τ : Topo := Topo.v7x

variable {F : FTy → Type} [FloatOps F]
-- ==== InWeight.lean ====
abbrev S4096x14336 : Shape := ⟨2, ![4096, 14336]⟩
abbrev S4096x1024 : Shape := ⟨2, ![4096, 1024]⟩
abbrev S14336x1024 : Shape := ⟨2, ![14336, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x14336, .bf16⟩
  | .hbm, ⟨1, _⟩ => ⟨S4096x1024, .bf16⟩
  | .hbm, ⟨2, _⟩ => ⟨S14336x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![14, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWeightRefIdeal.lean ====
abbrev S4096x14336 : Shape := ⟨2, ![4096, 14336]⟩
abbrev S4096x1024 : Shape := ⟨2, ![4096, 1024]⟩
abbrev S_ : Shape := ⟨0, ![]⟩
abbrev S14336x1024 : Shape := ⟨2, ![14336, 1024]⟩
abbrev S1024x14336 : Shape := ⟨2, ![1024, 14336]⟩

abbrev nBuf : Space → Nat
  | .hbm => 12
  | .vmem => 0
  | .smem => 0
  | _ => 0

abbrev bufTy : (tb : Table) → Fin (tcTables nBuf tb) → BufTy
  | .hbm, ⟨0, _⟩ => ⟨S4096x14336, .bf16⟩
  | .hbm, ⟨1, _⟩ => ⟨S4096x1024, .bf16⟩
  | .hbm, ⟨2, _⟩ => ⟨S_, .f32⟩
  | .hbm, ⟨3, _⟩ => ⟨S14336x1024, .f32⟩
  | .hbm, ⟨4, _⟩ => ⟨S4096x1024, .f32⟩
  | .hbm, ⟨5, _⟩ => ⟨S1024x14336, .f32⟩
  | .hbm, ⟨6, _⟩ => ⟨S4096x14336, .f32⟩
  | .hbm, ⟨7, _⟩ => ⟨S4096x14336, .f32⟩
  | .hbm, ⟨8, _⟩ => ⟨S14336x1024, .f32⟩
  | .hbm, ⟨9, _⟩ => ⟨S1024x14336, .f32⟩
  | .hbm, ⟨10, _⟩ => ⟨S14336x1024, .f32⟩
  | .hbm, ⟨11, _⟩ => ⟨S14336x1024, .bf16⟩
  | _, _ => ⟨S4096x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InInput.lean ====
abbrev S4096x14336 : Shape := ⟨2, ![4096, 14336]⟩
abbrev S14336x1024 : Shape := ⟨2, ![14336, 1024]⟩
abbrev S4096x1024 : Shape := ⟨2, ![4096, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x14336, .bf16⟩
  | .hbm, ⟨1, _⟩ => ⟨S14336x1024, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 7], ![false, false, false]⟩

def k0_cond3 (i : grid0.Coords) : BitVec 1 :=
  let arg2 : BitVec 32 := BitVec.ofNat 32 (i 2).val
  let c6_i32 : BitVec 32 := 6#32
  let v9 : BitVec 1 := Scalar.cmpi .eq arg2 c6_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InInputRefIdeal.lean ====
abbrev S4096x14336 : Shape := ⟨2, ![4096, 14336]⟩
abbrev S14336x1024 : Shape := ⟨2, ![14336, 1024]⟩
abbrev S_ : Shape := ⟨0, ![]⟩
abbrev S4096x1024 : Shape := ⟨2, ![4096, 1024]⟩
abbrev S1024x14336 : Shape := ⟨2, ![1024, 14336]⟩

abbrev nBuf : Space → Nat
  | .hbm => 9
  | .vmem => 0
  | .smem => 0
  | _ => 0

abbrev bufTy : (tb : Table) → Fin (tcTables nBuf tb) → BufTy
  | .hbm, ⟨0, _⟩ => ⟨S4096x14336, .bf16⟩
  | .hbm, ⟨1, _⟩ => ⟨S14336x1024, .bf16⟩
  | .hbm, ⟨2, _⟩ => ⟨S_, .f32⟩
  | .hbm, ⟨3, _⟩ => ⟨S4096x1024, .f32⟩
  | .hbm, ⟨4, _⟩ => ⟨S14336x1024, .f32⟩
  | .hbm, ⟨5, _⟩ => ⟨S1024x14336, .f32⟩
  | .hbm, ⟨6, _⟩ => ⟨S4096x14336, .f32⟩
  | .hbm, ⟨7, _⟩ => ⟨S4096x14336, .f32⟩
  | .hbm, ⟨8, _⟩ => ⟨S4096x1024, .f32⟩
  | _, _ => ⟨S4096x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Merge.lean ====
abbrev S4096x1024 : Shape := ⟨2, ![4096, 1024]⟩
abbrev S4096x14336 : Shape := ⟨2, ![4096, 14336]⟩
abbrev S4096x3072 : Shape := ⟨2, ![4096, 3072]⟩
abbrev S512x1024 : Shape := ⟨2, ![512, 1024]⟩
abbrev S512x3072 : Shape := ⟨2, ![512, 3072]⟩

abbrev nBuf : Space → Nat
  | .hbm => 9
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S4096x14336, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x3072, .bf16⟩
  | .local _ .vmem, ⟨0, _⟩ => ⟨S512x1024, .bf16⟩
  | .local _ .vmem, ⟨1, _⟩ => ⟨S512x1024, .bf16⟩
  | .local _ .vmem, ⟨2, _⟩ => ⟨S512x3072, .bf16⟩
  | .local _ .vmem, ⟨3, _⟩ => ⟨S512x3072, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x3072, .bf16⟩
  | .local _ .vmem, ⟨17, _⟩ => ⟨S512x3072, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S4096x1024 : Shape := ⟨2, ![4096, 1024]⟩
abbrev S4096x14336 : Shape := ⟨2, ![4096, 14336]⟩
abbrev S4096x3072 : Shape := ⟨2, ![4096, 3072]⟩
abbrev S_ : Shape := ⟨0, ![]⟩
abbrev S2x2048x3x1024 : Shape := ⟨4, ![2, 2048, 3, 1024]⟩
abbrev S2x2048x1024 : Shape := ⟨3, ![2, 2048, 1024]⟩
abbrev S2x2048x1x1024 : Shape := ⟨4, ![2, 2048, 1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x14336, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x3072, .bf16⟩
  | .hbm, ⟨6, _⟩ => ⟨S4096x3072, .f32⟩
  | .hbm, ⟨7, _⟩ => ⟨S4096x3072, .f32⟩
  | .hbm, ⟨8, _⟩ => ⟨S4096x3072, .f32⟩
  | .hbm, ⟨9, _⟩ => ⟨S_, .f32⟩
  | .hbm, ⟨10, _⟩ => ⟨S4096x3072, .f32⟩
  | .hbm, ⟨11, _⟩ => ⟨S4096x3072, .f32⟩
  | .hbm, ⟨12, _⟩ => ⟨S_, .f32⟩
  | .hbm, ⟨13, _⟩ => ⟨S4096x3072, .f32⟩
  | .hbm, ⟨14, _⟩ => ⟨S4096x3072, .f32⟩
  | .hbm, ⟨15, _⟩ => ⟨S_, .f32⟩
  | .hbm, ⟨16, _⟩ => ⟨S4096x3072, .f32⟩
  | .hbm, ⟨17, _⟩ => ⟨S4096x3072, .f32⟩
  | .hbm, ⟨18, _⟩ => ⟨S4096x3072, .f32⟩
  | .hbm, ⟨19, _⟩ => ⟨S2x2048x3x1024, .f32⟩
  | .hbm, ⟨20, _⟩ => ⟨S4096x1024, .f32⟩
  | .hbm, ⟨21, _⟩ => ⟨S2x2048x1024, .f32⟩
  | .hbm, ⟨22, _⟩ => ⟨S4096x1024, .f32⟩
  | .hbm, ⟨23, _⟩ => ⟨S2x2048x1024, .f32⟩
  | .hbm, ⟨24, _⟩ => ⟨S4096x1024, .f32⟩
  | .hbm, ⟨25, _⟩ => ⟨S2x2048x1024, .f32⟩
  | .hbm, ⟨26, _⟩ => ⟨S2x2048x1x1024, .f32⟩
  | .hbm, ⟨27, _⟩ => ⟨S2x2048x1024, .f32⟩
  | .hbm, ⟨28, _⟩ => ⟨S2x2048x1024, .f32⟩
  | .hbm, ⟨29, _⟩ => ⟨S2x2048x1x1024, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S2x2048x1x1024, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | .hbm, ⟨37, _⟩ => ⟨S4096x1024, .f32⟩
  | .hbm, ⟨38, _⟩ => ⟨S4096x1024, .bf16⟩
  | .hbm, ⟨39, _⟩ => ⟨S4096x1024, .f32⟩
  | .hbm, ⟨40, _⟩ => ⟨S2x2048x1024, .f32⟩
  | .hbm, ⟨41, _⟩ => ⟨S2x2048x1024, .f32⟩
  | .hbm, ⟨42, _⟩ => ⟨S2x2048x1024, .f32⟩
  | .hbm, ⟨43, _⟩ => ⟨S2x2048x1x1024, .f32⟩
  | .hbm, ⟨44, _⟩ => ⟨S_, .f32⟩
  | .hbm, ⟨45, _⟩ => ⟨S2x2048x3x1024, .f32⟩
  | .hbm, ⟨46, _⟩ => ⟨S2x2048x1024, .f32⟩
  | .hbm, ⟨47, _⟩ => ⟨S2x2048x1024, .f32⟩
  | .hbm, ⟨48, _⟩ => ⟨S2x2048x1x1024, .f32⟩
  | .hbm, ⟨49, _⟩ => ⟨S_, .f32⟩
  | .hbm, ⟨50, _⟩ => ⟨S2x2048x3x1024, .f32⟩
  | .hbm, ⟨51, _⟩ => ⟨S2x2048x3x1024, .f32⟩
  | .hbm, ⟨52, _⟩ => ⟨S2x2048x1024, .f32⟩
  | .hbm, ⟨53, _⟩ => ⟨S2x2048x1024, .f32⟩
  | .hbm, ⟨54, _⟩ => ⟨S2x2048x1x1024, .f32⟩
  | .hbm, ⟨55, _⟩ => ⟨S_, .f32⟩
  | .hbm, ⟨56, _⟩ => ⟨S2x2048x3x1024, .f32⟩
  | .hbm, ⟨57, _⟩ => ⟨S2x2048x3x1024, .f32⟩
  | .hbm, ⟨58, _⟩ => ⟨S4096x1024, .f32⟩
  | .hbm, ⟨59, _⟩ => ⟨S4096x1024, .bf16⟩
  | .hbm, ⟨60, _⟩ => ⟨S4096x1024, .f32⟩
  | .hbm, ⟨61, _⟩ => ⟨S4096x1024, .bf16⟩
  | .hbm, ⟨62, _⟩ => ⟨S4096x1024, .f32⟩
  | .hbm, ⟨63, _⟩ => ⟨S4096x1024, .bf16⟩
  | .hbm, ⟨64, _⟩ => ⟨S4096x3072, .f32⟩
  | .hbm, ⟨65, _⟩ => ⟨S4096x3072, .f32⟩
  | .hbm, ⟨66, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_2 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_3 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_4 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩

abbrev nD : Nat := 1
abbrev τ : Topo := Topo.v7x

variable {F : FTy → Type} [FloatOps F]
-- ==== OutInput.lean ====
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutInputRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutWeight.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWeightRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SsmInput.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmInputRefIdeal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | .hbm, ⟨7, _⟩ => ⟨S4096x2048, .f32⟩
  | .hbm, ⟨8, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SsmWeight.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmWeightRefIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InProduct.lean ====
abbrev S4096x1024 : Shape := ⟨2, ![4096, 1024]⟩
abbrev S14336x1024 : Shape := ⟨2, ![14336, 1024]⟩
abbrev S4096x14336 : Shape := ⟨2, ![4096, 14336]⟩
abbrev S1024x1024 : Shape := ⟨2, ![1024, 1024]⟩
abbrev S2048x1024 : Shape := ⟨2, ![2048, 1024]⟩
abbrev S1024x2048 : Shape := ⟨2, ![1024, 2048]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S14336x1024, .bf16⟩
  | .hbm, ⟨2, _⟩ => ⟨S4096x14336, .bf16⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProductRefIdeal.lean ====
abbrev S4096x1024 : Shape := ⟨2, ![4096, 1024]⟩
abbrev S14336x1024 : Shape := ⟨2, ![14336, 1024]⟩
abbrev S1024x14336 : Shape := ⟨2, ![1024, 14336]⟩
abbrev S4096x14336 : Shape := ⟨2, ![4096, 14336]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S14336x1024, .bf16⟩
  | .hbm, ⟨2, _⟩ => ⟨S4096x1024, .f32⟩
  | .hbm, ⟨3, _⟩ => ⟨S14336x1024, .f32⟩
  | .hbm, ⟨4, _⟩ => ⟨S1024x14336, .f32⟩
  | .hbm, ⟨5, _⟩ => ⟨S4096x14336, .f32⟩
  | .hbm, ⟨6, _⟩ => ⟨S4096x14336, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== SsmProduct.lean ====
abbrev S4096x2048 : Shape := ⟨2, ![4096, 2048]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmProductRefIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x2048, .f32⟩
  | .hbm, ⟨3, _⟩ => ⟨S2048x1024, .f32⟩
  | .hbm, ⟨4, _⟩ => ⟨S4096x1024, .f32⟩
  | .hbm, ⟨5, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BranchProduct.lean ====
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchProductRefIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutProduct.lean ====
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProductRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Norm.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_16 : BitVec 32 := 0#32
  let v36 : BitVec 1 := Scalar.cmpi .ne v35 c0_i32_16
  v36

def k0_cond2 (i : grid0.Coords) : BitVec 1 :=
  let arg0 : BitVec 32 := BitVec.ofNat 32 (i 0).val
  let c0_i32_17 : BitVec 32 := 0#32
  let v37 : BitVec 1 := Scalar.cmpi .sgt arg0 c0_i32_17
  let v38 : BitVec 32 := Scalar.extui v37
  let c0_i32_18 : BitVec 32 := 0#32
  let v39 : BitVec 1 := Scalar.cmpi .ne v38 c0_i32_18
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .bf16⟩
  | .hbm, ⟨52, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== GatedNorm.lean ====
abbrev S4096x2048 : Shape := ⟨2, ![4096, 2048]⟩
abbrev S4096x14336 : Shape := ⟨2, ![4096, 14336]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x14336, .bf16⟩
  | .hbm, ⟨3, _⟩ => ⟨S2048, .f32⟩
  | .hbm, ⟨4, _⟩ => ⟨S1x2048, .f32⟩
  | .hbm, ⟨5, _⟩ => ⟨S4096x2048, .bf16⟩
  | .hbm, ⟨6, _⟩ => ⟨S4096x2048, .bf16⟩
  | .hbm, ⟨7, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S1x2048, .f32⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v55 : BitVec 1 := Scalar.cmpi .eq arg0 c0_i32
  let v56 : BitVec 32 := Scalar.extui v55
  let c0_i32_21 : BitVec 32 := 0#32
  let v57 : BitVec 1 := Scalar.cmpi .ne v56 c0_i32_21
  v57

def k0_cond2 (i : grid0.Coords) : BitVec 1 :=
  let arg0 : BitVec 32 := BitVec.ofNat 32 (i 0).val
  let c0_i32_22 : BitVec 32 := 0#32
  let v58 : BitVec 1 := Scalar.cmpi .sgt arg0 c0_i32_22
  let v59 : BitVec 32 := Scalar.extui v58
  let c0_i32_23 : BitVec 32 := 0#32
  let v60 : BitVec 1 := Scalar.cmpi .ne v59 c0_i32_23
  v60

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GatedNormRefIdeal.lean ====
abbrev S4096x2048 : Shape := ⟨2, ![4096, 2048]⟩
abbrev S4096x14336 : Shape := ⟨2, ![4096, 14336]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 77
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x14336, .bf16⟩
  | .hbm, ⟨3, _⟩ => ⟨S2048, .f32⟩
  | .hbm, ⟨4, _⟩ => ⟨S4096x2048, .bf16⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S1x2048, .f32⟩
  | .hbm, ⟨39, _⟩ => ⟨S4096x2048, .f32⟩
  | .hbm, ⟨40, _⟩ => ⟨S4096x2048, .f32⟩
  | .hbm, ⟨41, _⟩ => ⟨S4096x2048, .bf16⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S2048, .f32⟩
  | .hbm, ⟨51, _⟩ => ⟨S4096x2048, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x2048, .f32⟩
  | .hbm, ⟨56, _⟩ => ⟨S4096x2048, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S4096x2048, .bf16⟩
  | .hbm, ⟨75, _⟩ => ⟨S4096x2048, .bf16⟩
  | .hbm, ⟨76, _⟩ => ⟨S1x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩

abbrev nD : Nat := 1
abbrev τ : Topo := Topo.v7x

variable {F : FTy → Type} [FloatOps F]
-- ==== NormForward.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormForwardRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== GatedForward.lean ====
abbrev S4096x2048 : Shape := ⟨2, ![4096, 2048]⟩
abbrev S4096x14336 : Shape := ⟨2, ![4096, 14336]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x14336, .bf16⟩
  | .hbm, ⟨2, _⟩ => ⟨S2048, .f32⟩
  | .hbm, ⟨3, _⟩ => ⟨S1x2048, .f32⟩
  | .hbm, ⟨4, _⟩ => ⟨S4096x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GatedForwardRefIdeal.lean ====
abbrev S4096x2048 : Shape := ⟨2, ![4096, 2048]⟩
abbrev S4096x14336 : Shape := ⟨2, ![4096, 14336]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x14336, .bf16⟩
  | .hbm, ⟨2, _⟩ => ⟨S2048, .f32⟩
  | .hbm, ⟨3, _⟩ => ⟨S4096x2048, .bf16⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x2048, .f32⟩
  | .hbm, ⟨28, _⟩ => ⟨S4096x2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== Proof.StickReal.lean ====
/-
The stick-breaking attention's arithmetic over the reals, free of any program: the softplus, a tile of 512 stacked query
rows against 256 keys, the whole causal row, and the statement that a tile of the whole row is the tile's own arithmetic
once the sums over the keys outside the tile are handed to it.
-/
module

public import Mathlib.Analysis.SpecialFunctions.Log.Basic
public import Mathlib.Algebra.BigOperators.Fin
public import Mathlib.Algebra.BigOperators.Intervals
public import Mathlib.Tactic.Ring
public import Mathlib.Tactic.Linarith
public import Mathlib.Tactic.FieldSimp
public import Mathlib.Tactic.Positivity

@[expose] public section

noncomputable section

namespace Cert.Stick

open Finset

/-! ## The softplus -/

/-- The softplus in the form both programs evaluate it. -/
def sp (x : ℝ) : ℝ := max x 0 + Real.log (1 + Real.exp (-|x|))

/-- It is the logarithm of `1 + exp x`. -/
theorem sp_eq (x : ℝ) : sp x = Real.log (1 + Real.exp x) := by
  unfold sp
  rcases le_total 0 x with h | h
  · rw [max_eq_left h, abs_of_nonneg h]
    have e : 1 + Real.exp x = Real.exp x * (1 + Real.exp (-x)) := by
      rw [mul_add, ← Real.exp_add, add_neg_cancel, Real.exp_zero, mul_one, add_comm]
    rw [e, Real.log_mul (Real.exp_pos _).ne' (by positivity), Real.log_exp]
  · rw [max_eq_right h, abs_of_nonpos h, neg_neg, zero_add]

theorem sp_sub_neg (x : ℝ) : sp x - sp (-x) = x := by
  unfold sp
  rw [abs_neg]
  rcases le_total 0 x with h | h
  · rw [max_eq_left h, max_eq_right (by linarith)]; ring
  · rw [max_eq_right h, max_eq_left (by linarith)]; ring

/-- The log of the break probability. -/
def lb (z : ℝ) : ℝ := -sp (-z)
/-- The log of its complement. -/
def lom (z : ℝ) : ℝ := -sp z
/-- The break probability. -/
def sg (z : ℝ) : ℝ := Real.exp (lb z)

/-- The form the blocks evaluate. -/
theorem lb_min (z : ℝ) : min z 0 - Real.log (1 + Real.exp (0 - |z|)) = lb z := by
  unfold lb sp
  rw [abs_neg, zero_sub]
  rcases le_total 0 z with h | h
  · rw [min_eq_right h, max_eq_right (by linarith)]; ring
  · rw [min_eq_left h, max_eq_left (by linarith)]; ring

theorem lb_sub (z : ℝ) : lb z - z = lom z := by
  have := sp_sub_neg z
  unfold lb lom; linarith

theorem sg_eq (z : ℝ) : Real.exp (z - sp z) = sg z := by
  have := sp_sub_neg z
  unfold sg lb; congr 1; linarith

theorem one_sub_sg (z : ℝ) : Real.exp (-z - sp (-z)) = 1 - sg z := by
  have h : Real.exp (sp (-z)) = 1 + Real.exp (-z) := by
    rw [sp_eq, Real.exp_log (by positivity)]
  unfold sg lb
  rw [sub_eq_add_neg, Real.exp_add, Real.exp_neg (sp (-z)), h]
  have : (1 + Real.exp (-z)) ≠ 0 := by positivity
  field_simp
  ring

/-! ## One tile -/

section Tile

variable (z w : Fin 512 → Fin 256 → ℝ) (M : Fin 512 → Fin 256 → Prop) [∀ r s, Decidable (M r s)] (R g : Fin 512 → ℝ)

/-- The attention of a tile: `M` marks the causal pairs, `R` is the row's sum over the keys after the tile. -/
def attB (r : Fin 512) (s : Fin 256) : ℝ :=
  if M r s then Real.exp (lb (z r s) + ((∑ x : Fin 256, if s < x ∧ M r x then lom (z r x) else 0) + R r)) else 0
/-- Attention times the gradient of the attention. -/
def deB (r : Fin 512) (s : Fin 256) : ℝ := attB z M R r s * w r s
/-- The prefix sum of `deB`, from the carried sum `g` of the tiles before. -/
def gB (r : Fin 512) (s : Fin 256) : ℝ := (∑ x : Fin 256, if x < s then deB z w M R r x else 0) + g r
/-- The gradient of the logits. -/
def dzB (r : Fin 512) (s : Fin 256) : ℝ :=
  if M r s then deB z w M R r s * (1 - sg (z r s)) - gB z w M R g r s * sg (z r s) else 0

end Tile

/-! ## The whole causal row -/

section Row

variable (z w : ℕ → ℕ → ℝ)

/-- The sum over the keys strictly between `s` and the query. -/
def later (t s : ℕ) : ℝ := ∑ x ∈ range 2048, if s < x ∧ x < t then lom (z t x) else 0
def att (t s : ℕ) : ℝ := if s < t then Real.exp (lb (z t s) + later z t s) else 0
def de (t s : ℕ) : ℝ := att z t s * w t s
def gp (t s : ℕ) : ℝ := ∑ x ∈ range s, de z w t x
def dz (t s : ℕ) : ℝ := if s < t then de z w t s * (1 - sg (z t s)) - gp z w t s * sg (z t s) else 0

/-- A sum over a tile of 256 keys with a flag on the tile is the sum over the row with the same flag there. -/
theorem sum_tile (f : ℕ → ℝ) (j : ℕ) (hj : j < 8) :
    ∑ x : Fin 256, f (256 * j + x) = ∑ x ∈ range 2048, if 256 * j ≤ x ∧ x < 256 * j + 256 then f x else 0 := by
  rw [← Finset.sum_range fun x => f (256 * j + x), ← Finset.sum_filter]
  refine Finset.sum_bij (fun x _ => 256 * j + x) ?_ ?_ ?_ fun _ _ => rfl
  · intro a ha; simp only [mem_range, mem_filter] at *; omega
  · intro a _ b _ h; omega
  · intro b hb
    simp only [mem_range, mem_filter] at hb
    exact ⟨b - 256 * j, by simp only [mem_range]; omega, by omega⟩

/-- The row's sum over the keys after tile `j` and before the query, with the tile's own part, is the whole one. -/
theorem later_tile (t j : ℕ) (hj : j < 8) (s : Fin 256) :
    (∑ x : Fin 256, if s < x ∧ 256 * j + (x : ℕ) < t then lom (z t (256 * j + x)) else 0) + later z t (256 * j + 255)
      = later z t (256 * j + s) := by
  have e := sum_tile (fun y => if 256 * j + s < y ∧ y < t then lom (z t y) else 0) j hj
  have e' : (∑ x : Fin 256, if s < x ∧ 256 * j + (x : ℕ) < t then lom (z t (256 * j + x)) else 0)
      = ∑ x : Fin 256, if 256 * j + (s : ℕ) < 256 * j + x ∧ 256 * j + (x : ℕ) < t then lom (z t (256 * j + x)) else 0 := by
    refine Finset.sum_congr rfl fun x _ => ?_
    have : (s < x) ↔ (256 * j + (s : ℕ) < 256 * j + x) := by rw [Fin.lt_def]; omega
    simp only [this]
  rw [e', e]
  unfold later
  rw [← Finset.sum_add_distrib]
  refine Finset.sum_congr rfl fun x _ => ?_
  have hs := s.isLt
  by_cases h1 : 256 * j + 255 < x
  · rw [if_neg (by omega), zero_add]
    by_cases h2 : x < t
    · rw [if_pos ⟨h1, h2⟩, if_pos ⟨by omega, h2⟩]
    · rw [if_neg (by omega), if_neg (by omega)]
  · rw [if_neg (by omega : ¬(256 * j + 255 < x ∧ x < t)), add_zero]
    by_cases h2 : 256 * j ≤ x
    · rw [if_pos ⟨h2, by omega⟩]
    · rw [if_neg (by omega), if_neg (by omega)]

/-- The prefix sum at a tile's key is the sum over the tiles before and the tile's own prefix. -/
theorem gp_tile (t j : ℕ) (s : Fin 256) :
    (∑ x : Fin 256, if x < s then de z w t (256 * j + x) else 0) + gp z w t (256 * j) = gp z w t (256 * j + s) := by
  unfold gp
  rw [Finset.sum_range_add, add_comm]
  congr 1
  rw [← Finset.sum_filter]
  refine Finset.sum_bij (fun x _ => (x : ℕ)) ?_ ?_ ?_ fun _ _ => rfl
  · intro a ha; simp only [mem_range, mem_filter, mem_univ, true_and, Fin.lt_def] at *; exact ha
  · intro a _ b _ h; exact Fin.ext h
  · intro b hb
    have hs := s.isLt
    simp only [mem_range] at hb
    exact ⟨⟨b, by omega⟩, by simp only [mem_filter, mem_univ, true_and, Fin.lt_def]; exact hb, rfl⟩

/-- A tile's row sum moves the prefix sum to the next tile. -/
theorem gp_next (t j : ℕ) : gp z w t (256 * j) + ∑ x : Fin 256, de z w t (256 * j + x) = gp z w t (256 * (j + 1)) := by
  unfold gp
  rw [Nat.mul_succ, Finset.sum_range_add, Finset.sum_range fun x => de z w t (256 * j + x)]

end Row

/-! ## A tile of the whole row -/

section Of

variable (z w : ℕ → ℕ → ℕ → ℝ)

/-- Row `r` of the stacked tile is query `t0 + r % 256` of the head `r / 256` of the pair. -/
def rowT (t0 : ℕ) (f : ℕ → ℕ → ℕ → ℝ) (s0 : ℕ) (r : Fin 512) (s : Fin 256) : ℝ := f (r / 256) (t0 + r % 256) (s0 + s)

variable (i j : ℕ) (hj : j < 8)
include hj

theorem attB_eq (r : Fin 512) (s : Fin 256) :
    attB (rowT (256 * i) z (256 * j)) (fun r s => 256 * j + (s : ℕ) < 256 * i + r % 256)
        (fun r => later (z (r / 256)) (256 * i + r % 256) (256 * j + 255)) r s
      = att (z (r / 256)) (256 * i + r % 256) (256 * j + s) := by
  unfold attB att rowT
  rw [later_tile _ _ _ hj]

theorem deB_eq (r : Fin 512) (s : Fin 256) :
    deB (rowT (256 * i) z (256 * j)) (rowT (256 * i) w (256 * j)) (fun r s => 256 * j + (s : ℕ) < 256 * i + r % 256)
        (fun r => later (z (r / 256)) (256 * i + r % 256) (256 * j + 255)) r s
      = de (z (r / 256)) (w (r / 256)) (256 * i + r % 256) (256 * j + s) := by
  unfold deB de
  rw [attB_eq z i j hj]
  rfl

theorem dzB_eq (r : Fin 512) (s : Fin 256) :
    dzB (rowT (256 * i) z (256 * j)) (rowT (256 * i) w (256 * j)) (fun r s => 256 * j + (s : ℕ) < 256 * i + r % 256)
        (fun r => later (z (r / 256)) (256 * i + r % 256) (256 * j + 255))
        (fun r => gp (z (r / 256)) (w (r / 256)) (256 * i + r % 256) (256 * j)) r s
      = dz (z (r / 256)) (w (r / 256)) (256 * i + r % 256) (256 * j + s) := by
  unfold dzB dz gB
  simp only [deB_eq z w i j hj]
  rw [gp_tile]
  rfl

end Of

end Cert.Stick

end
-- ==== Proof.Tile.lean ====
/-
One tile of the kernel's block loop, off the diagonal, read at an index: the payloads of the block at real operands are
the tile's arithmetic of `StickReal`.
-/
module

public import proofs.«01_k».proof.Proof.StickReal
public import proofs.«01_k».proof.Proof.Gen.KernelIdeal.Skeleton
public import Idealize.ShloMosaic.Lib.Pointwise

@[expose] public section

set_option maxRecDepth 16384

noncomputable section

namespace Cert.KernelIdeal.Own

open Cert.KernelIdeal Cert.KernelIdeal.Gen Idealize.ShloMosaic Idealize.ShloMosaic.TcCoe Idealize.SL.Sem
open Cert.Stick

/-! ## Reals among the extended reals -/

theorem coe_sum {ι : Type} (s : Finset ι) (f : ι → ℝ) : ∑ x ∈ s, ((f x : ℝ) : EReal) = ((∑ x ∈ s, f x : ℝ) : EReal) := by
  classical
  refine Finset.induction_on s (by simp) fun a s ha ih => ?_
  rw [Finset.sum_insert ha, Finset.sum_insert ha, ih, EReal.coe_add]

theorem coe_min (a b : ℝ) : min (a : EReal) (b : EReal) = ((min a b : ℝ) : EReal) :=
  (EReal.coe_strictMono.monotone.map_min).symm

theorem coe_max (a b : ℝ) : max (a : EReal) (b : EReal) = ((max a b : ℝ) : EReal) :=
  (EReal.coe_strictMono.monotone.map_max).symm

theorem coe_absf (φ : FTy) (a : ℝ) : FloatOps.absf (F := Ideal) (φ := φ) ((a : ℝ) : EReal) = ((|a| : ℝ) : EReal) := by
  show max (a : EReal) (-(a : EReal)) = _
  rw [← EReal.coe_neg, coe_max]; rfl

theorem coe_log {a : ℝ} (h : 0 < a) : Ideal.log (a : EReal) = ((Real.log a : ℝ) : EReal) := by
  rw [Ideal.log_coe, if_neg (not_le.mpr h)]

/-- The log of a break probability as a block evaluates it. -/
theorem lb_coe (φ : FTy) (a : ℝ) :
    min (a : EReal) 0 - Ideal.log (1 + Ideal.exp (0 - FloatOps.absf (F := Ideal) (φ := φ) ((a : ℝ) : EReal))) = ((lb a : ℝ) : EReal) := by
  rw [coe_absf, ← EReal.coe_zero, ← EReal.coe_one, ← EReal.coe_sub, Ideal.exp_coe, ← EReal.coe_add,
    coe_log (by positivity), coe_min, ← EReal.coe_sub, lb_min]

theorem select_ofBool {α : Type} (p : Prop) [Decidable p] (a b : α) :
    Scalar.select (BitVec.ofBool (decide p)) a b = if p then a else b := by
  by_cases h : p <;> simp [h, Scalar.select]

/-- A 0/1 flag widened and converted. -/
theorem flag_coe (φ : FTy) (p : Prop) [Decidable p] :
    FloatOps.sitofp (F := Ideal) φ (BitVec.setWidth 32 (BitVec.ofBool (decide p))) = if p then ((1 : ℝ) : EReal) else ((0 : ℝ) : EReal) := by
  by_cases h : p
  · simp only [h, decide_true, if_true]
    show (((BitVec.setWidth 32 (BitVec.ofBool true)).toInt : ℝ) : EReal) = _
    rw [show (BitVec.setWidth 32 (BitVec.ofBool true)).toInt = 1 by decide, Int.cast_one]
  · simp only [h, decide_false, if_false]
    show (((BitVec.setWidth 32 (BitVec.ofBool false)).toInt : ℝ) : EReal) = _
    rw [show (BitVec.setWidth 32 (BitVec.ofBool false)).toInt = 0 by decide, Int.cast_zero]

theorem toInt_small (a : ℕ) (ha : a < 4096) : (BitVec.ofNat 32 a).toInt = (a : ℤ) := by
  rw [BitVec.toInt_eq_toNat_of_lt] <;> rw [BitVec.toNat_ofNat, Nat.mod_eq_of_lt] <;> omega

theorem slt_flag (a b : ℕ) (ha : a < 4096) (hb : b < 4096) :
    IntOp.cmpi CmpIPredicate.slt (BitVec.ofNat 32 a) (BitVec.ofNat 32 b) = BitVec.ofBool (decide (a < b)) := by
  show BitVec.ofBool (BitVec.slt _ _) = _
  rw [BitVec.slt_eq_decide, toInt_small a ha, toInt_small b hb]
  simp only [Nat.cast_lt]

theorem sgt_flag (a b : ℕ) (ha : a < 4096) (hb : b < 4096) :
    IntOp.cmpi CmpIPredicate.sgt (BitVec.ofNat 32 a) (BitVec.ofNat 32 b) = BitVec.ofBool (decide (b < a)) :=
  slt_flag b a hb ha

theorem eq_flag (a b : ℕ) (ha : a < 4096) (hb : b < 4096) :
    IntOp.cmpi CmpIPredicate.eq (BitVec.ofNat 32 a) (BitVec.ofNat 32 b) = BitVec.ofBool (decide (a = b)) := by
  show BitVec.ofBool (decide (BitVec.ofNat 32 a = BitVec.ofNat 32 b)) = _
  congr 2
  refine propext ⟨fun h => ?_, fun h => h ▸ rfl⟩
  have := congrArg BitVec.toInt h
  rw [toInt_small a ha, toInt_small b hb] at this
  exact_mod_cast this

theorem upper_apply (x s : Fin 256) : k0_pay151 (F := Ideal) (ix2 x s) = if s < x then ((1 : ℝ) : EReal) else ((0 : ℝ) : EReal) := by
  pointwise [k0_pay151]
  rw [sgt_flag _ _ (by omega) (by omega)]
  exact flag_coe _ _

theorem lower_apply (x s : Fin 256) : k0_pay152 (F := Ideal) (ix2 x s) = if x < s then ((1 : ℝ) : EReal) else ((0 : ℝ) : EReal) := by
  pointwise [k0_pay152]
  rw [slt_flag _ _ (by omega) (by omega)]
  exact flag_coe _ _

/-- A sum against a column of flags. -/
theorem sum_flag {n : ℕ} (f : Fin n → ℝ) (p : Fin n → Prop) [DecidablePred p] :
    ∑ x, ((f x : ℝ) : EReal) * (if p x then ((1 : ℝ) : EReal) else ((0 : ℝ) : EReal)) = ((∑ x, if p x then f x else 0 : ℝ) : EReal) := by
  rw [← coe_sum]
  refine Finset.sum_congr rfl fun x _ => ?_
  by_cases h : p x
  · rw [if_pos h, if_pos h, ← EReal.coe_mul, mul_one]
  · rw [if_neg h, if_neg h, ← EReal.coe_mul, mul_zero]

section Off

variable {q d : FVec Ideal S512x128 .bf16} {k v : Vec Ideal S256x128 .bf16} {z w : Fin 512 → Fin 256 → ℝ}

theorem lb_read (hz : ∀ r s, k0_pay14 q k (ix2 r s) = ((z r s : ℝ) : EReal)) (r : Fin 512) (s : Fin 256) :
    k0_pay15 q k (ix2 r s) = ((lb (z r s) : ℝ) : EReal) := by
  pointwise [k0_pay15, hz]
  exact lb_coe _ _

/-- The row sums handed over, picked out of their tile at the lane of the key block. -/
theorem pick_lane (f : Fin 128 → ℝ) (n : ℕ) (hn : n < 128) :
    ∑ x : Fin 128, Scalar.select (IntOp.cmpi CmpIPredicate.eq (BitVec.ofNat 32 (x : ℕ)) (BitVec.ofNat 32 n)) ((f x : ℝ) : EReal) 0
      = ((f ⟨n, hn⟩ : ℝ) : EReal) := by
  rw [Finset.sum_eq_single ⟨n, hn⟩]
  · rw [eq_flag _ _ (by omega) (by omega), select_ofBool, if_pos rfl]
  · intro x _ hx
    rw [eq_flag _ _ (by omega) (by omega), select_ofBool, if_neg fun h => hx (Fin.ext h)]
  · intro h; exact absurd (Finset.mem_univ _) h

/-- The sum row `r` of the stacked tile reads for key block `j`. -/
def laneR (Rt : Fin 256 → Fin 128 → ℝ) (j : ℕ) (hj : j < 8) (r : Fin 512) : ℝ :=
  Rt ⟨r % 256, by omega⟩ ⟨8 * (r / 256) + j, by omega⟩

variable {rt : Vec Ideal S1x1x256x128 .f32} {Rt : Fin 256 → Fin 128 → ℝ} {g : FVec Ideal S512x1 .f32} {G : Fin 512 → ℝ}

/-- The pair of masked lane sums, the upper half of the rows reading lane `j` and the lower half lane `8 + j`. -/
theorem lane_read (Rt : Fin 256 → Fin 128 → ℝ) (j : ℕ) (hj : j < 8) (r : Fin 512) :
    (if h : (r : ℕ) < 256 then ∑ x : Fin 128, Scalar.select (IntOp.cmpi CmpIPredicate.eq (BitVec.ofNat 32 (x : ℕ)) (BitVec.ofNat 32 j)) ((Rt ⟨r, h⟩ x : ℝ) : EReal) 0
      else ∑ x : Fin 128, Scalar.select (IntOp.cmpi CmpIPredicate.eq (BitVec.ofNat 32 (x : ℕ)) (Scalar.addi 8#32 (BitVec.ofNat 32 j))) ((Rt ⟨r - 256, by omega⟩ x : ℝ) : EReal) 0)
      = ((laneR Rt j hj r : ℝ) : EReal) := by
  have e : Scalar.addi 8#32 (BitVec.ofNat 32 j) = BitVec.ofNat 32 (8 + j) := by
    show 8#32 + BitVec.ofNat 32 j = _
    rw [← BitVec.ofNat_add]
  have hr := r.isLt
  by_cases h : (r : ℕ) < 256
  · rw [dif_pos h, pick_lane _ j (by omega)]
    unfold laneR
    congr 3 <;> omega
  · rw [dif_neg h, e, pick_lane _ (8 + j) (by omega)]
    unfold laneR
    congr 3 <;> omega

theorem att_read (hz : ∀ r s, k0_pay14 q k (ix2 r s) = ((z r s : ℝ) : EReal))
    (hr : ∀ ρ l, rt (ix4 0 0 ρ l) = ((Rt ρ l : ℝ) : EReal)) (j : ℕ) (hj : j < 8) (r : Fin 512) (s : Fin 256) :
    k0_pay16 (iota .tc S256x128 32 [1] iota_S256x128_d1_w32) k0_pay151 q (BitVec.ofNat 32 j) k rt (ix2 r s)
      = ((attB z (fun _ _ => True) (laneR Rt j hj) r s : ℝ) : EReal) := by
  pointwise [k0_pay16, hz, hr, lb_read hz, upper_apply]
  rw [lane_read Rt j hj r]
  simp only [← EReal.coe_sub, lb_sub]
  rw [sum_flag, ← EReal.coe_add, ← EReal.coe_add, Ideal.exp_coe]
  unfold attB
  simp only [and_true, if_true]

theorem w_read {D : Fin 512 → Fin 128 → ℝ} {V : Fin 256 → Fin 128 → ℝ} (hd : ∀ r c, d (ix2 r c) = ((D r c : ℝ) : EReal))
    (hv : ∀ s c, v (ix2 s c) = ((V s c : ℝ) : EReal)) (r : Fin 512) (s : Fin 256) :
    k0_pay14 d v (ix2 r s) = ((∑ c, D r c * V s c : ℝ) : EReal) := by
  pointwise [k0_pay14, hd, hv]
  simp only [← EReal.coe_mul, coe_sum]

theorem de_read {att : FVec Ideal S512x256 .f32} {A : Fin 512 → Fin 256 → ℝ} (ha : ∀ r s, att (ix2 r s) = ((A r s : ℝ) : EReal))
    (hw : ∀ r s, k0_pay14 d v (ix2 r s) = ((w r s : ℝ) : EReal)) (r : Fin 512) (s : Fin 256) :
    k0_pay8 d v att (constant S512x256 .f32 0x00000000#32) (ix2 r s) = ((A r s * w r s : ℝ) : EReal) := by
  have := hw r s
  pointwise [k0_pay14] at this
  pointwise [k0_pay8, ha]
  rw [this, ← EReal.coe_mul]

variable {A Z : Fin 512 → Fin 256 → ℝ} {att : FVec Ideal S512x256 .f32} {lbv : FVec Ideal S512x256 .bf16}

theorem dz_read (ha : ∀ r s, att (ix2 r s) = ((A r s : ℝ) : EReal)) (hl : ∀ r s, lbv (ix2 r s) = ((lb (Z r s) : ℝ) : EReal))
    (hw : ∀ r s, k0_pay14 d v (ix2 r s) = ((w r s : ℝ) : EReal)) (hg : ∀ r, g (ix2 r 0) = ((G r : ℝ) : EReal))
    (r : Fin 512) (s : Fin 256) :
    k0_pay9 k0_pay152 d g v lbv att (constant S512x256 .f32 0x00000000#32) (ix2 r s)
      = ((A r s * w r s * (1 - sg (Z r s)) - ((∑ x : Fin 256, if x < s then A r x * w r x else 0) + G r) * sg (Z r s) : ℝ) : EReal) := by
  pointwise [k0_pay9, de_read ha hw, lower_apply, hl, hg]
  rw [sum_flag, Ideal.exp_coe, ← EReal.coe_one]
  simp only [← EReal.coe_sub, ← EReal.coe_mul, ← EReal.coe_add]
  rfl

variable {dzv : FVec Ideal S512x256 .bf16} {dz : Fin 512 → Fin 256 → ℝ}

theorem g_read (ha : ∀ r s, att (ix2 r s) = ((A r s : ℝ) : EReal))
    (hw : ∀ r s, k0_pay14 d v (ix2 r s) = ((w r s : ℝ) : EReal)) (hg : ∀ r, g (ix2 r 0) = ((G r : ℝ) : EReal)) (r : Fin 512) :
    k0_pay13 d g v att (constant S512x256 .f32 0x00000000#32) (ix2 r 0) = ((G r + ∑ s, A r s * w r s : ℝ) : EReal) := by
  pointwise [k0_pay13, de_read ha hw, hg]
  rw [coe_sum, ← EReal.coe_add]

theorem dq_read {Q0 : Fin 512 → Fin 128 → ℝ} {K : Fin 256 → Fin 128 → ℝ} {x : FVec Ideal S512x128 .f32}
    (hx : ∀ r c, x (ix2 r c) = ((Q0 r c : ℝ) : EReal)) (hk : ∀ s c, k (ix2 s c) = ((K s c : ℝ) : EReal))
    (hd : ∀ r s, dzv (ix2 r s) = ((dz r s : ℝ) : EReal)) (r : Fin 512) (c : Fin 128) :
    k0_pay34 x k dzv (ix2 r c) = ((Q0 r c + ∑ s, dz r s * K s c : ℝ) : EReal) := by
  pointwise [k0_pay34, hx, hk, hd]
  simp only [← EReal.coe_mul, coe_sum, ← EReal.coe_add]

variable {T : FVec Ideal S128x512 .bf16} {tt : Fin 512 → Fin 128 → ℝ} {old : Vec Ideal S1x128x256 .f32} {O : Fin 128 → Fin 256 → ℝ}

theorem dk_read (ho : ∀ c s, old (ix3 0 c s) = ((O c s : ℝ) : EReal)) (ht : ∀ c r, T (ix2 c r) = ((tt r c : ℝ) : EReal))
    (hd : ∀ r s, dzv (ix2 r s) = ((dz r s : ℝ) : EReal)) (c : Fin 128) (s : Fin 256) :
    k0_pay32 T dzv old (ix3 0 c s) = ((O c s + ∑ r, tt r c * dz r s : ℝ) : EReal) := by
  pointwise [k0_pay32, ho, ht, hd]
  simp only [← EReal.coe_mul, coe_sum, ← EReal.coe_add]

theorem dv_read (ho : ∀ c s, old (ix3 0 c s) = ((O c s : ℝ) : EReal)) (ht : ∀ c r, T (ix2 c r) = ((tt r c : ℝ) : EReal))
    (ha : ∀ r s, att (ix2 r s) = ((A r s : ℝ) : EReal)) (c : Fin 128) (s : Fin 256) :
    k0_pay11 T att old (ix3 0 c s) = ((O c s + ∑ r, tt r c * A r s : ℝ) : EReal) := by
  pointwise [k0_pay11, ho, ht, ha]
  simp only [← EReal.coe_mul, coe_sum, ← EReal.coe_add]

end Off

/-! ## The tile on the diagonal: the same with the causal flag -/

section Diag

variable {q d : FVec Ideal S512x128 .bf16} {k v : Vec Ideal S256x128 .bf16} {z w : Fin 512 → Fin 256 → ℝ}
variable {A Z : Fin 512 → Fin 256 → ℝ} {att : FVec Ideal S512x256 .f32} {lbv : FVec Ideal S512x256 .bf16}
variable {rt : Vec Ideal S1x1x256x128 .f32} {Rt : Fin 256 → Fin 128 → ℝ} {g : FVec Ideal S512x1 .f32} {G : Fin 512 → ℝ}

/-- A row's place within its head's 256 rows, as the body computes it. -/
theorem row_place : ∀ r : Fin 512,
    (Scalar.select
        (IntOp.andi
          (IntOp.xori
            (IntOp.cmpi CmpIPredicate.slt
              (IntOp.remsi ArithUnit.vector (BitVec.ofNat 32 (r : ℕ))
                (Scalar.select (Scalar.cmpi CmpIPredicate.eq 256#32 0#32) 1#32 256#32))
              0#32)
            (Scalar.cmpi CmpIPredicate.slt (Scalar.select (Scalar.cmpi CmpIPredicate.eq 256#32 0#32) 1#32 256#32) 0#32))
          (IntOp.cmpi CmpIPredicate.ne
            (IntOp.remsi ArithUnit.vector (BitVec.ofNat 32 (r : ℕ))
              (Scalar.select (Scalar.cmpi CmpIPredicate.eq 256#32 0#32) 1#32 256#32))
            0#32))
        (IntOp.addi
          (IntOp.remsi ArithUnit.vector (BitVec.ofNat 32 (r : ℕ))
            (Scalar.select (Scalar.cmpi CmpIPredicate.eq 256#32 0#32) 1#32 256#32))
          (Scalar.select (Scalar.cmpi CmpIPredicate.eq 256#32 0#32) 1#32 256#32))
        (IntOp.remsi ArithUnit.vector (BitVec.ofNat 32 (r : ℕ))
          (Scalar.select (Scalar.cmpi CmpIPredicate.eq 256#32 0#32) 1#32 256#32)))
      = BitVec.ofNat 32 ((r : ℕ) % 256) := by decide +kernel

/-- The causal flag of the diagonal tile: key `s` before query `r % 256`. -/
theorem mask_read (w0 : BitVec 32) (r : Fin 512) (s : Fin 256) :
    k0_pay200 w0 k0_pay149 (iota .tc S512x256 32 [1] iota_S512x256_d1_w32) (ix2 r s) = BitVec.ofBool (decide ((s : ℕ) < r % 256)) := by
  pointwise [k0_pay200, k0_pay149]
  rw [row_place, show Scalar.subi (Scalar.muli w0 256#32) (Scalar.muli w0 256#32) = 0#32 from BitVec.sub_self _,
    show IntOp.addi (BitVec.ofNat 32 (s : ℕ)) 0#32 = BitVec.ofNat 32 (s : ℕ) from BitVec.add_zero _]
  exact slt_flag _ _ (by omega) (by omega)

theorem diag_lb_read (hz : ∀ r s, k0_pay204 q k (ix2 r s) = ((z r s : ℝ) : EReal)) (r : Fin 512) (s : Fin 256) :
    k0_pay205 q k (ix2 r s) = ((lb (z r s) : ℝ) : EReal) := by
  pointwise [k0_pay205, hz]
  exact lb_coe _ _

theorem diag_att_read (hz : ∀ r s, k0_pay204 q k (ix2 r s) = ((z r s : ℝ) : EReal))
    (hr : ∀ ρ l, rt (ix4 0 0 ρ l) = ((Rt ρ l : ℝ) : EReal)) (j : ℕ) (hj : j < 8)
    {m : IVec S512x256 1} (hm : ∀ r s, m (ix2 r s) = BitVec.ofBool (decide ((s : ℕ) < r % 256))) (r : Fin 512) (s : Fin 256) :
    k0_pay206 k0_pay151 q m k (k0_pay202 (BitVec.ofNat 32 j) (iota .tc S256x128 32 [1] iota_S256x128_d1_w32) rt)
        (k0_pay203 (BitVec.ofNat 32 j) (iota .tc S256x128 32 [1] iota_S256x128_d1_w32) rt) (ix2 r s)
      = ((attB z (fun r s => (s : ℕ) < r % 256) (laneR Rt j hj) r s : ℝ) : EReal) := by
  pointwise [k0_pay206, k0_pay202, k0_pay203, k0_pay201, hz, hr, hm, diag_lb_read hz, upper_apply]
  rw [lane_read Rt j hj r]
  have e : ∀ x : Fin 256, (if (x : ℕ) < r % 256 then ((lb (z r x) : ℝ) : EReal) - ((z r x : ℝ) : EReal) else 0)
      = (((if (x : ℕ) < r % 256 then lom (z r x) else 0 : ℝ)) : EReal) := by
    intro x
    split
    · rw [← EReal.coe_sub, lb_sub]
    · rfl
  simp only [e]
  rw [sum_flag, ← EReal.coe_add, ← EReal.coe_add, Ideal.exp_coe]
  unfold attB
  have e2 : ∀ x : Fin 256, (if s < x then (if (x : ℕ) < r % 256 then lom (z r x) else 0) else 0)
      = if s < x ∧ (x : ℕ) < r % 256 then lom (z r x) else 0 := fun x => by rw [ite_and]
  simp only [e2]
  split <;> rfl

theorem diag_dz_read {m : IVec S512x256 1} (hm : ∀ r s, m (ix2 r s) = BitVec.ofBool (decide ((s : ℕ) < r % 256)))
    {x1 : FVec Ideal S256x1 .f32} {x2 : FVec Ideal S256 .f32}
    (ha : ∀ r s, k0_pay206 k0_pay151 q m k x1 x2 (ix2 r s) = ((A r s : ℝ) : EReal))
    (hz : ∀ r s, k0_pay204 q k (ix2 r s) = ((z r s : ℝ) : EReal))
    (hw : ∀ r s, k0_pay14 d v (ix2 r s) = ((w r s : ℝ) : EReal)) (hg : ∀ r, g (ix2 r 0) = ((G r : ℝ) : EReal))
    (r : Fin 512) (s : Fin 256) :
    k0_pay207 k0_pay151 k0_pay152 d q g m k v x1 x2 (ix2 r s)
      = ((if (s : ℕ) < r % 256 then
          A r s * w r s * (1 - sg (z r s)) - ((∑ x : Fin 256, if x < s then A r x * w r x else 0) + G r) * sg (z r s) else 0 : ℝ) : EReal) := by
  have hw' : ∀ r s, (∑ c : Fin 128, d (ix2 r c) * v (ix2 s c) : EReal) = ((w r s : ℝ) : EReal) := by
    intro r s
    have := hw r s
    pointwise [k0_pay14] at this
    exact this
  pointwise [k0_pay207, ha, lower_apply, diag_lb_read hz, hg, hm, hw']
  simp only [← EReal.coe_mul]
  rw [sum_flag, Ideal.exp_coe, ← EReal.coe_one]
  simp only [← EReal.coe_sub, ← EReal.coe_mul, ← EReal.coe_add]
  split <;> rfl

end Diag

end Cert.KernelIdeal.Own

end
-- ==== Proof.Trip.lean ====
/-
One trip of the block loop over the pairs' tiles: what it yields and stores, written with the same few tile functions for
each of the four pairs.
-/
module

public import proofs.«01_k».proof.Proof.Gen.KernelIdeal.Loops

@[expose] public section

set_option maxRecDepth 16384

noncomputable section

namespace Cert.KernelIdeal.Own

open Cert.KernelIdeal Cert.KernelIdeal.Gen Idealize.ShloMosaic Idealize.ShloMosaic.TcCoe Idealize.SL.Sem

variable {F : FTy → Type} [FloatOps F]

abbrev lanes : IVec S256x128 32 := iota .tc S256x128 32 [1] iota_S256x128_d1_w32
abbrev cols : IVec S512x256 32 := iota .tc S512x256 32 [1] iota_S512x256_d1_w32
abbrev zeroT : FVec F S512x256 .f32 := constant S512x256 .f32 0x00000000#32

/-- The weights of one tile. -/
def attT (q : FVec F S512x128 .bf16) (n : BitVec 32) (k : Vec F S256x128 .bf16) (r : Vec F S1x1x256x128 .f32) : FVec F S512x256 .f32 :=
  k0_pay16 lanes k0_pay151 q n k r

/-- The logit gradient of one tile. -/
def dzT (q d : FVec F S512x128 .bf16) (g : FVec F S512x1 .f32) (n : BitVec 32) (k v : Vec F S256x128 .bf16) (r : Vec F S1x1x256x128 .f32) :
    FVec F S512x256 .bf16 :=
  k0_pay9 k0_pay152 d g v (k0_pay15 q k) (attT q n k r) zeroT

/-- The carried sums after one more tile. -/
def gT (q d : FVec F S512x128 .bf16) (g : FVec F S512x1 .f32) (n : BitVec 32) (k v : Vec F S256x128 .bf16) (r : Vec F S1x1x256x128 .f32) :
    FVec F S512x1 .f32 :=
  k0_pay13 d g v (attT q n k r) zeroT

/-- The query gradient after one more tile. -/
def dqT (x : FVec F S512x128 .f32) (q d : FVec F S512x128 .bf16) (g : FVec F S512x1 .f32) (n : BitVec 32) (k v : Vec F S256x128 .bf16)
    (r : Vec F S1x1x256x128 .f32) : FVec F S512x128 .f32 :=
  k0_pay34 x k (dzT q d g n k v r)

/-- The key gradient's piece after one more tile. -/
def dkT (t : FVec F S128x512 .bf16) (q d : FVec F S512x128 .bf16) (g : FVec F S512x1 .f32) (n : BitVec 32) (k v : Vec F S256x128 .bf16)
    (r : Vec F S1x1x256x128 .f32) (old : Vec F S1x128x256 .f32) : Vec F S1x128x256 .f32 :=
  k0_pay32 t (dzT q d g n k v r) old

/-- The value gradient's piece after one more tile. -/
def dvT (t : FVec F S128x512 .bf16) (q : FVec F S512x128 .bf16) (n : BitVec 32) (k : Vec F S256x128 .bf16)
    (r : Vec F S1x1x256x128 .f32) (old : Vec F S1x128x256 .f32) : Vec F S1x128x256 .f32 :=
  k0_pay11 t (attT q n k r) old

abbrev keyAt0 (i : grid0.Coords) (arg7 : Memref sig .tc .vmem S2048x512 .bf16) (X : BufTy.Contents (Elt F) arg7.view.ty) (k : Fin (k0_t1_loop i).trips) :
    Vec F S256x128 .bf16 :=
  arg7.view.readAt (Elt F) (Rect.unit (s := S2048x512) (k0_off1 i k) S256x128.size (k0_off1_inb i k)).toLoadRect X

abbrev sumsAt0 (arg5 : Memref sig .tc .vmem S1x4x256x128 .f32) (X : BufTy.Contents (Elt F) arg5.view.ty) : Vec F S1x1x256x128 .f32 :=
  arg5.view.readAt (Elt F) (Rect.unit (s := S1x4x256x128) ![0, 0, 0, 0] S1x1x256x128.size inb_S1x4x256x128_S1x1x256x128_0_0_0_0).toLoadRect X

abbrev oldAt0 (i : grid0.Coords) (arg14 : Memref sig .tc .vmem S8x512x256 .f32) (f : BufTy.Contents (Elt F) arg14.view.ty) (k : Fin (k0_t1_loop i).trips) :
    Vec F S1x128x256 .f32 :=
  arg14.view.readAt (Elt F) (Rect.unit (s := S8x512x256) (k0_off2 i k) S1x128x256.size (k0_off2_inb i k)).toLoadRect f

abbrev keyAt1 (i : grid0.Coords) (arg7 : Memref sig .tc .vmem S2048x512 .bf16) (X : BufTy.Contents (Elt F) arg7.view.ty) (k : Fin (k0_t1_loop i).trips) :
    Vec F S256x128 .bf16 :=
  arg7.view.readAt (Elt F) (Rect.unit (s := S2048x512) (k0_off3 i k) S256x128.size (k0_off3_inb i k)).toLoadRect X

abbrev sumsAt1 (arg5 : Memref sig .tc .vmem S1x4x256x128 .f32) (X : BufTy.Contents (Elt F) arg5.view.ty) : Vec F S1x1x256x128 .f32 :=
  arg5.view.readAt (Elt F) (Rect.unit (s := S1x4x256x128) ![0, 1, 0, 0] S1x1x256x128.size inb_S1x4x256x128_S1x1x256x128_0_1_0_0).toLoadRect X

abbrev oldAt1 (i : grid0.Coords) (arg14 : Memref sig .tc .vmem S8x512x256 .f32) (f : BufTy.Contents (Elt F) arg14.view.ty) (k : Fin (k0_t1_loop i).trips) :
    Vec F S1x128x256 .f32 :=
  arg14.view.readAt (Elt F) (Rect.unit (s := S8x512x256) (k0_off4 i k) S1x128x256.size (k0_off4_inb i k)).toLoadRect f

abbrev keyAt2 (i : grid0.Coords) (arg7 : Memref sig .tc .vmem S2048x512 .bf16) (X : BufTy.Contents (Elt F) arg7.view.ty) (k : Fin (k0_t1_loop i).trips) :
    Vec F S256x128 .bf16 :=
  arg7.view.readAt (Elt F) (Rect.unit (s := S2048x512) (k0_off5 i k) S256x128.size (k0_off5_inb i k)).toLoadRect X

abbrev sumsAt2 (arg5 : Memref sig .tc .vmem S1x4x256x128 .f32) (X : BufTy.Contents (Elt F) arg5.view.ty) : Vec F S1x1x256x128 .f32 :=
  arg5.view.readAt (Elt F) (Rect.unit (s := S1x4x256x128) ![0, 2, 0, 0] S1x1x256x128.size inb_S1x4x256x128_S1x1x256x128_0_2_0_0).toLoadRect X

abbrev oldAt2 (i : grid0.Coords) (arg14 : Memref sig .tc .vmem S8x512x256 .f32) (f : BufTy.Contents (Elt F) arg14.view.ty) (k : Fin (k0_t1_loop i).trips) :
    Vec F S1x128x256 .f32 :=
  arg14.view.readAt (Elt F) (Rect.unit (s := S8x512x256) (k0_off6 i k) S1x128x256.size (k0_off6_inb i k)).toLoadRect f

abbrev keyAt3 (i : grid0.Coords) (arg7 : Memref sig .tc .vmem S2048x512 .bf16) (X : BufTy.Contents (Elt F) arg7.view.ty) (k : Fin (k0_t1_loop i).trips) :
    Vec F S256x128 .bf16 :=
  arg7.view.readAt (Elt F) (Rect.unit (s := S2048x512) (k0_off7 i k) S256x128.size (k0_off7_inb i k)).toLoadRect X

abbrev sumsAt3 (arg5 : Memref sig .tc .vmem S1x4x256x128 .f32) (X : BufTy.Contents (Elt F) arg5.view.ty) : Vec F S1x1x256x128 .f32 :=
  arg5.view.readAt (Elt F) (Rect.unit (s := S1x4x256x128) ![0, 3, 0, 0] S1x1x256x128.size inb_S1x4x256x128_S1x1x256x128_0_3_0_0).toLoadRect X

abbrev oldAt3 (i : grid0.Coords) (arg14 : Memref sig .tc .vmem S8x512x256 .f32) (f : BufTy.Contents (Elt F) arg14.view.ty) (k : Fin (k0_t1_loop i).trips) :
    Vec F S1x128x256 .f32 :=
  arg14.view.readAt (Elt F) (Rect.unit (s := S8x512x256) (k0_off8 i k) S1x128x256.size (k0_off8_inb i k)).toLoadRect f

variable (𝒱 : Variants) (c : Dev nD) (bd : Option 𝒱.V) (i : grid0.Coords) (arg3 : Memref sig .tc .vmem S256x512 .bf16) (harg3 : arg3.IsWhole) (arg4 : Memref sig .tc .vmem S256x512 .bf16) (harg4 : arg4.IsWhole) (arg5 : Memref sig .tc .vmem S1x4x256x128 .f32) (harg5 : arg5.IsWhole) (arg6 : Memref sig .tc .vmem S256x512 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S256x512 .bf16) (harg13 : arg13.IsWhole) (arg14 : Memref sig .tc .vmem S8x512x256 .f32) (harg14 : arg14.IsWhole) (arg15 : Memref sig .tc .vmem S8x512x256 .f32) (harg15 : arg15.IsWhole) (arg2 : BitVec 32) (v66 : FVec F S512x128 .bf16) (v73 : FVec F S512x128 .bf16) (v104 : FVec F S512x128 .bf16) (v111 : FVec F S512x128 .bf16) (v142 : FVec F S512x128 .bf16) (v149 : FVec F S512x128 .bf16) (v180 : FVec F S512x128 .bf16) (v187 : FVec F S512x128 .bf16) (v190 : FVec F S128x512 .bf16) (v193 : FVec F S128x512 .bf16) (v196 : FVec F S128x512 .bf16) (v199 : FVec F S128x512 .bf16) (v202 : FVec F S128x512 .bf16) (v205 : FVec F S128x512 .bf16) (v208 : FVec F S128x512 .bf16) (v210 : FVec F S128x512 .f32) (X_arg5 : BufTy.Contents (Elt F) arg5.view.ty) (X_arg7 : BufTy.Contents (Elt F) arg7.view.ty) (X_arg8 : BufTy.Contents (Elt F) arg8.view.ty) (k : Fin (k0_t1_loop i).trips) (acc : FVec F S512x128 .f32 × FVec F S512x1 .f32 × FVec F S512x128 .f32 × FVec F S512x1 .f32 × FVec F S512x128 .f32 × FVec F S512x1 .f32 × FVec F S512x128 .f32 × FVec F S512x1 .f32) (f_arg14 : BufTy.Contents (Elt F) arg14.view.ty) (f_arg15 : BufTy.Contents (Elt F) arg15.view.ty)

theorem trip_result : tripR_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg2 lanes k0_pay149 cols k0_pay151 k0_pay152 v66 v73 v104 v111 v142 v149 v180 v187 v190 v193 v196 v199 v202 v205 v208 v210 X_arg5 X_arg7 X_arg8 k acc f_arg14 f_arg15 = (
      dqT acc.1 v73 v66 acc.2.1 (Scf.iv 0#32 1#32 k) (keyAt0 i arg7 X_arg7 k) (keyAt0 i arg8 X_arg8 k) (sumsAt0 arg5 X_arg5),
      gT v73 v66 acc.2.1 (Scf.iv 0#32 1#32 k) (keyAt0 i arg7 X_arg7 k) (keyAt0 i arg8 X_arg8 k) (sumsAt0 arg5 X_arg5),
      dqT acc.2.2.1 v111 v104 acc.2.2.2.1 (Scf.iv 0#32 1#32 k) (keyAt1 i arg7 X_arg7 k) (keyAt1 i arg8 X_arg8 k) (sumsAt1 arg5 X_arg5),
      gT v111 v104 acc.2.2.2.1 (Scf.iv 0#32 1#32 k) (keyAt1 i arg7 X_arg7 k) (keyAt1 i arg8 X_arg8 k) (sumsAt1 arg5 X_arg5),
      dqT acc.2.2.2.2.1 v149 v142 acc.2.2.2.2.2.1 (Scf.iv 0#32 1#32 k) (keyAt2 i arg7 X_arg7 k) (keyAt2 i arg8 X_arg8 k) (sumsAt2 arg5 X_arg5),
      gT v149 v142 acc.2.2.2.2.2.1 (Scf.iv 0#32 1#32 k) (keyAt2 i arg7 X_arg7 k) (keyAt2 i arg8 X_arg8 k) (sumsAt2 arg5 X_arg5),
      dqT acc.2.2.2.2.2.2.1 v187 v180 acc.2.2.2.2.2.2.2 (Scf.iv 0#32 1#32 k) (keyAt3 i arg7 X_arg7 k) (keyAt3 i arg8 X_arg8 k) (sumsAt3 arg5 X_arg5),
      gT v187 v180 acc.2.2.2.2.2.2.2 (Scf.iv 0#32 1#32 k) (keyAt3 i arg7 X_arg7 k) (keyAt3 i arg8 X_arg8 k) (sumsAt3 arg5 X_arg5)) := by
  unfold tripR_k0_t1 trip_k0_t1
  dsimp only
  rfl

theorem trip_pieces : tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg2 lanes k0_pay149 cols k0_pay151 k0_pay152 v66 v73 v104 v111 v142 v149 v180 v187 v190 v193 v196 v199 v202 v205 v208 v210 X_arg5 X_arg7 X_arg8 k acc f_arg14 f_arg15 = (
      [⟨Rect.unit (s := S8x512x256) (k0_off8 i k) S1x128x256.size (k0_off8_inb i k), dkT v199 v187 v180 acc.2.2.2.2.2.2.2 (Scf.iv 0#32 1#32 k) (keyAt3 i arg7 X_arg7 k) (keyAt3 i arg8 X_arg8 k) (sumsAt3 arg5 X_arg5) (oldAt3 i arg14 f_arg14 k)⟩,
      ⟨Rect.unit (s := S8x512x256) (k0_off6 i k) S1x128x256.size (k0_off6_inb i k), dkT v196 v149 v142 acc.2.2.2.2.2.1 (Scf.iv 0#32 1#32 k) (keyAt2 i arg7 X_arg7 k) (keyAt2 i arg8 X_arg8 k) (sumsAt2 arg5 X_arg5) (oldAt2 i arg14 f_arg14 k)⟩,
      ⟨Rect.unit (s := S8x512x256) (k0_off4 i k) S1x128x256.size (k0_off4_inb i k), dkT v193 v111 v104 acc.2.2.2.1 (Scf.iv 0#32 1#32 k) (keyAt1 i arg7 X_arg7 k) (keyAt1 i arg8 X_arg8 k) (sumsAt1 arg5 X_arg5) (oldAt1 i arg14 f_arg14 k)⟩,
      ⟨Rect.unit (s := S8x512x256) (k0_off2 i k) S1x128x256.size (k0_off2_inb i k), dkT v190 v73 v66 acc.2.1 (Scf.iv 0#32 1#32 k) (keyAt0 i arg7 X_arg7 k) (keyAt0 i arg8 X_arg8 k) (sumsAt0 arg5 X_arg5) (oldAt0 i arg14 f_arg14 k)⟩],
      [⟨Rect.unit (s := S8x512x256) (k0_off8 i k) S1x128x256.size (k0_off8_inb i k), dvT (k0_pay186 v210) v187 (Scf.iv 0#32 1#32 k) (keyAt3 i arg7 X_arg7 k) (sumsAt3 arg5 X_arg5) (oldAt3 i arg15 f_arg15 k)⟩,
      ⟨Rect.unit (s := S8x512x256) (k0_off6 i k) S1x128x256.size (k0_off6_inb i k), dvT v208 v149 (Scf.iv 0#32 1#32 k) (keyAt2 i arg7 X_arg7 k) (sumsAt2 arg5 X_arg5) (oldAt2 i arg15 f_arg15 k)⟩,
      ⟨Rect.unit (s := S8x512x256) (k0_off4 i k) S1x128x256.size (k0_off4_inb i k), dvT v205 v111 (Scf.iv 0#32 1#32 k) (keyAt1 i arg7 X_arg7 k) (sumsAt1 arg5 X_arg5) (oldAt1 i arg15 f_arg15 k)⟩,
      ⟨Rect.unit (s := S8x512x256) (k0_off2 i k) S1x128x256.size (k0_off2_inb i k), dvT v202 v73 (Scf.iv 0#32 1#32 k) (keyAt0 i arg7 X_arg7 k) (sumsAt0 arg5 X_arg5) (oldAt0 i arg15 f_arg15 k)⟩]) := by
  unfold tripL_k0_t1 trip_k0_t1
  dsimp only
  rfl

end Cert.KernelIdeal.Own

end
-- ==== Proof.Pair.lean ====
/-
A pair of heads at one query block: the tile functions of `Trip` at the operands of the pair are the rows of
`StickReal`, and the accumulator's pieces read at an index.
-/
module

public import proofs.«01_k».proof.Proof.Tile
public import proofs.«01_k».proof.Proof.Trip
public import Idealize.ShloMosaic.Lib.VecWindow

@[expose] public section

set_option maxRecDepth 16384

noncomputable section

namespace Cert.KernelIdeal.Own

open Cert.KernelIdeal Cert.KernelIdeal.Gen Idealize.ShloMosaic Idealize.ShloMosaic.TcCoe Idealize.SL.Sem
open Cert.Stick

/-- What the body holds for one pair of heads at query block `i`, as real numbers: the stacked scaled queries `Q` and
    output gradients `D` with their transposes, the row sums handed over, and the logits and value products over the whole row. -/
structure PairIn (i : ℕ) (q d : FVec Ideal S512x128 .bf16) (t td : FVec Ideal S128x512 .bf16) (r : Vec Ideal S1x1x256x128 .f32)
    (Q D : Fin 512 → Fin 128 → ℝ) (K V : ℕ → Fin 128 → ℝ) (Rt : Fin 256 → Fin 128 → ℝ) (z w : ℕ → ℕ → ℕ → ℝ) : Prop where
  q_eq : ∀ r c, q (ix2 r c) = ((Q r c : ℝ) : EReal)
  d_eq : ∀ r c, d (ix2 r c) = ((D r c : ℝ) : EReal)
  t_eq : ∀ c r, t (ix2 c r) = ((Q r c : ℝ) : EReal)
  td_eq : ∀ c r, td (ix2 c r) = ((D r c : ℝ) : EReal)
  r_eq : ∀ ρ l, r (ix4 0 0 ρ l) = ((Rt ρ l : ℝ) : EReal)
  z_eq : ∀ (r : Fin 512) (j : ℕ) (s : Fin 256), j < 8 → ∑ c, Q r c * K (256 * j + s) c = z (r / 256) (256 * i + r % 256) (256 * j + s)
  w_eq : ∀ (r : Fin 512) (j : ℕ) (s : Fin 256), j < 8 → ∑ c, D r c * V (256 * j + s) c = w (r / 256) (256 * i + r % 256) (256 * j + s)
  R_eq : ∀ (j : ℕ) (hj : j < 8), j ≤ i → ∀ a : Fin 512, laneR Rt j hj a = later (z ((a : ℕ) / 256)) (256 * i + a % 256) (256 * j + 255)

section

variable {i : ℕ} {q d : FVec Ideal S512x128 .bf16} {t td : FVec Ideal S128x512 .bf16} {r : Vec Ideal S1x1x256x128 .f32}
  {Q D : Fin 512 → Fin 128 → ℝ} {K V : ℕ → Fin 128 → ℝ} {Rt : Fin 256 → Fin 128 → ℝ} {z w : ℕ → ℕ → ℕ → ℝ}
  {k v : Vec Ideal S256x128 .bf16} {g : FVec Ideal S512x1 .f32} {x : FVec Ideal S512x128 .f32} {old : Vec Ideal S1x128x256 .f32}
  {O : Fin 128 → Fin 256 → ℝ} {j : ℕ}

/-- The weight, the logit gradient and the carried sum of row `r` of the stack. -/
def attR (z : ℕ → ℕ → ℕ → ℝ) (i : ℕ) (r : Fin 512) (s : ℕ) : ℝ := att (z (r / 256)) (256 * i + r % 256) s
def dzR (z w : ℕ → ℕ → ℕ → ℝ) (i : ℕ) (r : Fin 512) (s : ℕ) : ℝ := dz (z (r / 256)) (w (r / 256)) (256 * i + r % 256) s
def gpR (z w : ℕ → ℕ → ℕ → ℝ) (i : ℕ) (r : Fin 512) (s : ℕ) : ℝ := gp (z (r / 256)) (w (r / 256)) (256 * i + r % 256) s
/-- The query gradient over the keys before `n`. -/
def dqR (z w : ℕ → ℕ → ℕ → ℝ) (K : ℕ → Fin 128 → ℝ) (i : ℕ) (r : Fin 512) (c : Fin 128) (n : ℕ) : ℝ :=
  ∑ s ∈ Finset.range n, dzR z w i r s * K s c

theorem dqR_next (r : Fin 512) (c : Fin 128) :
    dqR z w K i r c (256 * j) + ∑ s : Fin 256, dzR z w i r (256 * j + s) * K (256 * j + s) c = dqR z w K i r c (256 * (j + 1)) := by
  unfold dqR
  rw [Nat.mul_succ, Finset.sum_range_add, Finset.sum_range fun s => dzR z w i r (256 * j + s) * K (256 * j + s) c]

section

variable (P : PairIn i q d t td r Q D K V Rt z w) (hj : j < 8)
include P hj

theorem z_tile (hk : ∀ s c, k (ix2 s c) = ((K (256 * j + (s : Fin 256)) c : ℝ) : EReal)) (a : Fin 512) (s : Fin 256) :
    k0_pay14 q k (ix2 a s) = ((rowT (256 * i) z (256 * j) a s : ℝ) : EReal) := by
  rw [w_read P.q_eq hk, P.z_eq a j s hj]; rfl

theorem w_tile (hv : ∀ s c, v (ix2 s c) = ((V (256 * j + (s : Fin 256)) c : ℝ) : EReal)) (a : Fin 512) (s : Fin 256) :
    k0_pay14 d v (ix2 a s) = ((rowT (256 * i) w (256 * j) a s : ℝ) : EReal) := by
  rw [w_read P.d_eq hv, P.w_eq a j s hj]; rfl

theorem attT_read (hji : j < i) (hk : ∀ s c, k (ix2 s c) = ((K (256 * j + (s : Fin 256)) c : ℝ) : EReal)) (a : Fin 512) (s : Fin 256) :
    attT q (BitVec.ofNat 32 j) k r (ix2 a s) = ((attR z i a (256 * j + s) : ℝ) : EReal) := by
  unfold attT
  rw [att_read (z_tile P hj hk) P.r_eq j hj, show attR z i a (256 * j + s) = _ from (attB_eq z i j hj a s).symm]
  unfold attB
  have e : ∀ x : Fin 256, 256 * j + (x : ℕ) < 256 * i + a % 256 := fun x => by omega
  simp only [e, P.R_eq j hj hji.le]

theorem dzT_read (hji : j < i) (hk : ∀ s c, k (ix2 s c) = ((K (256 * j + (s : Fin 256)) c : ℝ) : EReal))
    (hv : ∀ s c, v (ix2 s c) = ((V (256 * j + (s : Fin 256)) c : ℝ) : EReal))
    (hg : ∀ a, g (ix2 a 0) = ((gpR z w i a (256 * j) : ℝ) : EReal)) (a : Fin 512) (s : Fin 256) :
    dzT q d g (BitVec.ofNat 32 j) k v r (ix2 a s) = ((dzR z w i a (256 * j + s) : ℝ) : EReal) := by
  unfold dzT
  rw [dz_read (attT_read P hj hji hk) (fun r s => lb_read (z_tile P hj hk) r s) (w_tile P hj hv) hg]
  rw [show dzR z w i a (256 * j + s) = _ from (dzB_eq z w i j hj a s).symm]
  unfold dzB gB
  rw [if_pos (by omega)]
  simp only [deB_eq z w i j hj]
  rfl

theorem gT_read (hji : j < i) (hk : ∀ s c, k (ix2 s c) = ((K (256 * j + (s : Fin 256)) c : ℝ) : EReal))
    (hv : ∀ s c, v (ix2 s c) = ((V (256 * j + (s : Fin 256)) c : ℝ) : EReal))
    (hg : ∀ a, g (ix2 a 0) = ((gpR z w i a (256 * j) : ℝ) : EReal)) (a : Fin 512) :
    gT q d g (BitVec.ofNat 32 j) k v r (ix2 a 0) = ((gpR z w i a (256 * (j + 1)) : ℝ) : EReal) := by
  unfold gT
  rw [g_read (attT_read P hj hji hk) (w_tile P hj hv) hg]
  exact congrArg _ (gp_next _ _ _ _)

theorem dqT_read (hji : j < i) (hk : ∀ s c, k (ix2 s c) = ((K (256 * j + (s : Fin 256)) c : ℝ) : EReal))
    (hv : ∀ s c, v (ix2 s c) = ((V (256 * j + (s : Fin 256)) c : ℝ) : EReal))
    (hg : ∀ a, g (ix2 a 0) = ((gpR z w i a (256 * j) : ℝ) : EReal))
    (hx : ∀ a c, x (ix2 a c) = ((dqR z w K i a c (256 * j) : ℝ) : EReal)) (a : Fin 512) (c : Fin 128) :
    dqT x q d g (BitVec.ofNat 32 j) k v r (ix2 a c) = ((dqR z w K i a c (256 * (j + 1)) : ℝ) : EReal) := by
  unfold dqT
  rw [dq_read hx hk (dzT_read P hj hji hk hv hg)]
  exact congrArg _ (dqR_next a c)

theorem dkT_read (hji : j < i) (hk : ∀ s c, k (ix2 s c) = ((K (256 * j + (s : Fin 256)) c : ℝ) : EReal))
    (hv : ∀ s c, v (ix2 s c) = ((V (256 * j + (s : Fin 256)) c : ℝ) : EReal))
    (hg : ∀ a, g (ix2 a 0) = ((gpR z w i a (256 * j) : ℝ) : EReal))
    (ho : ∀ c s, old (ix3 0 c s) = ((O c s : ℝ) : EReal)) (c : Fin 128) (s : Fin 256) :
    dkT t q d g (BitVec.ofNat 32 j) k v r old (ix3 0 c s) = ((O c s + ∑ a, Q a c * dzR z w i a (256 * j + s) : ℝ) : EReal) := by
  unfold dkT
  rw [dk_read ho P.t_eq (dzT_read P hj hji hk hv hg)]

theorem dvT_read (hji : j < i) (hk : ∀ s c, k (ix2 s c) = ((K (256 * j + (s : Fin 256)) c : ℝ) : EReal))
    (ho : ∀ c s, old (ix3 0 c s) = ((O c s : ℝ) : EReal)) (c : Fin 128) (s : Fin 256) :
    dvT td q (BitVec.ofNat 32 j) k r old (ix3 0 c s) = ((O c s + ∑ a, D a c * attR z i a (256 * j + s) : ℝ) : EReal) := by
  unfold dvT
  rw [dv_read ho P.td_eq (attT_read P hj hji hk)]

end

end

/-! ## The accumulator's windows -/

theorem put_piece {α : Type} (x : S8x512x256.Idx → α) (k : ℕ) (p : ℕ) (w : S1x128x256.Idx → α) (b : Fin 8) (a : Fin 512) (s : Fin 256) :
    VecWindow.put (s := S8x512x256) x ![k, 128 * p, 0] S1x128x256.size w (ix3 b a s)
      = if (b : ℕ) = k ∧ (a : ℕ) / 128 = p then w (ix3 0 ⟨a % 128, by omega⟩ s) else x (ix3 b a s) := by
  unfold VecWindow.put
  by_cases h : (b : ℕ) = k ∧ (a : ℕ) / 128 = p
  · obtain ⟨h1, h2⟩ := h
    have e : ∀ y : Fin 3, ![k, 128 * p, 0] y ≤ ((ix3 b a s : S8x512x256.Idx) y).val ∧
        ((ix3 b a s : S8x512x256.Idx) y).val < ![k, 128 * p, 0] y + S1x128x256.size y := by
      intro y
      fin_cases y
      · show k ≤ (b : ℕ) ∧ (b : ℕ) < k + 1; omega
      · show 128 * p ≤ (a : ℕ) ∧ (a : ℕ) < 128 * p + 128; omega
      · show 0 ≤ (s : ℕ) ∧ (s : ℕ) < 0 + 256; omega
    rw [dif_pos e, if_pos ⟨h1, h2⟩]
    refine congrArg w (funext fun y => ?_)
    fin_cases y
    · exact Fin.ext (by show (b : ℕ) - k = 0; omega)
    · exact Fin.ext (by show (a : ℕ) - 128 * p = a % 128; omega)
    · exact Fin.ext (by show (s : ℕ) - 0 = s; omega)
  · rw [if_neg h, dif_neg]
    intro e
    have e0 : k ≤ (b : ℕ) ∧ (b : ℕ) < k + 1 := e 0
    have e1 : 128 * p ≤ (a : ℕ) ∧ (a : ℕ) < 128 * p + 128 := e 1
    exact h (by omega)

theorem window_piece {α : Type} (x : S8x512x256.Idx → α) (k p : ℕ) (hk : k < 8) (hp : p < 4)
    (inb : ∀ a : Fin 3, ![k, 128 * p, 0] a + S1x128x256.size a ≤ S8x512x256.size a) (c : Fin 128) (s : Fin 256) :
    VecWindow.window (s := S8x512x256) x ![k, 128 * p, 0] S1x128x256.size inb (ix3 0 c s) = x (ix3 ⟨k, hk⟩ ⟨128 * p + c, by omega⟩ s) := by
  unfold VecWindow.window
  refine congrArg x (funext fun y => ?_)
  fin_cases y
  · exact Fin.ext (by show k + 1 * 0 = k; omega)
  · exact Fin.ext (by show 128 * p + 1 * (c : ℕ) = 128 * p + c; omega)
  · exact Fin.ext (by show 0 + 1 * (s : ℕ) = s; omega)

theorem window_rows {α : Type} (x : S2048x512.Idx → α) (k p : ℕ) (hk : k < 8) (hp : p < 4)
    (inb : ∀ a : Fin 2, ![256 * k, 128 * p] a + S256x128.size a ≤ S2048x512.size a) (s : Fin 256) (c : Fin 128) :
    VecWindow.window (s := S2048x512) x ![256 * k, 128 * p] S256x128.size inb (ix2 s c) = x (ix2 ⟨256 * k + s, by omega⟩ ⟨128 * p + c, by omega⟩) := by
  unfold VecWindow.window
  refine congrArg x (funext fun y => ?_)
  fin_cases y
  · exact Fin.ext (by show 256 * k + 1 * (s : ℕ) = 256 * k + s; omega)
  · exact Fin.ext (by show 128 * p + 1 * (c : ℕ) = 128 * p + c; omega)

theorem window_lanes {α : Type} (x : S256x512.Idx → α) (p : ℕ) (hp : p < 4)
    (inb : ∀ a : Fin 2, ![0, 128 * p] a + S256x128.size a ≤ S256x512.size a) (s : Fin 256) (c : Fin 128) :
    VecWindow.window (s := S256x512) x ![0, 128 * p] S256x128.size inb (ix2 s c) = x (ix2 s ⟨128 * p + c, by omega⟩) := by
  unfold VecWindow.window
  refine congrArg x (funext fun y => ?_)
  fin_cases y
  · exact Fin.ext (by show 0 + 1 * (s : ℕ) = s; omega)
  · exact Fin.ext (by show 128 * p + 1 * (c : ℕ) = 128 * p + c; omega)

theorem window_sums {α : Type} (x : S1x4x256x128.Idx → α) (p : ℕ) (hp : p < 4)
    (inb : ∀ a : Fin 4, ![0, p, 0, 0] a + S1x1x256x128.size a ≤ S1x4x256x128.size a) (s : Fin 256) (c : Fin 128) :
    VecWindow.window (s := S1x4x256x128) x ![0, p, 0, 0] S1x1x256x128.size inb (ix4 0 0 s c) = x (ix4 0 ⟨p, hp⟩ s c) := by
  unfold VecWindow.window
  refine congrArg x (funext fun y => ?_)
  fin_cases y
  · rfl
  · exact Fin.ext (by show p + 1 * 0 = p; omega)
  · exact Fin.ext (by show 0 + 1 * (s : ℕ) = s; omega)
  · exact Fin.ext (by show 0 + 1 * (c : ℕ) = c; omega)

end Cert.KernelIdeal.Own

end
-- ==== Proof.Loop.lean ====
/-
The block loop: after `k` trips the carried values are the sums over the first `k` key blocks, and the two accumulators hold
those blocks' contributions on top of what they held before.
-/
module

public import proofs.«01_k».proof.Proof.Pair

@[expose] public section

set_option maxRecDepth 16384

noncomputable section

namespace Cert.KernelIdeal.Own

open Cert.KernelIdeal Cert.KernelIdeal.Gen Idealize.ShloMosaic Idealize.ShloMosaic.TcCoe Idealize.SL.Sem
open Cert.Stick

theorem iv_eq (k : ℕ) : Scf.iv 0#32 1#32 k = BitVec.ofNat 32 k := by
  unfold Scf.iv
  rw [BitVec.zero_add, BitVec.mul_one]

theorem trips_count : ∀ i : grid0.Coords, (k0_t1_loop i).trips = (i 2).val := by
  intro i
  have h : ∀ n : Fin 8, Scf.trips 0#32 (Scalar.addi 0#32 (Scalar.muli (Scalar.divsi (Scalar.subi (BitVec.ofNat 32 n.val) 0#32) 1#32) 1#32)) 1#32 = n.val := by
    decide +kernel
  exact h (i 2)

theorem block_lt (i : grid0.Coords) : (i 2).val < 8 := (i 2).isLt

theorem trip_lt (i : grid0.Coords) (k : Fin (k0_t1_loop i).trips) : (k : ℕ) < 8 := by
  have := k.isLt; have := trips_count i; have := block_lt i; omega

theorem trip_lt' (i : grid0.Coords) (k : Fin (k0_t1_loop i).trips) : (k : ℕ) < (i 2).val := by
  have := k.isLt; have := trips_count i; omega

theorem key_off0 (i : grid0.Coords) (k : Fin (k0_t1_loop i).trips) : k0_off1 i k = ![256 * (k : ℕ), 128 * 0] := by
  refine funext fun a => ?_
  have hk := trip_lt i k
  fin_cases a
  · show (Scf.iv 0#32 1#32 (k : ℕ) * 256#32).toNat = 256 * (k : ℕ)
    rw [iv_eq, BitVec.toNat_mul, BitVec.toNat_ofNat, BitVec.toNat_ofNat]; omega
  · rfl

theorem old_off0 (i : grid0.Coords) (k : Fin (k0_t1_loop i).trips) : k0_off2 i k = ![(k : ℕ), 128 * 0, 0] := by
  refine funext fun a => ?_
  have hk := trip_lt i k
  fin_cases a
  · show (Scf.iv 0#32 1#32 (k : ℕ)).toNat = (k : ℕ)
    rw [iv_eq, BitVec.toNat_ofNat]; omega
  · rfl
  · rfl

theorem key_off1 (i : grid0.Coords) (k : Fin (k0_t1_loop i).trips) : k0_off3 i k = ![256 * (k : ℕ), 128 * 1] := by
  refine funext fun a => ?_
  have hk := trip_lt i k
  fin_cases a
  · show (Scf.iv 0#32 1#32 (k : ℕ) * 256#32).toNat = 256 * (k : ℕ)
    rw [iv_eq, BitVec.toNat_mul, BitVec.toNat_ofNat, BitVec.toNat_ofNat]; omega
  · rfl

theorem old_off1 (i : grid0.Coords) (k : Fin (k0_t1_loop i).trips) : k0_off4 i k = ![(k : ℕ), 128 * 1, 0] := by
  refine funext fun a => ?_
  have hk := trip_lt i k
  fin_cases a
  · show (Scf.iv 0#32 1#32 (k : ℕ)).toNat = (k : ℕ)
    rw [iv_eq, BitVec.toNat_ofNat]; omega
  · rfl
  · rfl

theorem key_off2 (i : grid0.Coords) (k : Fin (k0_t1_loop i).trips) : k0_off5 i k = ![256 * (k : ℕ), 128 * 2] := by
  refine funext fun a => ?_
  have hk := trip_lt i k
  fin_cases a
  · show (Scf.iv 0#32 1#32 (k : ℕ) * 256#32).toNat = 256 * (k : ℕ)
    rw [iv_eq, BitVec.toNat_mul, BitVec.toNat_ofNat, BitVec.toNat_ofNat]; omega
  · rfl

theorem old_off2 (i : grid0.Coords) (k : Fin (k0_t1_loop i).trips) : k0_off6 i k = ![(k : ℕ), 128 * 2, 0] := by
  refine funext fun a => ?_
  have hk := trip_lt i k
  fin_cases a
  · show (Scf.iv 0#32 1#32 (k : ℕ)).toNat = (k : ℕ)
    rw [iv_eq, BitVec.toNat_ofNat]; omega
  · rfl
  · rfl

theorem key_off3 (i : grid0.Coords) (k : Fin (k0_t1_loop i).trips) : k0_off7 i k = ![256 * (k : ℕ), 128 * 3] := by
  refine funext fun a => ?_
  have hk := trip_lt i k
  fin_cases a
  · show (Scf.iv 0#32 1#32 (k : ℕ) * 256#32).toNat = 256 * (k : ℕ)
    rw [iv_eq, BitVec.toNat_mul, BitVec.toNat_ofNat, BitVec.toNat_ofNat]; omega
  · rfl

theorem old_off3 (i : grid0.Coords) (k : Fin (k0_t1_loop i).trips) : k0_off8 i k = ![(k : ℕ), 128 * 3, 0] := by
  refine funext fun a => ?_
  have hk := trip_lt i k
  fin_cases a
  · show (Scf.iv 0#32 1#32 (k : ℕ)).toNat = (k : ℕ)
    rw [iv_eq, BitVec.toNat_ofNat]; omega
  · rfl
  · rfl

/-- Four stored pieces, one per pair, at key block `k`: the block's rows now hold them, the others what was there. -/
theorem four_pieces (v : View sig .tc .vmem S8x512x256 .f32) (f : v.ty.Contents (Elt Ideal)) (L : List (View.Piece (Elt Ideal) S8x512x256 .f32)) {k : ℕ}
    {o0 o1 o2 o3 : Fin 3 → ℕ} (h0 : o0 = ![k, 128 * 0, 0]) (h1 : o1 = ![k, 128 * 1, 0]) (h2 : o2 = ![k, 128 * 2, 0]) (h3 : o3 = ![k, 128 * 3, 0])
    {i0 : ∀ a : Fin 3, o0 a + S1x128x256.size a ≤ S8x512x256.size a} {i1 : ∀ a : Fin 3, o1 a + S1x128x256.size a ≤ S8x512x256.size a}
    {i2 : ∀ a : Fin 3, o2 a + S1x128x256.size a ≤ S8x512x256.size a} {i3 : ∀ a : Fin 3, o3 a + S1x128x256.size a ≤ S8x512x256.size a}
    {w0 w1 w2 w3 : Vec Ideal S1x128x256 .f32} {W : Fin 4 → Fin 128 → Fin 256 → ℝ}
    (e0 : ∀ c s, w0 (ix3 0 c s) = ((W 0 c s : ℝ) : EReal)) (e1 : ∀ c s, w1 (ix3 0 c s) = ((W 1 c s : ℝ) : EReal))
    (e2 : ∀ c s, w2 (ix3 0 c s) = ((W 2 c s : ℝ) : EReal)) (e3 : ∀ c s, w3 (ix3 0 c s) = ((W 3 c s : ℝ) : EReal))
    (b : Fin 8) (a : Fin 512) (s : Fin 256) :
    v.read (Elt Ideal) (v.writes (Elt Ideal) f (⟨Rect.unit (s := S8x512x256) o3 S1x128x256.size i3, w3⟩ :: ⟨Rect.unit (s := S8x512x256) o2 S1x128x256.size i2, w2⟩
        :: ⟨Rect.unit (s := S8x512x256) o1 S1x128x256.size i1, w1⟩ :: ⟨Rect.unit (s := S8x512x256) o0 S1x128x256.size i0, w0⟩ :: L)) (ix3 b a s)
      = if (b : ℕ) = k then ((W ⟨a / 128, by omega⟩ ⟨a % 128, by omega⟩ s : ℝ) : EReal)
        else v.read (Elt Ideal) (v.writes (Elt Ideal) f L) (ix3 b a s) := by
  rw [View.read_writes_cons_put v f i3 w3 _ h3, put_piece, View.read_writes_cons_put v f i2 w2 _ h2, put_piece,
    View.read_writes_cons_put v f i1 w1 _ h1, put_piece, View.read_writes_cons_put v f i0 w0 _ h0, put_piece]
  by_cases hb : (b : ℕ) = k
  · simp only [hb, true_and, if_true]
    have ha : (a : ℕ) / 128 < 4 := by omega
    rcases (by omega : (a : ℕ) / 128 = 3 ∨ (a : ℕ) / 128 = 2 ∨ (a : ℕ) / 128 = 1 ∨ (a : ℕ) / 128 = 0) with h | h | h | h
    · rw [if_pos h, e3, show (⟨a / 128, ha⟩ : Fin 4) = 3 from Fin.ext h]
    · rw [if_neg (by omega), if_pos h, e2, show (⟨a / 128, ha⟩ : Fin 4) = 2 from Fin.ext h]
    · rw [if_neg (by omega), if_neg (by omega), if_pos h, e1, show (⟨a / 128, ha⟩ : Fin 4) = 1 from Fin.ext h]
    · rw [if_neg (by omega), if_neg (by omega), if_neg (by omega), if_pos h, e0, show (⟨a / 128, ha⟩ : Fin 4) = 0 from Fin.ext h]
  · simp only [hb, false_and, if_false]

/-- What one key block adds to the accumulators of the key and the value gradient. -/
def dkG (Q : Fin 4 → Fin 512 → Fin 128 → ℝ) (z w : Fin 4 → ℕ → ℕ → ℕ → ℝ) (n : ℕ) (p : Fin 4) (c : Fin 128) (s : ℕ) : ℝ :=
  ∑ r, Q p r c * dzR (z p) (w p) n r s
def dvG (D : Fin 4 → Fin 512 → Fin 128 → ℝ) (z : Fin 4 → ℕ → ℕ → ℕ → ℝ) (n : ℕ) (p : Fin 4) (c : Fin 128) (s : ℕ) : ℝ :=
  ∑ r, D p r c * attR (z p) n r s

/-- An accumulator holding `S` and, in the key blocks before `k`, the contribution `U`. -/
def Holds (x : S8x512x256.Idx → EReal) (S : Fin 8 → Fin 512 → Fin 256 → ℝ) (U : Fin 4 → Fin 128 → ℕ → ℝ) (k : ℕ) : Prop :=
  ∀ (b : Fin 8) (a : Fin 512) (s : Fin 256), x (ix3 b a s)
    = ((S b a s + if (b : ℕ) < k then U ⟨a / 128, by omega⟩ ⟨a % 128, by omega⟩ (256 * b + s) else 0 : ℝ) : EReal)

/-- The carried pair after `k` key blocks. -/
def Carried (z w : ℕ → ℕ → ℕ → ℝ) (K : ℕ → Fin 128 → ℝ) (n k : ℕ) (x : FVec Ideal S512x128 .f32) (g : FVec Ideal S512x1 .f32) : Prop :=
  (∀ a c, x (ix2 a c) = ((dqR z w K n a c (256 * k) : ℝ) : EReal)) ∧ (∀ a, g (ix2 a 0) = ((gpR z w n a (256 * k) : ℝ) : EReal))

theorem Holds.at_window {x : S8x512x256.Idx → EReal} {S : Fin 8 → Fin 512 → Fin 256 → ℝ} {U : Fin 4 → Fin 128 → ℕ → ℝ} {k : ℕ} (h : Holds x S U k)
    (hk : k < 8) (p : Fin 4) (inb : ∀ a : Fin 3, ![k, 128 * (p : ℕ), 0] a + S1x128x256.size a ≤ S8x512x256.size a) (c : Fin 128) (s : Fin 256) :
    VecWindow.window (s := S8x512x256) x ![k, 128 * (p : ℕ), 0] S1x128x256.size inb (ix3 0 c s)
      = ((S ⟨k, hk⟩ ⟨128 * p + c, by omega⟩ s : ℝ) : EReal) := by
  rw [window_piece x k p hk p.isLt, h, if_neg (lt_irrefl _), add_zero]

theorem Holds.next {x y : S8x512x256.Idx → EReal} {S : Fin 8 → Fin 512 → Fin 256 → ℝ} {U : Fin 4 → Fin 128 → ℕ → ℝ} {k : ℕ} (h : Holds x S U k) (hk : k < 8)
    (hy : ∀ (b : Fin 8) (a : Fin 512) (s : Fin 256), y (ix3 b a s) = if (b : ℕ) = k then
      ((S ⟨k, hk⟩ ⟨128 * (a / 128) + a % 128, by omega⟩ s + U ⟨a / 128, by omega⟩ ⟨a % 128, by omega⟩ (256 * k + s) : ℝ) : EReal) else x (ix3 b a s)) :
    Holds y S U (k + 1) := by
  intro b a s
  rw [hy]
  by_cases hb : (b : ℕ) = k
  · subst hb
    rw [if_pos rfl, if_pos (Nat.lt_succ_self _)]
    congr 3
    exact Fin.ext (by show 128 * ((a : ℕ) / 128) + a % 128 = a; omega)
  · rw [if_neg hb, h]
    congr 3
    exact propext ⟨fun h => by omega, fun h => by omega⟩

section

variable (𝒱 : Variants) (c : Dev nD) (bd : Option 𝒱.V) (i : grid0.Coords) (arg3 : Memref sig .tc .vmem S256x512 .bf16) (harg3 : arg3.IsWhole) (arg4 : Memref sig .tc .vmem S256x512 .bf16) (harg4 : arg4.IsWhole) (arg5 : Memref sig .tc .vmem S1x4x256x128 .f32) (harg5 : arg5.IsWhole) (arg6 : Memref sig .tc .vmem S256x512 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S256x512 .bf16) (harg13 : arg13.IsWhole) (arg14 : Memref sig .tc .vmem S8x512x256 .f32) (harg14 : arg14.IsWhole) (arg15 : Memref sig .tc .vmem S8x512x256 .f32) (harg15 : arg15.IsWhole) (arg2 : BitVec 32) (v66 : FVec Ideal S512x128 .bf16) (v73 : FVec Ideal S512x128 .bf16) (v104 : FVec Ideal S512x128 .bf16) (v111 : FVec Ideal S512x128 .bf16) (v142 : FVec Ideal S512x128 .bf16) (v149 : FVec Ideal S512x128 .bf16) (v180 : FVec Ideal S512x128 .bf16) (v187 : FVec Ideal S512x128 .bf16) (v190 : FVec Ideal S128x512 .bf16) (v193 : FVec Ideal S128x512 .bf16) (v196 : FVec Ideal S128x512 .bf16) (v199 : FVec Ideal S128x512 .bf16) (v202 : FVec Ideal S128x512 .bf16) (v205 : FVec Ideal S128x512 .bf16) (v208 : FVec Ideal S128x512 .bf16) (v210 : FVec Ideal S128x512 .f32) (X_arg5 : BufTy.Contents (Elt Ideal) arg5.view.ty) (X_arg7 : BufTy.Contents (Elt Ideal) arg7.view.ty) (X_arg8 : BufTy.Contents (Elt Ideal) arg8.view.ty)
variable (G_arg14 : BufTy.Contents (Elt Ideal) arg14.view.ty) (G_arg15 : BufTy.Contents (Elt Ideal) arg15.view.ty)
  (init : FVec Ideal S512x128 .f32 × FVec Ideal S512x1 .f32 × FVec Ideal S512x128 .f32 × FVec Ideal S512x1 .f32 × FVec Ideal S512x128 .f32 × FVec Ideal S512x1 .f32 × FVec Ideal S512x128 .f32 × FVec Ideal S512x1 .f32)
variable {Q D : Fin 4 → Fin 512 → Fin 128 → ℝ} {K V : Fin 4 → ℕ → Fin 128 → ℝ} {Rt : Fin 4 → Fin 256 → Fin 128 → ℝ} {z w : Fin 4 → ℕ → ℕ → ℕ → ℝ}
  {S14 S15 : Fin 8 → Fin 512 → Fin 256 → ℝ}

/-- The rows of one key block, read out of the whole sequence. -/
def Rows (x : S2048x512.Idx → EReal) (K : Fin 4 → ℕ → Fin 128 → ℝ) : Prop :=
  ∀ (s : Fin 2048) (p : Fin 4) (c : Fin 128), x (ix2 s ⟨128 * p + c, by omega⟩) = ((K p s c : ℝ) : EReal)

theorem keyAt0_read {X : BufTy.Contents (Elt Ideal) arg7.view.ty} (h : Rows (arg7.view.read (Elt Ideal) X) K) (k : Fin (k0_t1_loop i).trips) (s : Fin 256) (c : Fin 128) :
    keyAt0 i arg7 X k (ix2 s c) = ((K 0 (256 * (k : ℕ) + s) c : ℝ) : EReal) := by
  unfold keyAt0
  have hk := trip_lt i k
  rw [View.readAt_unit arg7.view X _ (key_off0 i k) (key_off0 i k ▸ k0_off1_inb i k), window_rows _ _ 0 hk (by omega)]
  exact h ⟨256 * k + s, by omega⟩ 0 c

theorem oldAt0_read {f : BufTy.Contents (Elt Ideal) arg14.view.ty} {U : Fin 4 → Fin 128 → ℕ → ℝ} (k : Fin (k0_t1_loop i).trips) (h : Holds (arg14.view.read (Elt Ideal) f) S14 U k) (c : Fin 128) (s : Fin 256) :
    oldAt0 i arg14 f k (ix3 0 c s) = ((S14 ⟨k, trip_lt i k⟩ ⟨128 * 0 + c, by omega⟩ s : ℝ) : EReal) := by
  unfold oldAt0
  rw [View.readAt_unit arg14.view f _ (old_off0 i k) (old_off0 i k ▸ k0_off2_inb i k)]
  exact h.at_window (trip_lt i k) 0 _ c s

theorem keyAt1_read {X : BufTy.Contents (Elt Ideal) arg7.view.ty} (h : Rows (arg7.view.read (Elt Ideal) X) K) (k : Fin (k0_t1_loop i).trips) (s : Fin 256) (c : Fin 128) :
    keyAt1 i arg7 X k (ix2 s c) = ((K 1 (256 * (k : ℕ) + s) c : ℝ) : EReal) := by
  unfold keyAt1
  have hk := trip_lt i k
  rw [View.readAt_unit arg7.view X _ (key_off1 i k) (key_off1 i k ▸ k0_off3_inb i k), window_rows _ _ 1 hk (by omega)]
  exact h ⟨256 * k + s, by omega⟩ 1 c

theorem oldAt1_read {f : BufTy.Contents (Elt Ideal) arg14.view.ty} {U : Fin 4 → Fin 128 → ℕ → ℝ} (k : Fin (k0_t1_loop i).trips) (h : Holds (arg14.view.read (Elt Ideal) f) S14 U k) (c : Fin 128) (s : Fin 256) :
    oldAt1 i arg14 f k (ix3 0 c s) = ((S14 ⟨k, trip_lt i k⟩ ⟨128 * 1 + c, by omega⟩ s : ℝ) : EReal) := by
  unfold oldAt1
  rw [View.readAt_unit arg14.view f _ (old_off1 i k) (old_off1 i k ▸ k0_off4_inb i k)]
  exact h.at_window (trip_lt i k) 1 _ c s

theorem keyAt2_read {X : BufTy.Contents (Elt Ideal) arg7.view.ty} (h : Rows (arg7.view.read (Elt Ideal) X) K) (k : Fin (k0_t1_loop i).trips) (s : Fin 256) (c : Fin 128) :
    keyAt2 i arg7 X k (ix2 s c) = ((K 2 (256 * (k : ℕ) + s) c : ℝ) : EReal) := by
  unfold keyAt2
  have hk := trip_lt i k
  rw [View.readAt_unit arg7.view X _ (key_off2 i k) (key_off2 i k ▸ k0_off5_inb i k), window_rows _ _ 2 hk (by omega)]
  exact h ⟨256 * k + s, by omega⟩ 2 c

theorem oldAt2_read {f : BufTy.Contents (Elt Ideal) arg14.view.ty} {U : Fin 4 → Fin 128 → ℕ → ℝ} (k : Fin (k0_t1_loop i).trips) (h : Holds (arg14.view.read (Elt Ideal) f) S14 U k) (c : Fin 128) (s : Fin 256) :
    oldAt2 i arg14 f k (ix3 0 c s) = ((S14 ⟨k, trip_lt i k⟩ ⟨128 * 2 + c, by omega⟩ s : ℝ) : EReal) := by
  unfold oldAt2
  rw [View.readAt_unit arg14.view f _ (old_off2 i k) (old_off2 i k ▸ k0_off6_inb i k)]
  exact h.at_window (trip_lt i k) 2 _ c s

theorem keyAt3_read {X : BufTy.Contents (Elt Ideal) arg7.view.ty} (h : Rows (arg7.view.read (Elt Ideal) X) K) (k : Fin (k0_t1_loop i).trips) (s : Fin 256) (c : Fin 128) :
    keyAt3 i arg7 X k (ix2 s c) = ((K 3 (256 * (k : ℕ) + s) c : ℝ) : EReal) := by
  unfold keyAt3
  have hk := trip_lt i k
  rw [View.readAt_unit arg7.view X _ (key_off3 i k) (key_off3 i k ▸ k0_off7_inb i k), window_rows _ _ 3 hk (by omega)]
  exact h ⟨256 * k + s, by omega⟩ 3 c

theorem oldAt3_read {f : BufTy.Contents (Elt Ideal) arg14.view.ty} {U : Fin 4 → Fin 128 → ℕ → ℝ} (k : Fin (k0_t1_loop i).trips) (h : Holds (arg14.view.read (Elt Ideal) f) S14 U k) (c : Fin 128) (s : Fin 256) :
    oldAt3 i arg14 f k (ix3 0 c s) = ((S14 ⟨k, trip_lt i k⟩ ⟨128 * 3 + c, by omega⟩ s : ℝ) : EReal) := by
  unfold oldAt3
  rw [View.readAt_unit arg14.view f _ (old_off3 i k) (old_off3 i k ▸ k0_off8_inb i k)]
  exact h.at_window (trip_lt i k) 3 _ c s

/-- The state after `k` trips. -/
def Inv (K : Fin 4 → ℕ → Fin 128 → ℝ) (Q D : Fin 4 → Fin 512 → Fin 128 → ℝ) (z w : Fin 4 → ℕ → ℕ → ℕ → ℝ) (S14 S15 : Fin 8 → Fin 512 → Fin 256 → ℝ) (k : ℕ)
    (s : (FVec Ideal S512x128 .f32 × FVec Ideal S512x1 .f32 × FVec Ideal S512x128 .f32 × FVec Ideal S512x1 .f32 × FVec Ideal S512x128 .f32 × FVec Ideal S512x1 .f32 × FVec Ideal S512x128 .f32 × FVec Ideal S512x1 .f32)
      × List (View.Piece (Elt Ideal) S8x512x256 .f32) × List (View.Piece (Elt Ideal) S8x512x256 .f32)) : Prop :=
  (Carried (z 0) (w 0) (K 0) (i 2).val k s.1.1 s.1.2.1
      ∧ Carried (z 1) (w 1) (K 1) (i 2).val k s.1.2.2.1 s.1.2.2.2.1
      ∧ Carried (z 2) (w 2) (K 2) (i 2).val k s.1.2.2.2.2.1 s.1.2.2.2.2.2.1
      ∧ Carried (z 3) (w 3) (K 3) (i 2).val k s.1.2.2.2.2.2.2.1 s.1.2.2.2.2.2.2.2)
    ∧ Holds (arg14.view.read (Elt Ideal) (arg14.view.writes (Elt Ideal) G_arg14 s.2.1)) S14 (dkG Q z w (i 2).val) k
    ∧ Holds (arg15.view.read (Elt Ideal) (arg15.view.writes (Elt Ideal) G_arg15 s.2.2)) S15 (dvG D z (i 2).val) k

theorem loop_step (P0 : PairIn (i 2).val v73 v66 v190 v202 (sumsAt0 arg5 X_arg5) (Q 0) (D 0) (K 0) (V 0) (Rt 0) (z 0) (w 0)) (P1 : PairIn (i 2).val v111 v104 v193 v205 (sumsAt1 arg5 X_arg5) (Q 1) (D 1) (K 1) (V 1) (Rt 1) (z 1) (w 1)) (P2 : PairIn (i 2).val v149 v142 v196 v208 (sumsAt2 arg5 X_arg5) (Q 2) (D 2) (K 2) (V 2) (Rt 2) (z 2) (w 2)) (P3 : PairIn (i 2).val v187 v180 v199 (k0_pay186 v210) (sumsAt3 arg5 X_arg5) (Q 3) (D 3) (K 3) (V 3) (Rt 3) (z 3) (w 3))
    (h7 : Rows (arg7.view.read (Elt Ideal) X_arg7) K) (h8 : Rows (arg8.view.read (Elt Ideal) X_arg8) V) (k : Fin (k0_t1_loop i).trips)
    (I : Inv i arg14 arg15 G_arg14 G_arg15 K Q D z w S14 S15 k (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 lanes k0_pay149 cols k0_pay151 k0_pay152 v66 v73 v104 v111 v142 v149 v180 v187 v190 v193 v196 v199 v202 v205 v208 v210 X_arg5 X_arg7 X_arg8 G_arg14 G_arg15 init k)) :
    Inv i arg14 arg15 G_arg14 G_arg15 K Q D z w S14 S15 (k + 1) (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 lanes k0_pay149 cols k0_pay151 k0_pay152 v66 v73 v104 v111 v142 v149 v180 v187 v190 v193 v196 v199 v202 v205 v208 v210 X_arg5 X_arg7 X_arg8 G_arg14 G_arg15 init (k.val + 1)) := by
  rw [st_k0_t1_succ, trip_result, trip_pieces]
  generalize st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 lanes k0_pay149 cols k0_pay151 k0_pay152 v66 v73 v104 v111 v142 v149 v180 v187 v190 v193 v196 v199 v202 v205 v208 v210 X_arg5 X_arg7 X_arg8 G_arg14 G_arg15 init k = s at I ⊢
  have hk8 := trip_lt i k
  have hki := trip_lt' i k
  obtain ⟨⟨⟨x0, g0⟩, ⟨x1, g1⟩, ⟨x2, g2⟩, ⟨x3, g3⟩⟩, I14, I15⟩ := I
  rw [iv_eq]
  refine ⟨⟨⟨dqT_read P0 hk8 hki (keyAt0_read i arg7 h7 k) (keyAt0_read i arg8 h8 k) g0 x0, gT_read P0 hk8 hki (keyAt0_read i arg7 h7 k) (keyAt0_read i arg8 h8 k) g0⟩, ⟨dqT_read P1 hk8 hki (keyAt1_read i arg7 h7 k) (keyAt1_read i arg8 h8 k) g1 x1, gT_read P1 hk8 hki (keyAt1_read i arg7 h7 k) (keyAt1_read i arg8 h8 k) g1⟩, ⟨dqT_read P2 hk8 hki (keyAt2_read i arg7 h7 k) (keyAt2_read i arg8 h8 k) g2 x2, gT_read P2 hk8 hki (keyAt2_read i arg7 h7 k) (keyAt2_read i arg8 h8 k) g2⟩, ⟨dqT_read P3 hk8 hki (keyAt3_read i arg7 h7 k) (keyAt3_read i arg8 h8 k) g3 x3, gT_read P3 hk8 hki (keyAt3_read i arg7 h7 k) (keyAt3_read i arg8 h8 k) g3⟩⟩,
    I14.next hk8 ?_, I15.next hk8 ?_⟩
  · exact four_pieces (W := fun p c s => S14 ⟨k, hk8⟩ ⟨128 * p + c, by omega⟩ s + dkG Q z w (i 2).val p c (256 * k + s)) arg14.view _ _
      (old_off0 i k) (old_off1 i k) (old_off2 i k) (old_off3 i k)
      (dkT_read P0 hk8 hki (keyAt0_read i arg7 h7 k) (keyAt0_read i arg8 h8 k) g0 (oldAt0_read i arg14 k I14))
      (dkT_read P1 hk8 hki (keyAt1_read i arg7 h7 k) (keyAt1_read i arg8 h8 k) g1 (oldAt1_read i arg14 k I14))
      (dkT_read P2 hk8 hki (keyAt2_read i arg7 h7 k) (keyAt2_read i arg8 h8 k) g2 (oldAt2_read i arg14 k I14))
      (dkT_read P3 hk8 hki (keyAt3_read i arg7 h7 k) (keyAt3_read i arg8 h8 k) g3 (oldAt3_read i arg14 k I14))
  · exact four_pieces (W := fun p c s => S15 ⟨k, hk8⟩ ⟨128 * p + c, by omega⟩ s + dvG D z (i 2).val p c (256 * k + s)) arg15.view _ _
      (old_off0 i k) (old_off1 i k) (old_off2 i k) (old_off3 i k)
      (dvT_read P0 hk8 hki (keyAt0_read i arg7 h7 k) (oldAt0_read i arg15 k I15))
      (dvT_read P1 hk8 hki (keyAt1_read i arg7 h7 k) (oldAt1_read i arg15 k I15))
      (dvT_read P2 hk8 hki (keyAt2_read i arg7 h7 k) (oldAt2_read i arg15 k I15))
      (dvT_read P3 hk8 hki (keyAt3_read i arg7 h7 k) (oldAt3_read i arg15 k I15))

theorem loop_state (P0 : PairIn (i 2).val v73 v66 v190 v202 (sumsAt0 arg5 X_arg5) (Q 0) (D 0) (K 0) (V 0) (Rt 0) (z 0) (w 0)) (P1 : PairIn (i 2).val v111 v104 v193 v205 (sumsAt1 arg5 X_arg5) (Q 1) (D 1) (K 1) (V 1) (Rt 1) (z 1) (w 1)) (P2 : PairIn (i 2).val v149 v142 v196 v208 (sumsAt2 arg5 X_arg5) (Q 2) (D 2) (K 2) (V 2) (Rt 2) (z 2) (w 2)) (P3 : PairIn (i 2).val v187 v180 v199 (k0_pay186 v210) (sumsAt3 arg5 X_arg5) (Q 3) (D 3) (K 3) (V 3) (Rt 3) (z 3) (w 3))
    (h7 : Rows (arg7.view.read (Elt Ideal) X_arg7) K) (h8 : Rows (arg8.view.read (Elt Ideal) X_arg8) V)
    (h0 : Inv i arg14 arg15 G_arg14 G_arg15 K Q D z w S14 S15 0 (init, [], [])) (k : ℕ) (hk : k ≤ (k0_t1_loop i).trips) :
    Inv i arg14 arg15 G_arg14 G_arg15 K Q D z w S14 S15 k (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 lanes k0_pay149 cols k0_pay151 k0_pay152 v66 v73 v104 v111 v142 v149 v180 v187 v190 v193 v196 v199 v202 v205 v208 v210 X_arg5 X_arg7 X_arg8 G_arg14 G_arg15 init k) := by
  induction k with
  | zero => exact h0
  | succ n ih =>
    exact loop_step _ _ _ _ _ _ _ _ _ _ _ _ _ _ _ _ _ _ _ _ _ _ _ _ _ _ _ _ _ _ _ _ _ _ _ _ _ _ _ _ _ _ _ _ _ _ _ _ _ _ _ _ _ P0 P1 P2 P3 h7 h8 ⟨n, hk⟩ (ih (Nat.le_of_succ_le hk))

end

end Cert.KernelIdeal.Own

end
-- ==== Proof.Diag.lean ====
/-
The rest of one point of the kernel, beside its block loop: the operands a pair of heads is worked with, the tile on the
diagonal, and the two outputs stored at every point.
-/
module

public import proofs.«01_k».proof.Proof.Loop

@[expose] public section

set_option maxRecDepth 16384

noncomputable section

namespace Cert.KernelIdeal.Own

open Cert.KernelIdeal Cert.KernelIdeal.Gen Idealize.ShloMosaic Idealize.ShloMosaic.TcCoe Idealize.SL.Sem
open Cert.Stick

section Defs

variable {F : FTy → Type} [FloatOps F]

/-- The scaled queries of a pair, stacked by head. -/
def qS (q : Vec F S256x128 .bf16) : FVec F S512x128 .bf16 := k0_pay159 k0_pay150 q
/-- The gradient reaching the attention's output, stacked by head. -/
def dS (gate d : Vec F S256x128 .bf16) : FVec F S512x128 .bf16 := k0_pay158 k0_pay150 (k0_pay153 gate) (k0_pay154 gate) d
def flip (x : FVec F S512x128 .bf16) : FVec F S128x512 .bf16 := k0_pay178 x
/-- The gate's gradient. -/
def gateG (gate d o : Vec F S256x128 .bf16) : FVec F S256x128 .bf16 := k0_pay157 (k0_pay153 gate) (k0_pay154 gate) d o
/-- The query gradient as stored. -/
def dqO (x : FVec F S512x128 .f32) : FVec F S256x128 .bf16 := k0_pay239 k0_pay150 x

abbrev flag (n : BitVec 32) : IVec S512x256 1 := k0_pay200 n k0_pay149 cols

/-- The weights of the tile on the diagonal, its logit gradient, and what it adds. -/
def attD (q : FVec F S512x128 .bf16) (n : BitVec 32) (k : Vec F S256x128 .bf16) (r : Vec F S1x1x256x128 .f32) : FVec F S512x256 .f32 :=
  k0_pay206 k0_pay151 q (flag n) k (k0_pay202 n lanes r) (k0_pay203 n lanes r)
def dzD (q d : FVec F S512x128 .bf16) (g : FVec F S512x1 .f32) (n : BitVec 32) (k v : Vec F S256x128 .bf16) (r : Vec F S1x1x256x128 .f32) :
    FVec F S512x256 .bf16 :=
  k0_pay207 k0_pay151 k0_pay152 d q g (flag n) k v (k0_pay202 n lanes r) (k0_pay203 n lanes r)
def dqD (x : FVec F S512x128 .f32) (q d : FVec F S512x128 .bf16) (g : FVec F S512x1 .f32) (n : BitVec 32) (k v : Vec F S256x128 .bf16)
    (r : Vec F S1x1x256x128 .f32) : FVec F S512x128 .f32 :=
  k0_pay34 x k (dzD q d g n k v r)
def dkD (t : FVec F S128x512 .bf16) (q d : FVec F S512x128 .bf16) (g : FVec F S512x1 .f32) (n : BitVec 32) (k v : Vec F S256x128 .bf16)
    (r : Vec F S1x1x256x128 .f32) (old : Vec F S1x128x256 .f32) : Vec F S1x128x256 .f32 :=
  k0_pay32 t (dzD q d g n k v r) old
def dvD (t : FVec F S128x512 .bf16) (q : FVec F S512x128 .bf16) (n : BitVec 32) (k : Vec F S256x128 .bf16)
    (r : Vec F S1x1x256x128 .f32) (old : Vec F S1x128x256 .f32) : Vec F S1x128x256 .f32 :=
  k0_pay11 t (attD q n k r) old

abbrev laneAt0 (arg3 : Memref sig .tc .vmem S256x512 .bf16) (X : BufTy.Contents (Elt F) arg3.view.ty) : Vec F S256x128 .bf16 :=
  arg3.view.readAt (Elt F) (Rect.unit (s := S256x512) ![0, 0] S256x128.size inb_S256x512_S256x128_0_0).toLoadRect X

abbrev keyD0 (i : grid0.Coords) (arg7 : Memref sig .tc .vmem S2048x512 .bf16) (X : BufTy.Contents (Elt F) arg7.view.ty) : Vec F S256x128 .bf16 :=
  arg7.view.readAt (Elt F) (Rect.unit (s := S2048x512) (k0_off17 i) S256x128.size (k0_off17_inb i)).toLoadRect X

abbrev oldD0 (i : grid0.Coords) (arg14 : Memref sig .tc .vmem S8x512x256 .f32) (f : BufTy.Contents (Elt F) arg14.view.ty) : Vec F S1x128x256 .f32 :=
  arg14.view.readAt (Elt F) (Rect.unit (s := S8x512x256) (k0_off18 i) S1x128x256.size (k0_off18_inb i)).toLoadRect f

abbrev laneAt1 (arg3 : Memref sig .tc .vmem S256x512 .bf16) (X : BufTy.Contents (Elt F) arg3.view.ty) : Vec F S256x128 .bf16 :=
  arg3.view.readAt (Elt F) (Rect.unit (s := S256x512) ![0, 128] S256x128.size inb_S256x512_S256x128_0_128).toLoadRect X

abbrev keyD1 (i : grid0.Coords) (arg7 : Memref sig .tc .vmem S2048x512 .bf16) (X : BufTy.Contents (Elt F) arg7.view.ty) : Vec F S256x128 .bf16 :=
  arg7.view.readAt (Elt F) (Rect.unit (s := S2048x512) (k0_off19 i) S256x128.size (k0_off19_inb i)).toLoadRect X

abbrev oldD1 (i : grid0.Coords) (arg14 : Memref sig .tc .vmem S8x512x256 .f32) (f : BufTy.Contents (Elt F) arg14.view.ty) : Vec F S1x128x256 .f32 :=
  arg14.view.readAt (Elt F) (Rect.unit (s := S8x512x256) (k0_off20 i) S1x128x256.size (k0_off20_inb i)).toLoadRect f

abbrev laneAt2 (arg3 : Memref sig .tc .vmem S256x512 .bf16) (X : BufTy.Contents (Elt F) arg3.view.ty) : Vec F S256x128 .bf16 :=
  arg3.view.readAt (Elt F) (Rect.unit (s := S256x512) ![0, 256] S256x128.size inb_S256x512_S256x128_0_256).toLoadRect X

abbrev keyD2 (i : grid0.Coords) (arg7 : Memref sig .tc .vmem S2048x512 .bf16) (X : BufTy.Contents (Elt F) arg7.view.ty) : Vec F S256x128 .bf16 :=
  arg7.view.readAt (Elt F) (Rect.unit (s := S2048x512) (k0_off21 i) S256x128.size (k0_off21_inb i)).toLoadRect X

abbrev oldD2 (i : grid0.Coords) (arg14 : Memref sig .tc .vmem S8x512x256 .f32) (f : BufTy.Contents (Elt F) arg14.view.ty) : Vec F S1x128x256 .f32 :=
  arg14.view.readAt (Elt F) (Rect.unit (s := S8x512x256) (k0_off22 i) S1x128x256.size (k0_off22_inb i)).toLoadRect f

abbrev laneAt3 (arg3 : Memref sig .tc .vmem S256x512 .bf16) (X : BufTy.Contents (Elt F) arg3.view.ty) : Vec F S256x128 .bf16 :=
  arg3.view.readAt (Elt F) (Rect.unit (s := S256x512) ![0, 384] S256x128.size inb_S256x512_S256x128_0_384).toLoadRect X

abbrev keyD3 (i : grid0.Coords) (arg7 : Memref sig .tc .vmem S2048x512 .bf16) (X : BufTy.Contents (Elt F) arg7.view.ty) : Vec F S256x128 .bf16 :=
  arg7.view.readAt (Elt F) (Rect.unit (s := S2048x512) (k0_off23 i) S256x128.size (k0_off23_inb i)).toLoadRect X

abbrev oldD3 (i : grid0.Coords) (arg14 : Memref sig .tc .vmem S8x512x256 .f32) (f : BufTy.Contents (Elt F) arg14.view.ty) : Vec F S1x128x256 .f32 :=
  arg14.view.readAt (Elt F) (Rect.unit (s := S8x512x256) (k0_off24 i) S1x128x256.size (k0_off24_inb i)).toLoadRect f

end Defs

/-! ## At a pair's operands -/

section Read

variable {i : ℕ} {q d : FVec Ideal S512x128 .bf16} {t td : FVec Ideal S128x512 .bf16} {r : Vec Ideal S1x1x256x128 .f32}
  {Q D : Fin 512 → Fin 128 → ℝ} {K V : ℕ → Fin 128 → ℝ} {Rt : Fin 256 → Fin 128 → ℝ} {z w : ℕ → ℕ → ℕ → ℝ}
  {k v : Vec Ideal S256x128 .bf16} {g : FVec Ideal S512x1 .f32} {x : FVec Ideal S512x128 .f32} {old : Vec Ideal S1x128x256 .f32}
  {O : Fin 128 → Fin 256 → ℝ}

variable (P : PairIn i q d t td r Q D K V Rt z w) (hi : i < 8)
  (hk : ∀ s c, k (ix2 s c) = ((K (256 * i + (s : Fin 256)) c : ℝ) : EReal))
include P hi hk

theorem attD_read (a : Fin 512) (s : Fin 256) :
    attD q (BitVec.ofNat 32 i) k r (ix2 a s) = ((attR z i a (256 * i + s) : ℝ) : EReal) := by
  unfold attD
  rw [diag_att_read (z_tile P hi hk) P.r_eq i hi (mask_read _), show attR z i a (256 * i + s) = _ from (attB_eq z i i hi a s).symm]
  unfold attB
  simp only [Nat.add_lt_add_iff_left, P.R_eq i hi le_rfl]

variable (hv : ∀ s c, v (ix2 s c) = ((V (256 * i + (s : Fin 256)) c : ℝ) : EReal))
  (hg : ∀ a, g (ix2 a 0) = ((gpR z w i a (256 * i) : ℝ) : EReal))
include hv hg

theorem dzD_read (a : Fin 512) (s : Fin 256) :
    dzD q d g (BitVec.ofNat 32 i) k v r (ix2 a s) = ((dzR z w i a (256 * i + s) : ℝ) : EReal) := by
  unfold dzD
  rw [diag_dz_read (mask_read _) (attD_read P hi hk) (z_tile P hi hk) (w_tile P hi hv) hg]
  rw [show dzR z w i a (256 * i + s) = _ from (dzB_eq z w i i hi a s).symm]
  unfold dzB gB
  simp only [deB_eq z w i i hi]
  simp only [Nat.add_lt_add_iff_left]
  rfl

theorem dqD_read (hx : ∀ a c, x (ix2 a c) = ((dqR z w K i a c (256 * i) : ℝ) : EReal)) (a : Fin 512) (c : Fin 128) :
    dqD x q d g (BitVec.ofNat 32 i) k v r (ix2 a c) = ((dqR z w K i a c (256 * (i + 1)) : ℝ) : EReal) := by
  unfold dqD
  rw [dq_read hx hk (dzD_read P hi hk hv hg)]
  exact congrArg _ (dqR_next a c)

theorem dkD_read (ho : ∀ c s, old (ix3 0 c s) = ((O c s : ℝ) : EReal)) (c : Fin 128) (s : Fin 256) :
    dkD t q d g (BitVec.ofNat 32 i) k v r old (ix3 0 c s) = ((O c s + ∑ a, Q a c * dzR z w i a (256 * i + s) : ℝ) : EReal) := by
  unfold dkD
  rw [dk_read ho P.t_eq (dzD_read P hi hk hv hg)]

omit hv hg in
theorem dvD_read (ho : ∀ c s, old (ix3 0 c s) = ((O c s : ℝ) : EReal)) (c : Fin 128) (s : Fin 256) :
    dvD td q (BitVec.ofNat 32 i) k r old (ix3 0 c s) = ((O c s + ∑ a, D a c * attR z i a (256 * i + s) : ℝ) : EReal) := by
  unfold dvD
  rw [dv_read ho P.td_eq (attD_read P hi hk)]

end Read

/-! ## The operands from the loaded rows -/

/-- The logistic function as the body spells it. -/
def sgm (a : ℝ) : ℝ := (1 + Real.exp (-a))⁻¹

theorem sgm_coe (a : ℝ) : Ideal.div 1 (1 + Ideal.exp (0 - (a : EReal))) = ((sgm a : ℝ) : EReal) := by
  rw [← EReal.coe_zero, ← EReal.coe_one, ← EReal.coe_sub, Ideal.exp_coe, ← EReal.coe_add, Ideal.div_coe (by positivity), ← EReal.coe_mul]
  unfold sgm
  rw [zero_sub, one_mul, one_div]

theorem eighth_bf16 : Ideal.ofBits FTy.bf16 15872#16 = (((1 / 8 : ℝ)) : EReal) := by
  simp [Ideal.ofBits, Ideal.ieee]
  rw [← EReal.coe_mul]
  norm_num

theorem eighth_f32 : Ideal.ofBits FTy.f32 1040187392#32 = (((1 / 8 : ℝ)) : EReal) := by
  simp [Ideal.ofBits, Ideal.ieee]
  rw [← EReal.coe_mul]
  norm_num

/-- A row of the stack is its own head's lanes, and zero in the other head's. -/
def stackR (x : Fin 256 → Fin 128 → ℝ) (r : Fin 512) (c : Fin 128) : ℝ :=
  if (r : ℕ) / 256 = (c : ℕ) / 64 then x ⟨r % 256, by omega⟩ c else 0

theorem stack_read (f : Fin 256 → Fin 128 → ℝ) (r : Fin 512) (c : Fin 128) :
    (if h : (r : ℕ) < 256 then Scalar.select (IntOp.cmpi CmpIPredicate.slt (BitVec.ofNat 32 (c : ℕ)) 64#32) ((f ⟨r, h⟩ c : ℝ) : EReal) 0
      else Scalar.select (IntOp.cmpi CmpIPredicate.slt (BitVec.ofNat 32 (c : ℕ)) 64#32) 0 ((f ⟨r - 256, by omega⟩ c : ℝ) : EReal))
      = ((stackR f r c : ℝ) : EReal) := by
  rw [show (64#32 : BitVec 32) = BitVec.ofNat 32 64 from rfl, slt_flag _ _ (by omega) (by omega)]
  simp only [select_ofBool]
  unfold stackR
  have hr := r.isLt
  have hc := c.isLt
  by_cases h : (r : ℕ) < 256 <;> by_cases h' : (c : ℕ) < 64
  · rw [dif_pos h, if_pos h', if_pos (by omega)]; congr 3; omega
  · rw [dif_pos h, if_neg h', if_neg (by omega)]; rfl
  · rw [dif_neg h, if_pos h', if_neg (by omega)]; rfl
  · rw [dif_neg h, if_neg h', if_pos (by omega)]; congr 3; omega

theorem qS_read {q : Vec Ideal S256x128 .bf16} {qr : Fin 256 → Fin 128 → ℝ} (h : ∀ ρ c, q (ix2 ρ c) = ((qr ρ c : ℝ) : EReal)) (r : Fin 512) (c : Fin 128) :
    qS q (ix2 r c) = ((stackR (fun ρ c => qr ρ c * (1 / 8)) r c : ℝ) : EReal) := by
  unfold qS
  pointwise [k0_pay159, k0_pay150, h]
  simp only [eighth_bf16, ← EReal.coe_mul]
  exact stack_read (fun ρ c => qr ρ c * (1 / 8)) r c

theorem dS_read {g d : Vec Ideal S256x128 .bf16} {gr dr : Fin 256 → Fin 128 → ℝ} (hg : ∀ ρ c, g (ix2 ρ c) = ((gr ρ c : ℝ) : EReal))
    (hd : ∀ ρ c, d (ix2 ρ c) = ((dr ρ c : ℝ) : EReal)) (r : Fin 512) (c : Fin 128) :
    dS g d (ix2 r c) = ((stackR (fun ρ c => dr ρ c * gr ρ c * sgm (gr ρ c)) r c : ℝ) : EReal) := by
  unfold dS
  pointwise [k0_pay158, k0_pay150, k0_pay156, k0_pay155, k0_pay154, k0_pay153, hg, hd]
  simp only [sgm_coe, ← EReal.coe_mul]
  exact stack_read (fun ρ c => dr ρ c * gr ρ c * sgm (gr ρ c)) r c

theorem flip_read (x : FVec Ideal S512x128 .bf16) (c : Fin 128) (r : Fin 512) : flip x (ix2 c r) = x (ix2 r c) := by
  unfold flip
  pointwise [k0_pay178]

theorem gateG_read {g d o : Vec Ideal S256x128 .bf16} {gr dr or : Fin 256 → Fin 128 → ℝ} (hg : ∀ ρ c, g (ix2 ρ c) = ((gr ρ c : ℝ) : EReal))
    (hd : ∀ ρ c, d (ix2 ρ c) = ((dr ρ c : ℝ) : EReal)) (ho : ∀ ρ c, o (ix2 ρ c) = ((or ρ c : ℝ) : EReal)) (r : Fin 256) (c : Fin 128) :
    gateG g d o (ix2 r c) = ((dr r c * or r c * sgm (gr r c) * (1 + gr r c * (1 - sgm (gr r c))) : ℝ) : EReal) := by
  unfold gateG
  pointwise [k0_pay157, k0_pay156, k0_pay155, k0_pay154, k0_pay153, hg, hd, ho]
  simp only [sgm_coe]
  simp only [← EReal.coe_one, ← EReal.coe_sub, ← EReal.coe_mul, ← EReal.coe_add]

theorem dqO_read {x : FVec Ideal S512x128 .f32} {X : Fin 512 → Fin 128 → ℝ} (h : ∀ r c, x (ix2 r c) = ((X r c : ℝ) : EReal)) (r : Fin 256) (c : Fin 128) :
    dqO x (ix2 r c) = ((X ⟨256 * (c / 64) + r, by omega⟩ c * (1 / 8) : ℝ) : EReal) := by
  unfold dqO
  pointwise [k0_pay239, k0_pay150, h]
  rw [eighth_f32, show (64#32 : BitVec 32) = BitVec.ofNat 32 64 from rfl, slt_flag _ _ (by omega) (by omega), select_ofBool]
  by_cases h' : (c : ℕ) < 64
  · rw [if_pos h', ← EReal.coe_mul]; congr 4; omega
  · rw [if_neg h', ← EReal.coe_mul]; congr 4; omega

/-- Zero carried in: the query gradient and the prefix sums before the first block. -/
theorem zero_read {q : FVec Ideal S512x128 .bf16} {Q : Fin 512 → Fin 128 → ℝ} (h : ∀ r c, q (ix2 r c) = ((Q r c : ℝ) : EReal)) (z w : ℕ → ℕ → ℕ → ℝ) (K : ℕ → Fin 128 → ℝ) (n : ℕ) :
    Carried z w K n 0 (k0_pay187 q) (k0_pay188 q) := by
  constructor
  · intro a c
    pointwise [k0_pay187, h]
    rw [← EReal.coe_zero, ← EReal.coe_mul, mul_zero]
    unfold dqR; simp
  · intro a
    pointwise [k0_pay188, k0_pay187, h]
    rw [← EReal.coe_zero, ← EReal.coe_mul, mul_zero]
    unfold gpR gp; simp

/-! ## The windows of a point -/

section Windows

variable (i : grid0.Coords)

theorem keyD_off0 : k0_off17 i = ![256 * (i 2).val, 128 * 0] := by
  refine funext fun a => ?_
  have hk := block_lt i
  fin_cases a
  · show (BitVec.ofNat 32 (i 2).val * 256#32).toNat = 256 * (i 2).val
    rw [BitVec.toNat_mul, BitVec.toNat_ofNat, BitVec.toNat_ofNat]; omega
  · rfl

theorem oldD_off0 : k0_off18 i = ![(i 2).val, 128 * 0, 0] := by
  refine funext fun a => ?_
  have hk := block_lt i
  fin_cases a
  · show (BitVec.ofNat 32 (i 2).val).toNat = (i 2).val
    rw [BitVec.toNat_ofNat]; omega
  · rfl
  · rfl

theorem keyD0_read {arg7 : Memref sig .tc .vmem S2048x512 .bf16} {X : BufTy.Contents (Elt Ideal) arg7.view.ty} {K : Fin 4 → ℕ → Fin 128 → ℝ}
    (h : Rows (arg7.view.read (Elt Ideal) X) K) (s : Fin 256) (c : Fin 128) :
    keyD0 i arg7 X (ix2 s c) = ((K 0 (256 * (i 2).val + s) c : ℝ) : EReal) := by
  unfold keyD0
  have hk := block_lt i
  rw [View.readAt_unit arg7.view X _ (keyD_off0 i) (keyD_off0 i ▸ k0_off17_inb i), window_rows _ _ 0 hk (by omega)]
  exact h ⟨256 * (i 2).val + s, by omega⟩ 0 c

theorem laneAt0_read {arg3 : Memref sig .tc .vmem S256x512 .bf16} {X : BufTy.Contents (Elt Ideal) arg3.view.ty} {d : Fin 4 → Fin 256 → Fin 128 → ℝ}
    (h : ∀ (ρ : Fin 256) (p : Fin 4) (c : Fin 128), arg3.view.read (Elt Ideal) X (ix2 ρ ⟨128 * p + c, by omega⟩) = ((d p ρ c : ℝ) : EReal)) (ρ : Fin 256) (c : Fin 128) :
    laneAt0 arg3 X (ix2 ρ c) = ((d 0 ρ c : ℝ) : EReal) := by
  unfold laneAt0
  rw [View.readAt_unit (off' := ![0, 128 * 0]) arg3.view X _ rfl inb_S256x512_S256x128_0_0, window_lanes _ 0 (by omega)]
  exact h ρ 0 c

theorem sumsAt0_read {arg5 : Memref sig .tc .vmem S1x4x256x128 .f32} {X : BufTy.Contents (Elt Ideal) arg5.view.ty} {R : Fin 4 → Fin 256 → Fin 128 → ℝ}
    (h : ∀ (p : Fin 4) (ρ : Fin 256) (l : Fin 128), arg5.view.read (Elt Ideal) X (ix4 0 p ρ l) = ((R p ρ l : ℝ) : EReal)) (ρ : Fin 256) (l : Fin 128) :
    sumsAt0 arg5 X (ix4 0 0 ρ l) = ((R 0 ρ l : ℝ) : EReal) := by
  unfold sumsAt0
  rw [View.readAt_unit (off' := ![0, 0, 0, 0]) arg5.view X _ rfl inb_S1x4x256x128_S1x1x256x128_0_0_0_0, window_sums _ 0 (by omega)]
  exact h 0 ρ l

/-- The accumulator's piece of this pair, read where nothing of the block has been stored yet. -/
theorem oldD0_read {arg14 : Memref sig .tc .vmem S8x512x256 .f32} {f : BufTy.Contents (Elt Ideal) arg14.view.ty} {O : Fin 128 → Fin 256 → ℝ}
    (h : ∀ (c : Fin 128) (s : Fin 256), arg14.view.read (Elt Ideal) f (ix3 ⟨(i 2).val, block_lt i⟩ ⟨128 * 0 + c, by omega⟩ s) = ((O c s : ℝ) : EReal)) (c : Fin 128) (s : Fin 256) :
    oldD0 i arg14 f (ix3 0 c s) = ((O c s : ℝ) : EReal) := by
  unfold oldD0
  rw [View.readAt_unit arg14.view f _ (oldD_off0 i) (oldD_off0 i ▸ k0_off18_inb i), window_piece _ _ 0 (block_lt i) (by omega)]
  exact h c s

theorem keyD_off1 : k0_off19 i = ![256 * (i 2).val, 128 * 1] := by
  refine funext fun a => ?_
  have hk := block_lt i
  fin_cases a
  · show (BitVec.ofNat 32 (i 2).val * 256#32).toNat = 256 * (i 2).val
    rw [BitVec.toNat_mul, BitVec.toNat_ofNat, BitVec.toNat_ofNat]; omega
  · rfl

theorem oldD_off1 : k0_off20 i = ![(i 2).val, 128 * 1, 0] := by
  refine funext fun a => ?_
  have hk := block_lt i
  fin_cases a
  · show (BitVec.ofNat 32 (i 2).val).toNat = (i 2).val
    rw [BitVec.toNat_ofNat]; omega
  · rfl
  · rfl

theorem keyD1_read {arg7 : Memref sig .tc .vmem S2048x512 .bf16} {X : BufTy.Contents (Elt Ideal) arg7.view.ty} {K : Fin 4 → ℕ → Fin 128 → ℝ}
    (h : Rows (arg7.view.read (Elt Ideal) X) K) (s : Fin 256) (c : Fin 128) :
    keyD1 i arg7 X (ix2 s c) = ((K 1 (256 * (i 2).val + s) c : ℝ) : EReal) := by
  unfold keyD1
  have hk := block_lt i
  rw [View.readAt_unit arg7.view X _ (keyD_off1 i) (keyD_off1 i ▸ k0_off19_inb i), window_rows _ _ 1 hk (by omega)]
  exact h ⟨256 * (i 2).val + s, by omega⟩ 1 c

theorem laneAt1_read {arg3 : Memref sig .tc .vmem S256x512 .bf16} {X : BufTy.Contents (Elt Ideal) arg3.view.ty} {d : Fin 4 → Fin 256 → Fin 128 → ℝ}
    (h : ∀ (ρ : Fin 256) (p : Fin 4) (c : Fin 128), arg3.view.read (Elt Ideal) X (ix2 ρ ⟨128 * p + c, by omega⟩) = ((d p ρ c : ℝ) : EReal)) (ρ : Fin 256) (c : Fin 128) :
    laneAt1 arg3 X (ix2 ρ c) = ((d 1 ρ c : ℝ) : EReal) := by
  unfold laneAt1
  rw [View.readAt_unit (off' := ![0, 128 * 1]) arg3.view X _ rfl inb_S256x512_S256x128_0_128, window_lanes _ 1 (by omega)]
  exact h ρ 1 c

theorem sumsAt1_read {arg5 : Memref sig .tc .vmem S1x4x256x128 .f32} {X : BufTy.Contents (Elt Ideal) arg5.view.ty} {R : Fin 4 → Fin 256 → Fin 128 → ℝ}
    (h : ∀ (p : Fin 4) (ρ : Fin 256) (l : Fin 128), arg5.view.read (Elt Ideal) X (ix4 0 p ρ l) = ((R p ρ l : ℝ) : EReal)) (ρ : Fin 256) (l : Fin 128) :
    sumsAt1 arg5 X (ix4 0 0 ρ l) = ((R 1 ρ l : ℝ) : EReal) := by
  unfold sumsAt1
  rw [View.readAt_unit (off' := ![0, 1, 0, 0]) arg5.view X _ rfl inb_S1x4x256x128_S1x1x256x128_0_1_0_0, window_sums _ 1 (by omega)]
  exact h 1 ρ l

/-- The accumulator's piece of this pair, read where nothing of the block has been stored yet. -/
theorem oldD1_read {arg14 : Memref sig .tc .vmem S8x512x256 .f32} {f : BufTy.Contents (Elt Ideal) arg14.view.ty} {O : Fin 128 → Fin 256 → ℝ}
    (h : ∀ (c : Fin 128) (s : Fin 256), arg14.view.read (Elt Ideal) f (ix3 ⟨(i 2).val, block_lt i⟩ ⟨128 * 1 + c, by omega⟩ s) = ((O c s : ℝ) : EReal)) (c : Fin 128) (s : Fin 256) :
    oldD1 i arg14 f (ix3 0 c s) = ((O c s : ℝ) : EReal) := by
  unfold oldD1
  rw [View.readAt_unit arg14.view f _ (oldD_off1 i) (oldD_off1 i ▸ k0_off20_inb i), window_piece _ _ 1 (block_lt i) (by omega)]
  exact h c s

theorem keyD_off2 : k0_off21 i = ![256 * (i 2).val, 128 * 2] := by
  refine funext fun a => ?_
  have hk := block_lt i
  fin_cases a
  · show (BitVec.ofNat 32 (i 2).val * 256#32).toNat = 256 * (i 2).val
    rw [BitVec.toNat_mul, BitVec.toNat_ofNat, BitVec.toNat_ofNat]; omega
  · rfl

theorem oldD_off2 : k0_off22 i = ![(i 2).val, 128 * 2, 0] := by
  refine funext fun a => ?_
  have hk := block_lt i
  fin_cases a
  · show (BitVec.ofNat 32 (i 2).val).toNat = (i 2).val
    rw [BitVec.toNat_ofNat]; omega
  · rfl
  · rfl

theorem keyD2_read {arg7 : Memref sig .tc .vmem S2048x512 .bf16} {X : BufTy.Contents (Elt Ideal) arg7.view.ty} {K : Fin 4 → ℕ → Fin 128 → ℝ}
    (h : Rows (arg7.view.read (Elt Ideal) X) K) (s : Fin 256) (c : Fin 128) :
    keyD2 i arg7 X (ix2 s c) = ((K 2 (256 * (i 2).val + s) c : ℝ) : EReal) := by
  unfold keyD2
  have hk := block_lt i
  rw [View.readAt_unit arg7.view X _ (keyD_off2 i) (keyD_off2 i ▸ k0_off21_inb i), window_rows _ _ 2 hk (by omega)]
  exact h ⟨256 * (i 2).val + s, by omega⟩ 2 c

theorem laneAt2_read {arg3 : Memref sig .tc .vmem S256x512 .bf16} {X : BufTy.Contents (Elt Ideal) arg3.view.ty} {d : Fin 4 → Fin 256 → Fin 128 → ℝ}
    (h : ∀ (ρ : Fin 256) (p : Fin 4) (c : Fin 128), arg3.view.read (Elt Ideal) X (ix2 ρ ⟨128 * p + c, by omega⟩) = ((d p ρ c : ℝ) : EReal)) (ρ : Fin 256) (c : Fin 128) :
    laneAt2 arg3 X (ix2 ρ c) = ((d 2 ρ c : ℝ) : EReal) := by
  unfold laneAt2
  rw [View.readAt_unit (off' := ![0, 128 * 2]) arg3.view X _ rfl inb_S256x512_S256x128_0_256, window_lanes _ 2 (by omega)]
  exact h ρ 2 c

theorem sumsAt2_read {arg5 : Memref sig .tc .vmem S1x4x256x128 .f32} {X : BufTy.Contents (Elt Ideal) arg5.view.ty} {R : Fin 4 → Fin 256 → Fin 128 → ℝ}
    (h : ∀ (p : Fin 4) (ρ : Fin 256) (l : Fin 128), arg5.view.read (Elt Ideal) X (ix4 0 p ρ l) = ((R p ρ l : ℝ) : EReal)) (ρ : Fin 256) (l : Fin 128) :
    sumsAt2 arg5 X (ix4 0 0 ρ l) = ((R 2 ρ l : ℝ) : EReal) := by
  unfold sumsAt2
  rw [View.readAt_unit (off' := ![0, 2, 0, 0]) arg5.view X _ rfl inb_S1x4x256x128_S1x1x256x128_0_2_0_0, window_sums _ 2 (by omega)]
  exact h 2 ρ l

/-- The accumulator's piece of this pair, read where nothing of the block has been stored yet. -/
theorem oldD2_read {arg14 : Memref sig .tc .vmem S8x512x256 .f32} {f : BufTy.Contents (Elt Ideal) arg14.view.ty} {O : Fin 128 → Fin 256 → ℝ}
    (h : ∀ (c : Fin 128) (s : Fin 256), arg14.view.read (Elt Ideal) f (ix3 ⟨(i 2).val, block_lt i⟩ ⟨128 * 2 + c, by omega⟩ s) = ((O c s : ℝ) : EReal)) (c : Fin 128) (s : Fin 256) :
    oldD2 i arg14 f (ix3 0 c s) = ((O c s : ℝ) : EReal) := by
  unfold oldD2
  rw [View.readAt_unit arg14.view f _ (oldD_off2 i) (oldD_off2 i ▸ k0_off22_inb i), window_piece _ _ 2 (block_lt i) (by omega)]
  exact h c s

theorem keyD_off3 : k0_off23 i = ![256 * (i 2).val, 128 * 3] := by
  refine funext fun a => ?_
  have hk := block_lt i
  fin_cases a
  · show (BitVec.ofNat 32 (i 2).val * 256#32).toNat = 256 * (i 2).val
    rw [BitVec.toNat_mul, BitVec.toNat_ofNat, BitVec.toNat_ofNat]; omega
  · rfl

theorem oldD_off3 : k0_off24 i = ![(i 2).val, 128 * 3, 0] := by
  refine funext fun a => ?_
  have hk := block_lt i
  fin_cases a
  · show (BitVec.ofNat 32 (i 2).val).toNat = (i 2).val
    rw [BitVec.toNat_ofNat]; omega
  · rfl
  · rfl

theorem keyD3_read {arg7 : Memref sig .tc .vmem S2048x512 .bf16} {X : BufTy.Contents (Elt Ideal) arg7.view.ty} {K : Fin 4 → ℕ → Fin 128 → ℝ}
    (h : Rows (arg7.view.read (Elt Ideal) X) K) (s : Fin 256) (c : Fin 128) :
    keyD3 i arg7 X (ix2 s c) = ((K 3 (256 * (i 2).val + s) c : ℝ) : EReal) := by
  unfold keyD3
  have hk := block_lt i
  rw [View.readAt_unit arg7.view X _ (keyD_off3 i) (keyD_off3 i ▸ k0_off23_inb i), window_rows _ _ 3 hk (by omega)]
  exact h ⟨256 * (i 2).val + s, by omega⟩ 3 c

theorem laneAt3_read {arg3 : Memref sig .tc .vmem S256x512 .bf16} {X : BufTy.Contents (Elt Ideal) arg3.view.ty} {d : Fin 4 → Fin 256 → Fin 128 → ℝ}
    (h : ∀ (ρ : Fin 256) (p : Fin 4) (c : Fin 128), arg3.view.read (Elt Ideal) X (ix2 ρ ⟨128 * p + c, by omega⟩) = ((d p ρ c : ℝ) : EReal)) (ρ : Fin 256) (c : Fin 128) :
    laneAt3 arg3 X (ix2 ρ c) = ((d 3 ρ c : ℝ) : EReal) := by
  unfold laneAt3
  rw [View.readAt_unit (off' := ![0, 128 * 3]) arg3.view X _ rfl inb_S256x512_S256x128_0_384, window_lanes _ 3 (by omega)]
  exact h ρ 3 c

theorem sumsAt3_read {arg5 : Memref sig .tc .vmem S1x4x256x128 .f32} {X : BufTy.Contents (Elt Ideal) arg5.view.ty} {R : Fin 4 → Fin 256 → Fin 128 → ℝ}
    (h : ∀ (p : Fin 4) (ρ : Fin 256) (l : Fin 128), arg5.view.read (Elt Ideal) X (ix4 0 p ρ l) = ((R p ρ l : ℝ) : EReal)) (ρ : Fin 256) (l : Fin 128) :
    sumsAt3 arg5 X (ix4 0 0 ρ l) = ((R 3 ρ l : ℝ) : EReal) := by
  unfold sumsAt3
  rw [View.readAt_unit (off' := ![0, 3, 0, 0]) arg5.view X _ rfl inb_S1x4x256x128_S1x1x256x128_0_3_0_0, window_sums _ 3 (by omega)]
  exact h 3 ρ l

/-- The accumulator's piece of this pair, read where nothing of the block has been stored yet. -/
theorem oldD3_read {arg14 : Memref sig .tc .vmem S8x512x256 .f32} {f : BufTy.Contents (Elt Ideal) arg14.view.ty} {O : Fin 128 → Fin 256 → ℝ}
    (h : ∀ (c : Fin 128) (s : Fin 256), arg14.view.read (Elt Ideal) f (ix3 ⟨(i 2).val, block_lt i⟩ ⟨128 * 3 + c, by omega⟩ s) = ((O c s : ℝ) : EReal)) (c : Fin 128) (s : Fin 256) :
    oldD3 i arg14 f (ix3 0 c s) = ((O c s : ℝ) : EReal) := by
  unfold oldD3
  rw [View.readAt_unit arg14.view f _ (oldD_off3 i) (oldD_off3 i ▸ k0_off24_inb i), window_piece _ _ 3 (block_lt i) (by omega)]
  exact h c s

/-- A stored piece leaves the other pairs' rows as they were. -/
theorem other_piece (v : View sig .tc .vmem S8x512x256 .f32) (f : v.ty.Contents (Elt Ideal)) (L : List (View.Piece (Elt Ideal) S8x512x256 .f32)) {k p : ℕ}
    {o : Fin 3 → ℕ} (h : o = ![k, 128 * p, 0]) {inb : ∀ a : Fin 3, o a + S1x128x256.size a ≤ S8x512x256.size a} {w : Vec Ideal S1x128x256 .f32}
    (b : Fin 8) (a : Fin 512) (s : Fin 256) (hp : (a : ℕ) / 128 ≠ p) :
    v.read (Elt Ideal) (v.writes (Elt Ideal) f (⟨Rect.unit (s := S8x512x256) o S1x128x256.size inb, w⟩ :: L)) (ix3 b a s)
      = v.read (Elt Ideal) (v.writes (Elt Ideal) f L) (ix3 b a s) := by
  rw [View.read_writes_cons_put v f inb w L h, put_piece, if_neg fun e => hp e.2]

end Windows

end Cert.KernelIdeal.Own

end
-- ==== Proof.Run.lean ====
/-
What the body stores at one point, in each of its three cases, written with the tile functions: the same four lists of
pieces over the state the block loop ends in.
-/
module

public import proofs.«01_k».proof.Proof.Diag
import all proofs.«01_k».proof.Proof.Gen.KernelIdeal.Frame.RunA
import all proofs.«01_k».proof.Proof.Gen.KernelIdeal.Frame.RunB
import all proofs.«01_k».proof.Proof.Gen.KernelIdeal.Frame.RunC
public import proofs.«01_k».proof.Proof.Gen.KernelIdeal.Frame

@[expose] public section

set_option maxRecDepth 16384

noncomputable section

namespace Cert.KernelIdeal.Own

open Cert.KernelIdeal Cert.KernelIdeal.Gen Idealize.ShloMosaic Idealize.ShloMosaic.TcCoe Idealize.SL.Sem

variable {F : FTy → Type} [FloatOps F]

/-- What the block loop carries: per pair, the query gradient and the prefix sums. -/
abbrev Carry (F : FTy → Type) : Type :=
  FVec F S512x128 .f32 × FVec F S512x1 .f32 × FVec F S512x128 .f32 × FVec F S512x1 .f32 × FVec F S512x128 .f32 × FVec F S512x1 .f32 × FVec F S512x128 .f32 × FVec F S512x1 .f32
abbrev Pieces (F : FTy → Type) : Type := List (View.Piece (Elt F) S8x512x256 .f32)

/-- Nothing carried yet. -/
def carry0 (q : FVec F S512x128 .bf16) : Carry F :=
  (k0_pay187 q, k0_pay188 q, k0_pay187 q, k0_pay188 q, k0_pay187 q, k0_pay188 q, k0_pay187 q, k0_pay188 q)

theorem no_trips : ∀ i : grid0.Coords, (k0_t2_loop i).trips = 0 := by
  intro i
  have h : ∀ n : Fin 8, Scf.trips (Scalar.addi 0#32 (Scalar.muli (Scalar.divsi (Scalar.subi (BitVec.ofNat 32 n.val) 0#32) 1#32) 1#32))
      (Scalar.addi 0#32 (Scalar.subi (BitVec.ofNat 32 n.val) 0#32)) 1#32 = 0 := by
    decide +kernel
  exact h (i 2)

section Pieces

variable (i : grid0.Coords) (arg3 arg6 arg9 : Memref sig .tc .vmem S256x512 .bf16) (arg5 : Memref sig .tc .vmem S1x4x256x128 .f32) (arg7 arg8 : Memref sig .tc .vmem S2048x512 .bf16)
  (arg14 : Memref sig .tc .vmem S8x512x256 .f32)
  (X3 : BufTy.Contents (Elt F) arg3.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty)
  (f14 : BufTy.Contents (Elt F) arg14.view.ty) (s : Carry F) (L : Pieces F)

/-- The key gradient's pieces of the tile on the diagonal, one pair after another, over the pieces stored before. -/
def keyP0 : Pieces F :=
  ⟨Rect.unit (s := S8x512x256) (k0_off18 i) S1x128x256.size (k0_off18_inb i), dkD (flip (qS (laneAt0 arg6 X6))) (qS (laneAt0 arg6 X6)) (dS (laneAt0 arg9 X9) (laneAt0 arg3 X3)) s.2.1 (BitVec.ofNat 32 (i 2).val) (keyD0 i arg7 X7) (keyD0 i arg8 X8) (sumsAt0 arg5 X5)
    (oldD0 i arg14 (arg14.view.writes (Elt F) f14 L))⟩ :: L
def keyP1 : Pieces F :=
  ⟨Rect.unit (s := S8x512x256) (k0_off20 i) S1x128x256.size (k0_off20_inb i), dkD (flip (qS (laneAt1 arg6 X6))) (qS (laneAt1 arg6 X6)) (dS (laneAt1 arg9 X9) (laneAt1 arg3 X3)) s.2.2.2.1 (BitVec.ofNat 32 (i 2).val) (keyD1 i arg7 X7) (keyD1 i arg8 X8) (sumsAt1 arg5 X5)
    (oldD1 i arg14 (arg14.view.writes (Elt F) f14 (keyP0 i arg3 arg6 arg9 arg5 arg7 arg8 arg14 X3 X5 X6 X7 X8 X9 f14 s L)))⟩ :: (keyP0 i arg3 arg6 arg9 arg5 arg7 arg8 arg14 X3 X5 X6 X7 X8 X9 f14 s L)
def keyP2 : Pieces F :=
  ⟨Rect.unit (s := S8x512x256) (k0_off22 i) S1x128x256.size (k0_off22_inb i), dkD (flip (qS (laneAt2 arg6 X6))) (qS (laneAt2 arg6 X6)) (dS (laneAt2 arg9 X9) (laneAt2 arg3 X3)) s.2.2.2.2.2.1 (BitVec.ofNat 32 (i 2).val) (keyD2 i arg7 X7) (keyD2 i arg8 X8) (sumsAt2 arg5 X5)
    (oldD2 i arg14 (arg14.view.writes (Elt F) f14 (keyP1 i arg3 arg6 arg9 arg5 arg7 arg8 arg14 X3 X5 X6 X7 X8 X9 f14 s L)))⟩ :: (keyP1 i arg3 arg6 arg9 arg5 arg7 arg8 arg14 X3 X5 X6 X7 X8 X9 f14 s L)
def keyP3 : Pieces F :=
  ⟨Rect.unit (s := S8x512x256) (k0_off24 i) S1x128x256.size (k0_off24_inb i), dkD (flip (qS (laneAt3 arg6 X6))) (qS (laneAt3 arg6 X6)) (dS (laneAt3 arg9 X9) (laneAt3 arg3 X3)) s.2.2.2.2.2.2.2 (BitVec.ofNat 32 (i 2).val) (keyD3 i arg7 X7) (keyD3 i arg8 X8) (sumsAt3 arg5 X5)
    (oldD3 i arg14 (arg14.view.writes (Elt F) f14 (keyP2 i arg3 arg6 arg9 arg5 arg7 arg8 arg14 X3 X5 X6 X7 X8 X9 f14 s L)))⟩ :: (keyP2 i arg3 arg6 arg9 arg5 arg7 arg8 arg14 X3 X5 X6 X7 X8 X9 f14 s L)
/-- The value gradient's. -/
def valP0 : Pieces F :=
  ⟨Rect.unit (s := S8x512x256) (k0_off18 i) S1x128x256.size (k0_off18_inb i), dvD (flip (dS (laneAt0 arg9 X9) (laneAt0 arg3 X3))) (qS (laneAt0 arg6 X6)) (BitVec.ofNat 32 (i 2).val) (keyD0 i arg7 X7) (sumsAt0 arg5 X5)
    (oldD0 i arg14 (arg14.view.writes (Elt F) f14 L))⟩ :: L
def valP1 : Pieces F :=
  ⟨Rect.unit (s := S8x512x256) (k0_off20 i) S1x128x256.size (k0_off20_inb i), dvD (flip (dS (laneAt1 arg9 X9) (laneAt1 arg3 X3))) (qS (laneAt1 arg6 X6)) (BitVec.ofNat 32 (i 2).val) (keyD1 i arg7 X7) (sumsAt1 arg5 X5)
    (oldD1 i arg14 (arg14.view.writes (Elt F) f14 (valP0 i arg3 arg6 arg9 arg5 arg7 arg14 X3 X5 X6 X7 X9 f14 L)))⟩ :: (valP0 i arg3 arg6 arg9 arg5 arg7 arg14 X3 X5 X6 X7 X9 f14 L)
def valP2 : Pieces F :=
  ⟨Rect.unit (s := S8x512x256) (k0_off22 i) S1x128x256.size (k0_off22_inb i), dvD (flip (dS (laneAt2 arg9 X9) (laneAt2 arg3 X3))) (qS (laneAt2 arg6 X6)) (BitVec.ofNat 32 (i 2).val) (keyD2 i arg7 X7) (sumsAt2 arg5 X5)
    (oldD2 i arg14 (arg14.view.writes (Elt F) f14 (valP1 i arg3 arg6 arg9 arg5 arg7 arg14 X3 X5 X6 X7 X9 f14 L)))⟩ :: (valP1 i arg3 arg6 arg9 arg5 arg7 arg14 X3 X5 X6 X7 X9 f14 L)
def valP3 : Pieces F :=
  ⟨Rect.unit (s := S8x512x256) (k0_off24 i) S1x128x256.size (k0_off24_inb i), dvD (flip (dS (laneAt3 arg9 X9) (laneAt3 arg3 X3))) (qS (laneAt3 arg6 X6)) (BitVec.ofNat 32 (i 2).val) (keyD3 i arg7 X7) (sumsAt3 arg5 X5)
    (oldD3 i arg14 (arg14.view.writes (Elt F) f14 (valP2 i arg3 arg6 arg9 arg5 arg7 arg14 X3 X5 X6 X7 X9 f14 L)))⟩ :: (valP2 i arg3 arg6 arg9 arg5 arg7 arg14 X3 X5 X6 X7 X9 f14 L)
/-- The query gradient's pieces of the point. -/
def dqP : List (View.Piece (Elt F) S256x512 .bf16) :=
  [⟨Rect.unit (s := S256x512) ![0, 384] S256x128.size inb_S256x512_S256x128_0_384, dqO (dqD s.2.2.2.2.2.2.1 (qS (laneAt3 arg6 X6)) (dS (laneAt3 arg9 X9) (laneAt3 arg3 X3)) s.2.2.2.2.2.2.2 (BitVec.ofNat 32 (i 2).val) (keyD3 i arg7 X7) (keyD3 i arg8 X8) (sumsAt3 arg5 X5))⟩,
    ⟨Rect.unit (s := S256x512) ![0, 256] S256x128.size inb_S256x512_S256x128_0_256, dqO (dqD s.2.2.2.2.1 (qS (laneAt2 arg6 X6)) (dS (laneAt2 arg9 X9) (laneAt2 arg3 X3)) s.2.2.2.2.2.1 (BitVec.ofNat 32 (i 2).val) (keyD2 i arg7 X7) (keyD2 i arg8 X8) (sumsAt2 arg5 X5))⟩,
    ⟨Rect.unit (s := S256x512) ![0, 128] S256x128.size inb_S256x512_S256x128_0_128, dqO (dqD s.2.2.1 (qS (laneAt1 arg6 X6)) (dS (laneAt1 arg9 X9) (laneAt1 arg3 X3)) s.2.2.2.1 (BitVec.ofNat 32 (i 2).val) (keyD1 i arg7 X7) (keyD1 i arg8 X8) (sumsAt1 arg5 X5))⟩,
    ⟨Rect.unit (s := S256x512) ![0, 0] S256x128.size inb_S256x512_S256x128_0_0, dqO (dqD s.1 (qS (laneAt0 arg6 X6)) (dS (laneAt0 arg9 X9) (laneAt0 arg3 X3)) s.2.1 (BitVec.ofNat 32 (i 2).val) (keyD0 i arg7 X7) (keyD0 i arg8 X8) (sumsAt0 arg5 X5))⟩]
/-- The gate gradient's. -/
def gateP (arg4 : Memref sig .tc .vmem S256x512 .bf16) (X4 : BufTy.Contents (Elt F) arg4.view.ty) : List (View.Piece (Elt F) S256x512 .bf16) :=
  [⟨Rect.unit (s := S256x512) ![0, 384] S256x128.size inb_S256x512_S256x128_0_384, gateG (laneAt3 arg9 X9) (laneAt3 arg3 X3) (laneAt3 arg4 X4)⟩,
    ⟨Rect.unit (s := S256x512) ![0, 256] S256x128.size inb_S256x512_S256x128_0_256, gateG (laneAt2 arg9 X9) (laneAt2 arg3 X3) (laneAt2 arg4 X4)⟩,
    ⟨Rect.unit (s := S256x512) ![0, 128] S256x128.size inb_S256x512_S256x128_0_128, gateG (laneAt1 arg9 X9) (laneAt1 arg3 X3) (laneAt1 arg4 X4)⟩,
    ⟨Rect.unit (s := S256x512) ![0, 0] S256x128.size inb_S256x512_S256x128_0_0, gateG (laneAt0 arg9 X9) (laneAt0 arg3 X3) (laneAt0 arg4 X4)⟩]
/-- An accumulator written out at the last block: its pieces turned. -/
def outP (g : BufTy.Contents (Elt F) arg14.view.ty) : List (View.Piece (Elt F) S2048x512 .bf16) :=
  [⟨Rect.unit (s := S2048x512) ![1792, 384] S256x128.size inb_S2048x512_S256x128_1792_384,
      k0_pay1 (arg14.view.readAt (Elt F) (Rect.unit (s := S8x512x256) ![7, 384, 0] S1x128x256.size inb_S8x512x256_S1x128x256_7_384_0).toLoadRect g)⟩,
    ⟨Rect.unit (s := S2048x512) ![1792, 256] S256x128.size inb_S2048x512_S256x128_1792_256,
      k0_pay1 (arg14.view.readAt (Elt F) (Rect.unit (s := S8x512x256) ![7, 256, 0] S1x128x256.size inb_S8x512x256_S1x128x256_7_256_0).toLoadRect g)⟩,
    ⟨Rect.unit (s := S2048x512) ![1792, 128] S256x128.size inb_S2048x512_S256x128_1792_128,
      k0_pay1 (arg14.view.readAt (Elt F) (Rect.unit (s := S8x512x256) ![7, 128, 0] S1x128x256.size inb_S8x512x256_S1x128x256_7_128_0).toLoadRect g)⟩,
    ⟨Rect.unit (s := S2048x512) ![1792, 0] S256x128.size inb_S2048x512_S256x128_1792_0,
      k0_pay1 (arg14.view.readAt (Elt F) (Rect.unit (s := S8x512x256) ![7, 0, 0] S1x128x256.size inb_S8x512x256_S1x128x256_7_0_0).toLoadRect g)⟩,
    ⟨Rect.unit (s := S2048x512) ![1536, 384] S256x128.size inb_S2048x512_S256x128_1536_384,
      k0_pay1 (arg14.view.readAt (Elt F) (Rect.unit (s := S8x512x256) ![6, 384, 0] S1x128x256.size inb_S8x512x256_S1x128x256_6_384_0).toLoadRect g)⟩,
    ⟨Rect.unit (s := S2048x512) ![1536, 256] S256x128.size inb_S2048x512_S256x128_1536_256,
      k0_pay1 (arg14.view.readAt (Elt F) (Rect.unit (s := S8x512x256) ![6, 256, 0] S1x128x256.size inb_S8x512x256_S1x128x256_6_256_0).toLoadRect g)⟩,
    ⟨Rect.unit (s := S2048x512) ![1536, 128] S256x128.size inb_S2048x512_S256x128_1536_128,
      k0_pay1 (arg14.view.readAt (Elt F) (Rect.unit (s := S8x512x256) ![6, 128, 0] S1x128x256.size inb_S8x512x256_S1x128x256_6_128_0).toLoadRect g)⟩,
    ⟨Rect.unit (s := S2048x512) ![1536, 0] S256x128.size inb_S2048x512_S256x128_1536_0,
      k0_pay1 (arg14.view.readAt (Elt F) (Rect.unit (s := S8x512x256) ![6, 0, 0] S1x128x256.size inb_S8x512x256_S1x128x256_6_0_0).toLoadRect g)⟩,
    ⟨Rect.unit (s := S2048x512) ![1280, 384] S256x128.size inb_S2048x512_S256x128_1280_384,
      k0_pay1 (arg14.view.readAt (Elt F) (Rect.unit (s := S8x512x256) ![5, 384, 0] S1x128x256.size inb_S8x512x256_S1x128x256_5_384_0).toLoadRect g)⟩,
    ⟨Rect.unit (s := S2048x512) ![1280, 256] S256x128.size inb_S2048x512_S256x128_1280_256,
      k0_pay1 (arg14.view.readAt (Elt F) (Rect.unit (s := S8x512x256) ![5, 256, 0] S1x128x256.size inb_S8x512x256_S1x128x256_5_256_0).toLoadRect g)⟩,
    ⟨Rect.unit (s := S2048x512) ![1280, 128] S256x128.size inb_S2048x512_S256x128_1280_128,
      k0_pay1 (arg14.view.readAt (Elt F) (Rect.unit (s := S8x512x256) ![5, 128, 0] S1x128x256.size inb_S8x512x256_S1x128x256_5_128_0).toLoadRect g)⟩,
    ⟨Rect.unit (s := S2048x512) ![1280, 0] S256x128.size inb_S2048x512_S256x128_1280_0,
      k0_pay1 (arg14.view.readAt (Elt F) (Rect.unit (s := S8x512x256) ![5, 0, 0] S1x128x256.size inb_S8x512x256_S1x128x256_5_0_0).toLoadRect g)⟩,
    ⟨Rect.unit (s := S2048x512) ![1024, 384] S256x128.size inb_S2048x512_S256x128_1024_384,
      k0_pay1 (arg14.view.readAt (Elt F) (Rect.unit (s := S8x512x256) ![4, 384, 0] S1x128x256.size inb_S8x512x256_S1x128x256_4_384_0).toLoadRect g)⟩,
    ⟨Rect.unit (s := S2048x512) ![1024, 256] S256x128.size inb_S2048x512_S256x128_1024_256,
      k0_pay1 (arg14.view.readAt (Elt F) (Rect.unit (s := S8x512x256) ![4, 256, 0] S1x128x256.size inb_S8x512x256_S1x128x256_4_256_0).toLoadRect g)⟩,
    ⟨Rect.unit (s := S2048x512) ![1024, 128] S256x128.size inb_S2048x512_S256x128_1024_128,
      k0_pay1 (arg14.view.readAt (Elt F) (Rect.unit (s := S8x512x256) ![4, 128, 0] S1x128x256.size inb_S8x512x256_S1x128x256_4_128_0).toLoadRect g)⟩,
    ⟨Rect.unit (s := S2048x512) ![1024, 0] S256x128.size inb_S2048x512_S256x128_1024_0,
      k0_pay1 (arg14.view.readAt (Elt F) (Rect.unit (s := S8x512x256) ![4, 0, 0] S1x128x256.size inb_S8x512x256_S1x128x256_4_0_0).toLoadRect g)⟩,
    ⟨Rect.unit (s := S2048x512) ![768, 384] S256x128.size inb_S2048x512_S256x128_768_384,
      k0_pay1 (arg14.view.readAt (Elt F) (Rect.unit (s := S8x512x256) ![3, 384, 0] S1x128x256.size inb_S8x512x256_S1x128x256_3_384_0).toLoadRect g)⟩,
    ⟨Rect.unit (s := S2048x512) ![768, 256] S256x128.size inb_S2048x512_S256x128_768_256,
      k0_pay1 (arg14.view.readAt (Elt F) (Rect.unit (s := S8x512x256) ![3, 256, 0] S1x128x256.size inb_S8x512x256_S1x128x256_3_256_0).toLoadRect g)⟩,
    ⟨Rect.unit (s := S2048x512) ![768, 128] S256x128.size inb_S2048x512_S256x128_768_128,
      k0_pay1 (arg14.view.readAt (Elt F) (Rect.unit (s := S8x512x256) ![3, 128, 0] S1x128x256.size inb_S8x512x256_S1x128x256_3_128_0).toLoadRect g)⟩,
    ⟨Rect.unit (s := S2048x512) ![768, 0] S256x128.size inb_S2048x512_S256x128_768_0,
      k0_pay1 (arg14.view.readAt (Elt F) (Rect.unit (s := S8x512x256) ![3, 0, 0] S1x128x256.size inb_S8x512x256_S1x128x256_3_0_0).toLoadRect g)⟩,
    ⟨Rect.unit (s := S2048x512) ![512, 384] S256x128.size inb_S2048x512_S256x128_512_384,
      k0_pay1 (arg14.view.readAt (Elt F) (Rect.unit (s := S8x512x256) ![2, 384, 0] S1x128x256.size inb_S8x512x256_S1x128x256_2_384_0).toLoadRect g)⟩,
    ⟨Rect.unit (s := S2048x512) ![512, 256] S256x128.size inb_S2048x512_S256x128_512_256,
      k0_pay1 (arg14.view.readAt (Elt F) (Rect.unit (s := S8x512x256) ![2, 256, 0] S1x128x256.size inb_S8x512x256_S1x128x256_2_256_0).toLoadRect g)⟩,
    ⟨Rect.unit (s := S2048x512) ![512, 128] S256x128.size inb_S2048x512_S256x128_512_128,
      k0_pay1 (arg14.view.readAt (Elt F) (Rect.unit (s := S8x512x256) ![2, 128, 0] S1x128x256.size inb_S8x512x256_S1x128x256_2_128_0).toLoadRect g)⟩,
    ⟨Rect.unit (s := S2048x512) ![512, 0] S256x128.size inb_S2048x512_S256x128_512_0,
      k0_pay1 (arg14.view.readAt (Elt F) (Rect.unit (s := S8x512x256) ![2, 0, 0] S1x128x256.size inb_S8x512x256_S1x128x256_2_0_0).toLoadRect g)⟩,
    ⟨Rect.unit (s := S2048x512) ![256, 384] S256x128.size inb_S2048x512_S256x128_256_384,
      k0_pay1 (arg14.view.readAt (Elt F) (Rect.unit (s := S8x512x256) ![1, 384, 0] S1x128x256.size inb_S8x512x256_S1x128x256_1_384_0).toLoadRect g)⟩,
    ⟨Rect.unit (s := S2048x512) ![256, 256] S256x128.size inb_S2048x512_S256x128_256_256,
      k0_pay1 (arg14.view.readAt (Elt F) (Rect.unit (s := S8x512x256) ![1, 256, 0] S1x128x256.size inb_S8x512x256_S1x128x256_1_256_0).toLoadRect g)⟩,
    ⟨Rect.unit (s := S2048x512) ![256, 128] S256x128.size inb_S2048x512_S256x128_256_128,
      k0_pay1 (arg14.view.readAt (Elt F) (Rect.unit (s := S8x512x256) ![1, 128, 0] S1x128x256.size inb_S8x512x256_S1x128x256_1_128_0).toLoadRect g)⟩,
    ⟨Rect.unit (s := S2048x512) ![256, 0] S256x128.size inb_S2048x512_S256x128_256_0,
      k0_pay1 (arg14.view.readAt (Elt F) (Rect.unit (s := S8x512x256) ![1, 0, 0] S1x128x256.size inb_S8x512x256_S1x128x256_1_0_0).toLoadRect g)⟩,
    ⟨Rect.unit (s := S2048x512) ![0, 384] S256x128.size inb_S2048x512_S256x128_0_384,
      k0_pay1 (arg14.view.readAt (Elt F) (Rect.unit (s := S8x512x256) ![0, 384, 0] S1x128x256.size inb_S8x512x256_S1x128x256_0_384_0).toLoadRect g)⟩,
    ⟨Rect.unit (s := S2048x512) ![0, 256] S256x128.size inb_S2048x512_S256x128_0_256,
      k0_pay1 (arg14.view.readAt (Elt F) (Rect.unit (s := S8x512x256) ![0, 256, 0] S1x128x256.size inb_S8x512x256_S1x128x256_0_256_0).toLoadRect g)⟩,
    ⟨Rect.unit (s := S2048x512) ![0, 128] S256x128.size inb_S2048x512_S256x128_0_128,
      k0_pay1 (arg14.view.readAt (Elt F) (Rect.unit (s := S8x512x256) ![0, 128, 0] S1x128x256.size inb_S8x512x256_S1x128x256_0_128_0).toLoadRect g)⟩,
    ⟨Rect.unit (s := S2048x512) ![0, 0] S256x128.size inb_S2048x512_S256x128_0_0,
      k0_pay1 (arg14.view.readAt (Elt F) (Rect.unit (s := S8x512x256) ![0, 0, 0] S1x128x256.size inb_S8x512x256_S1x128x256_0_0_0).toLoadRect g)⟩]

end Pieces

section

variable (c : Dev nD) (i : grid0.Coords) (arg3 : Memref sig .tc .vmem S256x512 .bf16) (harg3 : arg3.IsWhole) (arg4 : Memref sig .tc .vmem S256x512 .bf16) (harg4 : arg4.IsWhole) (arg5 : Memref sig .tc .vmem S1x4x256x128 .f32) (harg5 : arg5.IsWhole) (arg6 : Memref sig .tc .vmem S256x512 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S256x512 .bf16) (harg13 : arg13.IsWhole) (arg14 : Memref sig .tc .vmem S8x512x256 .f32) (harg14 : arg14.IsWhole) (arg15 : Memref sig .tc .vmem S8x512x256 .f32) (harg15 : arg15.IsWhole)
variable (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty)
variable (f14 : BufTy.Contents (Elt F) arg14.view.ty) (f15 : BufTy.Contents (Elt F) arg15.view.ty) (L : Pieces F) (s : Carry F)

/-- The state the block loop ends in. -/
def st1 : Carry F × Pieces F × Pieces F :=
  st_k0_t1 (F := F) Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) lanes k0_pay149 cols k0_pay151 k0_pay152 (dS (laneAt0 arg9 X9) (laneAt0 arg3 X3)) (qS (laneAt0 arg6 X6)) (dS (laneAt1 arg9 X9) (laneAt1 arg3 X3)) (qS (laneAt1 arg6 X6)) (dS (laneAt2 arg9 X9) (laneAt2 arg3 X3)) (qS (laneAt2 arg6 X6)) (dS (laneAt3 arg9 X9) (laneAt3 arg3 X3)) (qS (laneAt3 arg6 X6)) (flip (qS (laneAt0 arg6 X6))) (flip (qS (laneAt1 arg6 X6))) (flip (qS (laneAt2 arg6 X6))) (flip (qS (laneAt3 arg6 X6))) (flip (dS (laneAt0 arg9 X9) (laneAt0 arg3 X3))) (flip (dS (laneAt1 arg9 X9) (laneAt1 arg3 X3))) (flip (dS (laneAt2 arg9 X9) (laneAt2 arg3 X3))) (k0_pay185 k0_pay150 (k0_pay172 (laneAt3 arg9 X9)) (k0_pay173 (laneAt3 arg9 X9)) (k0_pay174 (laneAt3 arg3 X3))) X5 X7 X8 f14 f15 (carry0 (qS (laneAt0 arg6 X6))) (k0_t1_loop i).trips

/-- The remainder loop's, which makes no trip. -/
def st2 (g14 : BufTy.Contents (Elt F) arg14.view.ty) (g15 : BufTy.Contents (Elt F) arg15.view.ty) : Carry F × Pieces F × Pieces F :=
  st_k0_t2 (F := F) Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) lanes k0_pay149 cols k0_pay151 k0_pay152 (dS (laneAt0 arg9 X9) (laneAt0 arg3 X3)) (qS (laneAt0 arg6 X6)) (dS (laneAt1 arg9 X9) (laneAt1 arg3 X3)) (qS (laneAt1 arg6 X6)) (dS (laneAt2 arg9 X9) (laneAt2 arg3 X3)) (qS (laneAt2 arg6 X6)) (dS (laneAt3 arg9 X9) (laneAt3 arg3 X3)) (qS (laneAt3 arg6 X6)) (flip (qS (laneAt0 arg6 X6))) (flip (qS (laneAt1 arg6 X6))) (flip (qS (laneAt2 arg6 X6))) (flip (qS (laneAt3 arg6 X6))) (flip (dS (laneAt0 arg9 X9) (laneAt0 arg3 X3))) (flip (dS (laneAt1 arg9 X9) (laneAt1 arg3 X3))) (flip (dS (laneAt2 arg9 X9) (laneAt2 arg3 X3))) (k0_pay185 k0_pay150 (k0_pay172 (laneAt3 arg9 X9)) (k0_pay173 (laneAt3 arg9 X9)) (k0_pay174 (laneAt3 arg3 X3))) (Scalar.addi 0#32 (Scalar.muli (Scalar.divsi (Scalar.subi (BitVec.ofNat 32 (i 2).val) 0#32) 1#32) 1#32)) X5 X7 X8 g14 g15 s (k0_t2_loop i).trips

theorem st2_eq (g14 : BufTy.Contents (Elt F) arg14.view.ty) (g15 : BufTy.Contents (Elt F) arg15.view.ty) :
    st2 c i arg3 harg3 arg4 harg4 arg5 harg5 arg6 harg6 arg7 harg7 arg8 harg8 arg9 harg9 arg10 harg10 arg11 harg11 arg12 harg12 arg13 harg13 arg14 harg14 arg15 harg15 X3 X5 X6 X7 X8 X9 s g14 g15 = (s, [], []) := by
  unfold st2
  rw [no_trips]
  rfl

variable (x0 : Vec F S256x512 .bf16) (x1 : Vec F S256x512 .bf16) (x2 : Vec F S1x4x256x128 .f32) (x3 : Vec F S256x512 .bf16) (x4 : Vec F S2048x512 .bf16) (x5 : Vec F S2048x512 .bf16) (x6 : Vec F S256x512 .bf16) (xs0 : Vec F S8x512x256 .f32) (xs1 : Vec F S8x512x256 .f32)

theorem runA_dq (hc0 : cond0_0 i) (hc1 : ¬cond0_1 i) : (kernelRun0_A (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).1
    = dqP i arg3 arg6 arg9 arg5 arg7 arg8 (harg3.unread x0) (harg5.unread x2) (harg6.unread x3) (harg7.unread x4) (harg8.unread x5) (harg9.unread x6) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (arg14.view.writes (Elt F) arg14.view.junk [⟨Rect.unit (s := S8x512x256) ![0, 0, 0] S8x512x256.size inb_S8x512x256_S8x512x256_0_0_0, k0_pay147⟩]) (arg15.view.writes (Elt F) arg15.view.junk [⟨Rect.unit (s := S8x512x256) ![0, 0, 0] S8x512x256.size inb_S8x512x256_S8x512x256_0_0_0, k0_pay148⟩])).1 := by
  have h := show (kernelRun0_A (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).1 = dqP i arg3 arg6 arg9 arg5 arg7 arg8 (harg3.unread x0) (harg5.unread x2) (harg6.unread x3) (harg7.unread x4) (harg8.unread x5) (harg9.unread x6) (st2 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (arg14.view.writes (Elt F) arg14.view.junk [⟨Rect.unit (s := S8x512x256) ![0, 0, 0] S8x512x256.size inb_S8x512x256_S8x512x256_0_0_0, k0_pay147⟩]) (arg15.view.writes (Elt F) arg15.view.junk [⟨Rect.unit (s := S8x512x256) ![0, 0, 0] S8x512x256.size inb_S8x512x256_S8x512x256_0_0_0, k0_pay148⟩])).1 (arg14.view.writes (Elt F) arg14.view.junk ((st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (arg14.view.writes (Elt F) arg14.view.junk [⟨Rect.unit (s := S8x512x256) ![0, 0, 0] S8x512x256.size inb_S8x512x256_S8x512x256_0_0_0, k0_pay147⟩]) (arg15.view.writes (Elt F) arg15.view.junk [⟨Rect.unit (s := S8x512x256) ![0, 0, 0] S8x512x256.size inb_S8x512x256_S8x512x256_0_0_0, k0_pay148⟩])).2.1 ++ [⟨Rect.unit (s := S8x512x256) ![0, 0, 0] S8x512x256.size inb_S8x512x256_S8x512x256_0_0_0, k0_pay147⟩])) (arg15.view.writes (Elt F) arg15.view.junk ((st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (arg14.view.writes (Elt F) arg14.view.junk [⟨Rect.unit (s := S8x512x256) ![0, 0, 0] S8x512x256.size inb_S8x512x256_S8x512x256_0_0_0, k0_pay147⟩]) (arg15.view.writes (Elt F) arg15.view.junk [⟨Rect.unit (s := S8x512x256) ![0, 0, 0] S8x512x256.size inb_S8x512x256_S8x512x256_0_0_0, k0_pay148⟩])).2.2 ++ [⟨Rect.unit (s := S8x512x256) ![0, 0, 0] S8x512x256.size inb_S8x512x256_S8x512x256_0_0_0, k0_pay148⟩]))).1 from rfl
  rw [h, st2_eq]

theorem runA_gate (hc0 : cond0_0 i) (hc1 : ¬cond0_1 i) : (kernelRun0_A (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.1
    = gateP (F := F) arg3 arg9 (harg3.unread x0) (harg9.unread x6) arg4 (harg4.unread x1) := by
  have h := show (kernelRun0_A (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.1 = gateP (F := F) arg3 arg9 (harg3.unread x0) (harg9.unread x6) arg4 (harg4.unread x1) from rfl
  rw [h]

theorem runA_key (hc0 : cond0_0 i) (hc1 : ¬cond0_1 i) : (kernelRun0_A (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.1
    = keyP3 i arg3 arg6 arg9 arg5 arg7 arg8 arg14 (harg3.unread x0) (harg5.unread x2) (harg6.unread x3) (harg7.unread x4) (harg8.unread x5) (harg9.unread x6) arg14.view.junk (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (arg14.view.writes (Elt F) arg14.view.junk [⟨Rect.unit (s := S8x512x256) ![0, 0, 0] S8x512x256.size inb_S8x512x256_S8x512x256_0_0_0, k0_pay147⟩]) (arg15.view.writes (Elt F) arg15.view.junk [⟨Rect.unit (s := S8x512x256) ![0, 0, 0] S8x512x256.size inb_S8x512x256_S8x512x256_0_0_0, k0_pay148⟩])).1 ((st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (arg14.view.writes (Elt F) arg14.view.junk [⟨Rect.unit (s := S8x512x256) ![0, 0, 0] S8x512x256.size inb_S8x512x256_S8x512x256_0_0_0, k0_pay147⟩]) (arg15.view.writes (Elt F) arg15.view.junk [⟨Rect.unit (s := S8x512x256) ![0, 0, 0] S8x512x256.size inb_S8x512x256_S8x512x256_0_0_0, k0_pay148⟩])).2.1 ++ [⟨Rect.unit (s := S8x512x256) ![0, 0, 0] S8x512x256.size inb_S8x512x256_S8x512x256_0_0_0, k0_pay147⟩]) := by
  have h := show (kernelRun0_A (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.1 = keyP3 i arg3 arg6 arg9 arg5 arg7 arg8 arg14 (harg3.unread x0) (harg5.unread x2) (harg6.unread x3) (harg7.unread x4) (harg8.unread x5) (harg9.unread x6) arg14.view.junk (st2 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (arg14.view.writes (Elt F) arg14.view.junk [⟨Rect.unit (s := S8x512x256) ![0, 0, 0] S8x512x256.size inb_S8x512x256_S8x512x256_0_0_0, k0_pay147⟩]) (arg15.view.writes (Elt F) arg15.view.junk [⟨Rect.unit (s := S8x512x256) ![0, 0, 0] S8x512x256.size inb_S8x512x256_S8x512x256_0_0_0, k0_pay148⟩])).1 (arg14.view.writes (Elt F) arg14.view.junk ((st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (arg14.view.writes (Elt F) arg14.view.junk [⟨Rect.unit (s := S8x512x256) ![0, 0, 0] S8x512x256.size inb_S8x512x256_S8x512x256_0_0_0, k0_pay147⟩]) (arg15.view.writes (Elt F) arg15.view.junk [⟨Rect.unit (s := S8x512x256) ![0, 0, 0] S8x512x256.size inb_S8x512x256_S8x512x256_0_0_0, k0_pay148⟩])).2.1 ++ [⟨Rect.unit (s := S8x512x256) ![0, 0, 0] S8x512x256.size inb_S8x512x256_S8x512x256_0_0_0, k0_pay147⟩])) (arg15.view.writes (Elt F) arg15.view.junk ((st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (arg14.view.writes (Elt F) arg14.view.junk [⟨Rect.unit (s := S8x512x256) ![0, 0, 0] S8x512x256.size inb_S8x512x256_S8x512x256_0_0_0, k0_pay147⟩]) (arg15.view.writes (Elt F) arg15.view.junk [⟨Rect.unit (s := S8x512x256) ![0, 0, 0] S8x512x256.size inb_S8x512x256_S8x512x256_0_0_0, k0_pay148⟩])).2.2 ++ [⟨Rect.unit (s := S8x512x256) ![0, 0, 0] S8x512x256.size inb_S8x512x256_S8x512x256_0_0_0, k0_pay148⟩]))).1 ((st2 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (arg14.view.writes (Elt F) arg14.view.junk [⟨Rect.unit (s := S8x512x256) ![0, 0, 0] S8x512x256.size inb_S8x512x256_S8x512x256_0_0_0, k0_pay147⟩]) (arg15.view.writes (Elt F) arg15.view.junk [⟨Rect.unit (s := S8x512x256) ![0, 0, 0] S8x512x256.size inb_S8x512x256_S8x512x256_0_0_0, k0_pay148⟩])).1 (arg14.view.writes (Elt F) arg14.view.junk ((st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (arg14.view.writes (Elt F) arg14.view.junk [⟨Rect.unit (s := S8x512x256) ![0, 0, 0] S8x512x256.size inb_S8x512x256_S8x512x256_0_0_0, k0_pay147⟩]) (arg15.view.writes (Elt F) arg15.view.junk [⟨Rect.unit (s := S8x512x256) ![0, 0, 0] S8x512x256.size inb_S8x512x256_S8x512x256_0_0_0, k0_pay148⟩])).2.1 ++ [⟨Rect.unit (s := S8x512x256) ![0, 0, 0] S8x512x256.size inb_S8x512x256_S8x512x256_0_0_0, k0_pay147⟩])) (arg15.view.writes (Elt F) arg15.view.junk ((st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (arg14.view.writes (Elt F) arg14.view.junk [⟨Rect.unit (s := S8x512x256) ![0, 0, 0] S8x512x256.size inb_S8x512x256_S8x512x256_0_0_0, k0_pay147⟩]) (arg15.view.writes (Elt F) arg15.view.junk [⟨Rect.unit (s := S8x512x256) ![0, 0, 0] S8x512x256.size inb_S8x512x256_S8x512x256_0_0_0, k0_pay148⟩])).2.2 ++ [⟨Rect.unit (s := S8x512x256) ![0, 0, 0] S8x512x256.size inb_S8x512x256_S8x512x256_0_0_0, k0_pay148⟩]))).2.1 ++ ((st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (arg14.view.writes (Elt F) arg14.view.junk [⟨Rect.unit (s := S8x512x256) ![0, 0, 0] S8x512x256.size inb_S8x512x256_S8x512x256_0_0_0, k0_pay147⟩]) (arg15.view.writes (Elt F) arg15.view.junk [⟨Rect.unit (s := S8x512x256) ![0, 0, 0] S8x512x256.size inb_S8x512x256_S8x512x256_0_0_0, k0_pay148⟩])).2.1 ++ [⟨Rect.unit (s := S8x512x256) ![0, 0, 0] S8x512x256.size inb_S8x512x256_S8x512x256_0_0_0, k0_pay147⟩])) from rfl
  rw [h, st2_eq, List.nil_append]

theorem runA_val (hc0 : cond0_0 i) (hc1 : ¬cond0_1 i) : (kernelRun0_A (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.2.1
    = valP3 i arg3 arg6 arg9 arg5 arg7 arg15 (harg3.unread x0) (harg5.unread x2) (harg6.unread x3) (harg7.unread x4) (harg9.unread x6) arg15.view.junk ((st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (arg14.view.writes (Elt F) arg14.view.junk [⟨Rect.unit (s := S8x512x256) ![0, 0, 0] S8x512x256.size inb_S8x512x256_S8x512x256_0_0_0, k0_pay147⟩]) (arg15.view.writes (Elt F) arg15.view.junk [⟨Rect.unit (s := S8x512x256) ![0, 0, 0] S8x512x256.size inb_S8x512x256_S8x512x256_0_0_0, k0_pay148⟩])).2.2 ++ [⟨Rect.unit (s := S8x512x256) ![0, 0, 0] S8x512x256.size inb_S8x512x256_S8x512x256_0_0_0, k0_pay148⟩]) := by
  have h := show (kernelRun0_A (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.2.1 = valP3 i arg3 arg6 arg9 arg5 arg7 arg15 (harg3.unread x0) (harg5.unread x2) (harg6.unread x3) (harg7.unread x4) (harg9.unread x6) arg15.view.junk ((st2 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (arg14.view.writes (Elt F) arg14.view.junk [⟨Rect.unit (s := S8x512x256) ![0, 0, 0] S8x512x256.size inb_S8x512x256_S8x512x256_0_0_0, k0_pay147⟩]) (arg15.view.writes (Elt F) arg15.view.junk [⟨Rect.unit (s := S8x512x256) ![0, 0, 0] S8x512x256.size inb_S8x512x256_S8x512x256_0_0_0, k0_pay148⟩])).1 (arg14.view.writes (Elt F) arg14.view.junk ((st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (arg14.view.writes (Elt F) arg14.view.junk [⟨Rect.unit (s := S8x512x256) ![0, 0, 0] S8x512x256.size inb_S8x512x256_S8x512x256_0_0_0, k0_pay147⟩]) (arg15.view.writes (Elt F) arg15.view.junk [⟨Rect.unit (s := S8x512x256) ![0, 0, 0] S8x512x256.size inb_S8x512x256_S8x512x256_0_0_0, k0_pay148⟩])).2.1 ++ [⟨Rect.unit (s := S8x512x256) ![0, 0, 0] S8x512x256.size inb_S8x512x256_S8x512x256_0_0_0, k0_pay147⟩])) (arg15.view.writes (Elt F) arg15.view.junk ((st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (arg14.view.writes (Elt F) arg14.view.junk [⟨Rect.unit (s := S8x512x256) ![0, 0, 0] S8x512x256.size inb_S8x512x256_S8x512x256_0_0_0, k0_pay147⟩]) (arg15.view.writes (Elt F) arg15.view.junk [⟨Rect.unit (s := S8x512x256) ![0, 0, 0] S8x512x256.size inb_S8x512x256_S8x512x256_0_0_0, k0_pay148⟩])).2.2 ++ [⟨Rect.unit (s := S8x512x256) ![0, 0, 0] S8x512x256.size inb_S8x512x256_S8x512x256_0_0_0, k0_pay148⟩]))).2.2 ++ ((st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (arg14.view.writes (Elt F) arg14.view.junk [⟨Rect.unit (s := S8x512x256) ![0, 0, 0] S8x512x256.size inb_S8x512x256_S8x512x256_0_0_0, k0_pay147⟩]) (arg15.view.writes (Elt F) arg15.view.junk [⟨Rect.unit (s := S8x512x256) ![0, 0, 0] S8x512x256.size inb_S8x512x256_S8x512x256_0_0_0, k0_pay148⟩])).2.2 ++ [⟨Rect.unit (s := S8x512x256) ![0, 0, 0] S8x512x256.size inb_S8x512x256_S8x512x256_0_0_0, k0_pay148⟩])) from rfl
  rw [h, st2_eq, List.nil_append]

theorem runB_dq (hc0 : ¬cond0_0 i) (hc1 : ¬cond0_1 i) : (kernelRun0_B (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1).1
    = dqP i arg3 arg6 arg9 arg5 arg7 arg8 (harg3.unread x0) (harg5.unread x2) (harg6.unread x3) (harg7.unread x4) (harg8.unread x5) (harg9.unread x6) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).1 := by
  have h := show (kernelRun0_B (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1).1 = dqP i arg3 arg6 arg9 arg5 arg7 arg8 (harg3.unread x0) (harg5.unread x2) (harg6.unread x3) (harg7.unread x4) (harg8.unread x5) (harg9.unread x6) (st2 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).1 (arg14.view.writes (Elt F) (harg14.unread xs0) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).2.1) (arg15.view.writes (Elt F) (harg15.unread xs1) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).2.2)).1 from rfl
  rw [h, st2_eq]

theorem runB_gate (hc0 : ¬cond0_0 i) (hc1 : ¬cond0_1 i) : (kernelRun0_B (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1).2.2.2.1
    = gateP (F := F) arg3 arg9 (harg3.unread x0) (harg9.unread x6) arg4 (harg4.unread x1) := by
  have h := show (kernelRun0_B (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1).2.2.2.1 = gateP (F := F) arg3 arg9 (harg3.unread x0) (harg9.unread x6) arg4 (harg4.unread x1) from rfl
  rw [h]

theorem runB_key (hc0 : ¬cond0_0 i) (hc1 : ¬cond0_1 i) : (kernelRun0_B (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1).2.2.2.2.1
    = keyP3 i arg3 arg6 arg9 arg5 arg7 arg8 arg14 (harg3.unread x0) (harg5.unread x2) (harg6.unread x3) (harg7.unread x4) (harg8.unread x5) (harg9.unread x6) (harg14.unread xs0) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).1 (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).2.1 := by
  have h := show (kernelRun0_B (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1).2.2.2.2.1 = keyP3 i arg3 arg6 arg9 arg5 arg7 arg8 arg14 (harg3.unread x0) (harg5.unread x2) (harg6.unread x3) (harg7.unread x4) (harg8.unread x5) (harg9.unread x6) (harg14.unread xs0) (st2 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).1 (arg14.view.writes (Elt F) (harg14.unread xs0) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).2.1) (arg15.view.writes (Elt F) (harg15.unread xs1) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).2.2)).1 ((st2 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).1 (arg14.view.writes (Elt F) (harg14.unread xs0) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).2.1) (arg15.view.writes (Elt F) (harg15.unread xs1) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).2.2)).2.1 ++ (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).2.1) from rfl
  rw [h, st2_eq, List.nil_append]

theorem runB_val (hc0 : ¬cond0_0 i) (hc1 : ¬cond0_1 i) : (kernelRun0_B (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1).2.2.2.2.2.1
    = valP3 i arg3 arg6 arg9 arg5 arg7 arg15 (harg3.unread x0) (harg5.unread x2) (harg6.unread x3) (harg7.unread x4) (harg9.unread x6) (harg15.unread xs1) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).2.2 := by
  have h := show (kernelRun0_B (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1).2.2.2.2.2.1 = valP3 i arg3 arg6 arg9 arg5 arg7 arg15 (harg3.unread x0) (harg5.unread x2) (harg6.unread x3) (harg7.unread x4) (harg9.unread x6) (harg15.unread xs1) ((st2 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).1 (arg14.view.writes (Elt F) (harg14.unread xs0) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).2.1) (arg15.view.writes (Elt F) (harg15.unread xs1) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).2.2)).2.2 ++ (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).2.2) from rfl
  rw [h, st2_eq, List.nil_append]

theorem runC_dq (hc0 : ¬cond0_0 i) (hc1 : cond0_1 i) : (kernelRun0_C (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1).1
    = dqP i arg3 arg6 arg9 arg5 arg7 arg8 (harg3.unread x0) (harg5.unread x2) (harg6.unread x3) (harg7.unread x4) (harg8.unread x5) (harg9.unread x6) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).1 := by
  have h := show (kernelRun0_C (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1).1 = dqP i arg3 arg6 arg9 arg5 arg7 arg8 (harg3.unread x0) (harg5.unread x2) (harg6.unread x3) (harg7.unread x4) (harg8.unread x5) (harg9.unread x6) (st2 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).1 (arg14.view.writes (Elt F) (harg14.unread xs0) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).2.1) (arg15.view.writes (Elt F) (harg15.unread xs1) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).2.2)).1 from rfl
  rw [h, st2_eq]

theorem runC_gate (hc0 : ¬cond0_0 i) (hc1 : cond0_1 i) : (kernelRun0_C (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1).2.2.2.1
    = gateP (F := F) arg3 arg9 (harg3.unread x0) (harg9.unread x6) arg4 (harg4.unread x1) := by
  have h := show (kernelRun0_C (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1).2.2.2.1 = gateP (F := F) arg3 arg9 (harg3.unread x0) (harg9.unread x6) arg4 (harg4.unread x1) from rfl
  rw [h]

theorem runC_key (hc0 : ¬cond0_0 i) (hc1 : cond0_1 i) : (kernelRun0_C (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1).2.2.2.2.1
    = keyP3 i arg3 arg6 arg9 arg5 arg7 arg8 arg14 (harg3.unread x0) (harg5.unread x2) (harg6.unread x3) (harg7.unread x4) (harg8.unread x5) (harg9.unread x6) (harg14.unread xs0) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).1 (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).2.1 := by
  have h := show (kernelRun0_C (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1).2.2.2.2.1 = keyP3 i arg3 arg6 arg9 arg5 arg7 arg8 arg14 (harg3.unread x0) (harg5.unread x2) (harg6.unread x3) (harg7.unread x4) (harg8.unread x5) (harg9.unread x6) (harg14.unread xs0) (st2 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).1 (arg14.view.writes (Elt F) (harg14.unread xs0) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).2.1) (arg15.view.writes (Elt F) (harg15.unread xs1) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).2.2)).1 ((st2 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).1 (arg14.view.writes (Elt F) (harg14.unread xs0) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).2.1) (arg15.view.writes (Elt F) (harg15.unread xs1) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).2.2)).2.1 ++ (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).2.1) from rfl
  rw [h, st2_eq, List.nil_append]

theorem runC_val (hc0 : ¬cond0_0 i) (hc1 : cond0_1 i) : (kernelRun0_C (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1).2.2.2.2.2.1
    = valP3 i arg3 arg6 arg9 arg5 arg7 arg15 (harg3.unread x0) (harg5.unread x2) (harg6.unread x3) (harg7.unread x4) (harg9.unread x6) (harg15.unread xs1) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).2.2 := by
  have h := show (kernelRun0_C (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1).2.2.2.2.2.1 = valP3 i arg3 arg6 arg9 arg5 arg7 arg15 (harg3.unread x0) (harg5.unread x2) (harg6.unread x3) (harg7.unread x4) (harg9.unread x6) (harg15.unread xs1) ((st2 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).1 (arg14.view.writes (Elt F) (harg14.unread xs0) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).2.1) (arg15.view.writes (Elt F) (harg15.unread xs1) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).2.2)).2.2 ++ (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).2.2) from rfl
  rw [h, st2_eq, List.nil_append]

theorem runC_keyOut (hc0 : ¬cond0_0 i) (hc1 : cond0_1 i) : (kernelRun0_C (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1).2.1
    = outP arg14 (arg14.view.writes (Elt F) (harg14.unread xs0) (keyP3 i arg3 arg6 arg9 arg5 arg7 arg8 arg14 (harg3.unread x0) (harg5.unread x2) (harg6.unread x3) (harg7.unread x4) (harg8.unread x5) (harg9.unread x6) (harg14.unread xs0) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).1 (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).2.1)) := by
  have h := show (kernelRun0_C (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1).2.1 = outP arg14 (arg14.view.writes (Elt F) (harg14.unread xs0) (keyP3 i arg3 arg6 arg9 arg5 arg7 arg8 arg14 (harg3.unread x0) (harg5.unread x2) (harg6.unread x3) (harg7.unread x4) (harg8.unread x5) (harg9.unread x6) (harg14.unread xs0) (st2 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).1 (arg14.view.writes (Elt F) (harg14.unread xs0) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).2.1) (arg15.view.writes (Elt F) (harg15.unread xs1) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).2.2)).1 ((st2 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).1 (arg14.view.writes (Elt F) (harg14.unread xs0) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).2.1) (arg15.view.writes (Elt F) (harg15.unread xs1) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).2.2)).2.1 ++ (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).2.1))) from rfl
  rw [h, st2_eq, List.nil_append]

theorem runC_valOut (hc0 : ¬cond0_0 i) (hc1 : cond0_1 i) : (kernelRun0_C (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1).2.2.1
    = outP arg15 (arg15.view.writes (Elt F) (harg15.unread xs1) (valP3 i arg3 arg6 arg9 arg5 arg7 arg15 (harg3.unread x0) (harg5.unread x2) (harg6.unread x3) (harg7.unread x4) (harg9.unread x6) (harg15.unread xs1) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).2.2)) := by
  have h := show (kernelRun0_C (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1).2.2.1 = outP arg15 (arg15.view.writes (Elt F) (harg15.unread xs1) (valP3 i arg3 arg6 arg9 arg5 arg7 arg15 (harg3.unread x0) (harg5.unread x2) (harg6.unread x3) (harg7.unread x4) (harg9.unread x6) (harg15.unread xs1) ((st2 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).1 (arg14.view.writes (Elt F) (harg14.unread xs0) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).2.1) (arg15.view.writes (Elt F) (harg15.unread xs1) (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).2.2)).2.2 ++ (st1 c i arg3 harg3 arg4 harg4 arg5 harg5 arg6 harg6 arg7 harg7 arg8 harg8 arg9 harg9 arg10 harg10 arg11 harg11 arg12 harg12 arg13 harg13 arg14 harg14 arg15 harg15 (harg3.unread x0) (harg5.unread x2) (harg6.unread x3) (harg7.unread x4) (harg8.unread x5) (harg9.unread x6) (harg14.unread xs0) (harg15.unread xs1)).2.2))) from rfl
  rw [h, st2_eq, List.nil_append]

end

end Cert.KernelIdeal.Own

end
-- ==== Proof.Point.lean ====
/-
One point of the kernel at the extended reals: from blocks holding real numbers, what it stores into its outputs and leaves in
the two accumulators.
-/
module

public import proofs.«01_k».proof.Proof.Run

@[expose] public section

set_option maxRecDepth 16384

noncomputable section

namespace Cert.KernelIdeal.Own

open Cert.KernelIdeal Cert.KernelIdeal.Gen Idealize.ShloMosaic Idealize.ShloMosaic.TcCoe Idealize.SL.Sem
open Cert.Stick

/-! ## Stored blocks of the outputs -/

theorem put_lanes {α : Type} (x : S256x512.Idx → α) (p : ℕ) (w : S256x128.Idx → α) (r : Fin 256) (a : Fin 512) :
    VecWindow.put (s := S256x512) x ![0, 128 * p] S256x128.size w (ix2 r a)
      = if (a : ℕ) / 128 = p then w (ix2 r ⟨a % 128, by omega⟩) else x (ix2 r a) := by
  unfold VecWindow.put
  by_cases h : (a : ℕ) / 128 = p
  · have e : ∀ y : Fin 2, ![0, 128 * p] y ≤ ((ix2 r a : S256x512.Idx) y).val ∧
        ((ix2 r a : S256x512.Idx) y).val < ![0, 128 * p] y + S256x128.size y := by
      intro y
      fin_cases y
      · show 0 ≤ (r : ℕ) ∧ (r : ℕ) < 0 + 256; omega
      · show 128 * p ≤ (a : ℕ) ∧ (a : ℕ) < 128 * p + 128; omega
    rw [dif_pos e, if_pos h]
    refine congrArg w (funext fun y => ?_)
    fin_cases y
    · exact Fin.ext (by show (r : ℕ) - 0 = r; omega)
    · exact Fin.ext (by show (a : ℕ) - 128 * p = a % 128; omega)
  · rw [if_neg h, dif_neg]
    intro e
    have e1 : 128 * p ≤ (a : ℕ) ∧ (a : ℕ) < 128 * p + 128 := e 1
    omega

theorem put_block {α : Type} (x : S2048x512.Idx → α) (k p : ℕ) (w : S256x128.Idx → α) (r : Fin 2048) (a : Fin 512) :
    VecWindow.put (s := S2048x512) x ![256 * k, 128 * p] S256x128.size w (ix2 r a)
      = if (r : ℕ) / 256 = k ∧ (a : ℕ) / 128 = p then w (ix2 ⟨r % 256, by omega⟩ ⟨a % 128, by omega⟩) else x (ix2 r a) := by
  unfold VecWindow.put
  by_cases h : (r : ℕ) / 256 = k ∧ (a : ℕ) / 128 = p
  · obtain ⟨h1, h2⟩ := h
    have e : ∀ y : Fin 2, ![256 * k, 128 * p] y ≤ ((ix2 r a : S2048x512.Idx) y).val ∧
        ((ix2 r a : S2048x512.Idx) y).val < ![256 * k, 128 * p] y + S256x128.size y := by
      intro y
      fin_cases y
      · show 256 * k ≤ (r : ℕ) ∧ (r : ℕ) < 256 * k + 256; omega
      · show 128 * p ≤ (a : ℕ) ∧ (a : ℕ) < 128 * p + 128; omega
    rw [dif_pos e, if_pos ⟨h1, h2⟩]
    refine congrArg w (funext fun y => ?_)
    fin_cases y
    · exact Fin.ext (by show (r : ℕ) - 256 * k = r % 256; omega)
    · exact Fin.ext (by show (a : ℕ) - 128 * p = a % 128; omega)
  · rw [if_neg h, dif_neg]
    intro e
    have e0 : 256 * k ≤ (r : ℕ) ∧ (r : ℕ) < 256 * k + 256 := e 0
    have e1 : 128 * p ≤ (a : ℕ) ∧ (a : ℕ) < 128 * p + 128 := e 1
    exact h ⟨by omega, by omega⟩

/-- Four stored pieces, one per pair, fill a block of rows. -/
theorem four_lanes (v : View sig .tc .vmem S256x512 .bf16) (f : v.ty.Contents (Elt Ideal)) {o0 o1 o2 o3 : Fin 2 → ℕ}
    (h0 : o0 = ![0, 128 * 0]) (h1 : o1 = ![0, 128 * 1]) (h2 : o2 = ![0, 128 * 2]) (h3 : o3 = ![0, 128 * 3])
    {i0 : ∀ a : Fin 2, o0 a + S256x128.size a ≤ S256x512.size a} {i1 : ∀ a : Fin 2, o1 a + S256x128.size a ≤ S256x512.size a}
    {i2 : ∀ a : Fin 2, o2 a + S256x128.size a ≤ S256x512.size a} {i3 : ∀ a : Fin 2, o3 a + S256x128.size a ≤ S256x512.size a}
    {w0 w1 w2 w3 : Vec Ideal S256x128 .bf16} {W : Fin 4 → Fin 256 → Fin 128 → ℝ}
    (e0 : ∀ r c, w0 (ix2 r c) = ((W 0 r c : ℝ) : EReal)) (e1 : ∀ r c, w1 (ix2 r c) = ((W 1 r c : ℝ) : EReal))
    (e2 : ∀ r c, w2 (ix2 r c) = ((W 2 r c : ℝ) : EReal)) (e3 : ∀ r c, w3 (ix2 r c) = ((W 3 r c : ℝ) : EReal))
    (r : Fin 256) (a : Fin 512) :
    v.read (Elt Ideal) (v.writes (Elt Ideal) f [⟨Rect.unit (s := S256x512) o3 S256x128.size i3, w3⟩,
        ⟨Rect.unit (s := S256x512) o2 S256x128.size i2, w2⟩, ⟨Rect.unit (s := S256x512) o1 S256x128.size i1, w1⟩,
        ⟨Rect.unit (s := S256x512) o0 S256x128.size i0, w0⟩]) (ix2 r a)
      = ((W ⟨a / 128, by omega⟩ r ⟨a % 128, by omega⟩ : ℝ) : EReal) := by
  rw [View.read_writes_cons_put v f i3 w3 _ h3, put_lanes, View.read_writes_cons_put v f i2 w2 _ h2, put_lanes,
    View.read_writes_cons_put v f i1 w1 _ h1, put_lanes, View.read_writes_cons_put v f i0 w0 _ h0, put_lanes]
  have ha : (a : ℕ) / 128 < 4 := by omega
  rcases (by omega : (a : ℕ) / 128 = 3 ∨ (a : ℕ) / 128 = 2 ∨ (a : ℕ) / 128 = 1 ∨ (a : ℕ) / 128 = 0) with h | h | h | h
  · rw [if_pos h, e3, show (⟨a / 128, ha⟩ : Fin 4) = 3 from Fin.ext h]
  · rw [if_neg (by omega), if_pos h, e2, show (⟨a / 128, ha⟩ : Fin 4) = 2 from Fin.ext h]
  · rw [if_neg (by omega), if_neg (by omega), if_pos h, e1, show (⟨a / 128, ha⟩ : Fin 4) = 1 from Fin.ext h]
  · rw [if_neg (by omega), if_neg (by omega), if_neg (by omega), if_pos h, e0, show (⟨a / 128, ha⟩ : Fin 4) = 0 from Fin.ext h]

section Out

variable (arg14 : Memref sig .tc .vmem S8x512x256 .f32) (g : BufTy.Contents (Elt Ideal) arg14.view.ty)

theorem block_inb (k : Fin 8) (p : Fin 4) : ∀ a : Fin 2, ![256 * (k : ℕ), 128 * (p : ℕ)] a + S256x128.size a ≤ S2048x512.size a := by
  intro a; fin_cases a
  · show 256 * (k : ℕ) + 256 ≤ 2048; omega
  · show 128 * (p : ℕ) + 128 ≤ 512; omega
theorem acc_inb (k : Fin 8) (p : Fin 4) : ∀ a : Fin 3, ![(k : ℕ), 128 * (p : ℕ), 0] a + S1x128x256.size a ≤ S8x512x256.size a := by
  intro a; fin_cases a
  · show (k : ℕ) + 1 ≤ 8; omega
  · show 128 * (p : ℕ) + 128 ≤ 512; omega
  · show 0 + 256 ≤ 256; omega

/-- The piece of the output for key block `k` and pair `p`. -/
def outPiece (kp : Fin 8 × Fin 4) : View.Piece (Elt Ideal) S2048x512 .bf16 :=
  ⟨Rect.unit (s := S2048x512) ![256 * (kp.1 : ℕ), 128 * (kp.2 : ℕ)] S256x128.size (block_inb kp.1 kp.2),
    k0_pay1 (arg14.view.readAt (Elt Ideal) (Rect.unit (s := S8x512x256) ![(kp.1 : ℕ), 128 * (kp.2 : ℕ), 0] S1x128x256.size (acc_inb kp.1 kp.2)).toLoadRect g)⟩

def outOrder : List (Fin 8 × Fin 4) := [(7, 3), (7, 2), (7, 1), (7, 0), (6, 3), (6, 2), (6, 1), (6, 0), (5, 3), (5, 2), (5, 1), (5, 0), (4, 3), (4, 2), (4, 1), (4, 0), (3, 3), (3, 2), (3, 1), (3, 0), (2, 3), (2, 2), (2, 1), (2, 0), (1, 3), (1, 2), (1, 1), (1, 0), (0, 3), (0, 2), (0, 1), (0, 0)]

theorem out_all : ∀ kp : Fin 8 × Fin 4, kp ∈ outOrder := by decide +kernel

theorem outP_eq : outP arg14 g = outOrder.map (outPiece arg14 g) := rfl

theorem turned (x : Vec Ideal S1x128x256 .f32) (r : Fin 256) (c : Fin 128) : k0_pay1 x (ix2 r c) = x (ix3 0 c r) := by
  pointwise [k0_pay1]

theorem out_read (v : View sig .tc .vmem S2048x512 .bf16) (f : v.ty.Contents (Elt Ideal)) (r : Fin 2048) (a : Fin 512) :
    v.read (Elt Ideal) (v.writes (Elt Ideal) f (outP arg14 g)) (ix2 r a)
      = arg14.view.read (Elt Ideal) g (ix3 ⟨r / 256, by omega⟩ a ⟨r % 256, by omega⟩) := by
  rw [outP_eq]
  have hm : ((⟨r / 256, by omega⟩, ⟨a / 128, by omega⟩) : Fin 8 × Fin 4) ∈ outOrder := out_all _
  generalize outOrder = L at hm
  induction L with
  | nil => simp at hm
  | cons kp L ih =>
    rw [List.map_cons]
    unfold outPiece at ih ⊢
    rw [View.read_writes_cons_put v f _ _ _ rfl, put_block]
    by_cases h : (r : ℕ) / 256 = kp.1 ∧ (a : ℕ) / 128 = kp.2
    · rw [if_pos h, turned, View.readAt_unit arg14.view g _ rfl (acc_inb kp.1 kp.2), window_piece _ _ _ kp.1.isLt kp.2.isLt]
      congr 1
      obtain ⟨h1, h2⟩ := h
      refine congrArg₂ (fun (x : Fin 8) (y : Fin 512) => (ix3 x y _ : S8x512x256.Idx)) (Fin.ext ?_) (Fin.ext ?_)
      · exact h1.symm
      · show 128 * (kp.2 : ℕ) + (a : ℕ) % 128 = a; omega
    · rw [if_neg h]
      refine ih ?_
      rcases List.mem_cons.1 hm with e | e
      · exact absurd ⟨congrArg (fun x => (x.1 : ℕ)) e, congrArg (fun x => (x.2 : ℕ)) e⟩ h
      · exact e

end Out

/-! ## The operands -/

/-- The pair's stacked queries and output gradients. -/
def stackQ (q : Fin 4 → Fin 256 → Fin 128 → ℝ) (p : Fin 4) : Fin 512 → Fin 128 → ℝ := stackR (fun ρ c => q p ρ c * (1 / 8))
def stackD (d g : Fin 4 → Fin 256 → Fin 128 → ℝ) (p : Fin 4) : Fin 512 → Fin 128 → ℝ := stackR (fun ρ c => d p ρ c * g p ρ c * sgm (g p ρ c))

def Lanes (x : S256x512.Idx → EReal) (d : Fin 4 → Fin 256 → Fin 128 → ℝ) : Prop :=
  ∀ (ρ : Fin 256) (p : Fin 4) (c : Fin 128), x (ix2 ρ ⟨128 * p + c, by omega⟩) = ((d p ρ c : ℝ) : EReal)

/-- The blocks of one point hold real numbers: the output gradient `d`, the attention's output `o`, the row sums `R`, the queries `q`,
    the keys `K`, the values `V` and the gate `g`; `z` and `w` are the logits and the value products they make. -/
structure BlockIn (n : ℕ) (x0 x1 : Vec Ideal S256x512 .bf16) (x2 : Vec Ideal S1x4x256x128 .f32) (x3 : Vec Ideal S256x512 .bf16) (x4 x5 : Vec Ideal S2048x512 .bf16)
    (x6 : Vec Ideal S256x512 .bf16) (d o q g : Fin 4 → Fin 256 → Fin 128 → ℝ) (R : Fin 4 → Fin 256 → Fin 128 → ℝ) (K V : Fin 4 → ℕ → Fin 128 → ℝ)
    (z w : Fin 4 → ℕ → ℕ → ℕ → ℝ) : Prop where
  d_eq : Lanes x0 d
  o_eq : Lanes x1 o
  r_eq : ∀ (p : Fin 4) (ρ : Fin 256) (l : Fin 128), x2 (ix4 0 p ρ l) = ((R p ρ l : ℝ) : EReal)
  q_eq : Lanes x3 q
  k_eq : Rows x4 K
  v_eq : Rows x5 V
  g_eq : Lanes x6 g
  z_eq : ∀ (p : Fin 4) (r : Fin 512) (j : ℕ) (s : Fin 256), j < 8 → ∑ c, stackQ q p r c * K p (256 * j + s) c = z p (r / 256) (256 * n + r % 256) (256 * j + s)
  w_eq : ∀ (p : Fin 4) (r : Fin 512) (j : ℕ) (s : Fin 256), j < 8 → ∑ c, stackD d g p r c * V p (256 * j + s) c = w p (r / 256) (256 * n + r % 256) (256 * j + s)
  R_eq : ∀ (p : Fin 4) (j : ℕ) (hj : j < 8), j ≤ n → ∀ a : Fin 512, laneR (R p) j hj a = later (z p ((a : ℕ) / 256)) (256 * n + a % 256) (256 * j + 255)

section

variable (c : Dev nD) (i : grid0.Coords) (arg3 : Memref sig .tc .vmem S256x512 .bf16) (harg3 : arg3.IsWhole) (arg4 : Memref sig .tc .vmem S256x512 .bf16) (harg4 : arg4.IsWhole) (arg5 : Memref sig .tc .vmem S1x4x256x128 .f32) (harg5 : arg5.IsWhole) (arg6 : Memref sig .tc .vmem S256x512 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S256x512 .bf16) (harg13 : arg13.IsWhole) (arg14 : Memref sig .tc .vmem S8x512x256 .f32) (harg14 : arg14.IsWhole) (arg15 : Memref sig .tc .vmem S8x512x256 .f32) (harg15 : arg15.IsWhole)
variable {X3 : BufTy.Contents (Elt Ideal) arg3.view.ty} {X4 : BufTy.Contents (Elt Ideal) arg4.view.ty} {X5 : BufTy.Contents (Elt Ideal) arg5.view.ty} {X6 : BufTy.Contents (Elt Ideal) arg6.view.ty} {X7 : BufTy.Contents (Elt Ideal) arg7.view.ty} {X8 : BufTy.Contents (Elt Ideal) arg8.view.ty} {X9 : BufTy.Contents (Elt Ideal) arg9.view.ty}
  {d o q g : Fin 4 → Fin 256 → Fin 128 → ℝ} {R : Fin 4 → Fin 256 → Fin 128 → ℝ} {K V : Fin 4 → ℕ → Fin 128 → ℝ} {z w : Fin 4 → ℕ → ℕ → ℕ → ℝ}
variable (B : BlockIn (i 2).val (arg3.view.read (Elt Ideal) X3) (arg4.view.read (Elt Ideal) X4) (arg5.view.read (Elt Ideal) X5) (arg6.view.read (Elt Ideal) X6) (arg7.view.read (Elt Ideal) X7) (arg8.view.read (Elt Ideal) X8) (arg9.view.read (Elt Ideal) X9) d o q g R K V z w)
include B

theorem pair0 : PairIn (i 2).val (qS (laneAt0 arg6 X6)) (dS (laneAt0 arg9 X9) (laneAt0 arg3 X3)) (flip (qS (laneAt0 arg6 X6))) (flip (dS (laneAt0 arg9 X9) (laneAt0 arg3 X3))) (sumsAt0 arg5 X5) (stackQ q 0) (stackD d g 0) (K 0) (V 0) (R 0) (z 0) (w 0) where
  q_eq := qS_read (laneAt0_read B.q_eq)
  d_eq := dS_read (laneAt0_read B.g_eq) (laneAt0_read B.d_eq)
  t_eq c r := (flip_read _ c r).trans (qS_read (laneAt0_read B.q_eq) r c)
  td_eq c r := (flip_read _ c r).trans (dS_read (laneAt0_read B.g_eq) (laneAt0_read B.d_eq) r c)
  r_eq := sumsAt0_read B.r_eq
  z_eq := B.z_eq 0
  w_eq := B.w_eq 0
  R_eq := B.R_eq 0

theorem pair1 : PairIn (i 2).val (qS (laneAt1 arg6 X6)) (dS (laneAt1 arg9 X9) (laneAt1 arg3 X3)) (flip (qS (laneAt1 arg6 X6))) (flip (dS (laneAt1 arg9 X9) (laneAt1 arg3 X3))) (sumsAt1 arg5 X5) (stackQ q 1) (stackD d g 1) (K 1) (V 1) (R 1) (z 1) (w 1) where
  q_eq := qS_read (laneAt1_read B.q_eq)
  d_eq := dS_read (laneAt1_read B.g_eq) (laneAt1_read B.d_eq)
  t_eq c r := (flip_read _ c r).trans (qS_read (laneAt1_read B.q_eq) r c)
  td_eq c r := (flip_read _ c r).trans (dS_read (laneAt1_read B.g_eq) (laneAt1_read B.d_eq) r c)
  r_eq := sumsAt1_read B.r_eq
  z_eq := B.z_eq 1
  w_eq := B.w_eq 1
  R_eq := B.R_eq 1

theorem pair2 : PairIn (i 2).val (qS (laneAt2 arg6 X6)) (dS (laneAt2 arg9 X9) (laneAt2 arg3 X3)) (flip (qS (laneAt2 arg6 X6))) (flip (dS (laneAt2 arg9 X9) (laneAt2 arg3 X3))) (sumsAt2 arg5 X5) (stackQ q 2) (stackD d g 2) (K 2) (V 2) (R 2) (z 2) (w 2) where
  q_eq := qS_read (laneAt2_read B.q_eq)
  d_eq := dS_read (laneAt2_read B.g_eq) (laneAt2_read B.d_eq)
  t_eq c r := (flip_read _ c r).trans (qS_read (laneAt2_read B.q_eq) r c)
  td_eq c r := (flip_read _ c r).trans (dS_read (laneAt2_read B.g_eq) (laneAt2_read B.d_eq) r c)
  r_eq := sumsAt2_read B.r_eq
  z_eq := B.z_eq 2
  w_eq := B.w_eq 2
  R_eq := B.R_eq 2

theorem pair3 : PairIn (i 2).val (qS (laneAt3 arg6 X6)) (dS (laneAt3 arg9 X9) (laneAt3 arg3 X3)) (flip (qS (laneAt3 arg6 X6))) (flip (dS (laneAt3 arg9 X9) (laneAt3 arg3 X3))) (sumsAt3 arg5 X5) (stackQ q 3) (stackD d g 3) (K 3) (V 3) (R 3) (z 3) (w 3) where
  q_eq := qS_read (laneAt3_read B.q_eq)
  d_eq := dS_read (laneAt3_read B.g_eq) (laneAt3_read B.d_eq)
  t_eq c r := (flip_read _ c r).trans (qS_read (laneAt3_read B.q_eq) r c)
  td_eq c r := (flip_read _ c r).trans (dS_read (laneAt3_read B.g_eq) (laneAt3_read B.d_eq) r c)
  r_eq := sumsAt3_read B.r_eq
  z_eq := B.z_eq 3
  w_eq := B.w_eq 3
  R_eq := B.R_eq 3

/-- After the block loop. -/
theorem loop_end {G14 : BufTy.Contents (Elt Ideal) arg14.view.ty} {G15 : BufTy.Contents (Elt Ideal) arg15.view.ty} {S14 S15 : Fin 8 → Fin 512 → Fin 256 → ℝ}
    (h14 : ∀ b a s, arg14.view.read (Elt Ideal) G14 (ix3 b a s) = ((S14 b a s : ℝ) : EReal))
    (h15 : ∀ b a s, arg15.view.read (Elt Ideal) G15 (ix3 b a s) = ((S15 b a s : ℝ) : EReal)) :
    Inv i arg14 arg15 G14 G15 K (stackQ q) (stackD d g) z w S14 S15 (i 2).val (st1 c i arg3 harg3 arg4 harg4 arg5 harg5 arg6 harg6 arg7 harg7 arg8 harg8 arg9 harg9 arg10 harg10 arg11 harg11 arg12 harg12 arg13 harg13 arg14 harg14 arg15 harg15 X3 X5 X6 X7 X8 X9 G14 G15) := by
  have hI : Inv i arg14 arg15 G14 G15 K (stackQ q) (stackD d g) z w S14 S15 0 (carry0 (qS (laneAt0 arg6 X6)), [], []) := by
    refine ⟨⟨zero_read (pair0 i arg3 arg4 arg5 arg6 arg7 arg8 arg9 B).q_eq _ _ _ _, zero_read (pair0 i arg3 arg4 arg5 arg6 arg7 arg8 arg9 B).q_eq _ _ _ _, zero_read (pair0 i arg3 arg4 arg5 arg6 arg7 arg8 arg9 B).q_eq _ _ _ _, zero_read (pair0 i arg3 arg4 arg5 arg6 arg7 arg8 arg9 B).q_eq _ _ _ _⟩, ?_, ?_⟩
    · intro b a s
      rw [if_neg (Nat.not_lt_zero _), add_zero]
      exact h14 b a s
    · intro b a s
      rw [if_neg (Nat.not_lt_zero _), add_zero]
      exact h15 b a s
  have h := loop_state (𝒱 := Variants.none) (c := c) (bd := none) (i := i) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg2 := BitVec.ofNat 32 (i 2).val)
    (v210 := k0_pay185 k0_pay150 (k0_pay172 (laneAt3 arg9 X9)) (k0_pay173 (laneAt3 arg9 X9)) (k0_pay174 (laneAt3 arg3 X3)))
    (P0 := (pair0 i arg3 arg4 arg5 arg6 arg7 arg8 arg9 B)) (P1 := (pair1 i arg3 arg4 arg5 arg6 arg7 arg8 arg9 B)) (P2 := (pair2 i arg3 arg4 arg5 arg6 arg7 arg8 arg9 B)) (P3 := (pair3 i arg3 arg4 arg5 arg6 arg7 arg8 arg9 B)) (h7 := B.k_eq) (h8 := B.v_eq) (h0 := hI) (k := (k0_t1_loop i).trips) (hk := le_rfl)
  exact Eq.mp (congrArg (fun k => Inv i arg14 arg15 G14 G15 K (stackQ q) (stackD d g) z w S14 S15 k (st1 c i arg3 harg3 arg4 harg4 arg5 harg5 arg6 harg6 arg7 harg7 arg8 harg8 arg9 harg9 arg10 harg10 arg11 harg11 arg12 harg12 arg13 harg13 arg14 harg14 arg15 harg15 X3 X5 X6 X7 X8 X9 G14 G15)) (trips_count i)) h

/-- After the tile on the diagonal. -/
theorem key_end {f : BufTy.Contents (Elt Ideal) arg14.view.ty} {S : Fin 8 → Fin 512 → Fin 256 → ℝ} {L : Pieces Ideal} {s : Carry Ideal}
    (h : Holds (arg14.view.read (Elt Ideal) (arg14.view.writes (Elt Ideal) f L)) S (dkG (stackQ q) z w (i 2).val) (i 2).val)
    (g0 : ∀ a, s.2.1 (ix2 a 0) = ((gpR (z 0) (w 0) (i 2).val a (256 * (i 2).val) : ℝ) : EReal))
    (g1 : ∀ a, s.2.2.2.1 (ix2 a 0) = ((gpR (z 1) (w 1) (i 2).val a (256 * (i 2).val) : ℝ) : EReal))
    (g2 : ∀ a, s.2.2.2.2.2.1 (ix2 a 0) = ((gpR (z 2) (w 2) (i 2).val a (256 * (i 2).val) : ℝ) : EReal))
    (g3 : ∀ a, s.2.2.2.2.2.2.2 (ix2 a 0) = ((gpR (z 3) (w 3) (i 2).val a (256 * (i 2).val) : ℝ) : EReal)) :
    Holds (arg14.view.read (Elt Ideal) (arg14.view.writes (Elt Ideal) f (keyP3 i arg3 arg6 arg9 arg5 arg7 arg8 arg14 X3 X5 X6 X7 X8 X9 f s L))) S (dkG (stackQ q) z w (i 2).val) ((i 2).val + 1) := by
  have hn := block_lt i
  have b0 : ∀ (a : Fin 512) (t : Fin 256), arg14.view.read (Elt Ideal) (arg14.view.writes (Elt Ideal) f L) (ix3 ⟨(i 2).val, hn⟩ a t) = ((S ⟨(i 2).val, hn⟩ a t : ℝ) : EReal) := by
    intro a t
    rw [h, if_neg (lt_irrefl _), add_zero]
  have b1 : ∀ (a : Fin 512) (t : Fin 256), 0 < (a : ℕ) / 128 → arg14.view.read (Elt Ideal) (arg14.view.writes (Elt Ideal) f (keyP0 i arg3 arg6 arg9 arg5 arg7 arg8 arg14 X3 X5 X6 X7 X8 X9 f s L)) (ix3 ⟨(i 2).val, hn⟩ a t) = ((S ⟨(i 2).val, hn⟩ a t : ℝ) : EReal) := by
    intro a t ha
    unfold keyP0
    rw [other_piece _ _ _ (oldD_off0 i) _ _ _ (by omega)]
    exact b0 a t
  have b2 : ∀ (a : Fin 512) (t : Fin 256), 1 < (a : ℕ) / 128 → arg14.view.read (Elt Ideal) (arg14.view.writes (Elt Ideal) f (keyP1 i arg3 arg6 arg9 arg5 arg7 arg8 arg14 X3 X5 X6 X7 X8 X9 f s L)) (ix3 ⟨(i 2).val, hn⟩ a t) = ((S ⟨(i 2).val, hn⟩ a t : ℝ) : EReal) := by
    intro a t ha
    unfold keyP1
    rw [other_piece _ _ _ (oldD_off1 i) _ _ _ (by omega)]
    exact b1 a t (by omega)
  have b3 : ∀ (a : Fin 512) (t : Fin 256), 2 < (a : ℕ) / 128 → arg14.view.read (Elt Ideal) (arg14.view.writes (Elt Ideal) f (keyP2 i arg3 arg6 arg9 arg5 arg7 arg8 arg14 X3 X5 X6 X7 X8 X9 f s L)) (ix3 ⟨(i 2).val, hn⟩ a t) = ((S ⟨(i 2).val, hn⟩ a t : ℝ) : EReal) := by
    intro a t ha
    unfold keyP2
    rw [other_piece _ _ _ (oldD_off2 i) _ _ _ (by omega)]
    exact b2 a t (by omega)
  refine h.next hn ?_
  intro b a t
  have e := four_pieces (W := fun p c s => S ⟨(i 2).val, hn⟩ ⟨128 * p + c, by omega⟩ s + dkG (stackQ q) z w (i 2).val p c (256 * (i 2).val + s)) arg14.view f L
      (oldD_off0 i) (oldD_off1 i) (oldD_off2 i) (oldD_off3 i) (i0 := k0_off18_inb i) (i1 := k0_off20_inb i) (i2 := k0_off22_inb i) (i3 := k0_off24_inb i)
      (dkD_read (pair0 i arg3 arg4 arg5 arg6 arg7 arg8 arg9 B) hn (keyD0_read i B.k_eq) (keyD0_read i B.v_eq) g0 (oldD0_read i fun c t => b0 _ t))
      (dkD_read (pair1 i arg3 arg4 arg5 arg6 arg7 arg8 arg9 B) hn (keyD1_read i B.k_eq) (keyD1_read i B.v_eq) g1 (oldD1_read i fun c t => b1 _ t (by show 0 < (128 * 1 + (c : ℕ)) / 128; omega)))
      (dkD_read (pair2 i arg3 arg4 arg5 arg6 arg7 arg8 arg9 B) hn (keyD2_read i B.k_eq) (keyD2_read i B.v_eq) g2 (oldD2_read i fun c t => b2 _ t (by show 1 < (128 * 2 + (c : ℕ)) / 128; omega)))
      (dkD_read (pair3 i arg3 arg4 arg5 arg6 arg7 arg8 arg9 B) hn (keyD3_read i B.k_eq) (keyD3_read i B.v_eq) g3 (oldD3_read i fun c t => b3 _ t (by show 2 < (128 * 3 + (c : ℕ)) / 128; omega)))
      b a t
  exact e

theorem val_end {f : BufTy.Contents (Elt Ideal) arg14.view.ty} {S : Fin 8 → Fin 512 → Fin 256 → ℝ} {L : Pieces Ideal}
    (h : Holds (arg14.view.read (Elt Ideal) (arg14.view.writes (Elt Ideal) f L)) S (dvG (stackD d g) z (i 2).val) (i 2).val) :
    Holds (arg14.view.read (Elt Ideal) (arg14.view.writes (Elt Ideal) f (valP3 i arg3 arg6 arg9 arg5 arg7 arg14 X3 X5 X6 X7 X9 f L))) S (dvG (stackD d g) z (i 2).val) ((i 2).val + 1) := by
  have hn := block_lt i
  have b0 : ∀ (a : Fin 512) (t : Fin 256), arg14.view.read (Elt Ideal) (arg14.view.writes (Elt Ideal) f L) (ix3 ⟨(i 2).val, hn⟩ a t) = ((S ⟨(i 2).val, hn⟩ a t : ℝ) : EReal) := by
    intro a t
    rw [h, if_neg (lt_irrefl _), add_zero]
  have b1 : ∀ (a : Fin 512) (t : Fin 256), 0 < (a : ℕ) / 128 → arg14.view.read (Elt Ideal) (arg14.view.writes (Elt Ideal) f (valP0 i arg3 arg6 arg9 arg5 arg7 arg14 X3 X5 X6 X7 X9 f L)) (ix3 ⟨(i 2).val, hn⟩ a t) = ((S ⟨(i 2).val, hn⟩ a t : ℝ) : EReal) := by
    intro a t ha
    unfold valP0
    rw [other_piece _ _ _ (oldD_off0 i) _ _ _ (by omega)]
    exact b0 a t
  have b2 : ∀ (a : Fin 512) (t : Fin 256), 1 < (a : ℕ) / 128 → arg14.view.read (Elt Ideal) (arg14.view.writes (Elt Ideal) f (valP1 i arg3 arg6 arg9 arg5 arg7 arg14 X3 X5 X6 X7 X9 f L)) (ix3 ⟨(i 2).val, hn⟩ a t) = ((S ⟨(i 2).val, hn⟩ a t : ℝ) : EReal) := by
    intro a t ha
    unfold valP1
    rw [other_piece _ _ _ (oldD_off1 i) _ _ _ (by omega)]
    exact b1 a t (by omega)
  have b3 : ∀ (a : Fin 512) (t : Fin 256), 2 < (a : ℕ) / 128 → arg14.view.read (Elt Ideal) (arg14.view.writes (Elt Ideal) f (valP2 i arg3 arg6 arg9 arg5 arg7 arg14 X3 X5 X6 X7 X9 f L)) (ix3 ⟨(i 2).val, hn⟩ a t) = ((S ⟨(i 2).val, hn⟩ a t : ℝ) : EReal) := by
    intro a t ha
    unfold valP2
    rw [other_piece _ _ _ (oldD_off2 i) _ _ _ (by omega)]
    exact b2 a t (by omega)
  refine h.next hn ?_
  intro b a t
  have e := four_pieces (W := fun p c s => S ⟨(i 2).val, hn⟩ ⟨128 * p + c, by omega⟩ s + dvG (stackD d g) z (i 2).val p c (256 * (i 2).val + s)) arg14.view f L
      (oldD_off0 i) (oldD_off1 i) (oldD_off2 i) (oldD_off3 i) (i0 := k0_off18_inb i) (i1 := k0_off20_inb i) (i2 := k0_off22_inb i) (i3 := k0_off24_inb i)
      (dvD_read (pair0 i arg3 arg4 arg5 arg6 arg7 arg8 arg9 B) hn (keyD0_read i B.k_eq) (oldD0_read i fun c t => b0 _ t))
      (dvD_read (pair1 i arg3 arg4 arg5 arg6 arg7 arg8 arg9 B) hn (keyD1_read i B.k_eq) (oldD1_read i fun c t => b1 _ t (by show 0 < (128 * 1 + (c : ℕ)) / 128; omega)))
      (dvD_read (pair2 i arg3 arg4 arg5 arg6 arg7 arg8 arg9 B) hn (keyD2_read i B.k_eq) (oldD2_read i fun c t => b2 _ t (by show 1 < (128 * 2 + (c : ℕ)) / 128; omega)))
      (dvD_read (pair3 i arg3 arg4 arg5 arg6 arg7 arg8 arg9 B) hn (keyD3_read i B.k_eq) (oldD3_read i fun c t => b3 _ t (by show 2 < (128 * 3 + (c : ℕ)) / 128; omega)))
      b a t
  exact e

/-- The query gradient the point stores. -/
theorem dq_end {s : Carry Ideal} (v : View sig .tc .vmem S256x512 .bf16) (f : v.ty.Contents (Elt Ideal))
    (c0 : Carried (z 0) (w 0) (K 0) (i 2).val (i 2).val s.1 s.2.1)
    (c1 : Carried (z 1) (w 1) (K 1) (i 2).val (i 2).val s.2.2.1 s.2.2.2.1)
    (c2 : Carried (z 2) (w 2) (K 2) (i 2).val (i 2).val s.2.2.2.2.1 s.2.2.2.2.2.1)
    (c3 : Carried (z 3) (w 3) (K 3) (i 2).val (i 2).val s.2.2.2.2.2.2.1 s.2.2.2.2.2.2.2)
    (r : Fin 256) (a : Fin 512) :
    v.read (Elt Ideal) (v.writes (Elt Ideal) f (dqP i arg3 arg6 arg9 arg5 arg7 arg8 X3 X5 X6 X7 X8 X9 s)) (ix2 r a)
      = ((dqR (z ⟨a / 128, by omega⟩) (w ⟨a / 128, by omega⟩) (K ⟨a / 128, by omega⟩) (i 2).val ⟨256 * (a % 128 / 64) + r, by omega⟩ ⟨a % 128, by omega⟩ (256 * ((i 2).val + 1)) * (1 / 8) : ℝ) : EReal) := by
  have hn := block_lt i
  unfold dqP
  have e := four_lanes (W := fun p r c => dqR (z p) (w p) (K p) (i 2).val ⟨256 * (c / 64) + r, by omega⟩ c (256 * ((i 2).val + 1)) * (1 / 8)) v f rfl rfl rfl rfl
    (i0 := inb_S256x512_S256x128_0_0) (i1 := inb_S256x512_S256x128_0_128) (i2 := inb_S256x512_S256x128_0_256) (i3 := inb_S256x512_S256x128_0_384)
    (dqO_read (X := fun r c => dqR (z 0) (w 0) (K 0) (i 2).val r c (256 * ((i 2).val + 1))) (dqD_read (pair0 i arg3 arg4 arg5 arg6 arg7 arg8 arg9 B) hn (keyD0_read i B.k_eq) (keyD0_read i B.v_eq) c0.2 c0.1))
    (dqO_read (X := fun r c => dqR (z 1) (w 1) (K 1) (i 2).val r c (256 * ((i 2).val + 1))) (dqD_read (pair1 i arg3 arg4 arg5 arg6 arg7 arg8 arg9 B) hn (keyD1_read i B.k_eq) (keyD1_read i B.v_eq) c1.2 c1.1))
    (dqO_read (X := fun r c => dqR (z 2) (w 2) (K 2) (i 2).val r c (256 * ((i 2).val + 1))) (dqD_read (pair2 i arg3 arg4 arg5 arg6 arg7 arg8 arg9 B) hn (keyD2_read i B.k_eq) (keyD2_read i B.v_eq) c2.2 c2.1))
    (dqO_read (X := fun r c => dqR (z 3) (w 3) (K 3) (i 2).val r c (256 * ((i 2).val + 1))) (dqD_read (pair3 i arg3 arg4 arg5 arg6 arg7 arg8 arg9 B) hn (keyD3_read i B.k_eq) (keyD3_read i B.v_eq) c3.2 c3.1))
    r a
  exact e

/-- The gate's gradient it stores. -/
theorem gate_end (v : View sig .tc .vmem S256x512 .bf16) (f : v.ty.Contents (Elt Ideal)) (r : Fin 256) (a : Fin 512) :
    v.read (Elt Ideal) (v.writes (Elt Ideal) f (gateP (F := Ideal) arg3 arg9 X3 X9 arg4 X4)) (ix2 r a)
      = ((fun (p : Fin 4) (c : Fin 128) => d p r c * o p r c * sgm (g p r c) * (1 + g p r c * (1 - sgm (g p r c)))) ⟨a / 128, by omega⟩ ⟨a % 128, by omega⟩ : ℝ) := by
  exact four_lanes (W := fun p r c => d p r c * o p r c * sgm (g p r c) * (1 + g p r c * (1 - sgm (g p r c)))) v f rfl rfl rfl rfl
    (gateG_read (laneAt0_read B.g_eq) (laneAt0_read B.d_eq) (laneAt0_read B.o_eq))
    (gateG_read (laneAt1_read B.g_eq) (laneAt1_read B.d_eq) (laneAt1_read B.o_eq))
    (gateG_read (laneAt2_read B.g_eq) (laneAt2_read B.d_eq) (laneAt2_read B.o_eq))
    (gateG_read (laneAt3_read B.g_eq) (laneAt3_read B.d_eq) (laneAt3_read B.o_eq))
    r a

end

end Cert.KernelIdeal.Own

end
-- ==== Proof.Grid.lean ====
/-
The kernel point by point: what each of the three cases leaves.
-/
module

public import proofs.«01_k».proof.Proof.Point
public import proofs.«01_k».proof.Proof.Gen.KernelIdeal.Value

@[expose] public section

set_option maxRecDepth 16384

noncomputable section

namespace Cert.KernelIdeal.Own

open Cert.KernelIdeal Cert.KernelIdeal.Gen Idealize.ShloMosaic Idealize.ShloMosaic.TcCoe Idealize.SL.Sem
open Cert.Stick

/-- The query gradient stored at block `n` for row `r`, pair `p`, lane `c`. -/
def dqAt (z w : Fin 4 → ℕ → ℕ → ℕ → ℝ) (K : Fin 4 → ℕ → Fin 128 → ℝ) (n : ℕ) (r : Fin 256) (p : Fin 4) (c : Fin 128) : ℝ :=
  dqR (z p) (w p) (K p) n ⟨256 * (c / 64) + r, by omega⟩ c (256 * (n + 1)) * (1 / 8)
/-- The gate's gradient. -/
def gateAt (d o g : Fin 4 → Fin 256 → Fin 128 → ℝ) (r : Fin 256) (p : Fin 4) (c : Fin 128) : ℝ :=
  d p r c * o p r c * sgm (g p r c) * (1 + g p r c * (1 - sgm (g p r c)))

/-- What a point leaves: its two stored blocks, and the accumulators over what they held. -/
structure After (n : ℕ) (y7 y10 : Vec Ideal S256x512 .bf16) (s0 s1 : Vec Ideal S8x512x256 .f32) (d o q g : Fin 4 → Fin 256 → Fin 128 → ℝ)
    (K : Fin 4 → ℕ → Fin 128 → ℝ) (z w : Fin 4 → ℕ → ℕ → ℕ → ℝ) (S14 S15 : Fin 8 → Fin 512 → Fin 256 → ℝ) : Prop where
  dq : ∀ (r : Fin 256) (a : Fin 512), y7 (ix2 r a) = ((dqAt z w K n r ⟨a / 128, by omega⟩ ⟨a % 128, by omega⟩ : ℝ) : EReal)
  gate : ∀ (r : Fin 256) (a : Fin 512), y10 (ix2 r a) = ((gateAt d o g r ⟨a / 128, by omega⟩ ⟨a % 128, by omega⟩ : ℝ) : EReal)
  key : Holds s0 S14 (dkG (stackQ q) z w n) (n + 1)
  val : Holds s1 S15 (dvG (stackD d g) z n) (n + 1)

theorem put_whole {α : Type} (x : S8x512x256.Idx → α) (w : S8x512x256.Idx → α) (b : Fin 8) (a : Fin 512) (s : Fin 256) :
    VecWindow.put (s := S8x512x256) x ![0, 0, 0] S8x512x256.size w (ix3 b a s) = w (ix3 b a s) := by
  unfold VecWindow.put
  rw [dif_pos]
  · refine congrArg w (funext fun y => ?_)
    fin_cases y
    · exact Fin.ext (Nat.sub_zero _)
    · exact Fin.ext (Nat.sub_zero _)
    · exact Fin.ext (Nat.sub_zero _)
  · intro y
    fin_cases y
    · show 0 ≤ (b : ℕ) ∧ (b : ℕ) < 0 + 8; omega
    · show 0 ≤ (a : ℕ) ∧ (a : ℕ) < 0 + 512; omega
    · show 0 ≤ (s : ℕ) ∧ (s : ℕ) < 0 + 256; omega

theorem cleared0 (b : Fin 8) (a : Fin 512) (s : Fin 256) : k0_pay147 (F := Ideal) (ix3 b a s) = (((0 : ℝ)) : EReal) := by
  pointwise [k0_pay147]
  exact EReal.coe_zero.symm
theorem cleared1 (b : Fin 8) (a : Fin 512) (s : Fin 256) : k0_pay148 (F := Ideal) (ix3 b a s) = (((0 : ℝ)) : EReal) := by
  pointwise [k0_pay148]
  exact EReal.coe_zero.symm

section

variable (c : Dev nD) (i : grid0.Coords) (arg3 : Memref sig .tc .vmem S256x512 .bf16) (harg3 : arg3.IsWhole) (arg4 : Memref sig .tc .vmem S256x512 .bf16) (harg4 : arg4.IsWhole) (arg5 : Memref sig .tc .vmem S1x4x256x128 .f32) (harg5 : arg5.IsWhole) (arg6 : Memref sig .tc .vmem S256x512 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S256x512 .bf16) (harg13 : arg13.IsWhole)
variable (x0 : Vec Ideal S256x512 .bf16) (x1 : Vec Ideal S256x512 .bf16) (x2 : Vec Ideal S1x4x256x128 .f32) (x3 : Vec Ideal S256x512 .bf16) (x4 : Vec Ideal S2048x512 .bf16) (x5 : Vec Ideal S2048x512 .bf16) (x6 : Vec Ideal S256x512 .bf16) (xs0 : Vec Ideal S8x512x256 .f32) (xs1 : Vec Ideal S8x512x256 .f32)
  (harg14 : scM0_0.IsWhole) (harg15 : scM0_1.IsWhole)
variable {d o q g : Fin 4 → Fin 256 → Fin 128 → ℝ} {R : Fin 4 → Fin 256 → Fin 128 → ℝ} {K V : Fin 4 → ℕ → Fin 128 → ℝ} {z w : Fin 4 → ℕ → ℕ → ℕ → ℝ}
  {S14 S15 : Fin 8 → Fin 512 → Fin 256 → ℝ}
variable (B : BlockIn (i 2).val x0 x1 x2 x3 x4 x5 x6 d o q g R K V z w)
include B

theorem loaded : BlockIn (i 2).val (arg3.view.read (Elt Ideal) (harg3.unread x0)) (arg4.view.read (Elt Ideal) (harg4.unread x1)) (arg5.view.read (Elt Ideal) (harg5.unread x2)) (arg6.view.read (Elt Ideal) (harg6.unread x3))
    (arg7.view.read (Elt Ideal) (harg7.unread x4)) (arg8.view.read (Elt Ideal) (harg8.unread x5)) (arg9.view.read (Elt Ideal) (harg9.unread x6)) d o q g R K V z w := by
  rw [harg3.read_unread, harg4.read_unread, harg5.read_unread, harg6.read_unread, harg7.read_unread, harg8.read_unread, harg9.read_unread]
  exact B

theorem afterA (hc0 : cond0_0 i) (hc1 : ¬cond0_1 i) :
    After (i 2).val (out0_A_7 (F := Ideal) c i arg3 harg3 arg4 harg4 arg5 harg5 arg6 harg6 arg7 harg7 arg8 harg8 arg9 harg9 arg10 harg10 arg11 harg11 arg12 harg12 arg13 harg13 scM0_0 harg14 scM0_1 harg15 hc0 hc1 x0 x1 x2 x3 x4 x5 x6) (out0_A_10 (F := Ideal) c i arg3 harg3 arg4 harg4 arg5 harg5 arg6 harg6 arg7 harg7 arg8 harg8 arg9 harg9 arg10 harg10 arg11 harg11 arg12 harg12 arg13 harg13 scM0_0 harg14 scM0_1 harg15 hc0 hc1 x0 x1 x2 x3 x4 x5 x6) (sout0_A_0 (F := Ideal) c i arg3 harg3 arg4 harg4 arg5 harg5 arg6 harg6 arg7 harg7 arg8 harg8 arg9 harg9 arg10 harg10 arg11 harg11 arg12 harg12 arg13 harg13 scM0_0 harg14 scM0_1 harg15 hc0 hc1 x0 x1 x2 x3 x4 x5 x6) (sout0_A_1 (F := Ideal) c i arg3 harg3 arg4 harg4 arg5 harg5 arg6 harg6 arg7 harg7 arg8 harg8 arg9 harg9 arg10 harg10 arg11 harg11 arg12 harg12 arg13 harg13 scM0_0 harg14 scM0_1 harg15 hc0 hc1 x0 x1 x2 x3 x4 x5 x6) d o q g K z w (fun _ _ _ => 0) (fun _ _ _ => 0) := by
  have h14 : ∀ b a s, scM0_0.view.read (Elt Ideal) (scM0_0.view.writes (Elt Ideal) scM0_0.view.junk [⟨Rect.unit (s := S8x512x256) ![0, 0, 0] S8x512x256.size inb_S8x512x256_S8x512x256_0_0_0, k0_pay147 (F := Ideal)⟩]) (ix3 b a s)
      = (((0 : ℝ)) : EReal) := by
    intro b a s
    rw [View.read_writes_cons_put (off' := ![0, 0, 0]) scM0_0.view _ _ _ _ rfl, put_whole]
    exact cleared0 b a s
  have h15 : ∀ b a s, scM0_1.view.read (Elt Ideal) (scM0_1.view.writes (Elt Ideal) scM0_1.view.junk [⟨Rect.unit (s := S8x512x256) ![0, 0, 0] S8x512x256.size inb_S8x512x256_S8x512x256_0_0_0, k0_pay148 (F := Ideal)⟩]) (ix3 b a s)
      = (((0 : ℝ)) : EReal) := by
    intro b a s
    rw [View.read_writes_cons_put (off' := ![0, 0, 0]) scM0_1.view _ _ _ _ rfl, put_whole]
    exact cleared1 b a s
  have I := loop_end c i arg3 harg3 arg4 harg4 arg5 harg5 arg6 harg6 arg7 harg7 arg8 harg8 arg9 harg9 arg10 harg10 arg11 harg11 arg12 harg12 arg13 harg13 scM0_0 harg14 scM0_1 harg15 (loaded i arg3 harg3 arg4 harg4 arg5 harg5 arg6 harg6 arg7 harg7 arg8 harg8 arg9 harg9 x0 x1 x2 x3 x4 x5 x6 B) h14 h15
  obtain ⟨⟨c0, c1, c2, c3⟩, k14, k15⟩ := I
  refine ⟨?_, ?_, ?_, ?_⟩
  · unfold out0_A_7
    rw [runA_dq]
    exact dq_end i arg3 arg4 arg5 arg6 arg7 arg8 arg9 (loaded i arg3 harg3 arg4 harg4 arg5 harg5 arg6 harg6 arg7 harg7 arg8 harg8 arg9 harg9 x0 x1 x2 x3 x4 x5 x6 B) _ _ c0 c1 c2 c3
  · unfold out0_A_10
    rw [runA_gate]
    exact gate_end i arg3 arg4 arg5 arg6 arg7 arg8 arg9 (loaded i arg3 harg3 arg4 harg4 arg5 harg5 arg6 harg6 arg7 harg7 arg8 harg8 arg9 harg9 x0 x1 x2 x3 x4 x5 x6 B) _ _
  · unfold sout0_A_0
    rw [runA_key]
    refine key_end i arg3 arg4 arg5 arg6 arg7 arg8 arg9 (arg14 := scM0_0) (loaded i arg3 harg3 arg4 harg4 arg5 harg5 arg6 harg6 arg7 harg7 arg8 harg8 arg9 harg9 x0 x1 x2 x3 x4 x5 x6 B) ?_ c0.2 c1.2 c2.2 c3.2
    rw [View.writes_append]; exact k14
  · unfold sout0_A_1
    rw [runA_val]
    refine val_end i arg3 arg4 arg5 arg6 arg7 arg8 arg9 (arg14 := scM0_1) (loaded i arg3 harg3 arg4 harg4 arg5 harg5 arg6 harg6 arg7 harg7 arg8 harg8 arg9 harg9 x0 x1 x2 x3 x4 x5 x6 B) ?_
    rw [View.writes_append]; exact k15

theorem afterB (hc0 : ¬cond0_0 i) (hc1 : ¬cond0_1 i)
    (h14 : ∀ b a s, xs0 (ix3 b a s) = ((S14 b a s : ℝ) : EReal)) (h15 : ∀ b a s, xs1 (ix3 b a s) = ((S15 b a s : ℝ) : EReal)) :
    After (i 2).val (out0_B_7 (F := Ideal) c i arg3 harg3 arg4 harg4 arg5 harg5 arg6 harg6 arg7 harg7 arg8 harg8 arg9 harg9 arg10 harg10 arg11 harg11 arg12 harg12 arg13 harg13 scM0_0 harg14 scM0_1 harg15 hc0 hc1 x0 x1 x2 x3 x4 x5 x6 xs0 xs1) (out0_B_10 (F := Ideal) c i arg3 harg3 arg4 harg4 arg5 harg5 arg6 harg6 arg7 harg7 arg8 harg8 arg9 harg9 arg10 harg10 arg11 harg11 arg12 harg12 arg13 harg13 scM0_0 harg14 scM0_1 harg15 hc0 hc1 x0 x1 x2 x3 x4 x5 x6 xs0 xs1) (sout0_B_0 (F := Ideal) c i arg3 harg3 arg4 harg4 arg5 harg5 arg6 harg6 arg7 harg7 arg8 harg8 arg9 harg9 arg10 harg10 arg11 harg11 arg12 harg12 arg13 harg13 scM0_0 harg14 scM0_1 harg15 hc0 hc1 x0 x1 x2 x3 x4 x5 x6 xs0 xs1) (sout0_B_1 (F := Ideal) c i arg3 harg3 arg4 harg4 arg5 harg5 arg6 harg6 arg7 harg7 arg8 harg8 arg9 harg9 arg10 harg10 arg11 harg11 arg12 harg12 arg13 harg13 scM0_0 harg14 scM0_1 harg15 hc0 hc1 x0 x1 x2 x3 x4 x5 x6 xs0 xs1) d o q g K z w S14 S15 := by
  have h14 : ∀ b a s, scM0_0.view.read (Elt Ideal) (harg14.unread xs0) (ix3 b a s) = ((S14 b a s : ℝ) : EReal) := by
    rw [harg14.read_unread]; exact h14
  have h15 : ∀ b a s, scM0_1.view.read (Elt Ideal) (harg15.unread xs1) (ix3 b a s) = ((S15 b a s : ℝ) : EReal) := by
    rw [harg15.read_unread]; exact h15
  have I := loop_end c i arg3 harg3 arg4 harg4 arg5 harg5 arg6 harg6 arg7 harg7 arg8 harg8 arg9 harg9 arg10 harg10 arg11 harg11 arg12 harg12 arg13 harg13 scM0_0 harg14 scM0_1 harg15 (loaded i arg3 harg3 arg4 harg4 arg5 harg5 arg6 harg6 arg7 harg7 arg8 harg8 arg9 harg9 x0 x1 x2 x3 x4 x5 x6 B) h14 h15
  obtain ⟨⟨c0, c1, c2, c3⟩, k14, k15⟩ := I
  refine ⟨?_, ?_, ?_, ?_⟩
  · unfold out0_B_7
    rw [runB_dq]
    exact dq_end i arg3 arg4 arg5 arg6 arg7 arg8 arg9 (loaded i arg3 harg3 arg4 harg4 arg5 harg5 arg6 harg6 arg7 harg7 arg8 harg8 arg9 harg9 x0 x1 x2 x3 x4 x5 x6 B) _ _ c0 c1 c2 c3
  · unfold out0_B_10
    rw [runB_gate]
    exact gate_end i arg3 arg4 arg5 arg6 arg7 arg8 arg9 (loaded i arg3 harg3 arg4 harg4 arg5 harg5 arg6 harg6 arg7 harg7 arg8 harg8 arg9 harg9 x0 x1 x2 x3 x4 x5 x6 B) _ _
  · unfold sout0_B_0
    rw [runB_key]
    refine key_end i arg3 arg4 arg5 arg6 arg7 arg8 arg9 (arg14 := scM0_0) (loaded i arg3 harg3 arg4 harg4 arg5 harg5 arg6 harg6 arg7 harg7 arg8 harg8 arg9 harg9 x0 x1 x2 x3 x4 x5 x6 B) ?_ c0.2 c1.2 c2.2 c3.2
    exact k14
  · unfold sout0_B_1
    rw [runB_val]
    refine val_end i arg3 arg4 arg5 arg6 arg7 arg8 arg9 (arg14 := scM0_1) (loaded i arg3 harg3 arg4 harg4 arg5 harg5 arg6 harg6 arg7 harg7 arg8 harg8 arg9 harg9 x0 x1 x2 x3 x4 x5 x6 B) ?_
    exact k15

theorem afterC (hc0 : ¬cond0_0 i) (hc1 : cond0_1 i)
    (h14 : ∀ b a s, xs0 (ix3 b a s) = ((S14 b a s : ℝ) : EReal)) (h15 : ∀ b a s, xs1 (ix3 b a s) = ((S15 b a s : ℝ) : EReal)) :
    After (i 2).val (out0_C_7 (F := Ideal) c i arg3 harg3 arg4 harg4 arg5 harg5 arg6 harg6 arg7 harg7 arg8 harg8 arg9 harg9 arg10 harg10 arg11 harg11 arg12 harg12 arg13 harg13 scM0_0 harg14 scM0_1 harg15 hc0 hc1 x0 x1 x2 x3 x4 x5 x6 xs0 xs1) (out0_C_10 (F := Ideal) c i arg3 harg3 arg4 harg4 arg5 harg5 arg6 harg6 arg7 harg7 arg8 harg8 arg9 harg9 arg10 harg10 arg11 harg11 arg12 harg12 arg13 harg13 scM0_0 harg14 scM0_1 harg15 hc0 hc1 x0 x1 x2 x3 x4 x5 x6 xs0 xs1) (sout0_C_0 (F := Ideal) c i arg3 harg3 arg4 harg4 arg5 harg5 arg6 harg6 arg7 harg7 arg8 harg8 arg9 harg9 arg10 harg10 arg11 harg11 arg12 harg12 arg13 harg13 scM0_0 harg14 scM0_1 harg15 hc0 hc1 x0 x1 x2 x3 x4 x5 x6 xs0 xs1) (sout0_C_1 (F := Ideal) c i arg3 harg3 arg4 harg4 arg5 harg5 arg6 harg6 arg7 harg7 arg8 harg8 arg9 harg9 arg10 harg10 arg11 harg11 arg12 harg12 arg13 harg13 scM0_0 harg14 scM0_1 harg15 hc0 hc1 x0 x1 x2 x3 x4 x5 x6 xs0 xs1) d o q g K z w S14 S15 := by
  have h14 : ∀ b a s, scM0_0.view.read (Elt Ideal) (harg14.unread xs0) (ix3 b a s) = ((S14 b a s : ℝ) : EReal) := by
    rw [harg14.read_unread]; exact h14
  have h15 : ∀ b a s, scM0_1.view.read (Elt Ideal) (harg15.unread xs1) (ix3 b a s) = ((S15 b a s : ℝ) : EReal) := by
    rw [harg15.read_unread]; exact h15
  have I := loop_end c i arg3 harg3 arg4 harg4 arg5 harg5 arg6 harg6 arg7 harg7 arg8 harg8 arg9 harg9 arg10 harg10 arg11 harg11 arg12 harg12 arg13 harg13 scM0_0 harg14 scM0_1 harg15 (loaded i arg3 harg3 arg4 harg4 arg5 harg5 arg6 harg6 arg7 harg7 arg8 harg8 arg9 harg9 x0 x1 x2 x3 x4 x5 x6 B) h14 h15
  obtain ⟨⟨c0, c1, c2, c3⟩, k14, k15⟩ := I
  refine ⟨?_, ?_, ?_, ?_⟩
  · unfold out0_C_7
    rw [runC_dq]
    exact dq_end i arg3 arg4 arg5 arg6 arg7 arg8 arg9 (loaded i arg3 harg3 arg4 harg4 arg5 harg5 arg6 harg6 arg7 harg7 arg8 harg8 arg9 harg9 x0 x1 x2 x3 x4 x5 x6 B) _ _ c0 c1 c2 c3
  · unfold out0_C_10
    rw [runC_gate]
    exact gate_end i arg3 arg4 arg5 arg6 arg7 arg8 arg9 (loaded i arg3 harg3 arg4 harg4 arg5 harg5 arg6 harg6 arg7 harg7 arg8 harg8 arg9 harg9 x0 x1 x2 x3 x4 x5 x6 B) _ _
  · unfold sout0_C_0
    rw [runC_key]
    refine key_end i arg3 arg4 arg5 arg6 arg7 arg8 arg9 (arg14 := scM0_0) (loaded i arg3 harg3 arg4 harg4 arg5 harg5 arg6 harg6 arg7 harg7 arg8 harg8 arg9 harg9 x0 x1 x2 x3 x4 x5 x6 B) ?_ c0.2 c1.2 c2.2 c3.2
    exact k14
  · unfold sout0_C_1
    rw [runC_val]
    refine val_end i arg3 arg4 arg5 arg6 arg7 arg8 arg9 (arg14 := scM0_1) (loaded i arg3 harg3 arg4 harg4 arg5 harg5 arg6 harg6 arg7 harg7 arg8 harg8 arg9 harg9 x0 x1 x2 x3 x4 x5 x6 B) ?_
    exact k15

omit B in
/-- The key and the value gradient written out are the accumulators turned. -/
theorem out_key (hc0 : ¬cond0_0 i) (hc1 : cond0_1 i) (r : Fin 2048) (a : Fin 512) :
    (out0_C_8 (F := Ideal) c i arg3 harg3 arg4 harg4 arg5 harg5 arg6 harg6 arg7 harg7 arg8 harg8 arg9 harg9 arg10 harg10 arg11 harg11 arg12 harg12 arg13 harg13 scM0_0 harg14 scM0_1 harg15 hc0 hc1 x0 x1 x2 x3 x4 x5 x6 xs0 xs1) (ix2 r a) = (sout0_C_0 (F := Ideal) c i arg3 harg3 arg4 harg4 arg5 harg5 arg6 harg6 arg7 harg7 arg8 harg8 arg9 harg9 arg10 harg10 arg11 harg11 arg12 harg12 arg13 harg13 scM0_0 harg14 scM0_1 harg15 hc0 hc1 x0 x1 x2 x3 x4 x5 x6 xs0 xs1) (ix3 ⟨r / 256, by omega⟩ a ⟨r % 256, by omega⟩) := by
  unfold out0_C_8 sout0_C_0
  rw [runC_key]
  exact (congrArg (fun L => VO0_8.read (Elt Ideal) (VO0_8.writes (Elt Ideal) VO0_8.junk L) (ix2 r a)) (runC_keyOut ..)).trans (out_read _ _ _ _ r a)
omit B in
theorem out_val (hc0 : ¬cond0_0 i) (hc1 : cond0_1 i) (r : Fin 2048) (a : Fin 512) :
    (out0_C_9 (F := Ideal) c i arg3 harg3 arg4 harg4 arg5 harg5 arg6 harg6 arg7 harg7 arg8 harg8 arg9 harg9 arg10 harg10 arg11 harg11 arg12 harg12 arg13 harg13 scM0_0 harg14 scM0_1 harg15 hc0 hc1 x0 x1 x2 x3 x4 x5 x6 xs0 xs1) (ix2 r a) = (sout0_C_1 (F := Ideal) c i arg3 harg3 arg4 harg4 arg5 harg5 arg6 harg6 arg7 harg7 arg8 harg8 arg9 harg9 arg10 harg10 arg11 harg11 arg12 harg12 arg13 harg13 scM0_0 harg14 scM0_1 harg15 hc0 hc1 x0 x1 x2 x3 x4 x5 x6 xs0 xs1) (ix3 ⟨r / 256, by omega⟩ a ⟨r % 256, by omega⟩) := by
  unfold out0_C_9 sout0_C_1
  rw [runC_val]
  exact (congrArg (fun L => VO0_9.read (Elt Ideal) (VO0_9.writes (Elt Ideal) VO0_9.junk L) (ix2 r a)) (runC_valOut ..)).trans (out_read _ _ _ _ r a)

end

end Cert.KernelIdeal.Own

end
-- ==== Proof.Along.lean ====
/-
The accumulators along the points of one sequence and group, and what the last of them writes out.
-/
module

public import proofs.«01_k».proof.Proof.Grid

@[expose] public section

set_option maxRecDepth 16384

noncomputable section

namespace Cert.KernelIdeal.Own

open Cert.KernelIdeal Cert.KernelIdeal.Gen Idealize.ShloMosaic Idealize.ShloMosaic.TcCoe Idealize.SL.Sem
open Cert.Stick

section
variable {F : FTy → Type} [FloatOps F] (m : (ℓ : Loc nD τ sig) → Buf (Elt F) ℓ) (c : Dev nD)
variable (Pr : Vec F S256x512 .bf16 → Vec F S2048x512 .bf16 → Vec F S2048x512 .bf16 → Vec F S256x512 .bf16 → Vec F S8x512x256 .f32 → Vec F S8x512x256 .f32 → Prop)
theorem outs_A (t : Fin cfg0.N) (h0 : t.val % 8 = 0) (h1 : ¬t.val % 8 = 7)
    (h : Pr (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) (sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t))) :
    Pr (outsAt0 m c t.val t.isLt).1 (outsAt0 m c t.val t.isLt).2.1 (outsAt0 m c t.val t.isLt).2.2.1 (outsAt0 m c t.val t.isLt).2.2.2.1 (outsAt0 m c t.val t.isLt).2.2.2.2.1 (outsAt0 m c t.val t.isLt).2.2.2.2.2 := by
  rw [outsAt0_A m c t h0 h1]
  dsimp only
  exact h
theorem outs_B (t : Fin cfg0.N) (h0 : ¬t.val % 8 = 0) (h1 : ¬t.val % 8 = 7)
    (h : Pr (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)) :
    Pr (outsAt0 m c t.val t.isLt).1 (outsAt0 m c t.val t.isLt).2.1 (outsAt0 m c t.val t.isLt).2.2.1 (outsAt0 m c t.val t.isLt).2.2.2.1 (outsAt0 m c t.val t.isLt).2.2.2.2.1 (outsAt0 m c t.val t.isLt).2.2.2.2.2 := by
  rw [outsAt0_B m c t h0 h1]
  dsimp only
  exact h
theorem outs_C (t : Fin cfg0.N) (h0 : ¬t.val % 8 = 0) (h1 : t.val % 8 = 7)
    (h : Pr (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)) :
    Pr (outsAt0 m c t.val t.isLt).1 (outsAt0 m c t.val t.isLt).2.1 (outsAt0 m c t.val t.isLt).2.2.1 (outsAt0 m c t.val t.isLt).2.2.2.1 (outsAt0 m c t.val t.isLt).2.2.2.2.1 (outsAt0 m c t.val t.isLt).2.2.2.2.2 := by
  rw [outsAt0_C m c t h0 h1]
  dsimp only
  exact h
end

section Grid

variable (m : (ℓ : Loc nD τ sig) → Buf (Elt Ideal) ℓ) (c : Dev nD)
variable {d o q g : ℕ → Fin 4 → Fin 256 → Fin 128 → ℝ} {R : ℕ → Fin 4 → Fin 256 → Fin 128 → ℝ} {K V : ℕ → Fin 4 → ℕ → Fin 128 → ℝ} {z w : ℕ → Fin 4 → ℕ → ℕ → ℕ → ℝ}

/-- What an accumulator holds after `n` points of the run `u`: the blocks met so far. -/
def held (U : ℕ → Fin 4 → Fin 128 → ℕ → ℝ) (n : ℕ) (b : Fin 8) (a : Fin 512) (s : Fin 256) : ℝ :=
  ∑ j ∈ Finset.range n, if (b : ℕ) < j + 1 then U j ⟨a / 128, by omega⟩ ⟨a % 128, by omega⟩ (256 * b + s) else 0

theorem coords_block : ∀ t : Fin grid0.N, (grid0.coords t 2).val = t.val % 8 := by decide +kernel

variable (B : ∀ t : Fin cfg0.N, BlockIn (t.val % 8) (iblk m c 0 t) (iblk m c 1 t) (iblk m c 2 t) (iblk m c 3 t) (iblk m c 4 t) (iblk m c 5 t) (iblk m c 6 t)
  (d t) (o t) (q t) (g t) (R t) (K (t / 8)) (V (t / 8)) (z (t / 8)) (w (t / 8)))
include B

omit B in
theorem Holds.held {x : S8x512x256.Idx → EReal} {U : ℕ → Fin 4 → Fin 128 → ℕ → ℝ} {n : ℕ} (h : Holds x (Own.held U n) (U n) (n + 1)) :
    ∀ b a s, x (ix3 b a s) = ((Own.held U (n + 1) b a s : ℝ) : EReal) := by
  intro b a s
  rw [h b a s]
  unfold Own.held
  rw [Finset.sum_range_succ]

/-- What the points of run `u` add to the two accumulators, block by block. -/
def addK (q : ℕ → Fin 4 → Fin 256 → Fin 128 → ℝ) (z w : ℕ → Fin 4 → ℕ → ℕ → ℕ → ℝ) (u j : ℕ) : Fin 4 → Fin 128 → ℕ → ℝ :=
  dkG (stackQ (q (8 * u + j))) (z u) (w u) j
def addV (d g : ℕ → Fin 4 → Fin 256 → Fin 128 → ℝ) (z : ℕ → Fin 4 → ℕ → ℕ → ℕ → ℝ) (u j : ℕ) : Fin 4 → Fin 128 → ℕ → ℝ :=
  dvG (stackD (d (8 * u + j)) (g (8 * u + j))) (z u) j

omit B in
theorem at_point (t : Fin cfg0.N) {y7 y10 : Vec Ideal S256x512 .bf16} {s0 s1 : Vec Ideal S8x512x256 .f32} {d o q g : Fin 4 → Fin 256 → Fin 128 → ℝ}
    {K : Fin 4 → ℕ → Fin 128 → ℝ} {z w : Fin 4 → ℕ → ℕ → ℕ → ℝ} {S14 S15 : Fin 8 → Fin 512 → Fin 256 → ℝ} (H : After (grid0.coords t 2).val y7 y10 s0 s1 d o q g K z w S14 S15) :
    After (t % 8) y7 y10 s0 s1 d o q g K z w S14 S15 := coords_block t ▸ H

theorem at_block (t : Fin cfg0.N) : BlockIn (grid0.coords t 2).val (iblk m c 0 t) (iblk m c 1 t) (iblk m c 2 t) (iblk m c 3 t) (iblk m c 4 t) (iblk m c 5 t) (iblk m c 6 t) (d t) (o t) (q t) (g t) (R t) (K (t / 8)) (V (t / 8)) (z (t / 8)) (w (t / 8)) := by
  rw [coords_block t]; exact B t

theorem first_block (t : Fin cfg0.N) (h0 : t.val % 8 = 0) :
    After (t % 8) (outsAt0 m c t t.isLt).1 (outsAt0 m c t t.isLt).2.2.2.1 (outsAt0 m c t t.isLt).2.2.2.2.1 (outsAt0 m c t t.isLt).2.2.2.2.2
      (d t) (o t) (q t) (g t) (K (t / 8)) (z (t / 8)) (w (t / 8)) (Own.held (addK q z w (t / 8)) (t % 8)) (Own.held (addV d g z (t / 8)) (t % 8)) := by
  have h1 : ¬t.val % 8 = 7 := by omega
  have H := afterA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (Memref.isWhole_whole _) (Memref.isWhole_whole _) (at_block m c B t) ((hcond0_0 t).mpr h0) (fun h => h1 ((hcond0_1 t).mp h))
  have H' := outs_A m c (Pr := fun y7 y8 y9 y10 s0 s1 => After (t % 8) y7 y10 s0 s1 (d t) (o t) (q t) (g t) (K (t / 8)) (z (t / 8)) (w (t / 8)) (fun _ _ _ => 0) (fun _ _ _ => 0)) t h0 h1 (at_point t H)
  have z1 : Own.held (addK q z w (t / 8)) (t % 8) = fun _ _ _ => 0 := by rw [h0]; rfl
  have z2 : Own.held (addV d g z (t / 8)) (t % 8) = fun _ _ _ => 0 := by rw [h0]; rfl
  exact Eq.mpr (congrArg₂ (fun S S' => After (t % 8) (outsAt0 m c t t.isLt).1 (outsAt0 m c t t.isLt).2.2.2.1 (outsAt0 m c t t.isLt).2.2.2.2.1 (outsAt0 m c t t.isLt).2.2.2.2.2
      (d t) (o t) (q t) (g t) (K (t / 8)) (z (t / 8)) (w (t / 8)) S S') z1 z2) H'

theorem next_block (t : Fin cfg0.N) (h0 : ¬t.val % 8 = 0) {S14 S15 : Fin 8 → Fin 512 → Fin 256 → ℝ}
    (h14 : ∀ b a s, (outsAt0 m c (t.val - 1) (Nat.lt_of_le_of_lt (Nat.sub_le _ _) t.isLt)).2.2.2.2.1 (ix3 b a s) = ((S14 b a s : ℝ) : EReal))
    (h15 : ∀ b a s, (outsAt0 m c (t.val - 1) (Nat.lt_of_le_of_lt (Nat.sub_le _ _) t.isLt)).2.2.2.2.2 (ix3 b a s) = ((S15 b a s : ℝ) : EReal)) :
    After (t % 8) (outsAt0 m c t t.isLt).1 (outsAt0 m c t t.isLt).2.2.2.1 (outsAt0 m c t t.isLt).2.2.2.2.1 (outsAt0 m c t t.isLt).2.2.2.2.2
      (d t) (o t) (q t) (g t) (K (t / 8)) (z (t / 8)) (w (t / 8)) S14 S15 := by
  by_cases h1 : t.val % 8 = 7
  · have H := afterC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) _ _ (Memref.isWhole_whole _) (Memref.isWhole_whole _) (at_block m c B t) (fun h => h0 ((hcond0_0 t).mp h)) ((hcond0_1 t).mpr h1) h14 h15
    exact outs_C m c (Pr := fun y7 y8 y9 y10 s0 s1 => After (t % 8) y7 y10 s0 s1 (d t) (o t) (q t) (g t) (K (t / 8)) (z (t / 8)) (w (t / 8)) S14 S15) t h0 h1 (at_point t H)
  · have H := afterB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) _ _ (Memref.isWhole_whole _) (Memref.isWhole_whole _) (at_block m c B t) (fun h => h0 ((hcond0_0 t).mp h)) (fun h => h1 ((hcond0_1 t).mp h)) h14 h15
    exact outs_B m c (Pr := fun y7 y8 y9 y10 s0 s1 => After (t % 8) y7 y10 s0 s1 (d t) (o t) (q t) (g t) (K (t / 8)) (z (t / 8)) (w (t / 8)) S14 S15) t h0 h1 (at_point t H)

theorem grid_state (n : ℕ) (hn : n < cfg0.N) :
    After (n % 8) (outsAt0 m c n hn).1 (outsAt0 m c n hn).2.2.2.1 (outsAt0 m c n hn).2.2.2.2.1 (outsAt0 m c n hn).2.2.2.2.2
      (d n) (o n) (q n) (g n) (K (n / 8)) (z (n / 8)) (w (n / 8)) (Own.held (addK q z w (n / 8)) (n % 8)) (Own.held (addV d g z (n / 8)) (n % 8)) := by
  induction n with
  | zero =>
    exact first_block m c B ⟨0, hn⟩ (Nat.zero_mod _)
  | succ n ih =>
    by_cases h0 : (n + 1) % 8 = 0
    · exact first_block m c B ⟨n + 1, hn⟩ h0
    · have I := ih (Nat.lt_of_succ_lt hn)
      have e1 : (n + 1) % 8 = n % 8 + 1 := by omega
      have e2 : (n + 1) / 8 = n / 8 := by omega
      have e3 : 8 * (n / 8) + n % 8 = n := by omega
      refine next_block m c B ⟨n + 1, hn⟩ h0 (S14 := Own.held (addK q z w ((n + 1) / 8)) ((n + 1) % 8)) (S15 := Own.held (addV d g z ((n + 1) / 8)) ((n + 1) % 8)) ?_ ?_
      · rw [e1, e2]
        refine Holds.held ?_
        have k := I.key
        unfold addK
        rw [e3]
        exact k
      · rw [e1, e2]
        refine Holds.held ?_
        have k := I.val
        unfold addV
        rw [e3]
        exact k

/-- The key and the value gradient as written out at a last block. -/
theorem key_out (t : Fin cfg0.N) (h : t.val % 8 = 7) (r : Fin 2048) (a : Fin 512) :
    (outsAt0 m c t.val t.isLt).2.1 (ix2 r a) = ((Own.held (addK q z w (t / 8)) 8 ⟨r / 256, by omega⟩ a ⟨r % 256, by omega⟩ : ℝ) : EReal) := by
  have k := (grid_state m c B t.val t.isLt).key
  rw [h] at k
  have e3 : 8 * (t.val / 8) + 7 = t.val := by omega
  have k' : Holds (outsAt0 m c t.val t.isLt).2.2.2.2.1 (Own.held (addK q z w (t / 8)) 7) (addK q z w (t / 8) 7) (7 + 1) := by
    show Holds _ _ (dkG (stackQ (q (8 * (t.val / 8) + 7))) (z (t / 8)) (w (t / 8)) 7) _
    rw [e3]
    exact k
  have e := Holds.held k' ⟨r / 256, by omega⟩ a ⟨r % 256, by omega⟩
  have f := out_key c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (Memref.isWhole_whole _) (Memref.isWhole_whole _) (fun h' => (by omega : ¬t.val % 8 = 0) ((hcond0_0 t).mp h')) ((hcond0_1 t).mpr h) r a
  exact (outs_C m c (Pr := fun y7 y8 y9 y10 s0 s1 => y8 (ix2 r a) = s0 (ix3 ⟨r / 256, by omega⟩ a ⟨r % 256, by omega⟩)) t (by omega) h f).trans e
theorem val_out (t : Fin cfg0.N) (h : t.val % 8 = 7) (r : Fin 2048) (a : Fin 512) :
    (outsAt0 m c t.val t.isLt).2.2.1 (ix2 r a) = ((Own.held (addV d g z (t / 8)) 8 ⟨r / 256, by omega⟩ a ⟨r % 256, by omega⟩ : ℝ) : EReal) := by
  have k := (grid_state m c B t.val t.isLt).val
  rw [h] at k
  have e3 : 8 * (t.val / 8) + 7 = t.val := by omega
  have k' : Holds (outsAt0 m c t.val t.isLt).2.2.2.2.2 (Own.held (addV d g z (t / 8)) 7) (addV d g z (t / 8) 7) (7 + 1) := by
    show Holds _ _ (dvG (stackD (d (8 * (t.val / 8) + 7)) (g (8 * (t.val / 8) + 7))) (z (t / 8)) 7) _
    rw [e3]
    exact k
  have e := Holds.held k' ⟨r / 256, by omega⟩ a ⟨r % 256, by omega⟩
  have f := out_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (Memref.isWhole_whole _) (Memref.isWhole_whole _) (fun h' => (by omega : ¬t.val % 8 = 0) ((hcond0_0 t).mp h')) ((hcond0_1 t).mpr h) r a
  exact (outs_C m c (Pr := fun y7 y8 y9 y10 s0 s1 => y9 (ix2 r a) = s1 (ix3 ⟨r / 256, by omega⟩ a ⟨r % 256, by omega⟩)) t (by omega) h f).trans e

end Grid

end Cert.KernelIdeal.Own

end
-- ==== Proof.Host.lean ====
module

public import proofs.«01_k».proof.Proof.Gen.KernelIdeal.Frame
public import proofs.«01_k».proof.Proof.Gen.ReferenceIdeal.Read
public import Idealize.ShloMosaic.Lib.StableHlo.RunRead

@[expose] public section

set_option maxRecDepth 16384

noncomputable section

namespace Cert.KernelIdeal.Own

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (c : Dev nD)

set_option maxHeartbeats 4000000 in
theorem host_o : (V m c main_v45 : S4096x1024.Idx → Elt F .bf16)
    = truncf .bf16 (Cert.ReferenceIdeal.Read.val_main_v36 (F := F) (m ((c : Thread nD τ).loc main_arg1))) bitsLt_bf16_f32 := by
  unfold V
  simp only [List.flatten_cons, List.flatten_nil, hostOps0, hostOps0_1, hostOps0_2, hostOps0_3, hostOps0_4, hostOps0_5, hostOps0_6, hostOps0_7, hostOps0_8, hostOps0_9, hostOps0_10, hostOps0_11, hostOps0_12, hostOps0_13, List.cons_append, List.nil_append, TRef.binary, TRef.nullary, TRef.unary, TRef.ternary, TRef.toBuf, TRef.ofBuf, cast_eq]
  after_reads_simp
  rfl

set_option maxHeartbeats 4000000 in
theorem host_r : (V m c main_v44 : S16x8x256x128.Idx → Elt F .f32)
    = pad S16x8x256x128 ![0, 0, 0, 0] ![0, 0, 0, 112] ![0, 0, 0, 0]
        (shapeCast S16x8x256x16 (transpose S2x8x8x256x2x8 [0, 3, 1, 4, 2, 5]
          (shapeCast S2x8x2x8x256x8 (Host.slice S2x16x2048x8 ![0, 0, 0, 255] ![1, 1, 1, 256]
            (Cert.ReferenceIdeal.Read.val_main_v30 (F := F) (m ((c : Thread nD τ).loc main_arg1)))
            slicesBy_S2x16x2048x2048_S2x16x2048x8_0s1_0s1_0s1_255s256) shapeCasts_S2x16x2048x8_S2x8x2x8x256x8)
          transposes_S2x8x2x8x256x8_S2x8x8x256x2x8_0_3_1_4_2_5) shapeCasts_S2x8x8x256x2x8_S16x8x256x16)
        (sitofp .f32 (constantI S_ 32 0#32)) pads_S16x8x256x16_S16x8x256x128_000_000_000_01120 := by
  unfold V
  simp only [List.flatten_cons, List.flatten_nil, hostOps0, hostOps0_1, hostOps0_2, hostOps0_3, hostOps0_4, hostOps0_5, hostOps0_6, hostOps0_7, hostOps0_8, hostOps0_9, hostOps0_10, hostOps0_11, hostOps0_12, hostOps0_13, List.cons_append, List.nil_append, TRef.binary, TRef.nullary, TRef.unary, TRef.ternary, TRef.toBuf, TRef.ofBuf, cast_eq]
  after_reads_simp
  rfl

end Cert.KernelIdeal.Own
-- ==== Proof.Window.lean ====
/-
The two running sums of the reference along its last axis: a window of the whole length, padded on one side, whose
result at a position is the sum of the row from there to its end, or from its start to there.
-/
module

public import proofs.«01_k».proof.Proof.Gen.ReferenceIdeal.Read
public import proofs.«01_k».proof.Proof.Tile

@[expose] public section

set_option maxRecDepth 16384

noncomputable section

namespace Cert.ReferenceIdeal.Own

open Cert.ReferenceIdeal Cert.ReferenceIdeal.Gen Cert.ReferenceIdeal.Read Idealize.ShloMosaic Idealize.ShloMosaic.TcCoe Idealize.SL.Sem
open Idealize.ShloMosaic.StableHlo
open Finset

/-- Adding up a list's terms one after the other from zero gives their sum. -/
theorem foldl_sum {N : ℕ} (f : Fin N → EReal) : (List.finRange N).foldl (fun r n => r + f n) 0 = ∑ n, f n := by
  rw [Fin.sum_univ_def, List.sum_eq_foldl, List.foldl_map]

/-- The window: one long axis and three of size one. -/
abbrev Win : Shape := ⟨4, ![1, 1, 1, 2048]⟩

theorem win_numel : Win.numel = 2048 := by decide +kernel

theorem win_symm (n : Fin Win.numel) : (Win.rowMajor.symm n 0).val = 0 ∧ (Win.rowMajor.symm n 1).val = 0
    ∧ (Win.rowMajor.symm n 2).val = 0 ∧ (Win.rowMajor.symm n 3).val = n.val := by
  have h0 : (Win.rowMajor.symm n 0).val < 1 := (Win.rowMajor.symm n 0).isLt
  have h1 : (Win.rowMajor.symm n 1).val < 1 := (Win.rowMajor.symm n 1).isLt
  have h2 : (Win.rowMajor.symm n 2).val < 1 := (Win.rowMajor.symm n 2).isLt
  have e : (Win.rowMajor (Win.rowMajor.symm n)).val = n.val := by rw [Equiv.apply_symm_apply]
  have e' := Shape.rowMajor_val_four (Win.rowMajor.symm n)
  rw [e] at e'
  simp only [Matrix.cons_val] at e'
  refine ⟨by omega, by omega, by omega, ?_⟩
  omega

/-- A row's window sum with `lo` positions of padding before it. -/
theorem window_sum (lo hi : ℕ) (x : S2x16x2048x2048.Idx → EReal) (f : ℕ → ℕ → ℕ → ℕ → ℝ)
    (hx : ∀ i, x i = ((f (i 0).val (i 1).val (i 2).val (i 3).val : ℝ) : EReal)) (v : S_.Idx → EReal) (hv : ∀ i, v i = 0)
    (h : S2x16x2048x2048.ReduceWindows ![1, 1, 1, 2048] ![1, 1, 1, 1] ![0, 0, 0, lo] ![0, 0, 0, hi] S2x16x2048x2048)
    (hu : 0 < S_.numel) (i : S2x16x2048x2048.Idx) :
    (Host.reduceWindowAdd (F := Ideal) (φ := .f32) ![1, 1, 1, 2048] ![1, 1, 1, 1] ![0, 0, 0, lo] ![0, 0, 0, hi] x v h hu i : EReal)
      = ((∑ n ∈ range 2048, if lo ≤ (i 3).val + n ∧ (i 3).val + n - lo < 2048
          then f (i 0).val (i 1).val (i 2).val ((i 3).val + n - lo) else 0 : ℝ) : EReal) := by
  unfold Host.reduceWindowAdd
  rw [Ideal.hostReduceWindowAdd_def]
  unfold Ideal.hostReduceWindowAdd Host.reduceWindow
  rw [hv]
  refine (foldl_sum _).trans ?_
  rw [← Cert.KernelIdeal.Own.coe_sum, Finset.sum_range]
  refine Fintype.sum_equiv (finCongr win_numel) _ _ fun n => ?_
  obtain ⟨w0, w1, w2, w3⟩ := win_symm n
  have p0 : (i 0).val * 1 + (Win.rowMajor.symm n 0).val = (i 0).val := by rw [w0]; omega
  have p1 : (i 1).val * 1 + (Win.rowMajor.symm n 1).val = (i 1).val := by rw [w1]; omega
  have p2 : (i 2).val * 1 + (Win.rowMajor.symm n 2).val = (i 2).val := by rw [w2]; omega
  have p3 : (i 3).val * 1 + (Win.rowMajor.symm n 3).val = (i 3).val + n.val := by rw [w3]; omega
  have i0 : (i 0).val < 2 := (i 0).isLt
  have i1 : (i 1).val < 16 := (i 1).isLt
  have i2 : (i 2).val < 2048 := (i 2).isLt
  show _ = ((if lo ≤ (i 3).val + n.val ∧ (i 3).val + n.val - lo < 2048
    then f (i 0).val (i 1).val (i 2).val ((i 3).val + n.val - lo) else 0 : ℝ) : EReal)
  split
  · next hin =>
    have h3 := hin 3
    change lo ≤ (i 3).val * 1 + (Win.rowMajor.symm n 3).val ∧ (i 3).val * 1 + (Win.rowMajor.symm n 3).val - lo < 2048 at h3
    rw [p3] at h3
    rw [if_pos h3, hx]
    have q0 : (i 0).val * 1 + (Win.rowMajor.symm n 0).val - 0 = (i 0).val := by omega
    have q1 : (i 1).val * 1 + (Win.rowMajor.symm n 1).val - 0 = (i 1).val := by omega
    have q2 : (i 2).val * 1 + (Win.rowMajor.symm n 2).val - 0 = (i 2).val := by omega
    have q3 : (i 3).val * 1 + (Win.rowMajor.symm n 3).val - lo = (i 3).val + n.val - lo := by omega
    rw [← q3]
    conv_rhs => rw [← q0, ← q1, ← q2]
    rfl
  · next hin =>
    rw [if_neg, EReal.coe_zero]
    intro hc
    refine hin fun a => ?_
    match a with
    | ⟨0, _⟩ => show 0 ≤ (i 0).val * 1 + (Win.rowMajor.symm n 0).val ∧ (i 0).val * 1 + (Win.rowMajor.symm n 0).val - 0 < 2; omega
    | ⟨1, _⟩ => show 0 ≤ (i 1).val * 1 + (Win.rowMajor.symm n 1).val ∧ (i 1).val * 1 + (Win.rowMajor.symm n 1).val - 0 < 16; omega
    | ⟨2, _⟩ => show 0 ≤ (i 2).val * 1 + (Win.rowMajor.symm n 2).val ∧ (i 2).val * 1 + (Win.rowMajor.symm n 2).val - 0 < 2048; omega
    | ⟨3, _⟩ => show lo ≤ (i 3).val * 1 + (Win.rowMajor.symm n 3).val ∧ (i 3).val * 1 + (Win.rowMajor.symm n 3).val - lo < 2048; omega

/-- The sums over the rest of a row, and over the row's start. -/
theorem sum_after (f : ℕ → ℝ) (s : ℕ) :
    (∑ n ∈ range 2048, if 0 ≤ s + n ∧ s + n - 0 < 2048 then f (s + n - 0) else 0) = ∑ x ∈ range 2048, if s ≤ x then f x else 0 := by
  simp only [← Finset.sum_filter]
  refine Finset.sum_bij (fun n _ => s + n) ?_ ?_ ?_ fun _ _ => rfl
  · intro a ha; simp only [mem_range, mem_filter] at *; omega
  · intro a _ b _ h; omega
  · intro b hb
    simp only [mem_range, mem_filter] at hb
    exact ⟨b - s, by simp only [mem_range, mem_filter]; omega, by omega⟩

theorem sum_before (f : ℕ → ℝ) (s : ℕ) (hs : s < 2048) :
    (∑ n ∈ range 2048, if 2047 ≤ s + n ∧ s + n - 2047 < 2048 then f (s + n - 2047) else 0) = ∑ x ∈ range (s + 1), f x := by
  simp only [← Finset.sum_filter]
  refine Finset.sum_bij (fun n _ => s + n - 2047) ?_ ?_ ?_ fun _ _ => rfl
  · intro a ha; simp only [mem_range, mem_filter] at *; omega
  · intro a ha b hb h; simp only [mem_range, mem_filter] at *; omega
  · intro b hb
    simp only [mem_range] at hb
    exact ⟨b + 2047 - s, by simp only [mem_range, mem_filter]; omega, by omega⟩

end Cert.ReferenceIdeal.Own
-- ==== Proof.Model.lean ====
/-
The gradient of the stick-breaking attention over the reals, as functions of two tables of numbers: `A` the projections
(row, column) and `E` the gradient of the gated output. `b` is the batch, `h` the head, `t` a query, `s` a key, `e` a
lane of the head.
-/
module

public import proofs.«01_k».proof.Proof.StickReal

@[expose] public section

noncomputable section

namespace Cert.Stick

open Finset

/-- The logistic function. -/
def lg (a : ℝ) : ℝ := (1 + Real.exp (-a))⁻¹

variable (A E : ℕ → ℕ → ℝ)

def qr (b h t e : ℕ) : ℝ := A (2048 * b + t) (8192 + (64 * h + e))
def kr (b h t e : ℕ) : ℝ := A (2048 * b + t) (9216 + (64 * h + e))
def vr (b h t e : ℕ) : ℝ := A (2048 * b + t) (10240 + (64 * h + e))
def gr (b h t e : ℕ) : ℝ := A (2048 * b + t) (3072 + (64 * h + e))
def er (b h t e : ℕ) : ℝ := E (2048 * b + t) (64 * h + e)

/-- The logits, a query against a key. -/
def zr (b h t s : ℕ) : ℝ := (∑ e : Fin 64, qr A b h t e * kr A b h s e) * (1 / 8)
/-- The attention's output before its gate. -/
def outr (b h t e : ℕ) : ℝ := ∑ s : Fin 2048, att (zr A b h) t s * vr A b h s e
/-- The output's gradient. -/
def dor (b h t e : ℕ) : ℝ := er E b h t e * (gr A b h t e * lg (gr A b h t e))
/-- The attention weights' gradient. -/
def wr (b h t s : ℕ) : ℝ := ∑ e : Fin 64, dor A E b h t e * vr A b h s e
/-- The logits' gradient. -/
def dzr (b h t s : ℕ) : ℝ := dz (zr A b h) (wr A E b h) t s * (1 / 8)
def dqr (b h t e : ℕ) : ℝ := ∑ s : Fin 2048, dzr A E b h t s * kr A b h s e
def dkr (b h s e : ℕ) : ℝ := ∑ t : Fin 2048, dzr A E b h t s * qr A b h t e
def dvr (b h s e : ℕ) : ℝ := ∑ t : Fin 2048, dor A E b h t e * att (zr A b h) t s
/-- The gate's gradient. -/
def dgr (b h t e : ℕ) : ℝ :=
  outr A b h t e * er E b h t e * lg (gr A b h t e)
    + gr A b h t e * (outr A b h t e * er E b h t e) * (lg (gr A b h t e) * (1 - lg (gr A b h t e)))

/-- The reference's arithmetic of the logits' gradient. -/
theorem dz_steps (z w : ℕ → ℕ → ℝ) (t s : ℕ) :
    -(-(-(if s < t then -((if s < t then w t s else 0) * Real.exp (lb (z t s) + later z t s))
        + (∑ x ∈ range (s + 1), (if x < t then w t x else 0) * Real.exp (lb (z t x) + later z t x)) else 0) * sg (z t s)))
      + -(-((if s < t then w t s else 0) * Real.exp (lb (z t s) + later z t s)) * (1 - sg (z t s)))
      = dz z w t s := by
  have hd : ∀ x, (if x < t then w t x else 0) * Real.exp (lb (z t x) + later z t x) = de z w t x := fun x => by
    unfold de att
    split <;> ring
  simp only [hd]
  unfold dz
  by_cases h : s < t
  · rw [if_pos h, if_pos h, Finset.sum_range_succ, gp]
    ring
  · have h0 : de z w t s = 0 := by unfold de att; rw [if_neg h, zero_mul]
    rw [if_neg h, if_neg h, h0]
    ring

end Cert.Stick
-- ==== Proof.RefRead.lean ====
/-
The reference's buffers at real arguments, up to the attention's output: each at an index is the real model's number there.
-/
module

public import proofs.«01_k».proof.Proof.Window
public import proofs.«01_k».proof.Proof.Model

@[expose] public section

set_option maxRecDepth 16384

noncomputable section

namespace Cert.ReferenceIdeal.Own

open Cert.ReferenceIdeal Cert.ReferenceIdeal.Gen Cert.ReferenceIdeal.Read Idealize.ShloMosaic Idealize.ShloMosaic.TcCoe Idealize.SL.Sem
open Idealize.ShloMosaic.StableHlo
open Finset Cert.Stick
open Cert.KernelIdeal.Own (coe_sum select_ofBool)

theorem bits_zero : (FloatOps.ofBits (F := Ideal) .f32 0x00000000#32 : EReal) = 0 := by simp [Ideal.ofBits, Ideal.ieee]
theorem bits_one : (FloatOps.ofBits (F := Ideal) .f32 0x3F800000#32 : EReal) = ((1 : ℝ) : EReal) := by
  simp [Ideal.ofBits, Ideal.ieee]; rw [← EReal.coe_mul]; norm_num
theorem bits_eighth : (FloatOps.ofBits (F := Ideal) .f32 0x3E000000#32 : EReal) = ((1 / 8 : ℝ) : EReal) := by
  simp [Ideal.ofBits, Ideal.ieee]; rw [← EReal.coe_mul]; norm_num
theorem bits_top : (FloatOps.ofBits (F := Ideal) .f32 0x7F800000#32 : EReal) = ⊤ := by simp [Ideal.ofBits, Ideal.ieee]

/-- No real differs from itself, and none is the top. -/
theorem une_self (a : EReal) : FloatOps.cmpf (F := Ideal) (φ := .f32) .une a a = 0#1 := by simp [Ideal.cmpf_def, Ideal.cmp]
theorem oeq_top (a : ℝ) : FloatOps.cmpf (F := Ideal) (φ := .f32) .oeq ((a : ℝ) : EReal) ⊤ = 0#1 := by
  simp [Ideal.cmpf_def, Ideal.cmp]
theorem select_zero {α : Type} (a b : α) : Scalar.select 0#1 a b = b := by simp [Scalar.select]

/-- The softplus's steps on a real. -/
theorem softplus_steps (a : ℝ) :
    max ((a : ℝ) : EReal) 0 + Ideal.log1p (Ideal.exp (-(max (((a : ℝ) : EReal) - 0) (-(((a : ℝ) : EReal) - 0))))) = ((sp a : ℝ) : EReal) := by
  rw [sub_zero, ← EReal.coe_neg, ← EReal.coe_zero, ← EReal.coe_strictMono.monotone.map_max,
    ← EReal.coe_strictMono.monotone.map_max, ← EReal.coe_neg, Ideal.exp_coe]
  unfold Ideal.log1p
  rw [← EReal.coe_one, ← EReal.coe_add, Ideal.log_coe, if_neg (not_le.2 (by positivity)), ← EReal.coe_add]
  rfl

variable (x0 : (⟨S4096x1024, .bf16⟩ : BufTy).Contents (Elt Ideal)) (x1 : (⟨S4096x14336, .bf16⟩ : BufTy).Contents (Elt Ideal))
variable (A E : ℕ → ℕ → ℝ)
variable (h0 : ∀ i : S4096x1024.Idx, (x0 i : EReal) = ((E (i 0).val (i 1).val : ℝ) : EReal))
variable (h1 : ∀ i : S4096x14336.Idx, (x1 i : EReal) = ((A (i 0).val (i 1).val : ℝ) : EReal))

section
include h1

/-- A head's entry of the projections, at the column offset `o`. -/
theorem proj_at (o : ℕ) (j : S4096x14336.Idx) (b h t e : ℕ) (hr : (j 0).val = 2048 * b + t) (hc : (j 1).val = o + (64 * h + e)) :
    (x1 j : EReal) = ((A (2048 * b + t) (o + (64 * h + e)) : ℝ) : EReal) := by rw [h1, hr, hc]

theorem e_q (i : S2x16x2048x64.Idx) :
    (val_main_v7 (F := Ideal) x1 i : EReal) = ((qr A (i 0).val (i 1).val (i 2).val (i 3).val : ℝ) : EReal) := by
  have b0 : (i 0).val < 2 := (i 0).isLt
  have b1 : (i 1).val < 16 := (i 1).isLt
  have b2 : (i 2).val < 2048 := (i 2).isLt
  have b3 : (i 3).val < 64 := (i 3).isLt
  rw [val_main_v7_apply, val_main_v6_apply, val_main_v5_apply, val_main_v1_apply, val_main_v0_apply]
  refine proj_at x1 A h1 8192 _ _ _ _ _ ?_ ?_
  · show ((((i 0).val * 2048 + (i 2).val) * 16 + (i 1).val) * 64 + (i 3).val) / 1024 = _; omega
  · show 8192 + ((((i 0).val * 2048 + (i 2).val) * 16 + (i 1).val) * 64 + (i 3).val) % 1024 = _; omega

theorem e_k (i : S2x16x2048x64.Idx) :
    (val_main_v10 (F := Ideal) x1 i : EReal) = ((kr A (i 0).val (i 1).val (i 2).val (i 3).val : ℝ) : EReal) := by
  have b0 : (i 0).val < 2 := (i 0).isLt
  have b1 : (i 1).val < 16 := (i 1).isLt
  have b2 : (i 2).val < 2048 := (i 2).isLt
  have b3 : (i 3).val < 64 := (i 3).isLt
  rw [val_main_v10_apply, val_main_v9_apply, val_main_v8_apply, val_main_v2_apply, val_main_v0_apply]
  refine proj_at x1 A h1 9216 _ _ _ _ _ ?_ ?_
  · show ((((i 0).val * 2048 + (i 2).val) * 16 + (i 1).val) * 64 + (i 3).val) / 1024 = _; omega
  · show 8192 + (1024 + ((((i 0).val * 2048 + (i 2).val) * 16 + (i 1).val) * 64 + (i 3).val) % 1024) = _; omega

theorem e_v (i : S2x16x2048x64.Idx) :
    (val_main_v13 (F := Ideal) x1 i : EReal) = ((vr A (i 0).val (i 1).val (i 2).val (i 3).val : ℝ) : EReal) := by
  have b0 : (i 0).val < 2 := (i 0).isLt
  have b1 : (i 1).val < 16 := (i 1).isLt
  have b2 : (i 2).val < 2048 := (i 2).isLt
  have b3 : (i 3).val < 64 := (i 3).isLt
  rw [val_main_v13_apply, val_main_v12_apply, val_main_v11_apply, val_main_v3_apply, val_main_v0_apply]
  refine proj_at x1 A h1 10240 _ _ _ _ _ ?_ ?_
  · show ((((i 0).val * 2048 + (i 2).val) * 16 + (i 1).val) * 64 + (i 3).val) / 1024 = _; omega
  · show 8192 + (2048 + ((((i 0).val * 2048 + (i 2).val) * 16 + (i 1).val) * 64 + (i 3).val) % 1024) = _; omega

theorem e_gate (i : S4096x1024.Idx) :
    (val_main_v14 (F := Ideal) x1 i : EReal) = ((A (i 0).val (3072 + (i 1).val) : ℝ) : EReal) := by
  rw [val_main_v14_apply, val_main_v4_apply]
  exact h1 _

/-- The logits. -/
theorem e_z (i : S2x16x2048x2048.Idx) :
    (val_main_v17 (F := Ideal) x1 i : EReal) = ((zr A (i 0).val (i 1).val (i 2).val (i 3).val : ℝ) : EReal) := by
  rw [val_main_v17_apply, val_main_v15_apply, val_main_v16_apply, val_main_cst_apply]
  show (∑ k : Fin 64, (val_main_v7 (F := Ideal) x1 (lidx_main_v15 i k) : EReal) * (val_main_v10 (F := Ideal) x1 (ridx_main_v15 i k) : EReal))
    * (FloatOps.ofBits (F := Ideal) .f32 0x3E000000#32 : EReal) = _
  simp only [e_q x1 A h1, e_k x1 A h1, bits_eighth, ← EReal.coe_mul, coe_sum]
  rfl

theorem e_sp0 (i : S2x16x2048x2048.Idx) :
    (val_main_call0_v1_0 (F := Ideal) x1 i : EReal) = ((sp (-(zr A (i 0).val (i 1).val (i 2).val (i 3).val)) : ℝ) : EReal) := by
  simp only [val_main_call0_v1_0_apply, val_main_call0_call0_v4_apply, val_main_call0_call0_v11_apply, val_main_call0_call0_v10_apply,
    val_main_call0_call0_v9_apply, val_main_call0_call0_v8_apply, val_main_call0_call0_v7_apply, val_main_call0_call0_v3_apply,
    val_main_call0_call0_v2_apply, val_main_call0_call0_v1_apply, val_main_call0_call0_v0_apply, val_main_call0_call0_cst_apply,
    val_main_call0_v0_apply, une_self, select_zero, bits_zero, e_z x1 A h1]
  exact softplus_steps _

theorem e_sp1 (i : S2x16x2048x2048.Idx) :
    (val_main_call1_v1_0 (F := Ideal) x1 i : EReal) = ((sp (zr A (i 0).val (i 1).val (i 2).val (i 3).val) : ℝ) : EReal) := by
  simp only [val_main_call1_v1_0_apply, val_main_call1_call0_v4_apply, val_main_call1_call0_v11_apply, val_main_call1_call0_v10_apply,
    val_main_call1_call0_v9_apply, val_main_call1_call0_v8_apply, val_main_call1_call0_v7_apply, val_main_call1_call0_v3_apply,
    val_main_call1_call0_v2_apply, val_main_call1_call0_v1_apply, val_main_call1_call0_v0_apply, val_main_call1_call0_cst_apply,
    val_main_call1_v0_apply, val_main_v26_apply, une_self, select_zero, bits_zero, e_z x1 A h1]
  refine Eq.trans ?_ ((softplus_steps _).trans (congrArg (fun a : ℝ => ((sp a : ℝ) : EReal)) (neg_neg _)))
  rfl

theorem e_lb (i : S2x16x2048x2048.Idx) :
    (val_main_v25_0 (F := Ideal) x1 i : EReal) = ((lb (zr A (i 0).val (i 1).val (i 2).val (i 3).val) : ℝ) : EReal) := by
  rw [val_main_v25_0_apply, e_sp0 x1 A h1]; rfl

theorem e_lom (i : S2x16x2048x2048.Idx) :
    (val_main_v27_0 (F := Ideal) x1 i : EReal) = ((lom (zr A (i 0).val (i 1).val (i 2).val (i 3).val) : ℝ) : EReal) := by
  rw [val_main_v27_0_apply, e_sp1 x1 A h1]; rfl

theorem e_co (i : S2x16x2048x2048.Idx) :
    (val_main_v25_1 (F := Ideal) x1 i : EReal) = ((1 - sg (zr A (i 0).val (i 1).val (i 2).val (i 3).val) : ℝ) : EReal) := by
  simp only [val_main_v25_1_apply, val_main_call0_call0_v21_apply, val_main_call0_call0_v16_apply, val_main_call0_call0_v14_apply,
    val_main_call0_call0_v13_apply, val_main_call0_call0_cst_0_apply, val_main_call0_call0_v20_apply, val_main_call0_call0_v18_apply,
    val_main_call0_call0_v17_apply, val_main_call0_call0_cst_2_apply, bits_top, e_sp0 x1 A h1, val_main_call0_v0_apply, e_z x1 A h1,
    Ideal.hostNegf_def, Ideal.subf_def, Ideal.hostUnary_exp_def, Ideal.negf_def, ← EReal.coe_neg, oeq_top, select_zero, ← EReal.coe_sub, Ideal.exp_coe, one_sub_sg]

theorem e_sg (i : S2x16x2048x2048.Idx) :
    (val_main_v27_1 (F := Ideal) x1 i : EReal) = ((sg (zr A (i 0).val (i 1).val (i 2).val (i 3).val) : ℝ) : EReal) := by
  simp only [val_main_v27_1_apply, val_main_call1_call0_v21_apply, val_main_call1_call0_v16_apply, val_main_call1_call0_v14_apply,
    val_main_call1_call0_v13_apply, val_main_call1_call0_cst_0_apply, val_main_call1_call0_v20_apply, val_main_call1_call0_v18_apply,
    val_main_call1_call0_v17_apply, val_main_call1_call0_cst_2_apply, bits_top, e_sp1 x1 A h1, val_main_call1_v0_apply, val_main_v26_apply, e_z x1 A h1,
    Ideal.hostNegf_def, Ideal.subf_def, Ideal.hostUnary_exp_def, Ideal.negf_def, ← EReal.coe_neg, neg_neg, oeq_top, select_zero, ← EReal.coe_sub, Ideal.exp_coe, sg_eq]

end

/-- The causal mask's word. -/
theorem e_mask (i : S2048x2048.Idx) : val_main_v24 (F := Ideal) i = BitVec.ofBool (decide ((i 1).val < (i 0).val)) := by
  have b0 : (i 0).val < 2048 := (i 0).isLt
  have b1 : (i 1).val < 2048 := (i 1).isLt
  rw [val_main_v24_apply, val_main_v22_apply, val_main_v23_apply, val_main_v19_apply, val_main_v21_apply, val_main_v18_apply, val_main_v20_apply]
  show BitVec.ofBool (BitVec.slt (BitVec.ofNat 32 (i 1).val) (BitVec.ofNat 32 (i 0).val)) = _
  rw [BitVec.slt_eq_decide, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  exact congrArg BitVec.ofBool (decide_eq_decide.2 (by omega))

theorem e_mask1 (i : S2x16x2048x2048.Idx) : val_main_v28_1 (F := Ideal) i = BitVec.ofBool (decide ((i 3).val < (i 2).val)) := by
  rw [val_main_v28_1_apply, e_mask]

theorem e_mask2 (i : S2x16x2048x2048.Idx) : val_main_v33_1 (F := Ideal) i = BitVec.ofBool (decide ((i 3).val < (i 2).val)) := by
  rw [val_main_v33_1_apply, e_mask]

section
include h1

theorem e_v28 (i : S2x16x2048x2048.Idx) :
    (val_main_v28_0 (F := Ideal) x1 i : EReal)
      = (((if (i 3).val < (i 2).val then lom (zr A (i 0).val (i 1).val (i 2).val (i 3).val) else 0 : ℝ)) : EReal) := by
  rw [val_main_v28_0_apply, e_mask1, e_lom x1 A h1, val_main_call2_v2_apply, val_main_call2_v0_apply, val_main_cst_0_apply, bits_zero, select_ofBool]
  split <;> simp

theorem e_v29 (i : S2x16x2048x2048.Idx) :
    (val_main_v29 (F := Ideal) x1 i : EReal)
      = ((∑ x ∈ range 2048, if (i 3).val ≤ x then (if x < (i 2).val then lom (zr A (i 0).val (i 1).val (i 2).val x) else 0) else 0 : ℝ) : EReal) := by
  unfold val_main_v29
  refine (window_sum 0 2047 _ (fun b h t s => if s < t then lom (zr A b h t s) else 0) (e_v28 x1 A h1) _
    (fun j => by rw [val_main_call3_v0_apply, val_main_call3_cst_apply, bits_zero]) _ _ i).trans ?_
  rw [sum_after (fun x => if x < (i 2).val then lom (zr A (i 0).val (i 1).val (i 2).val x) else 0)]

/-- The sum over the keys after `s` and before the query. -/
theorem e_later (i : S2x16x2048x2048.Idx) :
    (val_main_v30 (F := Ideal) x1 i : EReal) = ((later (zr A (i 0).val (i 1).val) (i 2).val (i 3).val : ℝ) : EReal) := by
  have b3 : (i 3).val < 2048 := (i 3).isLt
  rw [val_main_v30_apply, e_v29 x1 A h1, e_v28 x1 A h1, Ideal.subf_def, ← EReal.coe_sub]
  congr 1
  unfold later
  rw [sub_eq_iff_eq_add, ← Finset.sum_erase_add _ _ (mem_range.2 b3),
    ← Finset.sum_erase_add (range 2048) (fun x => if (i 3).val < x ∧ x < (i 2).val then lom (zr A (i 0).val (i 1).val (i 2).val x) else 0) (mem_range.2 b3)]
  have hs : ¬((i 3).val < (i 3).val ∧ (i 3).val < (i 2).val) := fun hh => lt_irrefl _ hh.1
  rw [if_pos le_rfl, if_neg hs, add_zero]
  congr 1
  refine Finset.sum_congr rfl fun x hx => ?_
  have hne : x ≠ (i 3).val := (Finset.mem_erase.1 hx).1
  by_cases h : (i 3).val < x
  · by_cases h' : x < (i 2).val
    · rw [if_pos h.le, if_pos h', if_pos ⟨h, h'⟩]
    · rw [if_pos h.le, if_neg h', if_neg (fun hh => h' hh.2)]
  · rw [if_neg (by omega), if_neg (fun hh => h hh.1)]

theorem e_exp (i : S2x16x2048x2048.Idx) :
    (val_main_v32 (F := Ideal) x1 i : EReal) = ((Real.exp (lb (zr A (i 0).val (i 1).val (i 2).val (i 3).val)
      + later (zr A (i 0).val (i 1).val) (i 2).val (i 3).val) : ℝ) : EReal) := by
  rw [val_main_v32_apply, val_main_v31_apply, e_lb x1 A h1, e_later x1 A h1, Ideal.addf_def, ← EReal.coe_add, Ideal.hostUnary_exp_def, Ideal.exp_coe]

theorem e_att (i : S2x16x2048x2048.Idx) :
    (val_main_v33_0 (F := Ideal) x1 i : EReal) = ((att (zr A (i 0).val (i 1).val) (i 2).val (i 3).val : ℝ) : EReal) := by
  rw [val_main_v33_0_apply, e_mask2, e_exp x1 A h1, val_main_call4_v2_apply, val_main_call4_v0_apply, val_main_cst_1_apply, bits_zero, select_ofBool]
  unfold att
  split <;> simp

theorem e_out (i : S2x16x2048x64.Idx) :
    (val_main_v34 (F := Ideal) x1 i : EReal) = ((outr A (i 0).val (i 1).val (i 2).val (i 3).val : ℝ) : EReal) := by
  rw [val_main_v34_apply]
  simp only [e_att x1 A h1, e_v x1 A h1, ← EReal.coe_mul]
  exact coe_sum _ _

theorem e_o (i : S4096x1024.Idx) :
    (val_main_v36 (F := Ideal) x1 i : EReal)
      = ((outr A ((i 0).val / 2048) ((i 1).val / 64) ((i 0).val % 2048) ((i 1).val % 64) : ℝ) : EReal) := by
  have b0 : (i 0).val < 4096 := (i 0).isLt
  have b1 : (i 1).val < 1024 := (i 1).isLt
  rw [val_main_v36_apply, val_main_v35_apply, e_out x1 A h1]
  have q0 : ((i 0).val * 1024 + (i 1).val) / 2097152 = (i 0).val / 2048 := by omega
  have q1 : ((i 0).val * 1024 + (i 1).val) / 1024 % 2048 = (i 0).val % 2048 := by omega
  have q2 : ((i 0).val * 1024 + (i 1).val) / 64 % 16 = (i 1).val / 64 := by omega
  have q3 : ((i 0).val * 1024 + (i 1).val) % 64 = (i 1).val % 64 := by omega
  rw [← q0, ← q1, ← q2, ← q3]

end

end Cert.ReferenceIdeal.Own
-- ==== Proof.Block.lean ====
/-
Where the blocks that the kernel reads at a grid point stand in its arrays.
-/
module

public import proofs.«01_k».proof.Proof.Along
public import proofs.«01_k».proof.Proof.Host
public import proofs.«01_k».proof.Proof.RefRead
public import Idealize.ShloMosaic.Lib.Pipeline.ValueKit.Geometry

@[expose] public section

set_option maxRecDepth 16384

noncomputable section

namespace Cert.KernelIdeal.Own

open Cert.KernelIdeal Cert.KernelIdeal.Gen Idealize.ShloMosaic Idealize.ShloMosaic.TcCoe Idealize.SL.Sem
open Cert.Stick

/-- Where each window's block stands at a grid point. -/
theorem block_places : ∀ t : Fin cfg0.N,
    (cfg0.win 0).index t = ![8 * (t.val / 16) + t.val % 8, t.val / 8 % 2]
    ∧ (cfg0.win 1).index t = ![8 * (t.val / 16) + t.val % 8, t.val / 8 % 2]
    ∧ (cfg0.win 2).index t = ![8 * (t.val / 16) + t.val % 8, t.val / 8 % 2, 0, 0]
    ∧ (cfg0.win 3).index t = ![8 * (t.val / 16) + t.val % 8, 16 + t.val / 8 % 2]
    ∧ (cfg0.win 4).index t = ![t.val / 16, 18 + t.val / 8 % 2]
    ∧ (cfg0.win 5).index t = ![t.val / 16, 20 + t.val / 8 % 2]
    ∧ (cfg0.win 6).index t = ![8 * (t.val / 16) + t.val % 8, 6 + t.val / 8 % 2]
    ∧ (cfg0.win 7).index t = ![8 * (t.val / 16) + t.val % 8, t.val / 8 % 2]
    ∧ (cfg0.win 8).index t = ![t.val / 16, t.val / 8 % 2]
    ∧ (cfg0.win 9).index t = ![t.val / 16, t.val / 8 % 2]
    ∧ (cfg0.win 10).index t = ![8 * (t.val / 16) + t.val % 8, t.val / 8 % 2] := by
  decide +kernel

section
variable {F : FTy → Type} [FloatOps F] (m : (ℓ : Loc nD τ sig) → Buf (Elt F) ℓ) (c : Dev nD) (t : Fin cfg0.N)

theorem blk_dsb (r : Fin 256) (a : Fin 512) : iblk m c 0 t (ix2 r a)
    = V m c main_arg0 (ix2 ⟨2048 * (t.val / 16) + 256 * (t.val % 8) + r, by have := t.isLt; simp only [show cfg0.N = 32 from rfl] at this; omega⟩ ⟨512 * (t.val / 8 % 2) + a, by omega⟩) := by
  have e := (block_places t).1
  blk_ext [iblk, e]

theorem blk_o (r : Fin 256) (a : Fin 512) : iblk m c 1 t (ix2 r a)
    = V m c main_v45 (ix2 ⟨2048 * (t.val / 16) + 256 * (t.val % 8) + r, by have := t.isLt; simp only [show cfg0.N = 32 from rfl] at this; omega⟩ ⟨512 * (t.val / 8 % 2) + a, by omega⟩) := by
  have e := (block_places t).2.1
  blk_ext [iblk, e]

theorem blk_q (r : Fin 256) (a : Fin 512) : iblk m c 3 t (ix2 r a)
    = V m c main_arg1 (ix2 ⟨2048 * (t.val / 16) + 256 * (t.val % 8) + r, by have := t.isLt; simp only [show cfg0.N = 32 from rfl] at this; omega⟩ ⟨8192 + (512 * (t.val / 8 % 2) + a), by omega⟩) := by
  have e := (block_places t).2.2.2.1
  blk_ext [iblk, e]

theorem blk_k (r : Fin 2048) (a : Fin 512) : iblk m c 4 t (ix2 r a)
    = V m c main_arg1 (ix2 ⟨2048 * (t.val / 16) + r, by have := t.isLt; simp only [show cfg0.N = 32 from rfl] at this; omega⟩ ⟨9216 + (512 * (t.val / 8 % 2) + a), by omega⟩) := by
  have e := (block_places t).2.2.2.2.1
  blk_ext [iblk, e]

theorem blk_v (r : Fin 2048) (a : Fin 512) : iblk m c 5 t (ix2 r a)
    = V m c main_arg1 (ix2 ⟨2048 * (t.val / 16) + r, by have := t.isLt; simp only [show cfg0.N = 32 from rfl] at this; omega⟩ ⟨10240 + (512 * (t.val / 8 % 2) + a), by omega⟩) := by
  have e := (block_places t).2.2.2.2.2.1
  blk_ext [iblk, e]

theorem blk_gate (r : Fin 256) (a : Fin 512) : iblk m c 6 t (ix2 r a)
    = V m c main_arg1 (ix2 ⟨2048 * (t.val / 16) + 256 * (t.val % 8) + r, by have := t.isLt; simp only [show cfg0.N = 32 from rfl] at this; omega⟩ ⟨3072 + (512 * (t.val / 8 % 2) + a), by omega⟩) := by
  have e := (block_places t).2.2.2.2.2.2.1
  blk_ext [iblk, e]

theorem blk_r (p : Fin 4) (r : Fin 256) (l : Fin 128) : iblk m c 2 t (ix4 0 p r l)
    = V m c main_v44 (ix4 ⟨8 * (t.val / 16) + t.val % 8, by have := t.isLt; simp only [show cfg0.N = 32 from rfl] at this; omega⟩ ⟨4 * (t.val / 8 % 2) + p, by omega⟩ r l) := by
  have e := (block_places t).2.2.1
  blk_ext [iblk, e]

end

end Cert.KernelIdeal.Own
-- ==== Proof.Input.lean ====
/-
The blocks that the kernel reads at a grid point, in terms of the two tables of real numbers that the
inputs are: the cotangent's, and the projection's with its columns for gate, q, k and v.
-/
module

public import proofs.«01_k».proof.Proof.Block
public import Idealize.ShloMosaic.Lib.KernelVsHost
public import Idealize.ShloMosaic.Lib.Pointwise
public import Idealize.ShloMosaic.Lib.ValueIdxRank6

@[expose] public section

set_option maxRecDepth 16384

noncomputable section

namespace Cert.KernelIdeal.Own

open Cert.KernelIdeal Cert.KernelIdeal.Gen Idealize.ShloMosaic Idealize.ShloMosaic.TcCoe Idealize.SL.Sem
open Cert.Stick

/-- The head that lane half `e` of the pair `p` in the run `u` stands for. -/
def hd (u p e : ℕ) : ℕ := 8 * (u % 2) + 2 * p + e

variable (A E : ℕ → ℕ → ℝ)

def inD (n : ℕ) (p : Fin 4) (r : Fin 256) (c : Fin 128) : ℝ := er E (n / 16) (hd (n / 8) p (c / 64)) (256 * (n % 8) + r) (c % 64)
def inO (n : ℕ) (p : Fin 4) (r : Fin 256) (c : Fin 128) : ℝ := outr A (n / 16) (hd (n / 8) p (c / 64)) (256 * (n % 8) + r) (c % 64)
def inQ (n : ℕ) (p : Fin 4) (r : Fin 256) (c : Fin 128) : ℝ := qr A (n / 16) (hd (n / 8) p (c / 64)) (256 * (n % 8) + r) (c % 64)
def inG (n : ℕ) (p : Fin 4) (r : Fin 256) (c : Fin 128) : ℝ := gr A (n / 16) (hd (n / 8) p (c / 64)) (256 * (n % 8) + r) (c % 64)
def inK (u : ℕ) (p : Fin 4) (s : ℕ) (c : Fin 128) : ℝ := kr A (u / 2) (hd u p (c / 64)) s (c % 64)
def inV (u : ℕ) (p : Fin 4) (s : ℕ) (c : Fin 128) : ℝ := vr A (u / 2) (hd u p (c / 64)) s (c % 64)
def inZ (u : ℕ) (p : Fin 4) (e : ℕ) : ℕ → ℕ → ℝ := zr A (u / 2) (hd u p e)
def inW (u : ℕ) (p : Fin 4) (e : ℕ) : ℕ → ℕ → ℝ := wr A E (u / 2) (hd u p e)
def inR (n : ℕ) (p : Fin 4) (r : Fin 256) (l : Fin 128) : ℝ :=
  if l.val < 16 then later (zr A (n / 16) (hd (n / 8) p (l / 8))) (256 * (n % 8) + r) (256 * (l % 8) + 255) else 0

/-- A sum over the 128 lanes of a pair, of which the rows of one head see their own 64. -/
theorem half_sum (h : ℕ) (hh : h < 2) (f : Fin 128 → ℝ) :
    (∑ c : Fin 128, if h = c.val / 64 then f c else 0) = ∑ e : Fin 64, f ⟨64 * h + e, by omega⟩ := by
  rw [← Finset.sum_filter]
  refine Finset.sum_bij' (fun c _ => (⟨c.val % 64, Nat.mod_lt _ (by norm_num)⟩ : Fin 64)) (fun e _ => ⟨64 * h + e, by omega⟩) ?_ ?_ ?_ ?_ ?_
  · intro a ha; exact Finset.mem_univ _
  · intro a ha; simp only [Finset.mem_filter, Finset.mem_univ, true_and]; omega
  · intro a ha; simp only [Finset.mem_filter, Finset.mem_univ, true_and] at ha; ext; simp only; omega
  · intro a ha; ext; simp only; omega
  · intro a ha
    simp only [Finset.mem_filter, Finset.mem_univ, true_and] at ha
    congr 1; ext; simp only; omega

theorem z_half (n : ℕ) (p : Fin 4) (r : Fin 512) (s : ℕ) :
    ∑ c, stackQ (inQ A n) p r c * inK A (n / 8) p s c = inZ A (n / 8) p (r / 256) (256 * (n % 8) + r % 256) s := by
  have hr : r.val / 256 < 2 := by omega
  simp only [stackQ, stackR, ite_mul, zero_mul]
  rw [half_sum (r.val / 256) hr]
  simp only [inZ, zr, inQ, inK, Finset.sum_mul]
  have e1 : n / 8 / 2 = n / 16 := by omega
  refine Finset.sum_congr rfl fun e _ => ?_
  have e2 : (64 * (r.val / 256) + e.val) / 64 = r.val / 256 := by omega
  have e3 : (64 * (r.val / 256) + e.val) % 64 = e.val := by omega
  simp only [e1, e2, e3]
  ring

theorem w_half (n : ℕ) (p : Fin 4) (r : Fin 512) (s : ℕ) :
    ∑ c, stackD (inD E n) (inG A n) p r c * inV A (n / 8) p s c = inW A E (n / 8) p (r / 256) (256 * (n % 8) + r % 256) s := by
  have hr : r.val / 256 < 2 := by omega
  simp only [stackD, stackR, ite_mul, zero_mul]
  rw [half_sum (r.val / 256) hr]
  simp only [inW, wr, dor, inD, inG, inV, lg, sgm]
  have e1 : n / 8 / 2 = n / 16 := by omega
  refine Finset.sum_congr rfl fun e _ => ?_
  have e2 : (64 * (r.val / 256) + e.val) / 64 = r.val / 256 := by omega
  have e3 : (64 * (r.val / 256) + e.val) % 64 = e.val := by omega
  simp only [e1, e2, e3]
  ring

theorem lane_half (n : ℕ) (p : Fin 4) (j : ℕ) (hj : j < 8) (a : Fin 512) :
    laneR (inR A n p) j hj a = later (inZ A (n / 8) p (a / 256)) (256 * (n % 8) + a % 256) (256 * j + 255) := by
  have e1 : n / 8 / 2 = n / 16 := by omega
  have e2 : (8 * (a.val / 256) + j) / 8 = a.val / 256 := by omega
  have e3 : (8 * (a.val / 256) + j) % 8 = j := by omega
  have e4 : 8 * (a.val / 256) + j < 16 := by omega
  simp only [laneR, inR, inZ, e1, e2, e3, if_pos e4]

section
variable (m : (ℓ : Loc nD τ sig) → Buf (Elt Ideal) ℓ) (c : Dev nD)
variable (h0 : ∀ i : S4096x1024.Idx, ((m ((c : Thread nD τ).loc main_arg0) : S4096x1024.Idx → EReal) i) = ((E (i 0).val (i 1).val : ℝ) : EReal))
variable (h1 : ∀ i : S4096x14336.Idx, ((m ((c : Thread nD τ).loc main_arg1) : S4096x14336.Idx → EReal) i) = ((A (i 0).val (i 1).val : ℝ) : EReal))

include h1 in
theorem saved_row (b : Fin 16) (p : Fin 8) (r : Fin 256) (l : Fin 128) :
    (V m c main_v44 : S16x8x256x128.Idx → EReal) (ix4 b p r l)
      = ((if l.val < 16 then later (zr A (b / 8) (2 * p + l / 8)) (256 * (b % 8) + r) (256 * (l % 8) + 255) else 0 : ℝ) : EReal) := by
  rw [host_r]
  split
  · next hl =>
    rw [pad_apply_of_inside _ _ _ _ _ _ _ _ (ix4 b p r ⟨l.val, hl⟩) (fun a => by
      match a with
      | ⟨0, _⟩ => show b.val = 0 + b.val * (0 + 1); omega
      | ⟨1, _⟩ => show p.val = 0 + p.val * (0 + 1); omega
      | ⟨2, _⟩ => show r.val = 0 + r.val * (0 + 1); omega
      | ⟨3, _⟩ => show l.val = 0 + l.val * (0 + 1); omega)]
    rw [shapeCast_apply _ _ _ (ix6 (⟨b.val / 8, by omega⟩ : Fin 2) (⟨b.val % 8, by omega⟩ : Fin 8) p r (⟨l.val / 8, by omega⟩ : Fin 2) (⟨l.val % 8, by omega⟩ : Fin 8)) (by
      rw [Shape.rowMajor_val_six, Shape.rowMajor_val_four]
      show ((((b.val / 8 * 8 + b.val % 8) * 8 + p.val) * 256 + r.val) * 2 + l.val / 8) * 8 + l.val % 8 = ((b.val * 8 + p.val) * 256 + r.val) * 16 + l.val
      omega)]
    rw [transpose_apply _ _ _ _ (ix6 (⟨b.val / 8, by omega⟩ : Fin 2) p (⟨l.val / 8, by omega⟩ : Fin 2) (⟨b.val % 8, by omega⟩ : Fin 8) r (⟨l.val % 8, by omega⟩ : Fin 8)) (fun a => by
      match a with
      | ⟨0, _⟩ => rfl
      | ⟨1, _⟩ => rfl
      | ⟨2, _⟩ => rfl
      | ⟨3, _⟩ => rfl
      | ⟨4, _⟩ => rfl
      | ⟨5, _⟩ => rfl)]
    rw [shapeCast_apply _ _ _ (ix4 (⟨b.val / 8, by omega⟩ : Fin 2) (⟨2 * p.val + l.val / 8, by omega⟩ : Fin 16) (⟨256 * (b.val % 8) + r.val, by omega⟩ : Fin 2048) (⟨l.val % 8, by omega⟩ : Fin 8)) (by
      rw [Shape.rowMajor_val_six, Shape.rowMajor_val_four]
      show ((b.val / 8 * 16 + (2 * p.val + l.val / 8)) * 2048 + (256 * (b.val % 8) + r.val)) * 8 + l.val % 8
        = ((((b.val / 8 * 8 + p.val) * 2 + l.val / 8) * 8 + b.val % 8) * 256 + r.val) * 8 + l.val % 8
      omega)]
    rw [Host.slice_apply]
    refine (Cert.ReferenceIdeal.Own.e_later _ A h1 _).trans ?_
    congr 1
    show later (zr A (0 + 1 * (b.val / 8)) (0 + 1 * (2 * p.val + l.val / 8))) (0 + 1 * (256 * (b.val % 8) + r.val)) (255 + 256 * (l.val % 8)) = _
    simp only [Nat.zero_add, Nat.one_mul, Nat.add_comm 255]
  · next hl =>
    rw [pad_apply_of_not_inside _ _ _ _ _ _ _ _ (3 : Fin 4) (fun hh => hl (by
      have h2 : (l.val - 0) / (0 + 1) < 16 := hh.2.2
      omega))]
    show ((((0#32 : BitVec 32).toInt : ℝ)) : EReal) = _
    simp

include h0 h1 in
theorem blockIn (t : Fin cfg0.N) : BlockIn (t.val % 8) (iblk m c 0 t) (iblk m c 1 t) (iblk m c 2 t) (iblk m c 3 t) (iblk m c 4 t) (iblk m c 5 t) (iblk m c 6 t)
    (inD E t) (inO A t) (inQ A t) (inG A t) (inR A t) (inK A (t / 8)) (inV A (t / 8)) (inZ A (t / 8)) (inW A E (t / 8)) := by
  have ht : t.val < 32 := t.isLt
  have e1 : t.val / 8 / 2 = t.val / 16 := by omega
  refine ⟨?_, ?_, ?_, ?_, ?_, ?_, ?_, ?_, ?_, ?_⟩
  · intro r p l
    rw [blk_dsb m c t, V_main_arg0]
    refine (h0 _).trans ?_
    refine congrArg (fun x : ℝ => (x : EReal)) ?_
    simp only [inD, er, hd]
    congr 1
    · show 2048 * (t.val / 16) + 256 * (t.val % 8) + r.val = _; omega
    · show 512 * (t.val / 8 % 2) + (128 * p.val + l.val) = _; omega
  · intro r p l
    rw [blk_o m c t, host_o]
    refine (Cert.ReferenceIdeal.Own.e_o _ A h1 _).trans ?_
    refine congrArg (fun x : ℝ => (x : EReal)) ?_
    show outr A ((2048 * (t.val / 16) + 256 * (t.val % 8) + r.val) / 2048) ((512 * (t.val / 8 % 2) + (128 * p.val + l.val)) / 64)
      ((2048 * (t.val / 16) + 256 * (t.val % 8) + r.val) % 2048) ((512 * (t.val / 8 % 2) + (128 * p.val + l.val)) % 64) = _
    simp only [inO, hd]
    congr 1 <;> omega
  · intro p r l
    rw [blk_r m c t, saved_row A m c h1]
    refine congrArg (fun x : ℝ => (x : EReal)) ?_
    simp only [inR, hd]
    have f1 : (8 * (t.val / 16) + t.val % 8) / 8 = t.val / 16 := by omega
    have f2 : (8 * (t.val / 16) + t.val % 8) % 8 = t.val % 8 := by omega
    have f3 : 2 * (4 * (t.val / 8 % 2) + p.val) + l.val / 8 = 8 * (t.val / 8 % 2) + 2 * p.val + l.val / 8 := by omega
    simp only [f1, f2, f3]
  · intro r p l
    rw [blk_q m c t, V_main_arg1]
    refine (h1 _).trans ?_
    refine congrArg (fun x : ℝ => (x : EReal)) ?_
    simp only [inQ, qr, hd]
    congr 1
    · show 2048 * (t.val / 16) + 256 * (t.val % 8) + r.val = _; omega
    · show 8192 + (512 * (t.val / 8 % 2) + (128 * p.val + l.val)) = _; omega
  · intro s p l
    rw [blk_k m c t, V_main_arg1]
    refine (h1 _).trans ?_
    refine congrArg (fun x : ℝ => (x : EReal)) ?_
    simp only [inK, kr, hd]
    congr 1
    · show 2048 * (t.val / 16) + s.val = _; omega
    · show 9216 + (512 * (t.val / 8 % 2) + (128 * p.val + l.val)) = _; omega
  · intro s p l
    rw [blk_v m c t, V_main_arg1]
    refine (h1 _).trans ?_
    refine congrArg (fun x : ℝ => (x : EReal)) ?_
    simp only [inV, vr, hd]
    congr 1
    · show 2048 * (t.val / 16) + s.val = _; omega
    · show 10240 + (512 * (t.val / 8 % 2) + (128 * p.val + l.val)) = _; omega
  · intro r p l
    rw [blk_gate m c t, V_main_arg1]
    refine (h1 _).trans ?_
    refine congrArg (fun x : ℝ => (x : EReal)) ?_
    simp only [inG, gr, hd]
    congr 1
    · show 2048 * (t.val / 16) + 256 * (t.val % 8) + r.val = _; omega
    · show 3072 + (512 * (t.val / 8 % 2) + (128 * p.val + l.val)) = _; omega
  · intro p r j s hj
    exact z_half A t p r _
  · intro p r j s hj
    exact w_half A E t p r _
  · intro p j hj hn a
    exact lane_half A t p j hj a

end

end Cert.KernelIdeal.Own
-- ==== Proof.Regroup.lean ====
/-
The kernel's sums, block by block and pair by pair, are the sums over whole rows and columns of each head.
-/
module

public import proofs.«01_k».proof.Proof.Input

@[expose] public section

set_option maxRecDepth 16384

noncomputable section

namespace Cert.KernelIdeal.Own

open Cert.KernelIdeal Cert.KernelIdeal.Gen Idealize.ShloMosaic Idealize.ShloMosaic.TcCoe Idealize.SL.Sem
open Cert.Stick

/-- A sum over the 512 stacked rows of a pair, of which a lane sees the 256 of its own head. -/
theorem stack_sum (h : ℕ) (hh : h < 2) (f : Fin 512 → ℝ) :
    (∑ r : Fin 512, if r.val / 256 = h then f r else 0) = ∑ e : Fin 256, f ⟨256 * h + e, by omega⟩ := by
  rw [← Finset.sum_filter]
  refine Finset.sum_bij' (fun c _ => (⟨c.val % 256, Nat.mod_lt _ (by norm_num)⟩ : Fin 256)) (fun e _ => ⟨256 * h + e, by omega⟩) ?_ ?_ ?_ ?_ ?_
  · intro a ha; exact Finset.mem_univ _
  · intro a ha; simp only [Finset.mem_filter, Finset.mem_univ, true_and]; omega
  · intro a ha; simp only [Finset.mem_filter, Finset.mem_univ, true_and] at ha; ext; simp only; omega
  · intro a ha; ext; simp only; omega
  · intro a ha
    simp only [Finset.mem_filter, Finset.mem_univ, true_and] at ha
    congr 1; ext; simp only; omega

/-- The query blocks that reach a key are the whole column of queries, the blocks before it giving nothing. -/
theorem held_sum (U : ℕ → Fin 4 → Fin 128 → ℕ → ℝ) (b : Fin 8) (a : Fin 512) (s : Fin 256) (f : ℕ → ℝ)
    (hU : ∀ j, j < 8 → U j ⟨a / 128, by omega⟩ ⟨a % 128, by omega⟩ (256 * b + s) = ∑ e : Fin 256, f (256 * j + e))
    (hf : ∀ t, t ≤ 256 * b.val + s.val → f t = 0) :
    Own.held U 8 b a s = ∑ t : Fin 2048, f t := by
  rw [Fin.sum_univ_tiles 8 256 rfl (fun t : Fin 2048 => f t), Own.held, Finset.sum_range]
  refine Finset.sum_congr rfl fun j _ => ?_
  split
  · rw [hU j j.isLt]
    exact Finset.sum_congr rfl fun e _ => by rw [Nat.mul_comm]
  · next h =>
    symm
    refine Finset.sum_eq_zero fun e _ => hf _ ?_
    show j.val * 256 + e.val ≤ _
    omega

theorem dz_before (z w : ℕ → ℕ → ℝ) {t s : ℕ} (h : t ≤ s) : dz z w t s = 0 := by
  unfold dz; rw [if_neg (by omega)]
theorem att_before (z : ℕ → ℕ → ℝ) {t s : ℕ} (h : t ≤ s) : att z t s = 0 := by
  unfold att; rw [if_neg (by omega)]

variable (A E : ℕ → ℕ → ℝ)

theorem held_key (u : ℕ) (b : Fin 8) (a : Fin 512) (s : Fin 256) :
    Own.held (addK (inQ A) (inZ A) (inW A E) u) 8 b a s
      = dkr A E (u / 2) (hd u (a / 128) (a % 128 / 64)) (256 * b + s) (a % 64) := by
  have hc : a.val % 128 / 64 < 2 := by omega
  rw [held_sum _ b a s (fun t => dz (zr A (u / 2) (hd u (a / 128) (a % 128 / 64))) (wr A E (u / 2) (hd u (a / 128) (a % 128 / 64))) t (256 * b + s) * (1 / 8)
    * qr A (u / 2) (hd u (a / 128) (a % 128 / 64)) t (a % 64)) ?_ ?_]
  · rfl
  · intro j hj
    simp only [addK, dkG, stackQ, stackR, ite_mul, zero_mul]
    rw [stack_sum _ hc]
    refine Finset.sum_congr rfl fun e _ => ?_
    have e1 : (8 * u + j) / 16 = u / 2 := by omega
    have e2 : (8 * u + j) / 8 = u := by omega
    have e3 : (8 * u + j) % 8 = j := by omega
    have e4 : (256 * (a.val % 128 / 64) + e.val) / 256 = a.val % 128 / 64 := by omega
    have e5 : (256 * (a.val % 128 / 64) + e.val) % 256 = e.val := by omega
    have e6 : a.val % 128 % 64 = a.val % 64 := by omega
    simp only [inQ, dzR, inZ, inW, e1, e2, e3, e4, e5, e6]
    ring
  · intro t ht
    simp only [dz_before _ _ ht, zero_mul]

theorem held_val (u : ℕ) (b : Fin 8) (a : Fin 512) (s : Fin 256) :
    Own.held (addV (inD E) (inG A) (inZ A) u) 8 b a s
      = dvr A E (u / 2) (hd u (a / 128) (a % 128 / 64)) (256 * b + s) (a % 64) := by
  have hc : a.val % 128 / 64 < 2 := by omega
  rw [held_sum _ b a s (fun t => dor A E (u / 2) (hd u (a / 128) (a % 128 / 64)) t (a % 64)
    * att (zr A (u / 2) (hd u (a / 128) (a % 128 / 64))) t (256 * b + s)) ?_ ?_]
  · rfl
  · intro j hj
    simp only [addV, dvG, stackD, stackR, ite_mul, zero_mul]
    rw [stack_sum _ hc]
    refine Finset.sum_congr rfl fun e _ => ?_
    have e1 : (8 * u + j) / 16 = u / 2 := by omega
    have e2 : (8 * u + j) / 8 = u := by omega
    have e3 : (8 * u + j) % 8 = j := by omega
    have e4 : (256 * (a.val % 128 / 64) + e.val) / 256 = a.val % 128 / 64 := by omega
    have e5 : (256 * (a.val % 128 / 64) + e.val) % 256 = e.val := by omega
    have e6 : a.val % 128 % 64 = a.val % 64 := by omega
    simp only [inD, inG, attR, inZ, dor, lg, sgm, e1, e2, e3, e4, e5, e6]
    ring
  · intro t ht
    simp only [att_before _ ht, mul_zero]

theorem query_all (n : ℕ) (r : Fin 256) (p : Fin 4) (c : Fin 128) :
    dqAt (inZ A (n / 8)) (inW A E (n / 8)) (inK A (n / 8)) (n % 8) r p c
      = dqr A E (n / 16) (hd (n / 8) p (c / 64)) (256 * (n % 8) + r) (c % 64) := by
  have e1 : n / 8 / 2 = n / 16 := by omega
  have e4 : (256 * (c.val / 64) + r.val) / 256 = c.val / 64 := by omega
  have e5 : (256 * (c.val / 64) + r.val) % 256 = r.val := by omega
  simp only [dqAt, dqR, dzR, inZ, inW, inK, dqr, dzr, e1, e4, e5]
  rw [← Finset.sum_range fun s => dz (zr A (n / 16) (hd (n / 8) p (c / 64))) (wr A E (n / 16) (hd (n / 8) p (c / 64))) (256 * (n % 8) + r) s * (1 / 8)
    * kr A (n / 16) (hd (n / 8) p (c / 64)) s (c % 64), Finset.sum_mul]
  rw [← Finset.sum_subset (Finset.range_subset_range.2 (show 256 * (n % 8 + 1) ≤ 2048 by omega)) (fun s _ hs => ?_)]
  · exact Finset.sum_congr rfl fun s _ => by ring
  · rw [Finset.mem_range] at hs
    rw [dz_before _ _ (by omega), zero_mul, zero_mul]

theorem gate_all (n : ℕ) (r : Fin 256) (p : Fin 4) (c : Fin 128) :
    gateAt (inD E n) (inO A n) (inG A n) r p c
      = dgr A E (n / 16) (hd (n / 8) p (c / 64)) (256 * (n % 8) + r) (c % 64) := by
  simp only [gateAt, inD, inO, inG, dgr, lg, sgm]
  ring

end Cert.KernelIdeal.Own
-- ==== Proof.Output.lean ====
/-
The kernel's four result arrays, in terms of the two tables of real numbers that the inputs are.
-/
module

public import proofs.«01_k».proof.Proof.Regroup
public import proofs.«01_k».proof.Proof.Gen.KernelIdeal.Value
public import Idealize.ShloMosaic.Lib.Pipeline.ValueKit

@[expose] public section

set_option maxRecDepth 16384

noncomputable section

namespace Cert.KernelIdeal.Own

open Cert.KernelIdeal Cert.KernelIdeal.Gen Idealize.ShloMosaic Idealize.ShloMosaic.TcCoe Idealize.SL.Sem
open Cert.Stick

variable (A E : ℕ → ℕ → ℝ)
variable (m : (ℓ : Loc nD τ sig) → Buf (Elt Ideal) ℓ) (c : Dev nD)
variable (h0 : ∀ i : S4096x1024.Idx, ((m ((c : Thread nD τ).loc main_arg0) : S4096x1024.Idx → EReal) i) = ((E (i 0).val (i 1).val : ℝ) : EReal))
variable (h1 : ∀ i : S4096x14336.Idx, ((m ((c : Thread nD τ).loc main_arg1) : S4096x14336.Idx → EReal) i) = ((A (i 0).val (i 1).val : ℝ) : EReal))

/-- A table given head by head, as an array of rows and columns. -/
def byHead (f : ℕ → ℕ → ℕ → ℕ → ℝ) (i : S4096x1024.Idx) : EReal :=
  ((f ((i 0).val / 2048) ((i 1).val / 64) ((i 0).val % 2048) ((i 1).val % 64) : ℝ) : EReal)

include h0 h1 in
theorem out_query : ((dats m 0 c).arrAt 7 cfg0.N : S4096x1024.Idx → EReal) = byHead (dqr A E) := by
  refine (dats m 0 c).arrAt_eq_of_covers 7 _ (by decide +kernel) fun t hf y => ?_
  have ht : t.val < 32 := t.isLt
  have y0 : (y 0).val < 256 := (y 0).isLt
  have y1 : (y 1).val < 512 := (y 1).isLt
  have S := (grid_state m c (blockIn A E m c h0 h1) t.val t.isLt).dq ⟨(y 0).val, y0⟩ ⟨(y 1).val, y1⟩
  rw [query_all A E] at S
  have e := (block_places t).2.2.2.2.2.2.2.1
  have q0 : (((win0_7.blk t).view.emb y) 0).val = 2048 * (t.val / 16) + (256 * (t.val % 8) + (y 0).val) := by blk_simp [e]; omega
  have q1 : (((win0_7.blk t).view.emb y) 1).val = 512 * (t.val / 8 % 2) + (y 1).val := by blk_simp [e]; omega
  have f1 : ((2048 * (t.val / 16) + (256 * (t.val % 8) + (y 0).val))) / 2048 = t.val / 16 := by omega
  have f2 : ((2048 * (t.val / 16) + (256 * (t.val % 8) + (y 0).val))) % 2048 = 256 * (t.val % 8) + (y 0).val := by omega
  have f3 : (512 * (t.val / 8 % 2) + (y 1).val) / 64 = hd (t.val / 8) ((y 1).val / 128) ((y 1).val % 128 / 64) := by unfold hd; omega
  have f4 : (512 * (t.val / 8 % 2) + (y 1).val) % 64 = (y 1).val % 128 % 64 := by omega
  blk_simp
  rw [after0_7, byHead, q0, q1, f1, f2, f3, f4]
  have hy : (ix2 ⟨(y 0).val, y0⟩ ⟨(y 1).val, y1⟩ : S256x512.Idx) = y := by funext a; fin_cases a <;> rfl
  exact (congrArg (outsAt0 m c t.val t.isLt).1 hy).symm.trans S

include h0 h1 in
theorem out_keys : ((dats m 0 c).arrAt 8 cfg0.N : S4096x1024.Idx → EReal) = byHead (dkr A E) := by
  refine (dats m 0 c).arrAt_eq_of_covers 8 _ (by decide +kernel) fun t hf y => ?_
  have ht : t.val < 32 := t.isLt
  have y0 : (y 0).val < 2048 := (y 0).isLt
  have y1 : (y 1).val < 512 := (y 1).isLt
  have S := key_out m c (blockIn A E m c h0 h1) t ((flush0_8 t).1 hf) ⟨(y 0).val, y0⟩ ⟨(y 1).val, y1⟩
  rw [held_key A E] at S
  have e := (block_places t).2.2.2.2.2.2.2.2.1
  have q0 : (((win0_8.blk t).view.emb y) 0).val = 2048 * (t.val / 16) + (y 0).val := by blk_simp [e]; omega
  have q1 : (((win0_8.blk t).view.emb y) 1).val = 512 * (t.val / 8 % 2) + (y 1).val := by blk_simp [e]; omega
  have f1 : ((2048 * (t.val / 16) + (y 0).val)) / 2048 = t.val / 8 / 2 := by omega
  have f2 : ((2048 * (t.val / 16) + (y 0).val)) % 2048 = 256 * ((y 0).val / 256) + (y 0).val % 256 := by omega
  have f3 : (512 * (t.val / 8 % 2) + (y 1).val) / 64 = hd (t.val / 8) ((y 1).val / 128) ((y 1).val % 128 / 64) := by unfold hd; omega
  have f4 : (512 * (t.val / 8 % 2) + (y 1).val) % 64 = (y 1).val % 64 := by omega
  blk_simp
  rw [after0_8, byHead, q0, q1, f1, f2, f3, f4]
  have hy : (ix2 ⟨(y 0).val, y0⟩ ⟨(y 1).val, y1⟩ : S2048x512.Idx) = y := by funext a; fin_cases a <;> rfl
  exact (congrArg (outsAt0 m c t.val t.isLt).2.1 hy).symm.trans S

include h0 h1 in
theorem out_vals : ((dats m 0 c).arrAt 9 cfg0.N : S4096x1024.Idx → EReal) = byHead (dvr A E) := by
  refine (dats m 0 c).arrAt_eq_of_covers 9 _ (by decide +kernel) fun t hf y => ?_
  have ht : t.val < 32 := t.isLt
  have y0 : (y 0).val < 2048 := (y 0).isLt
  have y1 : (y 1).val < 512 := (y 1).isLt
  have S := val_out m c (blockIn A E m c h0 h1) t ((flush0_9 t).1 hf) ⟨(y 0).val, y0⟩ ⟨(y 1).val, y1⟩
  rw [held_val A E] at S
  have e := (block_places t).2.2.2.2.2.2.2.2.2.1
  have q0 : (((win0_9.blk t).view.emb y) 0).val = 2048 * (t.val / 16) + (y 0).val := by blk_simp [e]; omega
  have q1 : (((win0_9.blk t).view.emb y) 1).val = 512 * (t.val / 8 % 2) + (y 1).val := by blk_simp [e]; omega
  have f1 : ((2048 * (t.val / 16) + (y 0).val)) / 2048 = t.val / 8 / 2 := by omega
  have f2 : ((2048 * (t.val / 16) + (y 0).val)) % 2048 = 256 * ((y 0).val / 256) + (y 0).val % 256 := by omega
  have f3 : (512 * (t.val / 8 % 2) + (y 1).val) / 64 = hd (t.val / 8) ((y 1).val / 128) ((y 1).val % 128 / 64) := by unfold hd; omega
  have f4 : (512 * (t.val / 8 % 2) + (y 1).val) % 64 = (y 1).val % 64 := by omega
  blk_simp
  rw [after0_9, byHead, q0, q1, f1, f2, f3, f4]
  have hy : (ix2 ⟨(y 0).val, y0⟩ ⟨(y 1).val, y1⟩ : S2048x512.Idx) = y := by funext a; fin_cases a <;> rfl
  exact (congrArg (outsAt0 m c t.val t.isLt).2.2.1 hy).symm.trans S

include h0 h1 in
theorem out_gate : ((dats m 0 c).arrAt 10 cfg0.N : S4096x1024.Idx → EReal) = byHead (dgr A E) := by
  refine (dats m 0 c).arrAt_eq_of_covers 10 _ (by decide +kernel) fun t hf y => ?_
  have ht : t.val < 32 := t.isLt
  have y0 : (y 0).val < 256 := (y 0).isLt
  have y1 : (y 1).val < 512 := (y 1).isLt
  have S := (grid_state m c (blockIn A E m c h0 h1) t.val t.isLt).gate ⟨(y 0).val, y0⟩ ⟨(y 1).val, y1⟩
  rw [gate_all A E] at S
  have e := (block_places t).2.2.2.2.2.2.2.2.2.2
  have q0 : (((win0_10.blk t).view.emb y) 0).val = 2048 * (t.val / 16) + (256 * (t.val % 8) + (y 0).val) := by blk_simp [e]; omega
  have q1 : (((win0_10.blk t).view.emb y) 1).val = 512 * (t.val / 8 % 2) + (y 1).val := by blk_simp [e]; omega
  have f1 : ((2048 * (t.val / 16) + (256 * (t.val % 8) + (y 0).val))) / 2048 = t.val / 16 := by omega
  have f2 : ((2048 * (t.val / 16) + (256 * (t.val % 8) + (y 0).val))) % 2048 = 256 * (t.val % 8) + (y 0).val := by omega
  have f3 : (512 * (t.val / 8 % 2) + (y 1).val) / 64 = hd (t.val / 8) ((y 1).val / 128) ((y 1).val % 128 / 64) := by unfold hd; omega
  have f4 : (512 * (t.val / 8 % 2) + (y 1).val) % 64 = (y 1).val % 128 % 64 := by omega
  blk_simp
  rw [after0_10, byHead, q0, q1, f1, f2, f3, f4]
  have hy : (ix2 ⟨(y 0).val, y0⟩ ⟨(y 1).val, y1⟩ : S256x512.Idx) = y := by funext a; fin_cases a <;> rfl
  exact (congrArg (outsAt0 m c t.val t.isLt).2.2.2.1 hy).symm.trans S

end Cert.KernelIdeal.Own
-- ==== Proof.RefGrad.lean ====
/-
The reference's gradients at real arguments: each result at an index is the real model's number there.
-/
module

public import proofs.«01_k».proof.Proof.RefRead

@[expose] public section

set_option maxRecDepth 16384

noncomputable section

namespace Cert.ReferenceIdeal.Own

open Cert.ReferenceIdeal Cert.ReferenceIdeal.Gen Cert.ReferenceIdeal.Read Idealize.ShloMosaic Idealize.ShloMosaic.TcCoe Idealize.SL.Sem
open Idealize.ShloMosaic.StableHlo
open Finset Cert.Stick
open Cert.KernelIdeal.Own (coe_sum select_ofBool)

/-- One over one plus an exponential, as the reference divides. -/
theorem lg_steps (a : ℝ) : Ideal.div ((1 : ℝ) : EReal) (((1 : ℝ) : EReal) + Ideal.exp (-((a : ℝ) : EReal))) = ((lg a : ℝ) : EReal) := by
  rw [← EReal.coe_neg, Ideal.exp_coe, ← EReal.coe_add, Ideal.div_coe (by positivity), ← EReal.coe_mul]
  unfold lg
  congr 1
  rw [one_mul, one_div]

variable (x0 : (⟨S4096x1024, .bf16⟩ : BufTy).Contents (Elt Ideal)) (x1 : (⟨S4096x14336, .bf16⟩ : BufTy).Contents (Elt Ideal))
variable (A E : ℕ → ℕ → ℝ)
variable (h0 : ∀ i : S4096x1024.Idx, (x0 i : EReal) = ((E (i 0).val (i 1).val : ℝ) : EReal))
variable (h1 : ∀ i : S4096x14336.Idx, (x1 i : EReal) = ((A (i 0).val (i 1).val : ℝ) : EReal))

section
include h1

theorem e_lg (i : S4096x1024.Idx) :
    (val_main_v37_2 (F := Ideal) x1 i : EReal) = ((lg (A (i 0).val (3072 + (i 1).val)) : ℝ) : EReal) := by
  rw [val_main_v37_2_apply, val_main_call5_v4_apply, val_main_call5_v3_apply, val_main_call5_v2_apply, val_main_call5_v1_apply,
    val_main_call5_v0_apply, val_main_call5_cst_apply, val_main_call5_cst_0_apply, bits_one, e_gate x1 A h1]
  exact lg_steps _

theorem e_silu (i : S4096x1024.Idx) :
    (val_main_v37_0 (F := Ideal) x1 i : EReal)
      = ((A (i 0).val (3072 + (i 1).val) * lg (A (i 0).val (3072 + (i 1).val)) : ℝ) : EReal) := by
  rw [val_main_v37_0_apply, e_gate x1 A h1, e_lg x1 A h1, EReal.coe_mul]; rfl

theorem e_slope (i : S4096x1024.Idx) :
    (val_main_v37_1 (F := Ideal) x1 i : EReal)
      = ((lg (A (i 0).val (3072 + (i 1).val)) * (1 - lg (A (i 0).val (3072 + (i 1).val))) : ℝ) : EReal) := by
  rw [val_main_v37_1_apply, val_main_call5_v7_apply, val_main_call5_v6_apply, val_main_call5_cst_1_apply, bits_one, e_lg x1 A h1,
    EReal.coe_mul, EReal.coe_sub]; rfl

end

include h0 h1

theorem e_do (i : S2x16x2048x64.Idx) :
    (val_main_v45 (F := Ideal) x0 x1 i : EReal) = ((dor A E (i 0).val (i 1).val (i 2).val (i 3).val : ℝ) : EReal) := by
  have b0 : (i 0).val < 2 := (i 0).isLt
  have b1 : (i 1).val < 16 := (i 1).isLt
  have b2 : (i 2).val < 2048 := (i 2).isLt
  have b3 : (i 3).val < 64 := (i 3).isLt
  rw [val_main_v45_apply, val_main_v44_apply, val_main_v42_apply, e_silu x1 A h1, val_main_v40_apply]
  have q0 : ((((i 0).val * 2048 + (i 2).val) * 16 + (i 1).val) * 64 + (i 3).val) / 1024 = 2048 * (i 0).val + (i 2).val := by omega
  have q1 : ((((i 0).val * 2048 + (i 2).val) * 16 + (i 1).val) * 64 + (i 3).val) % 1024 = 64 * (i 1).val + (i 3).val := by omega
  unfold dor er gr
  rw [← q0, ← q1, EReal.coe_mul]
  exact congrArg (· * _) (h0 _)

theorem e_w (i : S2x16x2048x2048.Idx) :
    (val_main_v48 (F := Ideal) x0 x1 i : EReal) = ((wr A E (i 0).val (i 1).val (i 2).val (i 3).val : ℝ) : EReal) := by
  rw [val_main_v48_apply]
  simp only [e_do x0 x1 A E h0 h1, e_v x1 A h1, ← EReal.coe_mul]
  exact coe_sum _ _

theorem e_v50 (i : S2x16x2048x2048.Idx) :
    (val_main_v50 (F := Ideal) x0 x1 i : EReal)
      = (((if (i 3).val < (i 2).val then wr A E (i 0).val (i 1).val (i 2).val (i 3).val else 0)
          * Real.exp (lb (zr A (i 0).val (i 1).val (i 2).val (i 3).val) + later (zr A (i 0).val (i 1).val) (i 2).val (i 3).val) : ℝ) : EReal) := by
  rw [val_main_v50_apply, val_main_v49_apply, e_mask2, e_w x0 x1 A E h0 h1, val_main_call7_v0_apply, val_main_call7_cst_apply, bits_zero, select_ofBool,
    e_exp x1 A h1, EReal.coe_mul]
  split <;> simp

theorem e_v52 (i : S2x16x2048x2048.Idx) :
    (val_main_v52 (F := Ideal) x0 x1 i : EReal)
      = ((∑ x ∈ range ((i 3).val + 1), (if x < (i 2).val then wr A E (i 0).val (i 1).val (i 2).val x else 0)
          * Real.exp (lb (zr A (i 0).val (i 1).val (i 2).val x) + later (zr A (i 0).val (i 1).val) (i 2).val x) : ℝ) : EReal) := by
  have b3 : (i 3).val < 2048 := (i 3).isLt
  unfold val_main_v52
  refine (window_sum 2047 0 _ (fun b h t s => (if s < t then wr A E b h t s else 0) * Real.exp (lb (zr A b h t s) + later (zr A b h) t s))
    (e_v50 x0 x1 A E h0 h1) _ (fun j => by rw [val_main_call8_v0_apply, val_main_call8_cst_apply, bits_zero]) _ _ i).trans ?_
  rw [sum_before (fun x => (if x < (i 2).val then wr A E (i 0).val (i 1).val (i 2).val x else 0)
    * Real.exp (lb (zr A (i 0).val (i 1).val (i 2).val x) + later (zr A (i 0).val (i 1).val) (i 2).val x)) _ b3]

theorem e_v54 (i : S2x16x2048x2048.Idx) :
    (val_main_v54 (F := Ideal) x0 x1 i : EReal)
      = ((if (i 3).val < (i 2).val then
          -((if (i 3).val < (i 2).val then wr A E (i 0).val (i 1).val (i 2).val (i 3).val else 0)
            * Real.exp (lb (zr A (i 0).val (i 1).val (i 2).val (i 3).val) + later (zr A (i 0).val (i 1).val) (i 2).val (i 3).val))
          + (∑ x ∈ range ((i 3).val + 1), (if x < (i 2).val then wr A E (i 0).val (i 1).val (i 2).val x else 0)
            * Real.exp (lb (zr A (i 0).val (i 1).val (i 2).val x) + later (zr A (i 0).val (i 1).val) (i 2).val x)) else 0 : ℝ) : EReal) := by
  rw [val_main_v54_apply, e_mask1, val_main_v53_apply, val_main_v51_apply, e_v50 x0 x1 A E h0 h1, e_v52 x0 x1 A E h0 h1, val_main_call9_v0_apply,
    val_main_call9_cst_apply, bits_zero, select_ofBool]
  by_cases h : (i 3).val < (i 2).val
  · rw [if_pos h, if_pos h, if_pos h, EReal.coe_add, EReal.coe_neg]; rfl
  · rw [if_neg h, if_neg h, EReal.coe_zero]

theorem e_dz (i : S2x16x2048x2048.Idx) :
    (val_main_v60 (F := Ideal) x0 x1 i : EReal) = ((dzr A E (i 0).val (i 1).val (i 2).val (i 3).val : ℝ) : EReal) := by
  rw [val_main_v60_apply, val_main_v58_apply, val_main_v56_apply, val_main_v55_apply, val_main_call10_v1_apply, val_main_call10_v0_apply,
    val_main_v57_apply, val_main_call11_v1_apply, val_main_call11_v0_apply, e_v54 x0 x1 A E h0 h1, e_v50 x0 x1 A E h0 h1, e_sg x1 A h1, e_co x1 A h1,
    val_main_v59_apply, val_main_cst_2_apply, bits_eighth]
  unfold dzr
  rw [← dz_steps]
  push_cast
  rfl

theorem e_dq (i : S2x16x2048x64.Idx) :
    (val_main_v62 (F := Ideal) x0 x1 i : EReal) = ((dqr A E (i 0).val (i 1).val (i 2).val (i 3).val : ℝ) : EReal) := by
  rw [val_main_v62_apply]
  simp only [e_dz x0 x1 A E h0 h1, e_k x1 A h1, ← EReal.coe_mul]
  exact coe_sum _ _

theorem e_dk (i : S2x16x2048x64.Idx) :
    (val_main_v61 (F := Ideal) x0 x1 i : EReal) = ((dkr A E (i 0).val (i 1).val (i 2).val (i 3).val : ℝ) : EReal) := by
  rw [val_main_v61_apply]
  simp only [e_dz x0 x1 A E h0 h1, e_q x1 A h1, ← EReal.coe_mul]
  exact coe_sum _ _

theorem e_dv (i : S2x16x2048x64.Idx) :
    (val_main_v47 (F := Ideal) x0 x1 i : EReal) = ((dvr A E (i 0).val (i 1).val (i 2).val (i 3).val : ℝ) : EReal) := by
  rw [val_main_v47_apply, val_main_v46_apply]
  simp only [e_do x0 x1 A E h0 h1, e_att x1 A h1, ← EReal.coe_mul]
  exact coe_sum _ _

/-- The four results. -/
theorem r_dq (i : S4096x1024.Idx) : (val_main_v72 (F := Ideal) x0 x1 i : EReal)
    = ((dqr A E ((i 0).val / 2048) ((i 1).val / 64) ((i 0).val % 2048) ((i 1).val % 64) : ℝ) : EReal) := by
  have b0 : (i 0).val < 4096 := (i 0).isLt
  have b1 : (i 1).val < 1024 := (i 1).isLt
  rw [val_main_v72_apply, val_main_v71_apply, val_main_v70_apply, e_dq x0 x1 A E h0 h1]
  have q0 : ((i 0).val * 1024 + (i 1).val) / 2097152 = (i 0).val / 2048 := by omega
  have q1 : ((i 0).val * 1024 + (i 1).val) / 1024 % 2048 = (i 0).val % 2048 := by omega
  have q2 : ((i 0).val * 1024 + (i 1).val) / 64 % 16 = (i 1).val / 64 := by omega
  have q3 : ((i 0).val * 1024 + (i 1).val) % 64 = (i 1).val % 64 := by omega
  rw [← q0, ← q1, ← q2, ← q3]
  rfl

theorem r_dk (i : S4096x1024.Idx) : (val_main_v69 (F := Ideal) x0 x1 i : EReal)
    = ((dkr A E ((i 0).val / 2048) ((i 1).val / 64) ((i 0).val % 2048) ((i 1).val % 64) : ℝ) : EReal) := by
  have b0 : (i 0).val < 4096 := (i 0).isLt
  have b1 : (i 1).val < 1024 := (i 1).isLt
  rw [val_main_v69_apply, val_main_v68_apply, val_main_v67_apply, e_dk x0 x1 A E h0 h1]
  have q0 : ((i 0).val * 1024 + (i 1).val) / 2097152 = (i 0).val / 2048 := by omega
  have q1 : ((i 0).val * 1024 + (i 1).val) / 1024 % 2048 = (i 0).val % 2048 := by omega
  have q2 : ((i 0).val * 1024 + (i 1).val) / 64 % 16 = (i 1).val / 64 := by omega
  have q3 : ((i 0).val * 1024 + (i 1).val) % 64 = (i 1).val % 64 := by omega
  rw [← q0, ← q1, ← q2, ← q3]
  rfl

theorem r_dv (i : S4096x1024.Idx) : (val_main_v66 (F := Ideal) x0 x1 i : EReal)
    = ((dvr A E ((i 0).val / 2048) ((i 1).val / 64) ((i 0).val % 2048) ((i 1).val % 64) : ℝ) : EReal) := by
  have b0 : (i 0).val < 4096 := (i 0).isLt
  have b1 : (i 1).val < 1024 := (i 1).isLt
  rw [val_main_v66_apply, val_main_v65_apply, val_main_v64_apply, e_dv x0 x1 A E h0 h1]
  have q0 : ((i 0).val * 1024 + (i 1).val) / 2097152 = (i 0).val / 2048 := by omega
  have q1 : ((i 0).val * 1024 + (i 1).val) / 1024 % 2048 = (i 0).val % 2048 := by omega
  have q2 : ((i 0).val * 1024 + (i 1).val) / 64 % 16 = (i 1).val / 64 := by omega
  have q3 : ((i 0).val * 1024 + (i 1).val) % 64 = (i 1).val % 64 := by omega
  rw [← q0, ← q1, ← q2, ← q3]
  rfl

theorem r_dg (i : S4096x1024.Idx) : (val_main_v63 (F := Ideal) x0 x1 i : EReal)
    = ((dgr A E ((i 0).val / 2048) ((i 1).val / 64) ((i 0).val % 2048) ((i 1).val % 64) : ℝ) : EReal) := by
  have b0 : (i 0).val < 4096 := (i 0).isLt
  have b1 : (i 1).val < 1024 := (i 1).isLt
  have q0 : 2048 * ((i 0).val / 2048) + (i 0).val % 2048 = (i 0).val := by omega
  have q1 : 64 * ((i 1).val / 64) + (i 1).val % 64 = (i 1).val := by omega
  rw [val_main_v63_apply, val_main_v43_apply, val_main_call6_v1_apply, val_main_call6_v2_apply, val_main_call6_v0_apply, val_main_v41_apply,
    e_o x1 A h1, e_lg x1 A h1, e_slope x1 A h1, e_gate x1 A h1, val_main_v40_apply]
  unfold dgr er gr
  rw [q0, q1]
  push_cast
  rw [← h0]
  rfl

end Cert.ReferenceIdeal.Own
-- ==== Proof.Finite.lean ====
/-
What the precondition says of the two inputs: every entry is a real number.
-/
module

public import proofs.«01_k».proof.Proof.Gen.Pre_finite
public import Idealize.ShloMosaic.Lib.ReduceAll
public import Idealize.ShloMosaic.Lib.Affine
public import Idealize.ShloMosaic.PureOps.Ideal.Laws

@[expose] public section

noncomputable section

namespace Cert.Pre_finite.Own

open Cert.Pre_finite Cert.Pre_finite.Gen Idealize.ShloMosaic

theorem real_of_flag (a : EReal) (h : Ideal.cmp .olt (max a (-a)) (⊤ : EReal) = 1#1) : ((a.toReal : ℝ) : EReal) = a := by
  have h' : max a (-a) < ⊤ := by
    by_contra hn
    simp [Ideal.cmp, hn] at h
  refine EReal.coe_toReal (fun e => ?_) (fun e => ?_)
  · subst e; simp at h'
  · subst e; simp at h'

theorem bits_inf : Ideal.ofBits .f32 0x7F800000#32 = (⊤ : EReal) := by
  simp [Ideal.ofBits, Ideal.ieee]

theorem reals (x0 : FVec Ideal S4096x1024 .bf16) (x1 : FVec Ideal S4096x14336 .bf16) (h : fn x0 x1 = fun _ => 1#1) :
    (∀ i : S4096x1024.Idx, ((EReal.toReal (x0 i) : ℝ) : EReal) = x0 i) ∧ ∀ i : S4096x14336.Idx, ((EReal.toReal (x1 i) : ℝ) : EReal) = x1 i := by
  have e := congrFun h (fun a => a.elim0)
  dsimp only [fn] at e
  have e' := IntOp.andi_eq_one.1 e
  refine ⟨fun i => real_of_flag _ ?_, fun i => real_of_flag _ ?_⟩
  · have := Host.reduce_andi_all _ _ _ _ _ e'.1 i
    rw [← bits_inf]; exact this
  · have := Host.reduce_andi_all _ _ _ _ _ e'.2 i
    rw [← bits_inf]; exact this

/-- An array of real numbers as a table over all pairs of numbers, zero outside the array. -/
def table {n0 n1 : ℕ} (x : (⟨2, ![n0, n1]⟩ : Shape).Idx → EReal) (r c : ℕ) : ℝ :=
  if h : r < n0 ∧ c < n1 then EReal.toReal (x (fun a => match a with | ⟨0, _⟩ => ⟨r, h.1⟩ | ⟨1, _⟩ => ⟨c, h.2⟩)) else 0

theorem table_eq {n0 n1 : ℕ} (x : (⟨2, ![n0, n1]⟩ : Shape).Idx → EReal) (h : ∀ i, ((EReal.toReal (x i) : ℝ) : EReal) = x i)
    (i : (⟨2, ![n0, n1]⟩ : Shape).Idx) : x i = ((table x (i 0).val (i 1).val : ℝ) : EReal) := by
  rw [table, dif_pos ⟨(i 0).isLt, (i 1).isLt⟩, h]
  congr 1
  funext a
  match a with
  | ⟨0, _⟩ => rfl
  | ⟨1, _⟩ => rfl

end Cert.Pre_finite.Own
-- ==== Proof.Dot.lean ====
/-
A dot product over the extended reals.
-/
module

public import Idealize.ShloMosaic.Lib.Pipeline.ValueKit

@[expose] public section

noncomputable section

namespace Cert.Dot

/-- The sum of the products of two rows' entries. -/
def dot {K : ℕ} (f g : Fin K → EReal) : EReal := ∑ k, f k * g k

end Cert.Dot

end
-- ==== Proof.InWeight.lean ====
/-
The gradient of the input projection's weight: the kernel's product of the projection's gradient with the layer's normed
input over the 4096 rows, summed in two blocks of 2048.
-/
module

public import proofs.«01_k».proof.Proof.Gen.InWeightIdeal.Value
public import proofs.«01_k».proof.Proof.Gen.InWeightRefIdeal.Read
public import Idealize.ShloMosaic.Lib.Pipeline.ValueKit
public import Idealize.ShloMosaic.Lib.Pipeline.ReadBack
public import proofs.«01_k».proof.Proof.Dot

@[expose] public section

set_option maxRecDepth 16384

noncomputable section

namespace Cert.InWeightIdeal.Own

open Cert.InWeightIdeal Cert.InWeightIdeal.Gen Idealize.ShloMosaic Idealize.ShloMosaic.TcCoe Idealize.SL.Sem

variable (m : (ℓ : Loc nD τ sig) → Buf (Elt Ideal) ℓ) (c : Dev nD)

/-- Where each window's block stands at a grid point. -/
theorem places : ∀ t : Fin cfg0.N,
    (cfg0.win 0).index t = ![t.val % 2, t.val / 2] ∧ (cfg0.win 1).index t = ![t.val % 2, 0]
    ∧ (cfg0.win 2).index t = ![t.val / 2, 0] := by
  decide +kernel

/-- One point's product at an index of the block. -/
def part (t : Fin cfg0.N) (y : S1024x1024.Idx) : EReal :=
  Dot.dot (fun k : Fin 2048 => iblk m c 0 t (ix2 k (y 0))) fun k => iblk m c 1 t (ix2 k (y 1))

theorem part_eq (t : Fin cfg0.N) (y : S1024x1024.Idx) : (k0_pay1 (iblk m c 0 t) (iblk m c 1 t) : S1024x1024.Idx → EReal) y = part m c t y := by
  unfold k0_pay1
  pointwise []
  rfl

theorem first (t : Fin cfg0.N) (h : t.val % 2 = 0) (y : S1024x1024.Idx) :
    ((outsAt0 m c t.val t.isLt).2 : S1024x1024.Idx → EReal) y = 0 + part m c t y := by
  rw [outsAt0_A m c t h (by omega) (by omega), zero_add]
  frame_out
  unfold k0_pay2
  pointwise []
  exact part_eq m c t y

theorem next (t : Fin cfg0.N) (h : ¬ t.val % 2 = 0) (y : S1024x1024.Idx) :
    ((outsAt0 m c t.val t.isLt).2 : S1024x1024.Idx → EReal) y = ((outsAt0 m c (t.val - 1) (Nat.lt_of_le_of_lt (Nat.sub_le _ _) t.isLt)).2 : S1024x1024.Idx → EReal) y + part m c t y := by
  rw [outsAt0_B m c t h (by omega) (by omega)]
  frame_out
  simp only [read_unread_whole]
  unfold k0_pay3
  pointwise []
  rw [part_eq m c t y]

theorem last (t : Fin cfg0.N) (h : t.val % 2 = 1) (y : S1024x1024.Idx) :
    ((outsAt0 m c t.val t.isLt).1 : S1024x1024.Idx → EReal) y = ((outsAt0 m c t.val t.isLt).2 : S1024x1024.Idx → EReal) y := by
  rw [outsAt0_B m c t (by omega) h h]
  frame_out
  unfold k0_pay4
  pointwise []

/-- The result array. -/
theorem out : ((dats m 0 c).arrAt 2 cfg0.N : S14336x1024.Idx → EReal) = fun i =>
    Dot.dot (fun k : Fin 4096 => m ((c : Thread nD τ).loc main_arg0) (ix2 k (i 0))) fun k => m ((c : Thread nD τ).loc main_arg1) (ix2 k (i 1)) := by
  refine (dats m 0 c).arrAt_eq_of_covers 2 _ (by decide +kernel) fun t hf y => ?_
  have hr := (flush0_2 t).1 hf
  have e := (places t).2.2
  blk_simp
  rw [after0_2]
  refine (last m c t hr y).trans ?_
  rw [Pipeline.eq_sum_fin_of_reset_step_apply_of_flush (fun n h => ((outsAt0 m c n h).2 : S1024x1024.Idx → EReal)) 2 (fun _ => 0) (part m c)
    (first m c) (next m c) t hr y, zero_add, Dot.dot, Fin.sum_univ_tiles 2 2048 rfl]
  refine Finset.sum_congr rfl fun s _ => ?_
  unfold part Dot.dot
  refine Finset.sum_congr rfl fun k _ => ?_
  have e0 := (places ⟨2 * (t.val / 2) + s.val, Pipeline.run_point_lt_of_flush t hr s⟩).1
  have e1 := (places ⟨2 * (t.val / 2) + s.val, Pipeline.run_point_lt_of_flush t hr s⟩).2.1
  congr 1 <;> blk_ext [iblk, V, e, e0, e1]

end Cert.InWeightIdeal.Own

namespace Cert.InWeightRefIdeal.Own

open Cert.InWeightRefIdeal Cert.InWeightRefIdeal.Gen Cert.InWeightRefIdeal.Read Idealize.ShloMosaic Idealize.ShloMosaic.TcCoe Idealize.SL.Sem

/-- The reference's result. -/
theorem ref (x0 : (⟨S4096x14336, .bf16⟩ : BufTy).Contents (Elt Ideal)) (x1 : (⟨S4096x1024, .bf16⟩ : BufTy).Contents (Elt Ideal)) (i : S14336x1024.Idx) :
    (val_main_v8 (F := Ideal) x0 x1 : S14336x1024.Idx → EReal) i = Dot.dot (fun k : Fin 4096 => x0 (ix2 k (i 0))) fun k => x1 (ix2 k (i 1)) := by
  unfold val_main_v8 val_main_v7 val_main_v6 val_main_v5 val_main_v4 val_main_v1
  pointwise []
  rfl

end Cert.InWeightRefIdeal.Own

end
-- ==== Proof.InInput.lean ====
/-
The gradient of the layer's normed input through the input projection: the kernel's product of 4096 rows of the
projection's gradient with the weight, summed in seven blocks of 2048 columns.
-/
module

public import proofs.«01_k».proof.Proof.Gen.InInputIdeal.Value
public import proofs.«01_k».proof.Proof.Gen.InInputRefIdeal.Read
public import Idealize.ShloMosaic.Lib.Pipeline.ValueKit
public import Idealize.ShloMosaic.Lib.Pipeline.ReadBack
public import proofs.«01_k».proof.Proof.Dot

@[expose] public section

set_option maxRecDepth 16384

noncomputable section

namespace Cert.InInputIdeal.Own

open Cert.InInputIdeal Cert.InInputIdeal.Gen Idealize.ShloMosaic Idealize.ShloMosaic.TcCoe Idealize.SL.Sem

variable (m : (ℓ : Loc nD τ sig) → Buf (Elt Ideal) ℓ) (c : Dev nD)

/-- Where each window's block stands at a grid point. -/
theorem places : ∀ t : Fin cfg0.N,
    (cfg0.win 0).index t = ![t.val / 7, t.val % 7] ∧ (cfg0.win 1).index t = ![t.val % 7, 0]
    ∧ (cfg0.win 2).index t = ![t.val / 7, 0] := by
  decide +kernel

/-- One point's product at an index of the block. -/
def part (t : Fin cfg0.N) (y : S1024x1024.Idx) : EReal :=
  Dot.dot (fun k : Fin 2048 => iblk m c 0 t (ix2 (y 0) k)) fun k => iblk m c 1 t (ix2 k (y 1))

theorem part_eq (t : Fin cfg0.N) (y : S1024x1024.Idx) : (k0_pay1 (iblk m c 0 t) (iblk m c 1 t) : S1024x1024.Idx → EReal) y = part m c t y := by
  unfold k0_pay1
  pointwise []
  rfl

theorem first (t : Fin cfg0.N) (h : t.val % 7 = 0) (y : S1024x1024.Idx) :
    ((outsAt0 m c t.val t.isLt).2 : S1024x1024.Idx → EReal) y = 0 + part m c t y := by
  rw [outsAt0_A m c t h (by omega) (by omega), zero_add]
  frame_out
  unfold k0_pay2
  pointwise []
  exact part_eq m c t y

theorem next (t : Fin cfg0.N) (h : ¬ t.val % 7 = 0) (y : S1024x1024.Idx) :
    ((outsAt0 m c t.val t.isLt).2 : S1024x1024.Idx → EReal) y = ((outsAt0 m c (t.val - 1) (Nat.lt_of_le_of_lt (Nat.sub_le _ _) t.isLt)).2 : S1024x1024.Idx → EReal) y + part m c t y := by
  by_cases h6 : t.val % 7 = 6
  · rw [outsAt0_C m c t h (by omega) h6]
    frame_out
    simp only [read_unread_whole]
    unfold k0_pay3
    pointwise []
    rw [part_eq m c t y]
  · rw [outsAt0_B m c t h (by omega) h6]
    frame_out
    simp only [read_unread_whole]
    unfold k0_pay3
    pointwise []
    rw [part_eq m c t y]

theorem last (t : Fin cfg0.N) (h : t.val % 7 = 6) (y : S1024x1024.Idx) :
    ((outsAt0 m c t.val t.isLt).1 : S1024x1024.Idx → EReal) y = ((outsAt0 m c t.val t.isLt).2 : S1024x1024.Idx → EReal) y := by
  rw [outsAt0_C m c t (by omega) (by omega) h]
  frame_out

/-- The result array. -/
theorem out : ((dats m 0 c).arrAt 2 cfg0.N : S4096x1024.Idx → EReal) = fun i =>
    Dot.dot (fun k : Fin 14336 => m ((c : Thread nD τ).loc main_arg0) (ix2 (i 0) k)) fun k => m ((c : Thread nD τ).loc main_arg1) (ix2 k (i 1)) := by
  refine (dats m 0 c).arrAt_eq_of_covers 2 _ (by decide +kernel) fun t hf y => ?_
  have hr := (flush0_2 t).1 hf
  have e := (places t).2.2
  blk_simp
  rw [after0_2]
  refine (last m c t hr y).trans ?_
  rw [Pipeline.eq_sum_fin_of_reset_step_apply_of_flush (fun n h => ((outsAt0 m c n h).2 : S1024x1024.Idx → EReal)) 7 (fun _ => 0) (part m c)
    (first m c) (next m c) t hr y, zero_add, Dot.dot, Fin.sum_univ_tiles 7 2048 rfl]
  refine Finset.sum_congr rfl fun s _ => ?_
  unfold part Dot.dot
  refine Finset.sum_congr rfl fun k _ => ?_
  have e0 := (places ⟨7 * (t.val / 7) + s.val, Pipeline.run_point_lt_of_flush t hr s⟩).1
  have e1 := (places ⟨7 * (t.val / 7) + s.val, Pipeline.run_point_lt_of_flush t hr s⟩).2.1
  congr 1 <;> blk_ext [iblk, V, e, e0, e1]

end Cert.InInputIdeal.Own

namespace Cert.InInputRefIdeal.Own

open Cert.InInputRefIdeal Cert.InInputRefIdeal.Gen Cert.InInputRefIdeal.Read Idealize.ShloMosaic Idealize.ShloMosaic.TcCoe Idealize.SL.Sem

/-- The reference's result. -/
theorem ref (x0 : (⟨S4096x14336, .bf16⟩ : BufTy).Contents (Elt Ideal)) (x1 : (⟨S14336x1024, .bf16⟩ : BufTy).Contents (Elt Ideal)) (i : S4096x1024.Idx) :
    (val_main_v5 (F := Ideal) x0 x1 : S4096x1024.Idx → EReal) i = Dot.dot (fun k : Fin 14336 => x0 (ix2 (i 0) k)) fun k => x1 (ix2 k (i 1)) := by
  unfold val_main_v5 val_main_v4 val_main_v2 val_main_v1
  pointwise []
  rfl

end Cert.InInputRefIdeal.Own

end
-- ==== Proof.Merge.lean ====
/-
The gradient of the merge of the three branches by their sigmoid gates.
-/
module

public import proofs.«01_k».proof.Proof.Gen.MergeIdeal.Value
public import proofs.«01_k».proof.Proof.Gen.MergeRefIdeal.Read
public import Idealize.ShloMosaic.Lib.Pipeline.ValueKit
public import Idealize.ShloMosaic.Lib.Pipeline.ReadBack

@[expose] public section

set_option maxRecDepth 16384

noncomputable section

namespace Cert.Merging

open Idealize.ShloMosaic

/-- The gate of a logit. -/
def gate (x : EReal) : EReal := Ideal.div 1 (1 + Ideal.exp (-x))

/-- A branch's gradient: the merged rows' gradient under the branch's gate, whose logit stands `o` columns into the
    projection. -/
def branch (o : ℕ) (ho : o ≤ 2048) (a : (⟨2, ![4096, 1024]⟩ : Shape).Idx → EReal) (x : (⟨2, ![4096, 14336]⟩ : Shape).Idx → EReal) :
    (⟨2, ![4096, 1024]⟩ : Shape).Idx → EReal := fun i =>
  gate (x (ix2 (i 0) ⟨o + (i 1).val, by have h1 : (i 1).val < 1024 := (i 1).isLt; omega⟩)) * a i

/-- One entry of the logits' gradient, at row `r` and column `o + q`, where the branch `o` columns in has the output `d`. -/
def entry (a d g : EReal) : EReal := a * d * g * (1 - g)

/-- The logits' gradient: the three branches' entries side by side. -/
def logit (a d0 d1 d2 : (⟨2, ![4096, 1024]⟩ : Shape).Idx → EReal) (x : (⟨2, ![4096, 14336]⟩ : Shape).Idx → EReal) :
    (⟨2, ![4096, 3072]⟩ : Shape).Idx → EReal := fun i =>
  have h3 : (i 1).val < 3072 := (i 1).isLt
  let p : (⟨2, ![4096, 1024]⟩ : Shape).Idx := ix2 (i 0) ⟨(i 1).val % 1024, by omega⟩
  entry (a p) (if (i 1).val < 1024 then d0 p else if (i 1).val < 2048 then d1 p else d2 p) (gate (x (ix2 (i 0) ⟨(i 1).val, by omega⟩)))

/-- The logits' gradient at a column of the branch that stands `o` columns in. -/
theorem logit_at (a d0 d1 d2 : (⟨2, ![4096, 1024]⟩ : Shape).Idx → EReal) (x : (⟨2, ![4096, 14336]⟩ : Shape).Idx → EReal)
    (i : (⟨2, ![4096, 3072]⟩ : Shape).Idx) (o : ℕ) (ho : o = 0 ∨ o = 1024 ∨ o = 2048) (q : Fin 1024) (h : (i 1).val = o + q.val) :
    logit a d0 d1 d2 x i = entry (a (ix2 (i 0) q)) ((if o = 0 then d0 else if o = 1024 then d1 else d2) (ix2 (i 0) q))
      (gate (x (ix2 (i 0) ⟨o + q.val, by omega⟩))) := by
  have hq : (⟨(i 1).val % 1024, Nat.mod_lt _ (by omega)⟩ : Fin 1024) = q := Fin.ext (by dsimp only; omega)
  have hx : (⟨(i 1).val, by omega⟩ : Fin 14336) = ⟨o + q.val, by omega⟩ := Fin.ext h
  unfold logit
  dsimp only
  rw [hq, hx]
  congr 1
  rcases ho with rfl | rfl | rfl
  · rw [if_pos (by omega), if_pos rfl]
  · rw [if_neg (by omega), if_pos (by omega), if_neg (by omega), if_pos rfl]
  · rw [if_neg (by omega), if_neg (by omega), if_neg (by omega), if_neg (by omega)]

end Cert.Merging

namespace Cert.MergeIdeal.Own

open Cert.Merging Cert.MergeIdeal Cert.MergeIdeal.Gen Idealize.ShloMosaic Idealize.ShloMosaic.TcCoe Idealize.SL.Sem

variable (m : (ℓ : Loc nD τ sig) → Buf (Elt Ideal) ℓ) (c : Dev nD)

/-- Every output window's block at a point is the point's own 512 rows, and so is every input window's. -/
theorem places : ∀ t : Fin cfg0.N,
    (cfg0.win 0).index t = ![t.val, 0] ∧ (cfg0.win 1).index t = ![t.val, 0] ∧ (cfg0.win 2).index t = ![t.val, 0]
    ∧ (cfg0.win 3).index t = ![t.val, 0] ∧ (cfg0.win 4).index t = ![t.val, 0] ∧ (cfg0.win 5).index t = ![t.val, 0]
    ∧ (cfg0.win 6).index t = ![t.val, 0] ∧ (cfg0.win 7).index t = ![t.val, 0] ∧ (cfg0.win 8).index t = ![t.val, 0] := by
  decide +kernel

/-- A point's block of logits is the point's rows of the projection's first three thirds. -/
theorem logits (t : Fin cfg0.N) (r : Fin 512) (a : Fin 3072) : X0_1 m c t (ix2 r a)
    = V m c main_arg1 (ix2 ⟨512 * t.val + r.val, by have := t.isLt; simp only [show cfg0.N = 8 from rfl] at this; omega⟩ ⟨a.val, by omega⟩) := by
  have e := (places t).2.1
  unfold X0_1 Pipeline.Window.fill
  rw [dif_pos (moved0_1 t (ix2 r a))]
  blk_ext [iblk, e]

theorem p7 (a b : S512x1024.Idx → EReal) (y : S512x1024.Idx) : k0_pay7 (F := Ideal) a b y = gate (b y) * a y := by
  unfold k0_pay7 k0_pay6 k0_pay5 gate
  pointwise []
  rw [zero_sub]

theorem p8 (a b d : S512x1024.Idx → EReal) (y : S512x1024.Idx) : k0_pay8 (F := Ideal) a b d y = entry (a y) (d y) (gate (b y)) := by
  unfold k0_pay8 k0_pay6 k0_pay5 entry gate
  pointwise []
  rw [zero_sub]

theorem p9 (b : S512x1024.Idx → EReal) (y : S512x1024.Idx) : k0_pay9 (F := Ideal) b y = gate (b y) := by
  unfold k0_pay9 gate
  pointwise []
  rw [zero_sub]

theorem p2 (b : S512x1024.Idx → EReal) (y : S512x1024.Idx) : k0_pay2 (F := Ideal) b y = gate (b y) := by
  unfold k0_pay2 gate
  pointwise []
  rw [zero_sub]

theorem p10 (a b : S512x1024.Idx → EReal) (y : S512x1024.Idx) : k0_pay10 (F := Ideal) a b y = gate (b y) * a y := by
  unfold k0_pay10 k0_pay5
  pointwise []
  rw [p9]

theorem p3 (a b : S512x1024.Idx → EReal) (y : S512x1024.Idx) : k0_pay3 (F := Ideal) (k0_pay5 a) b y = gate (b y) * a y := by
  unfold k0_pay3 k0_pay5
  pointwise []
  rw [p2]

theorem p1 (a b d : S512x1024.Idx → EReal) (y : S512x1024.Idx) : k0_pay1 (F := Ideal) (k0_pay5 a) (k0_pay9 b) d y = entry (a y) (d y) (gate (b y)) := by
  unfold k0_pay1 k0_pay5 entry
  pointwise []
  rw [p9]

theorem p4 (a b d : S512x1024.Idx → EReal) (y : S512x1024.Idx) : k0_pay4 (F := Ideal) (k0_pay5 a) b d y = entry (a y) (d y) (gate (b y)) := by
  unfold k0_pay4 k0_pay5 entry
  pointwise []
  rw [p2]

/-- One third of a point's block of logits. -/
theorem third (t : Fin cfg0.N) (o : ℕ) (ho : o ≤ 2048) (h) (y : S512x1024.Idx) :
    (View.ld (X0_1 m c t) (Rect.unit (s := S512x3072) ![0, o] ![512, 1024] h) y : EReal)
      = m ((c : Thread nD τ).loc main_arg1) (ix2 ⟨512 * t.val + (y 0).val, by have := t.isLt; have h0 : (y 0).val < 512 := (y 0).isLt; simp only [show cfg0.N = 8 from rfl] at this; omega⟩
          ⟨o + (y 1).val, by have h1 : (y 1).val < 1024 := (y 1).isLt; omega⟩) := by
  have h1 : (y 1).val < 1024 := (y 1).isLt
  refine Eq.trans (congrArg (X0_1 m c t) (?_ : _ = ix2 (y 0) ⟨o + (y 1).val, by omega⟩)) (logits m c t (y 0) ⟨o + (y 1).val, by omega⟩)
  funext a
  match a with
  | ⟨0, _⟩ => exact Fin.ext (by simp [Rect.emb_apply])
  | ⟨1, _⟩ => exact Fin.ext (by simp [Rect.emb_apply])

/-- The first branch's gradient. -/
theorem out5 : ((dats m 0 c).arrAt 5 cfg0.N : S4096x1024.Idx → EReal)
    = branch 0 (by omega) (m ((c : Thread nD τ).loc main_arg0)) (m ((c : Thread nD τ).loc main_arg1)) := by
  refine (dats m 0 c).arrAt_eq_of_covers 5 _ (by decide +kernel) fun t hf y => ?_
  obtain ⟨e0, e1, e2, e3, e4, e5, e6, e7, e8⟩ := places t
  blk_simp
  rw [after0_5]
  unfold outsAt0 branch
  frame_out
  rw [p7, third m c t 0 (by omega)]
  congr 1
  congr 2
  blk_ext [e5]

/-- The second branch's gradient. -/
theorem out6 : ((dats m 0 c).arrAt 6 cfg0.N : S4096x1024.Idx → EReal)
    = branch 1024 (by omega) (m ((c : Thread nD τ).loc main_arg0)) (m ((c : Thread nD τ).loc main_arg1)) := by
  refine (dats m 0 c).arrAt_eq_of_covers 6 _ (by decide +kernel) fun t hf y => ?_
  obtain ⟨e0, e1, e2, e3, e4, e5, e6, e7, e8⟩ := places t
  blk_simp
  rw [after0_6]
  unfold outsAt0 branch
  frame_out
  rw [p10, third m c t 1024 (by omega)]
  congr 1
  congr 2
  blk_ext [e6]

/-- The third branch's gradient. -/
theorem out7 : ((dats m 0 c).arrAt 7 cfg0.N : S4096x1024.Idx → EReal)
    = branch 2048 (by omega) (m ((c : Thread nD τ).loc main_arg0)) (m ((c : Thread nD τ).loc main_arg1)) := by
  refine (dats m 0 c).arrAt_eq_of_covers 7 _ (by decide +kernel) fun t hf y => ?_
  obtain ⟨e0, e1, e2, e3, e4, e5, e6, e7, e8⟩ := places t
  blk_simp
  rw [after0_7]
  unfold outsAt0 branch
  frame_out
  rw [p3, third m c t 2048 (by omega)]
  congr 1
  congr 2
  blk_ext [e7]

set_option maxHeartbeats 1000000 in
/-- The logits' gradient. -/
theorem out8 : ((dats m 0 c).arrAt 8 cfg0.N : S4096x3072.Idx → EReal)
    = logit (m ((c : Thread nD τ).loc main_arg0)) (m ((c : Thread nD τ).loc main_arg2)) (m ((c : Thread nD τ).loc main_arg3))
        (m ((c : Thread nD τ).loc main_arg4)) (m ((c : Thread nD τ).loc main_arg1)) := by
  refine (dats m 0 c).arrAt_eq_of_covers 8 _ (by decide +kernel) fun t hf y => ?_
  obtain ⟨e0, e1, e2, e3, e4, e5, e6, e7, e8⟩ := places t
  blk_simp
  rw [after0_8]
  unfold outsAt0
  frame_out
  canon_tiles x h
  · rw [p4, third m c t 2048 (by omega), logit_at _ _ _ _ _ _ 2048 (by omega) ⟨(x 1).val, x1_lt⟩ (by blk_simp [e8]; omega)]
    congr 1
    · blk_ext [iblk, V, e0, e8]
    · rw [if_neg (by omega), if_neg (by omega)]
      blk_ext [iblk, V, e4, e8]
    · congr 2
      blk_ext [e8]
  · rw [p1, third m c t 1024 (by omega), logit_at _ _ _ _ _ _ 1024 (by omega) ⟨(x 1).val, x1_lt⟩ (by blk_simp [e8]; omega)]
    congr 1
    · blk_ext [iblk, V, e0, e8]
    · rw [if_neg (by omega), if_pos rfl]
      blk_ext [iblk, V, e3, e8]
    · congr 2
      blk_ext [e8]
  · rw [p8, third m c t 0 (by omega), logit_at _ _ _ _ _ _ 0 (by omega) ⟨(x 1).val, x1_lt⟩ (by blk_simp [e8]; omega)]
    congr 1
    · blk_ext [iblk, V, e0, e8]
    · rw [if_pos rfl]
      blk_ext [iblk, V, e2, e8]
    · congr 2
      blk_ext [e8]

end Cert.MergeIdeal.Own

namespace Cert.MergeRefIdeal.Own

open Cert.Merging Cert.MergeRefIdeal Cert.MergeRefIdeal.Gen Cert.MergeRefIdeal.Read Idealize.ShloMosaic Idealize.ShloMosaic.TcCoe Idealize.SL.Sem

/-- The reference's gradient of the first branch. -/
theorem ref52 (x0 : (⟨S4096x1024, .bf16⟩ : BufTy).Contents (Elt Ideal)) (x1 : (⟨S4096x14336, .bf16⟩ : BufTy).Contents (Elt Ideal)) :
    (val_main_v52 (F := Ideal) x0 x1 : S4096x1024.Idx → EReal) = branch 0 (by omega) x0 x1 := by
  funext i
  unfold val_main_v52 val_main_v51 val_main_v42 val_main_v32 val_main_v31 val_main_v19 val_main_v18 val_main_v11 val_main_v7 val_main_v6 val_main_v5 val_main_v4 val_main_v3 val_main_v2 val_main_v1 val_main_v0 val_main_cst_0 val_main_cst
  pointwise []
  unfold branch gate
  first | rfl | simp only [Nat.zero_add]

/-- The reference's gradient of the second branch. -/
theorem ref50 (x0 : (⟨S4096x1024, .bf16⟩ : BufTy).Contents (Elt Ideal)) (x1 : (⟨S4096x14336, .bf16⟩ : BufTy).Contents (Elt Ideal)) :
    (val_main_v50 (F := Ideal) x0 x1 : S4096x1024.Idx → EReal) = branch 1024 (by omega) x0 x1 := by
  funext i
  unfold val_main_v50 val_main_v49 val_main_v37 val_main_v32 val_main_v31 val_main_v22 val_main_v21 val_main_v11 val_main_v7 val_main_v6 val_main_v5 val_main_v4 val_main_v3 val_main_v2 val_main_v1 val_main_v0 val_main_cst_0 val_main_cst
  pointwise []
  unfold branch gate
  first | rfl | simp only [Nat.zero_add]

/-- The reference's gradient of the third branch. -/
theorem ref48 (x0 : (⟨S4096x1024, .bf16⟩ : BufTy).Contents (Elt Ideal)) (x1 : (⟨S4096x14336, .bf16⟩ : BufTy).Contents (Elt Ideal)) :
    (val_main_v48 (F := Ideal) x0 x1 : S4096x1024.Idx → EReal) = branch 2048 (by omega) x0 x1 := by
  funext i
  unfold val_main_v48 val_main_v47 val_main_v33 val_main_v32 val_main_v31 val_main_v26 val_main_v25 val_main_v11 val_main_v7 val_main_v6 val_main_v5 val_main_v4 val_main_v3 val_main_v2 val_main_v1 val_main_v0 val_main_cst_0 val_main_cst
  pointwise []
  unfold branch gate
  first | rfl | simp only [Nat.zero_add]

/-- The branches' outputs under the merged rows' gradient, side by side. -/
theorem ref53 (x0 x2 x3 x4 : (⟨S4096x1024, .bf16⟩ : BufTy).Contents (Elt Ideal)) (i : S4096x3072.Idx) :
    have h3 : (i 1).val < 3072 := (i 1).isLt
    let p : (⟨2, ![4096, 1024]⟩ : Shape).Idx := ix2 (i 0) ⟨(i 1).val % 1024, by omega⟩
    (val_main_v53 (F := Ideal) x0 x2 x3 x4 : S4096x3072.Idx → EReal) i
      = (x0 : S4096x1024.Idx → EReal) p * (if (i 1).val < 1024 then (x2 : S4096x1024.Idx → EReal) p else if (i 1).val < 2048 then (x3 : S4096x1024.Idx → EReal) p else (x4 : S4096x1024.Idx → EReal) p) := by
  have h0 : (i 0).val < 4096 := (i 0).isLt
  have h1 : (i 1).val < 3072 := (i 1).isLt
  unfold val_main_v53 val_main_v46 val_main_v45 val_main_v44 val_main_v43 val_main_v41 val_main_v40 val_main_v39 val_main_v38 val_main_v36 val_main_v35 val_main_v34 val_main_v32 val_main_v31 val_main_v17 val_main_v16 val_main_v15 val_main_v14 val_main_v13 val_main_v12 val_main_cst_2 val_main_cst_3 val_main_cst_4
  pointwise []

  by_cases a : (i 1).val < 1024
  · simp (disch := omega) only [dif_pos, dif_neg, if_pos, zero_add]
  by_cases b : (i 1).val < 2048
  · simp (disch := omega) only [dif_pos, dif_neg, if_pos, if_neg, zero_add, add_zero]
  · simp (disch := omega) only [dif_pos, dif_neg, if_neg, add_zero]

/-- The gate's derivative. -/
theorem ref10 (x1 : (⟨S4096x14336, .bf16⟩ : BufTy).Contents (Elt Ideal)) (i : S4096x3072.Idx) :
    (val_main_v10 (F := Ideal) x1 : S4096x3072.Idx → EReal) i
      = gate (x1 (ix2 (i 0) ⟨(i 1).val, by have h1 : (i 1).val < 3072 := (i 1).isLt; omega⟩)) * (1 - gate (x1 (ix2 (i 0) ⟨(i 1).val, by have h1 : (i 1).val < 3072 := (i 1).isLt; omega⟩))) := by
  unfold val_main_v10 val_main_v9 val_main_v8 val_main_v7 val_main_v6 val_main_v5 val_main_v4 val_main_v3 val_main_v2 val_main_v1 val_main_v0 val_main_cst_0 val_main_cst val_main_cst_1
  pointwise []
  unfold gate
  rfl

/-- The reference's gradient of the logits. -/
theorem ref55 (x0 : (⟨S4096x1024, .bf16⟩ : BufTy).Contents (Elt Ideal)) (x1 : (⟨S4096x14336, .bf16⟩ : BufTy).Contents (Elt Ideal)) (x2 x3 x4 : (⟨S4096x1024, .bf16⟩ : BufTy).Contents (Elt Ideal)) :
    (val_main_v55 (F := Ideal) x0 x1 x2 x3 x4 : S4096x3072.Idx → EReal) = logit x0 x2 x3 x4 x1 := by
  funext i
  unfold val_main_v55 val_main_v54
  have e : (truncf .bf16 (mulf (val_main_v53 (F := Ideal) x0 x2 x3 x4) (val_main_v10 x1)) bitsLt_bf16_f32 : S4096x3072.Idx → EReal) i
      = (val_main_v53 (F := Ideal) x0 x2 x3 x4 : S4096x3072.Idx → EReal) i * (val_main_v10 (F := Ideal) x1 : S4096x3072.Idx → EReal) i := by
    pointwise []
  rw [e, ref53, ref10]
  exact (mul_assoc _ _ _).symm

end Cert.MergeRefIdeal.Own

end
-- ==== Proof.OutInput.lean ====
/-
The gradient of a projection's input through a weight of 1024 by 1024: one block of 1024 rows at a grid point.
-/
module

public import proofs.«01_k».proof.Proof.Gen.OutInputIdeal.Value
public import proofs.«01_k».proof.Proof.Gen.OutInputRefIdeal.Read
public import Idealize.ShloMosaic.Lib.Pipeline.ValueKit
public import Idealize.ShloMosaic.Lib.Pipeline.ReadBack
public import proofs.«01_k».proof.Proof.Dot

@[expose] public section

set_option maxRecDepth 16384

noncomputable section

namespace Cert.OutInputIdeal.Own

open Cert.OutInputIdeal Cert.OutInputIdeal.Gen Idealize.ShloMosaic Idealize.ShloMosaic.TcCoe Idealize.SL.Sem

variable (m : (ℓ : Loc nD τ sig) → Buf (Elt Ideal) ℓ) (c : Dev nD)

/-- Where each window's block stands at a grid point. -/
theorem places : ∀ t : Fin cfg0.N,
    (cfg0.win 0).index t = ![t.val, 0] ∧ (cfg0.win 1).index t = ![0, 0]
    ∧ (cfg0.win 2).index t = ![t.val, 0] := by
  decide +kernel

/-- What a point stores at an index of its block. -/
theorem pay (a : S1024x1024.Idx → EReal) (b : S1024x1024.Idx → EReal) (y : S1024x1024.Idx) :
    (k0_pay1 (F := Ideal) a b : S1024x1024.Idx → EReal) y = Dot.dot (fun k : Fin 1024 => a (ix2 (y 0) k)) fun k => b (ix2 (y 1) k) := by
  unfold k0_pay1
  pointwise []
  rfl

/-- The result array. -/
theorem out : ((dats m 0 c).arrAt 2 cfg0.N : S4096x1024.Idx → EReal) = fun i =>
    Dot.dot (fun k : Fin 1024 => m ((c : Thread nD τ).loc main_arg0) (ix2 (i 0) k)) fun k => m ((c : Thread nD τ).loc main_arg1) (ix2 (i 1) k) := by
  refine (dats m 0 c).arrAt_eq_of_covers 2 _ (by decide +kernel) fun t hf y => ?_
  obtain ⟨e0, e1, e⟩ := places t
  blk_simp
  rw [after0_2]
  unfold outsAt0
  frame_out
  refine (pay _ _ y).trans ?_
  unfold Dot.dot
  refine Finset.sum_congr rfl fun k _ => ?_
  congr 1 <;> blk_ext [iblk, V, e, e0, e1]

end Cert.OutInputIdeal.Own

namespace Cert.OutInputRefIdeal.Own

open Cert.OutInputRefIdeal Cert.OutInputRefIdeal.Gen Cert.OutInputRefIdeal.Read Idealize.ShloMosaic Idealize.ShloMosaic.TcCoe Idealize.SL.Sem

/-- The reference's result. -/
theorem ref (x0 : (⟨S4096x1024, .bf16⟩ : BufTy).Contents (Elt Ideal)) (x1 : (⟨S1024x1024, .bf16⟩ : BufTy).Contents (Elt Ideal)) (i : S4096x1024.Idx) :
    (val_main_v5 (F := Ideal) x0 x1 : S4096x1024.Idx → EReal) i = Dot.dot (fun k : Fin 1024 => x0 (ix2 (i 0) k)) fun k => x1 (ix2 (i 1) k) := by
  unfold val_main_v5 val_main_v4 val_main_v3 val_main_v1
  pointwise []
  rfl

end Cert.OutInputRefIdeal.Own

end
-- ==== Proof.OutWeight.lean ====
/-
The gradient of a weight of 1024 by 1024: a product over 4096 rows, summed in four blocks of 1024.
-/
module

public import proofs.«01_k».proof.Proof.Gen.OutWeightIdeal.Value
public import proofs.«01_k».proof.Proof.Gen.OutWeightRefIdeal.Read
public import Idealize.ShloMosaic.Lib.Pipeline.ValueKit
public import Idealize.ShloMosaic.Lib.Pipeline.ReadBack
public import proofs.«01_k».proof.Proof.Dot

@[expose] public section

set_option maxRecDepth 16384

noncomputable section

namespace Cert.OutWeightIdeal.Own

open Cert.OutWeightIdeal Cert.OutWeightIdeal.Gen Idealize.ShloMosaic Idealize.ShloMosaic.TcCoe Idealize.SL.Sem

variable (m : (ℓ : Loc nD τ sig) → Buf (Elt Ideal) ℓ) (c : Dev nD)

/-- Where each window's block stands at a grid point. -/
theorem places : ∀ t : Fin cfg0.N,
    (cfg0.win 0).index t = ![t.val % 4, 0] ∧ (cfg0.win 1).index t = ![t.val % 4, 0]
    ∧ (cfg0.win 2).index t = ![t.val / 4, 0] := by
  decide +kernel

/-- One point's product at an index of the block. -/
def part (t : Fin cfg0.N) (y : S1024x1024.Idx) : EReal :=
  Dot.dot (fun k : Fin 1024 => iblk m c 0 t (ix2 k (y 0))) fun k => iblk m c 1 t (ix2 k (y 1))

theorem part_eq (t : Fin cfg0.N) (y : S1024x1024.Idx) : (k0_pay1 (iblk m c 0 t) (iblk m c 1 t) : S1024x1024.Idx → EReal) y = part m c t y := by
  unfold k0_pay1
  pointwise []
  rfl

theorem first (t : Fin cfg0.N) (h : t.val % 4 = 0) (y : S1024x1024.Idx) :
    ((outsAt0 m c t.val t.isLt).2 : S1024x1024.Idx → EReal) y = 0 + part m c t y := by
  have ht : t.val < 4 := t.isLt
  rw [outsAt0_A m c t h (by omega) (by omega), zero_add]
  frame_out
  unfold k0_pay2
  pointwise []
  exact part_eq m c t y

theorem next (t : Fin cfg0.N) (h : ¬ t.val % 4 = 0) (y : S1024x1024.Idx) :
    ((outsAt0 m c t.val t.isLt).2 : S1024x1024.Idx → EReal) y = ((outsAt0 m c (t.val - 1) (Nat.lt_of_le_of_lt (Nat.sub_le _ _) t.isLt)).2 : S1024x1024.Idx → EReal) y + part m c t y := by
  by_cases l : t.val % 4 = 3
  · rw [outsAt0_C m c t h (by omega) l]
    frame_out
    simp only [read_unread_whole]
    unfold k0_pay3
    pointwise []
    rw [part_eq m c t y]
  · rw [outsAt0_B m c t h (by omega) l]
    frame_out
    simp only [read_unread_whole]
    unfold k0_pay3
    pointwise []
    rw [part_eq m c t y]

theorem last (t : Fin cfg0.N) (h : t.val % 4 = 3) (y : S1024x1024.Idx) :
    ((outsAt0 m c t.val t.isLt).1 : S1024x1024.Idx → EReal) y = ((outsAt0 m c t.val t.isLt).2 : S1024x1024.Idx → EReal) y := by
  rw [outsAt0_C m c t (by omega) (by omega) h]
  frame_out
  unfold k0_pay4
  pointwise []

/-- The result array. -/
theorem out : ((dats m 0 c).arrAt 2 cfg0.N : S1024x1024.Idx → EReal) = fun i =>
    Dot.dot (fun k : Fin 4096 => m ((c : Thread nD τ).loc main_arg0) (ix2 k (i 0))) fun k => m ((c : Thread nD τ).loc main_arg1) (ix2 k (i 1)) := by
  refine (dats m 0 c).arrAt_eq_of_covers 2 _ (by decide +kernel) fun t hf y => ?_
  have hr := (flush0_2 t).1 hf
  have e := (places t).2.2
  blk_simp
  rw [after0_2]
  refine (last m c t hr y).trans ?_
  rw [Pipeline.eq_sum_fin_of_reset_step_apply_of_flush (fun n h => ((outsAt0 m c n h).2 : S1024x1024.Idx → EReal)) 4 (fun _ => 0) (part m c)
    (first m c) (next m c) t hr y, zero_add, Dot.dot, Fin.sum_univ_tiles 4 1024 rfl]
  refine Finset.sum_congr rfl fun s _ => ?_
  unfold part Dot.dot
  refine Finset.sum_congr rfl fun k _ => ?_
  obtain ⟨e0, e1, -⟩ := places ⟨4 * (t.val / 4) + s.val, Pipeline.run_point_lt_of_flush t hr s⟩
  congr 1 <;> blk_ext [iblk, V, e, e0, e1]

end Cert.OutWeightIdeal.Own

namespace Cert.OutWeightRefIdeal.Own

open Cert.OutWeightRefIdeal Cert.OutWeightRefIdeal.Gen Cert.OutWeightRefIdeal.Read Idealize.ShloMosaic Idealize.ShloMosaic.TcCoe Idealize.SL.Sem

/-- The reference's result. -/
theorem ref (x0 : (⟨S4096x1024, .bf16⟩ : BufTy).Contents (Elt Ideal)) (x1 : (⟨S4096x1024, .bf16⟩ : BufTy).Contents (Elt Ideal)) (i : S1024x1024.Idx) :
    (val_main_v6 (F := Ideal) x0 x1 : S1024x1024.Idx → EReal) i = Dot.dot (fun k : Fin 4096 => x0 (ix2 k (i 0))) fun k => x1 (ix2 k (i 1)) := by
  unfold val_main_v6 val_main_v5 val_main_v4 val_main_v3 val_main_v1
  pointwise []
  exact Finset.sum_congr rfl fun _ _ => mul_comm _ _

end Cert.OutWeightRefIdeal.Own

end
-- ==== Proof.SsmInput.lean ====
/-
The gradient of the recurrence branch's output through its projection: one block of 1024 by 1024 at a grid point.
-/
module

public import proofs.«01_k».proof.Proof.Gen.SsmInputIdeal.Value
public import proofs.«01_k».proof.Proof.Gen.SsmInputRefIdeal.Read
public import Idealize.ShloMosaic.Lib.Pipeline.ValueKit
public import Idealize.ShloMosaic.Lib.Pipeline.ReadBack
public import proofs.«01_k».proof.Proof.Dot

@[expose] public section

set_option maxRecDepth 16384

noncomputable section

namespace Cert.SsmInputIdeal.Own

open Cert.SsmInputIdeal Cert.SsmInputIdeal.Gen Idealize.ShloMosaic Idealize.ShloMosaic.TcCoe Idealize.SL.Sem

variable (m : (ℓ : Loc nD τ sig) → Buf (Elt Ideal) ℓ) (c : Dev nD)

/-- Where each window's block stands at a grid point. -/
theorem places : ∀ t : Fin cfg0.N,
    (cfg0.win 0).index t = ![t.val / 2, 0] ∧ (cfg0.win 1).index t = ![t.val % 2, 0]
    ∧ (cfg0.win 2).index t = ![t.val / 2, t.val % 2] := by
  decide +kernel

/-- What a point stores at an index of its block. -/
theorem pay (a : S1024x1024.Idx → EReal) (b : S1024x1024.Idx → EReal) (y : S1024x1024.Idx) :
    (k0_pay1 (F := Ideal) a b : S1024x1024.Idx → EReal) y = Dot.dot (fun k : Fin 1024 => a (ix2 (y 0) k)) fun k => b (ix2 (y 1) k) := by
  unfold k0_pay1
  pointwise []
  rfl

/-- The result array. -/
theorem out : ((dats m 0 c).arrAt 2 cfg0.N : S4096x2048.Idx → EReal) = fun i =>
    Dot.dot (fun k : Fin 1024 => m ((c : Thread nD τ).loc main_arg0) (ix2 (i 0) k)) fun k => m ((c : Thread nD τ).loc main_arg1) (ix2 (i 1) k) := by
  refine (dats m 0 c).arrAt_eq_of_covers 2 _ (by decide +kernel) fun t hf y => ?_
  obtain ⟨e0, e1, e⟩ := places t
  blk_simp
  rw [after0_2]
  unfold outsAt0
  frame_out
  refine (pay _ _ y).trans ?_
  unfold Dot.dot
  refine Finset.sum_congr rfl fun k _ => ?_
  congr 1 <;> blk_ext [iblk, V, e, e0, e1]

end Cert.SsmInputIdeal.Own

namespace Cert.SsmInputRefIdeal.Own

open Cert.SsmInputRefIdeal Cert.SsmInputRefIdeal.Gen Cert.SsmInputRefIdeal.Read Idealize.ShloMosaic Idealize.ShloMosaic.TcCoe Idealize.SL.Sem

/-- The reference's result. -/
theorem ref (x0 : (⟨S4096x1024, .bf16⟩ : BufTy).Contents (Elt Ideal)) (x1 : (⟨S2048x1024, .bf16⟩ : BufTy).Contents (Elt Ideal)) (i : S4096x2048.Idx) :
    (val_main_v5 (F := Ideal) x0 x1 : S4096x2048.Idx → EReal) i = Dot.dot (fun k : Fin 1024 => x0 (ix2 (i 0) k)) fun k => x1 (ix2 (i 1) k) := by
  unfold val_main_v5 val_main_v4 val_main_v3 val_main_v1
  pointwise []
  rfl

end Cert.SsmInputRefIdeal.Own

end
-- ==== Proof.SsmWeight.lean ====
/-
The gradient of the recurrence branch's projection: a product over 4096 rows, summed in four blocks of 1024.
-/
module

public import proofs.«01_k».proof.Proof.Gen.SsmWeightIdeal.Value
public import proofs.«01_k».proof.Proof.Gen.SsmWeightRefIdeal.Read
public import Idealize.ShloMosaic.Lib.Pipeline.ValueKit
public import Idealize.ShloMosaic.Lib.Pipeline.ReadBack
public import proofs.«01_k».proof.Proof.Dot

@[expose] public section

set_option maxRecDepth 16384

noncomputable section

namespace Cert.SsmWeightIdeal.Own

open Cert.SsmWeightIdeal Cert.SsmWeightIdeal.Gen Idealize.ShloMosaic Idealize.ShloMosaic.TcCoe Idealize.SL.Sem

variable (m : (ℓ : Loc nD τ sig) → Buf (Elt Ideal) ℓ) (c : Dev nD)

/-- Where each window's block stands at a grid point. -/
theorem places : ∀ t : Fin cfg0.N,
    (cfg0.win 0).index t = ![t.val % 4, t.val / 4] ∧ (cfg0.win 1).index t = ![t.val % 4, 0]
    ∧ (cfg0.win 2).index t = ![t.val / 4, 0] := by
  decide +kernel

/-- One point's product at an index of the block. -/
def part (t : Fin cfg0.N) (y : S1024x1024.Idx) : EReal :=
  Dot.dot (fun k : Fin 1024 => iblk m c 0 t (ix2 k (y 0))) fun k => iblk m c 1 t (ix2 k (y 1))

theorem part_eq (t : Fin cfg0.N) (y : S1024x1024.Idx) : (k0_pay1 (iblk m c 0 t) (iblk m c 1 t) : S1024x1024.Idx → EReal) y = part m c t y := by
  unfold k0_pay1
  pointwise []
  rfl

theorem first (t : Fin cfg0.N) (h : t.val % 4 = 0) (y : S1024x1024.Idx) :
    ((outsAt0 m c t.val t.isLt).2 : S1024x1024.Idx → EReal) y = 0 + part m c t y := by
  have ht : t.val < 8 := t.isLt
  rw [outsAt0_A m c t h (by omega) (by omega), zero_add]
  frame_out
  unfold k0_pay2
  pointwise []
  exact part_eq m c t y

theorem next (t : Fin cfg0.N) (h : ¬ t.val % 4 = 0) (y : S1024x1024.Idx) :
    ((outsAt0 m c t.val t.isLt).2 : S1024x1024.Idx → EReal) y = ((outsAt0 m c (t.val - 1) (Nat.lt_of_le_of_lt (Nat.sub_le _ _) t.isLt)).2 : S1024x1024.Idx → EReal) y + part m c t y := by
  by_cases l : t.val % 4 = 3
  · rw [outsAt0_C m c t h (by omega) l]
    frame_out
    simp only [read_unread_whole]
    unfold k0_pay3
    pointwise []
    rw [part_eq m c t y]
  · rw [outsAt0_B m c t h (by omega) l]
    frame_out
    simp only [read_unread_whole]
    unfold k0_pay3
    pointwise []
    rw [part_eq m c t y]

theorem last (t : Fin cfg0.N) (h : t.val % 4 = 3) (y : S1024x1024.Idx) :
    ((outsAt0 m c t.val t.isLt).1 : S1024x1024.Idx → EReal) y = ((outsAt0 m c t.val t.isLt).2 : S1024x1024.Idx → EReal) y := by
  rw [outsAt0_C m c t (by omega) (by omega) h]
  frame_out
  unfold k0_pay4
  pointwise []

/-- The result array. -/
theorem out : ((dats m 0 c).arrAt 2 cfg0.N : S2048x1024.Idx → EReal) = fun i =>
    Dot.dot (fun k : Fin 4096 => m ((c : Thread nD τ).loc main_arg0) (ix2 k (i 0))) fun k => m ((c : Thread nD τ).loc main_arg1) (ix2 k (i 1)) := by
  refine (dats m 0 c).arrAt_eq_of_covers 2 _ (by decide +kernel) fun t hf y => ?_
  have hr := (flush0_2 t).1 hf
  have e := (places t).2.2
  blk_simp
  rw [after0_2]
  refine (last m c t hr y).trans ?_
  rw [Pipeline.eq_sum_fin_of_reset_step_apply_of_flush (fun n h => ((outsAt0 m c n h).2 : S1024x1024.Idx → EReal)) 4 (fun _ => 0) (part m c)
    (first m c) (next m c) t hr y, zero_add, Dot.dot, Fin.sum_univ_tiles 4 1024 rfl]
  refine Finset.sum_congr rfl fun s _ => ?_
  unfold part Dot.dot
  refine Finset.sum_congr rfl fun k _ => ?_
  obtain ⟨e0, e1, -⟩ := places ⟨4 * (t.val / 4) + s.val, Pipeline.run_point_lt_of_flush t hr s⟩
  congr 1 <;> blk_ext [iblk, V, e, e0, e1]

end Cert.SsmWeightIdeal.Own

namespace Cert.SsmWeightRefIdeal.Own

open Cert.SsmWeightRefIdeal Cert.SsmWeightRefIdeal.Gen Cert.SsmWeightRefIdeal.Read Idealize.ShloMosaic Idealize.ShloMosaic.TcCoe Idealize.SL.Sem

/-- The reference's result. -/
theorem ref (x0 : (⟨S4096x2048, .bf16⟩ : BufTy).Contents (Elt Ideal)) (x1 : (⟨S4096x1024, .bf16⟩ : BufTy).Contents (Elt Ideal)) (i : S2048x1024.Idx) :
    (val_main_v6 (F := Ideal) x0 x1 : S2048x1024.Idx → EReal) i = Dot.dot (fun k : Fin 4096 => x0 (ix2 k (i 0))) fun k => x1 (ix2 k (i 1)) := by
  unfold val_main_v6 val_main_v5 val_main_v4 val_main_v3 val_main_v1
  pointwise []
  exact Finset.sum_congr rfl fun _ _ => mul_comm _ _

end Cert.SsmWeightRefIdeal.Own

end
-- ==== Proof.InProduct.lean ====
/-
The input projection of the normed rows: one block of 1024 by 2048 at a grid point.
-/
module

public import proofs.«01_k».proof.Proof.Gen.InProductIdeal.Value
public import proofs.«01_k».proof.Proof.Gen.InProductRefIdeal.Read
public import Idealize.ShloMosaic.Lib.Pipeline.ValueKit
public import Idealize.ShloMosaic.Lib.Pipeline.ReadBack
public import proofs.«01_k».proof.Proof.Dot

@[expose] public section

set_option maxRecDepth 16384

noncomputable section

namespace Cert.InProductIdeal.Own

open Cert.InProductIdeal Cert.InProductIdeal.Gen Idealize.ShloMosaic Idealize.ShloMosaic.TcCoe Idealize.SL.Sem

variable (m : (ℓ : Loc nD τ sig) → Buf (Elt Ideal) ℓ) (c : Dev nD)

/-- Where each window's block stands at a grid point. -/
theorem places : ∀ t : Fin cfg0.N,
    (cfg0.win 0).index t = ![t.val / 7, 0] ∧ (cfg0.win 1).index t = ![t.val % 7, 0]
    ∧ (cfg0.win 2).index t = ![t.val / 7, t.val % 7] := by
  decide +kernel

/-- What a point stores at an index of its block. -/
theorem pay (a : S1024x1024.Idx → EReal) (b : S2048x1024.Idx → EReal) (y : S1024x2048.Idx) :
    (k0_pay1 (F := Ideal) a b : S1024x2048.Idx → EReal) y = Dot.dot (fun k : Fin 1024 => a (ix2 (y 0) k)) fun k => b (ix2 (y 1) k) := by
  unfold k0_pay1
  pointwise []
  rfl

/-- The result array. -/
theorem out : ((dats m 0 c).arrAt 2 cfg0.N : S4096x14336.Idx → EReal) = fun i =>
    Dot.dot (fun k : Fin 1024 => m ((c : Thread nD τ).loc main_arg0) (ix2 (i 0) k)) fun k => m ((c : Thread nD τ).loc main_arg1) (ix2 (i 1) k) := by
  refine (dats m 0 c).arrAt_eq_of_covers 2 _ (by decide +kernel) fun t hf y => ?_
  obtain ⟨e0, e1, e⟩ := places t
  blk_simp
  rw [after0_2]
  unfold outsAt0
  frame_out
  refine (pay _ _ y).trans ?_
  unfold Dot.dot
  refine Finset.sum_congr rfl fun k _ => ?_
  congr 1 <;> blk_ext [iblk, V, e, e0, e1]

end Cert.InProductIdeal.Own

namespace Cert.InProductRefIdeal.Own

open Cert.InProductRefIdeal Cert.InProductRefIdeal.Gen Cert.InProductRefIdeal.Read Idealize.ShloMosaic Idealize.ShloMosaic.TcCoe Idealize.SL.Sem

/-- The reference's result. -/
theorem ref (x0 : (⟨S4096x1024, .bf16⟩ : BufTy).Contents (Elt Ideal)) (x1 : (⟨S14336x1024, .bf16⟩ : BufTy).Contents (Elt Ideal)) (i : S4096x14336.Idx) :
    (val_main_v4 (F := Ideal) x0 x1 : S4096x14336.Idx → EReal) i = Dot.dot (fun k : Fin 1024 => x0 (ix2 (i 0) k)) fun k => x1 (ix2 (i 1) k) := by
  unfold val_main_v4 val_main_v3 val_main_v2 val_main_v1 val_main_v0
  pointwise []
  rfl

end Cert.InProductRefIdeal.Own

end
-- ==== Proof.SsmProduct.lean ====
/-
The recurrence branch's output through its projection: a product over 2048 columns, summed in two blocks of 1024.
-/
module

public import proofs.«01_k».proof.Proof.Gen.SsmProductIdeal.Value
public import proofs.«01_k».proof.Proof.Gen.SsmProductRefIdeal.Read
public import Idealize.ShloMosaic.Lib.Pipeline.ValueKit
public import Idealize.ShloMosaic.Lib.Pipeline.ReadBack
public import proofs.«01_k».proof.Proof.Dot

@[expose] public section

set_option maxRecDepth 16384

noncomputable section

namespace Cert.SsmProductIdeal.Own

open Cert.SsmProductIdeal Cert.SsmProductIdeal.Gen Idealize.ShloMosaic Idealize.ShloMosaic.TcCoe Idealize.SL.Sem

variable (m : (ℓ : Loc nD τ sig) → Buf (Elt Ideal) ℓ) (c : Dev nD)

/-- Where each window's block stands at a grid point. -/
theorem places : ∀ t : Fin cfg0.N,
    (cfg0.win 0).index t = ![t.val / 2, t.val % 2] ∧ (cfg0.win 1).index t = ![t.val % 2, 0]
    ∧ (cfg0.win 2).index t = ![t.val / 2, 0] := by
  decide +kernel

/-- One point's product at an index of the block. -/
def part (t : Fin cfg0.N) (y : S1024x1024.Idx) : EReal :=
  Dot.dot (fun k : Fin 1024 => iblk m c 0 t (ix2 (y 0) k)) fun k => iblk m c 1 t (ix2 k (y 1))

theorem part_eq (t : Fin cfg0.N) (y : S1024x1024.Idx) : (k0_pay1 (iblk m c 0 t) (iblk m c 1 t) : S1024x1024.Idx → EReal) y = part m c t y := by
  unfold k0_pay1
  pointwise []
  rfl

theorem first (t : Fin cfg0.N) (h : t.val % 2 = 0) (y : S1024x1024.Idx) :
    ((outsAt0 m c t.val t.isLt).2 : S1024x1024.Idx → EReal) y = 0 + part m c t y := by
  have ht : t.val < 8 := t.isLt
  rw [outsAt0_A m c t h (by omega) (by omega), zero_add]
  frame_out
  unfold k0_pay2
  pointwise []
  exact part_eq m c t y

theorem next (t : Fin cfg0.N) (h : ¬ t.val % 2 = 0) (y : S1024x1024.Idx) :
    ((outsAt0 m c t.val t.isLt).2 : S1024x1024.Idx → EReal) y = ((outsAt0 m c (t.val - 1) (Nat.lt_of_le_of_lt (Nat.sub_le _ _) t.isLt)).2 : S1024x1024.Idx → EReal) y + part m c t y := by
  rw [outsAt0_B m c t h (by omega) (by omega)]
  frame_out
  simp only [read_unread_whole]
  unfold k0_pay3
  pointwise []
  rw [part_eq m c t y]

theorem last (t : Fin cfg0.N) (h : t.val % 2 = 1) (y : S1024x1024.Idx) :
    ((outsAt0 m c t.val t.isLt).1 : S1024x1024.Idx → EReal) y = ((outsAt0 m c t.val t.isLt).2 : S1024x1024.Idx → EReal) y := by
  rw [outsAt0_B m c t (by omega) h h]
  frame_out
  unfold k0_pay4
  pointwise []

/-- The result array. -/
theorem out : ((dats m 0 c).arrAt 2 cfg0.N : S4096x1024.Idx → EReal) = fun i =>
    Dot.dot (fun k : Fin 2048 => m ((c : Thread nD τ).loc main_arg0) (ix2 (i 0) k)) fun k => m ((c : Thread nD τ).loc main_arg1) (ix2 k (i 1)) := by
  refine (dats m 0 c).arrAt_eq_of_covers 2 _ (by decide +kernel) fun t hf y => ?_
  have hr := (flush0_2 t).1 hf
  have e := (places t).2.2
  blk_simp
  rw [after0_2]
  refine (last m c t hr y).trans ?_
  rw [Pipeline.eq_sum_fin_of_reset_step_apply_of_flush (fun n h => ((outsAt0 m c n h).2 : S1024x1024.Idx → EReal)) 2 (fun _ => 0) (part m c)
    (first m c) (next m c) t hr y, zero_add, Dot.dot, Fin.sum_univ_tiles 2 1024 rfl]
  refine Finset.sum_congr rfl fun s _ => ?_
  unfold part Dot.dot
  refine Finset.sum_congr rfl fun k _ => ?_
  obtain ⟨e0, e1, -⟩ := places ⟨2 * (t.val / 2) + s.val, Pipeline.run_point_lt_of_flush t hr s⟩
  congr 1 <;> blk_ext [iblk, V, e, e0, e1]

end Cert.SsmProductIdeal.Own

namespace Cert.SsmProductRefIdeal.Own

open Cert.SsmProductRefIdeal Cert.SsmProductRefIdeal.Gen Cert.SsmProductRefIdeal.Read Idealize.ShloMosaic Idealize.ShloMosaic.TcCoe Idealize.SL.Sem

/-- The reference's result. -/
theorem ref (x0 : (⟨S4096x2048, .bf16⟩ : BufTy).Contents (Elt Ideal)) (x1 : (⟨S2048x1024, .bf16⟩ : BufTy).Contents (Elt Ideal)) (i : S4096x1024.Idx) :
    (val_main_v3 (F := Ideal) x0 x1 : S4096x1024.Idx → EReal) i = Dot.dot (fun k : Fin 2048 => x0 (ix2 (i 0) k)) fun k => x1 (ix2 k (i 1)) := by
  unfold val_main_v3 val_main_v2 val_main_v1 val_main_v0
  pointwise []
  rfl

end Cert.SsmProductRefIdeal.Own

end
-- ==== Proof.BranchProduct.lean ====
/-
A branch's output through its projection of 1024 by 1024: one block of 1024 rows at a grid point.
-/
module

public import proofs.«01_k».proof.Proof.Gen.BranchProductIdeal.Value
public import proofs.«01_k».proof.Proof.Gen.BranchProductRefIdeal.Read
public import Idealize.ShloMosaic.Lib.Pipeline.ValueKit
public import Idealize.ShloMosaic.Lib.Pipeline.ReadBack
public import proofs.«01_k».proof.Proof.Dot

@[expose] public section

set_option maxRecDepth 16384

noncomputable section

namespace Cert.BranchProductIdeal.Own

open Cert.BranchProductIdeal Cert.BranchProductIdeal.Gen Idealize.ShloMosaic Idealize.ShloMosaic.TcCoe Idealize.SL.Sem

variable (m : (ℓ : Loc nD τ sig) → Buf (Elt Ideal) ℓ) (c : Dev nD)

/-- Where each window's block stands at a grid point. -/
theorem places : ∀ t : Fin cfg0.N,
    (cfg0.win 0).index t = ![t.val, 0] ∧ (cfg0.win 1).index t = ![0, 0]
    ∧ (cfg0.win 2).index t = ![t.val, 0] := by
  decide +kernel

/-- What a point stores at an index of its block. -/
theorem pay (a : S1024x1024.Idx → EReal) (b : S1024x1024.Idx → EReal) (y : S1024x1024.Idx) :
    (k0_pay1 (F := Ideal) a b : S1024x1024.Idx → EReal) y = Dot.dot (fun k : Fin 1024 => a (ix2 (y 0) k)) fun k => b (ix2 k (y 1)) := by
  unfold k0_pay1
  pointwise []
  rfl

/-- The result array. -/
theorem out : ((dats m 0 c).arrAt 2 cfg0.N : S4096x1024.Idx → EReal) = fun i =>
    Dot.dot (fun k : Fin 1024 => m ((c : Thread nD τ).loc main_arg0) (ix2 (i 0) k)) fun k => m ((c : Thread nD τ).loc main_arg1) (ix2 k (i 1)) := by
  refine (dats m 0 c).arrAt_eq_of_covers 2 _ (by decide +kernel) fun t hf y => ?_
  obtain ⟨e0, e1, e⟩ := places t
  blk_simp
  rw [after0_2]
  unfold outsAt0
  frame_out
  refine (pay _ _ y).trans ?_
  unfold Dot.dot
  refine Finset.sum_congr rfl fun k _ => ?_
  congr 1 <;> blk_ext [iblk, V, e, e0, e1]

end Cert.BranchProductIdeal.Own

namespace Cert.BranchProductRefIdeal.Own

open Cert.BranchProductRefIdeal Cert.BranchProductRefIdeal.Gen Cert.BranchProductRefIdeal.Read Idealize.ShloMosaic Idealize.ShloMosaic.TcCoe Idealize.SL.Sem

/-- The reference's result. -/
theorem ref (x0 : (⟨S4096x1024, .bf16⟩ : BufTy).Contents (Elt Ideal)) (x1 : (⟨S1024x1024, .bf16⟩ : BufTy).Contents (Elt Ideal)) (i : S4096x1024.Idx) :
    (val_main_v3 (F := Ideal) x0 x1 : S4096x1024.Idx → EReal) i = Dot.dot (fun k : Fin 1024 => x0 (ix2 (i 0) k)) fun k => x1 (ix2 k (i 1)) := by
  unfold val_main_v3 val_main_v2 val_main_v1 val_main_v0
  pointwise []
  rfl

end Cert.BranchProductRefIdeal.Own

end
-- ==== Proof.OutProduct.lean ====
/-
The output projection of the merged rows, added to the layer's input: one block of 1024 rows at a grid point.
-/
module

public import proofs.«01_k».proof.Proof.Gen.OutProductIdeal.Value
public import proofs.«01_k».proof.Proof.Gen.OutProductRefIdeal.Read
public import Idealize.ShloMosaic.Lib.Pipeline.ValueKit
public import Idealize.ShloMosaic.Lib.Pipeline.ReadBack
public import proofs.«01_k».proof.Proof.Dot

@[expose] public section

set_option maxRecDepth 16384

noncomputable section

namespace Cert.OutProductIdeal.Own

open Cert.OutProductIdeal Cert.OutProductIdeal.Gen Idealize.ShloMosaic Idealize.ShloMosaic.TcCoe Idealize.SL.Sem

variable (m : (ℓ : Loc nD τ sig) → Buf (Elt Ideal) ℓ) (c : Dev nD)

/-- Where each window's block stands at a grid point. -/
theorem places : ∀ t : Fin cfg0.N,
    (cfg0.win 0).index t = ![t.val, 0] ∧ (cfg0.win 1).index t = ![0, 0]
    ∧ (cfg0.win 2).index t = ![t.val, 0] ∧ (cfg0.win 3).index t = ![t.val, 0] := by
  decide +kernel

/-- What a point stores at an index of its block. -/
theorem pay (a : S1024x1024.Idx → EReal) (b : S1024x1024.Idx → EReal) (d : S1024x1024.Idx → EReal) (y : S1024x1024.Idx) :
    (k0_pay1 (F := Ideal) a b d : S1024x1024.Idx → EReal) y = d y + Dot.dot (fun k : Fin 1024 => a (ix2 (y 0) k)) fun k => b (ix2 k (y 1)) := by
  unfold k0_pay1
  pointwise []
  exact add_comm _ _

/-- The result array. -/
theorem out (d : S4096x1024.Idx → EReal) (hd : d = m ((c : Thread nD τ).loc main_arg2)) : ((dats m 0 c).arrAt 3 cfg0.N : S4096x1024.Idx → EReal) = fun i =>
    d i + Dot.dot (fun k : Fin 1024 => m ((c : Thread nD τ).loc main_arg0) (ix2 (i 0) k)) fun k => m ((c : Thread nD τ).loc main_arg1) (ix2 k (i 1)) := by
  refine (dats m 0 c).arrAt_eq_of_covers 3 _ (by decide +kernel) fun t hf y => ?_
  obtain ⟨e0, e1, e2, e⟩ := places t
  blk_simp
  rw [after0_3]
  unfold outsAt0
  frame_out
  refine (pay _ _ _ y).trans ?_
  unfold Dot.dot
  have h2 : (iblk m c 2 t : S1024x1024.Idx → EReal) y = d (((cfg0.win 3).blk t).view.emb y) := by
    subst hd
    blk_ext [iblk, V, e, e2]
  blk_simp at h2
  refine congrArg₂ (fun p q : EReal => p + q) h2 (Finset.sum_congr rfl fun k _ => ?_)
  congr 1 <;> blk_ext [iblk, V, e, e0, e1]

end Cert.OutProductIdeal.Own

namespace Cert.OutProductRefIdeal.Own

open Cert.OutProductRefIdeal Cert.OutProductRefIdeal.Gen Cert.OutProductRefIdeal.Read Idealize.ShloMosaic Idealize.ShloMosaic.TcCoe Idealize.SL.Sem

/-- The reference's result. -/
theorem ref (x0 : (⟨S4096x1024, .bf16⟩ : BufTy).Contents (Elt Ideal)) (x1 : (⟨S1024x1024, .bf16⟩ : BufTy).Contents (Elt Ideal)) (x2 : (⟨S4096x1024, .f32⟩ : BufTy).Contents (Elt Ideal)) (i : S4096x1024.Idx) :
    (val_main_v3 (F := Ideal) x0 x1 x2 : S4096x1024.Idx → EReal) i = x2 i + Dot.dot (fun k : Fin 1024 => x0 (ix2 (i 0) k)) fun k => x1 (ix2 k (i 1)) := by
  unfold val_main_v3 val_main_v2 val_main_v1 val_main_v0
  pointwise []
  rfl

end Cert.OutProductRefIdeal.Own

end
-- ==== Proof.RootMean.lean ====
/-
The gradient of the division of a row of real numbers by the root of its mean square, in the two forms in which the
kernels and the derivative of the plain formula write it.
-/
module

public import Idealize.ShloMosaic.PureOps.Ideal.Laws
public import Idealize.ShloMosaic.Lib.Affine

@[expose] public section

noncomputable section

namespace Cert.RootMean

open Idealize.ShloMosaic

variable {n : ℕ}

/-- A row's mean square with a small constant added. -/
def mean (N e : EReal) (x : Fin n → EReal) : EReal := Ideal.div (∑ k, x k * x k) N + e

/-- The factor by which the row is scaled. -/
def scale (N e : EReal) (x : Fin n → EReal) : EReal := Ideal.rsqrt (mean N e x)

/-- The kernels' form of the gradient, of a row `x` whose scaled row has the cotangent `d`. -/
def centred (N e : EReal) (x d : Fin n → EReal) (j : Fin n) : EReal :=
  scale N e x * (d j - x j * scale N e x * Ideal.div (∑ k, d k * (x k * scale N e x)) N)

/-- What reaches each square of the row in the derivative of the plain formula. -/
def back (N e h : EReal) (x d : Fin n → EReal) : EReal :=
  Ideal.div ((∑ k, x k * d k) * (h * Ideal.div (scale N e x) (mean N e x))) N

/-- The derivative of the plain formula. -/
def derived (N e h : EReal) (x d : Fin n → EReal) (j : Fin n) : EReal :=
  d j * scale N e x + x j * back N e h x d + back N e h x d * x j

theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem mean_coe {N e : ℝ} (hN : 0 < N) (x : Fin n → ℝ) :
    mean (N : EReal) (e : EReal) (fun k => (x k : EReal)) = (((∑ k, x k * x k) * (1 / N) + e : ℝ) : EReal) := by
  unfold mean
  simp only [← EReal.coe_mul, sum_coe, Ideal.div_coe hN.ne', ← EReal.coe_add]

theorem mean_pos {N e : ℝ} (hN : 0 < N) (he : 0 < e) (x : Fin n → ℝ) : 0 < (∑ k, x k * x k) * (1 / N) + e :=
  add_pos_of_nonneg_of_pos (mul_nonneg (Finset.sum_nonneg fun k _ => mul_self_nonneg _) (by positivity)) he

theorem scale_coe {N e : ℝ} (hN : 0 < N) (he : 0 < e) (x : Fin n → ℝ) :
    scale (N : EReal) (e : EReal) (fun k => (x k : EReal)) = (((Real.sqrt ((∑ k, x k * x k) * (1 / N) + e))⁻¹ : ℝ) : EReal) := by
  have h := mean_pos hN he x
  rw [scale, mean_coe hN, Ideal.rsqrt_coe, if_neg (not_lt.2 h.le), if_neg h.ne']

theorem twice (S : EReal) (p : ℝ) : S * (p : EReal) + S * (p : EReal) = S * ((p + p : ℝ) : EReal) := by
  rcases le_total 0 p with h | h
  · rw [EReal.coe_add, EReal.left_distrib_of_nonneg (EReal.coe_nonneg.2 h) (EReal.coe_nonneg.2 h)]
  · have e : ∀ q : ℝ, S * (q : EReal) = (-S) * ((-q : ℝ) : EReal) := fun q => by rw [EReal.coe_neg, neg_mul_neg]
    have h' : (0 : EReal) ≤ ((-p : ℝ) : EReal) := EReal.coe_nonneg.2 (by linarith)
    rw [e p, e (p + p), neg_add, EReal.coe_add, EReal.left_distrib_of_nonneg h' h']

theorem sum_mul_real {ι : Type*} (s : Finset ι) (f : ι → EReal) {r : ℝ} (hr : 0 ≤ r) : ∑ i ∈ s, f i * (r : EReal) = (∑ i ∈ s, f i) * (r : EReal) := by
  classical
  induction s using Finset.induction_on with
  | empty => simp
  | insert a s ha ih =>
    rw [Finset.sum_insert ha, Finset.sum_insert ha, ih, EReal.right_distrib_of_nonneg_of_ne_top (EReal.coe_nonneg.2 hr) (EReal.coe_ne_top r)]

theorem sq_nonneg (a : EReal) : 0 ≤ a * a :=
  EReal.mul_nonneg_iff.2 ((le_total 0 a).imp (fun h => ⟨h, h⟩) fun h => ⟨h, h⟩)

/-- A row with an infinite entry has the mean square infinity and the factor zero. -/
theorem mean_top {N : ℝ} (e : ℝ) (hN : 0 < N) (x : Fin n → EReal) (k : Fin n) (h : x k = ⊤ ∨ x k = ⊥) : mean (N : EReal) (e : EReal) x = ⊤ := by
  have t : x k * x k = ⊤ := by rcases h with h | h <;> simp [h]
  have s : ∑ k, x k * x k = ⊤ := top_le_iff.1 (t ▸ Finset.single_le_sum (f := fun k => x k * x k) (fun i _ => sq_nonneg (x i)) (Finset.mem_univ k))
  rw [mean, s, Ideal.div_coe hN.ne', EReal.top_mul_coe_of_pos (by positivity), EReal.top_add_coe]

theorem scale_top {N : ℝ} (e : ℝ) (hN : 0 < N) (x : Fin n → EReal) (k : Fin n) (h : x k = ⊤ ∨ x k = ⊥) : scale (N : EReal) (e : EReal) x = 0 := by
  rw [scale, mean_top e hN x k h, Ideal.rsqrt_top]

theorem centred_top {N : ℝ} (e : ℝ) (hN : 0 < N) (x d : Fin n → EReal) (j k : Fin n) (h : x k = ⊤ ∨ x k = ⊥) : centred (N : EReal) (e : EReal) x d j = 0 := by
  rw [centred, scale_top e hN x k h, zero_mul]

/-- The two forms agree on real rows, whatever the cotangent. -/
theorem derived_eq_centred_real {N e : ℝ} (hN : 0 < N) (he : 0 < e) (x : Fin n → ℝ) (d : Fin n → EReal) (j : Fin n) :
    derived (N : EReal) (e : EReal) ((-(1 / 2) : ℝ) : EReal) (fun k => (x k : EReal)) d j = centred (N : EReal) (e : EReal) (fun k => (x k : EReal)) d j := by
  unfold derived centred back
  rw [scale_coe hN he, mean_coe hN]
  have hv := mean_pos hN he x
  set v : ℝ := (∑ k, x k * x k) * (1 / N) + e with hvd
  have hr : (Real.sqrt v)⁻¹ * (Real.sqrt v)⁻¹ = 1 / v := by
    rw [← mul_inv, Real.mul_self_sqrt hv.le, one_div]
  have h0 : 0 ≤ (Real.sqrt v)⁻¹ := by positivity
  set r : ℝ := (Real.sqrt v)⁻¹ with hrd
  have hs : ∑ k, d k * ((x k : EReal) * (r : EReal)) = (∑ k, (x k : EReal) * d k) * (r : EReal) := by
    rw [← sum_mul_real _ _ h0]
    exact Finset.sum_congr rfl fun k _ => by rw [← mul_assoc, mul_comm (d k)]
  rw [hs]
  generalize ∑ k, (x k : EReal) * d k = S
  simp only [Ideal.div_coe hN.ne', Ideal.div_coe hv.ne']
  have a : (x j : EReal) * (S * (((-(1 / 2) : ℝ) : EReal) * ((r : EReal) * ((1 / v : ℝ) : EReal))) * ((1 / N : ℝ) : EReal))
      = S * ((x j * ((-(1 / 2)) * (r * (1 / v))) * (1 / N) : ℝ) : EReal) := by
    simp only [EReal.coe_mul]
    ac_rfl
  have b : (x j : EReal) * (r : EReal) * (S * (r : EReal) * ((1 / N : ℝ) : EReal)) = S * ((x j * r * r * (1 / N) : ℝ) : EReal) := by
    simp only [EReal.coe_mul]
    ac_rfl
  rw [mul_comm _ (x j : EReal), a, b, add_assoc, twice, sub_eq_add_neg, EReal.left_distrib_of_nonneg_of_ne_top (EReal.coe_nonneg.2 h0) (EReal.coe_ne_top r),
    mul_comm (d j)]
  congr 1
  rw [← mul_neg, ← EReal.coe_neg, mul_left_comm (r : EReal) S, ← EReal.coe_mul r]
  congr 2
  rw [← hr]
  ring

/-- The two forms agree. -/
theorem derived_eq_centred {N e : ℝ} (hN : 0 < N) (he : 0 < e) (x d : Fin n → EReal) (j : Fin n) :
    derived (N : EReal) (e : EReal) ((-(1 / 2) : ℝ) : EReal) x d j = centred (N : EReal) (e : EReal) x d j := by
  by_cases h : ∃ k, x k = ⊤ ∨ x k = ⊥
  · obtain ⟨k, hk⟩ := h
    rw [centred_top e hN x d j k hk, derived, back, scale_top e hN x k hk, mean_top e hN x k hk]
    simp [Ideal.div, hN.ne']
  · have hx : x = fun k => ((EReal.toReal (x k) : ℝ) : EReal) := funext fun k =>
      (EReal.coe_toReal (fun t => h ⟨k, .inl t⟩) (fun t => h ⟨k, .inr t⟩)).symm
    rw [hx]
    exact derived_eq_centred_real hN he _ _ _

/-- The gradient of real numbers is a real number. -/
theorem centred_coe {N e : ℝ} (hN : 0 < N) (he : 0 < e) (x d : Fin n → ℝ) (j : Fin n) :
    ∃ q : ℝ, centred (N : EReal) (e : EReal) (fun k => (x k : EReal)) (fun k => (d k : EReal)) j = (q : EReal) := by
  unfold centred
  rw [scale_coe hN he]
  simp only [Ideal.div_coe hN.ne', ← EReal.coe_mul, sum_coe, ← EReal.coe_sub]
  exact ⟨_, rfl⟩

/-- The two constants and the factor, as the programs hold them. -/
def small : EReal := Ideal.ofBits FTy.f32 0x358637BD#32
def half : EReal := Ideal.ofBits FTy.f32 0xBF000000#32

theorem small_real : ∃ e : ℝ, 0 < e ∧ small = (e : EReal) := by
  refine ⟨8796093 * ((2 : ℝ) ^ 43)⁻¹, by positivity, ?_⟩
  unfold small
  simp [Ideal.ofBits, Ideal.ieee]

theorem half_real : half = ((-(1 / 2) : ℝ) : EReal) := by
  unfold half
  simp [Ideal.ofBits, Ideal.ieee]
  rw [← EReal.coe_mul]
  norm_num

theorem bits_1024 : Ideal.ofBits FTy.f32 0x44800000#32 = ((1024 : ℝ) : EReal) := by
  simp [Ideal.ofBits, Ideal.ieee]
  rw [← EReal.coe_mul]
  norm_num

theorem bits_2048 : Ideal.ofBits FTy.f32 0x45000000#32 = ((2048 : ℝ) : EReal) := by
  simp [Ideal.ofBits, Ideal.ieee]
  rw [← EReal.coe_mul]
  norm_num

end Cert.RootMean

end
-- ==== Proof.Norm.lean ====
/-
The gradient of the root-mean-square norm: the rows' gradient with the residual's added, and the gradient of the weight.
-/
module

public import proofs.«01_k».proof.Proof.Gen.NormIdeal.Value
public import proofs.«01_k».proof.Proof.Gen.NormRefIdeal.Read
public import Idealize.ShloMosaic.Lib.Pipeline.ValueKit
public import Idealize.ShloMosaic.Lib.Pipeline.ReadBack
public import Idealize.ShloMosaic.Lib.StableHlo.RunRead
public import proofs.«01_k».proof.Proof.RootMean

@[expose] public section

set_option maxRecDepth 16384

noncomputable section

namespace Cert.Norm.Own

open Idealize.ShloMosaic
open Cert.RootMean (small half)

/-- The row's length, as the programs hold it. -/
def wide : EReal := Ideal.ofBits FTy.f32 0x44800000#32

abbrev Row := (⟨2, ![4096, 1024]⟩ : Shape).Idx → EReal
abbrev Vec1 := (⟨1, ![1024]⟩ : Shape).Idx → EReal

/-- The rows' gradient in the kernel's form, the residual's added. -/
def rows (g x : Row) (w : Vec1) (d : Row) : Row := fun i =>
  d i + RootMean.centred wide small (fun k : Fin 1024 => x (ix2 (i 0) k)) (fun k => g (ix2 (i 0) k) * w (ix1 k)) (i 1)

/-- One row's part of the weight's gradient. -/
def entry (g x : Row) (r : Fin 4096) (a : Fin 1024) : EReal :=
  g (ix2 r a) * (x (ix2 r a) * RootMean.scale wide small fun k : Fin 1024 => x (ix2 r k))

/-- The weight's gradient, a sum over the rows. -/
def weight (g x : Row) : (⟨2, ![1, 1024]⟩ : Shape).Idx → EReal := fun i => ∑ r : Fin 4096, entry g x r (i 1)

theorem wide_real : wide = ((1024 : ℝ) : EReal) := RootMean.bits_1024

end Cert.Norm.Own

namespace Cert.NormIdeal.Own

open Cert.NormIdeal Cert.NormIdeal.Gen Idealize.ShloMosaic Idealize.ShloMosaic.TcCoe Idealize.SL.Sem
open Cert.Norm.Own (wide rows weight entry)
open Cert.RootMean (small half)

theorem p2 (a : S512x1024.Idx → EReal) (y : S512x1.Idx) : (k0_pay2 (F := Ideal) a : S512x1.Idx → EReal) y = RootMean.scale wide small fun k : Fin 1024 => a (ix2 (y 0) k) := by
  unfold k0_pay2
  pointwise []
  rfl

theorem p3 (a : S512x1024.Idx → EReal) (y : S512x1024.Idx) : (k0_pay3 (F := Ideal) a : S512x1024.Idx → EReal) y = a y * RootMean.scale wide small fun k : Fin 1024 => a (ix2 (y 0) k) := by
  unfold k0_pay3
  pointwise []
  rw [p2]
  rfl

theorem p4 (a b : S512x1024.Idx → EReal) (w : S1x1024.Idx → EReal) (d : S512x1024.Idx → EReal) (y : S512x1024.Idx) :
    (k0_pay4 (F := Ideal) a b w d : S512x1024.Idx → EReal) y
      = d y + RootMean.centred wide small (fun k : Fin 1024 => a (ix2 (y 0) k)) (fun k => b (ix2 (y 0) k) * w (ix2 0 k)) (y 1) := by
  have e : y = ix2 (y 0) (y 1) := (ix2_eta y).symm
  unfold k0_pay4
  pointwise []
  simp only [p2, p3]
  rw [e]
  rfl

theorem p5 (a b : S512x1024.Idx → EReal) (w : S1x1024.Idx → EReal) (d : S512x1024.Idx → EReal) (y : S512x1024.Idx) :
    (k0_pay5 (F := Ideal) a b w d : S512x1024.Idx → EReal) y = (k0_pay4 (F := Ideal) a b w d : S512x1024.Idx → EReal) y := by
  unfold k0_pay5
  pointwise []

theorem p6 (a b : S512x1024.Idx → EReal) (y : S1x1024.Idx) :
    (k0_pay6 (F := Ideal) a b : S1x1024.Idx → EReal) y
      = ∑ r : Fin 512, b (ix2 r (y 1)) * (a (ix2 r (y 1)) * RootMean.scale wide small fun k : Fin 1024 => a (ix2 r k)) := by
  unfold k0_pay6
  pointwise []
  simp only [p3]
  rfl

theorem p1 (a b : S1x1024.Idx → EReal) (y : S1x1024.Idx) : (k0_pay1 (F := Ideal) a b : S1x1024.Idx → EReal) y = b y + a y := by
  unfold k0_pay1
  pointwise []

variable (m : (ℓ : Loc nD τ sig) → Buf (Elt Ideal) ℓ) (c : Dev nD)

/-- Where each window's block stands at a grid point. -/
theorem places : ∀ t : Fin cfg0.N,
    (cfg0.win 0).index t = ![t.val, 0] ∧ (cfg0.win 1).index t = ![t.val, 0] ∧ (cfg0.win 2).index t = ![0, 0]
    ∧ (cfg0.win 3).index t = ![t.val, 0] ∧ (cfg0.win 4).index t = ![t.val, 0] ∧ (cfg0.win 5).index t = ![t.val, 0]
    ∧ (cfg0.win 6).index t = ![0, 0] := by
  decide +kernel

/-- One block's part of the weight's gradient. -/
def sums (a b : S512x1024.Idx → EReal) (y : S1x1024.Idx) : EReal :=
  ∑ r : Fin 512, b (ix2 r (y 1)) * (a (ix2 r (y 1)) * RootMean.scale wide small fun k : Fin 1024 => a (ix2 r k))

def part (t : Fin cfg0.N) (y : S1x1024.Idx) : EReal := sums (iblk m c 1 t) (iblk m c 0 t) y

theorem first (t : Fin cfg0.N) (h : t.val % 8 = 0) (y : S1x1024.Idx) :
    ((outsAt0 m c t.val t.isLt).2.2 : S1x1024.Idx → EReal) y = 0 + part m c t y := by
  have ht : t.val < 8 := t.isLt
  rw [outsAt0_A m c t h (by omega), zero_add]
  frame_out
  exact p6 _ _ y

theorem next (t : Fin cfg0.N) (h : ¬ t.val % 8 = 0) (y : S1x1024.Idx) :
    ((outsAt0 m c t.val t.isLt).2.2 : S1x1024.Idx → EReal) y = ((outsAt0 m c (t.val - 1) (Nat.lt_of_le_of_lt (Nat.sub_le _ _) t.isLt)).2.2 : S1x1024.Idx → EReal) y + part m c t y := by
  rw [outsAt0_B m c t h (by omega)]
  frame_out
  exact (p1 _ _ y).trans (congrArg _ (p6 _ _ y))

theorem both (t : Fin cfg0.N) (y : S512x1024.Idx) :
    ((outsAt0 m c t.val t.isLt).1 : S512x1024.Idx → EReal) y = (k0_pay4 (F := Ideal) (iblk m c 1 t) (iblk m c 0 t) (iblk m c 2 t) (iblk m c 3 t) : S512x1024.Idx → EReal) y
    ∧ ((outsAt0 m c t.val t.isLt).2.1 : S512x1024.Idx → EReal) y = (k0_pay4 (F := Ideal) (iblk m c 1 t) (iblk m c 0 t) (iblk m c 2 t) (iblk m c 3 t) : S512x1024.Idx → EReal) y := by
  by_cases h : t.val % 8 = 0
  · have ht : t.val < 8 := t.isLt
    rw [outsAt0_A m c t h (by omega)]
    frame_out
    exact ⟨trivial, p5 _ _ _ _ y⟩
  · rw [outsAt0_B m c t h (by omega)]
    frame_out
    exact ⟨trivial, p5 _ _ _ _ y⟩

/-- The host's row of weights is the argument. -/
theorem weights : (V m c main_v0 : S1x1024.Idx → EReal) = shapeCast S1x1024 (m ((c : Thread nD τ).loc main_arg2)) shapeCasts_S1024_S1x1024 := by
  unfold V
  simp only [hostOps0]
  after_reads_simp
  rfl

theorem weight_at (k : Fin 1024) : (V m c main_v0 : S1x1024.Idx → EReal) (ix2 0 k) = m ((c : Thread nD τ).loc main_arg2) (ix1 k) := by
  rw [weights]
  pointwise []

theorem at_point (t : Fin cfg0.N) (y : S512x1024.Idx) (i : S4096x1024.Idx) (h0 : (i 0).val = 512 * t.val + (y 0).val) (h1 : (i 1).val = (y 1).val) :
    (k0_pay4 (F := Ideal) (iblk m c 1 t) (iblk m c 0 t) (iblk m c 2 t) (iblk m c 3 t) : S512x1024.Idx → EReal) y
      = rows (m ((c : Thread nD τ).loc main_arg0)) (m ((c : Thread nD τ).loc main_arg1)) (m ((c : Thread nD τ).loc main_arg2)) (m ((c : Thread nD τ).loc main_arg3)) i := by
  obtain ⟨e0, e1, e2, e3, -⟩ := places t
  refine (p4 _ _ _ _ y).trans ?_
  unfold rows
  have h : y 1 = i 1 := Fin.ext h1.symm
  have q0 : ∀ k : Fin 1024, (iblk m c 0 t : S512x1024.Idx → EReal) (ix2 (y 0) k) = m ((c : Thread nD τ).loc main_arg0) (ix2 (i 0) k) := by
    intro k
    rw [show i 0 = ⟨512 * t.val + (y 0).val, h0 ▸ (i 0).isLt⟩ from Fin.ext h0]
    blk_ext [iblk, V, e0]
  have q1 : ∀ k : Fin 1024, (iblk m c 1 t : S512x1024.Idx → EReal) (ix2 (y 0) k) = m ((c : Thread nD τ).loc main_arg1) (ix2 (i 0) k) := by
    intro k
    rw [show i 0 = ⟨512 * t.val + (y 0).val, h0 ▸ (i 0).isLt⟩ from Fin.ext h0]
    blk_ext [iblk, V, e1]
  have q2 : ∀ k : Fin 1024, (iblk m c 2 t : S1x1024.Idx → EReal) (ix2 0 k) = m ((c : Thread nD τ).loc main_arg2) (ix1 k) := by
    intro k
    refine Eq.trans ?_ (weight_at m c k)
    blk_ext [iblk, e2]
  have q3 : (iblk m c 3 t : S512x1024.Idx → EReal) y = m ((c : Thread nD τ).loc main_arg3) i := by
    rw [← ix2_eta i, show i 0 = ⟨512 * t.val + (y 0).val, h0 ▸ (i 0).isLt⟩ from Fin.ext h0, ← h]
    blk_ext [iblk, V, e3]
  rw [← h]
  refine congr (congrArg HAdd.hAdd q3) ?_
  congr 1
  · exact funext q1
  · exact funext fun k => congr (congrArg HMul.hMul (q0 k)) (q2 k)

/-- The rows' gradient. -/
theorem out4 : ((dats m 0 c).arrAt 4 cfg0.N : S4096x1024.Idx → EReal)
    = rows (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have e := (places t).2.2.2.2.1
  blk_simp
  rw [after0_4]
  refine (both m c t y).1.trans (at_point m c t y _ ?_ ?_)
  · blk_simp [e]
    exact congrArg (· + _) (Nat.mul_comm _ _)
  · blk_simp [e]

/-- The rows' gradient, rounded. -/
theorem out5 : ((dats m 0 c).arrAt 5 cfg0.N : S4096x1024.Idx → EReal)
    = rows (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have e := (places t).2.2.2.2.2.1
  blk_simp
  rw [after0_5]
  refine (both m c t y).2.trans (at_point m c t y _ ?_ ?_)
  · blk_simp [e]
    exact congrArg (· + _) (Nat.mul_comm _ _)
  · blk_simp [e]

/-- The weight's gradient. -/
theorem out6 : ((dats m 0 c).arrAt 6 cfg0.N : S1x1024.Idx → EReal)
    = weight (m ((c : Thread nD τ).loc main_arg0)) (m ((c : Thread nD τ).loc main_arg1)) := by
  refine (dats m 0 c).arrAt_eq_of_covers 6 _ (by decide +kernel) fun t hf y => ?_
  have hr := (flush0_6 t).1 hf
  have e := (places t).2.2.2.2.2.2
  blk_simp
  rw [after0_6]
  refine (Pipeline.eq_sum_fin_of_reset_step_apply_of_flush (fun n h => ((outsAt0 m c n h).2.2 : S1x1024.Idx → EReal)) 8 (fun _ => 0) (part m c)
    (first m c) (next m c) t hr y).trans ?_
  rw [zero_add]
  unfold weight
  rw [Fin.sum_univ_tiles 8 512 rfl]
  refine Finset.sum_congr rfl fun s _ => ?_
  unfold part sums entry
  refine Finset.sum_congr rfl fun k _ => ?_
  obtain ⟨e0, e1, -⟩ := places ⟨8 * (t.val / 8) + s.val, Pipeline.run_point_lt_of_flush t hr s⟩
  have ht : t.val < 8 := t.isLt
  have hz : 8 * (t.val / 8) + s.val = s.val := by omega
  congr 1
  · blk_ext [iblk, V, e, e0, e1]
  · congr 1
    · blk_ext [iblk, V, e, e0, e1]
    · congr 1
      funext j
      blk_ext [iblk, V, e, e0, e1]

end Cert.NormIdeal.Own

namespace Cert.NormRefIdeal.Own

open Cert.NormRefIdeal Cert.NormRefIdeal.Gen Cert.NormRefIdeal.Read Idealize.ShloMosaic Idealize.ShloMosaic.TcCoe Idealize.SL.Sem
open Cert.Norm.Own (wide rows weight entry)
open Cert.RootMean (small half)

theorem r7 (x1 : (⟨S4096x1024, .f32⟩ : BufTy).Contents (Elt Ideal)) (i : S4096x1.Idx) :
    (val_main_v7 (F := Ideal) x1 : S4096x1.Idx → EReal) i = RootMean.scale wide small fun k : Fin 1024 => x1 (ix2 (i 0) k) := by
  unfold val_main_v7 val_main_v6 val_main_v5 val_main_v4 val_main_v3 val_main_v2 val_main_v1 val_main_v0 val_main_cst val_main_cst_0 val_main_cst_1
  pointwise []
  rfl

theorem r6 (x1 : (⟨S4096x1024, .f32⟩ : BufTy).Contents (Elt Ideal)) (i : S4096x1.Idx) :
    (val_main_v6 (F := Ideal) x1 : S4096x1.Idx → EReal) i = RootMean.mean wide small fun k : Fin 1024 => x1 (ix2 (i 0) k) := by
  unfold val_main_v6 val_main_v5 val_main_v4 val_main_v3 val_main_v2 val_main_v1 val_main_v0 val_main_cst val_main_cst_0 val_main_cst_1
  pointwise []
  rfl

/-- The weight's gradient. -/
theorem ref39 (x0 x1 : (⟨S4096x1024, .f32⟩ : BufTy).Contents (Elt Ideal)) (i : S1x1024.Idx) :
    (val_main_v39 (F := Ideal) x0 x1 : S1x1024.Idx → EReal) i = weight x0 x1 i := by
  unfold val_main_v39 val_main_v21 val_main_v18 val_main_v17 val_main_v16 val_main_v12 val_main_v11 val_main_cst_3 val_main_cst_4
  pointwise []
  simp only [r7, Finset.univ_unique, Finset.sum_singleton]
  exact Finset.sum_congr rfl fun r _ => mul_comm (_ : EReal) _

/-- The rows' gradient as the derivative writes it. -/
theorem ref35 (x0 x1 : (⟨S4096x1024, .f32⟩ : BufTy).Contents (Elt Ideal)) (x2 : (⟨S1024, .f32⟩ : BufTy).Contents (Elt Ideal)) (i : S4096x1024.Idx) :
    (val_main_v35 (F := Ideal) x0 x1 x2 : S4096x1024.Idx → EReal) i
      = RootMean.derived wide small half (fun k : Fin 1024 => x1 (ix2 (i 0) k)) (fun k => x0 (ix2 (i 0) k) * x2 (ix1 k)) (i 1) := by
  have e : i = ix2 (i 0) (i 1) := (ix2_eta i).symm
  unfold val_main_v35 val_main_v34 val_main_v33 val_main_v32 val_main_v31 val_main_v30 val_main_v29 val_main_v28 val_main_v27 val_main_v26 val_main_v25 val_main_v24 val_main_v23 val_main_v22 val_main_v20 val_main_v19 val_main_v13 val_main_v10 val_main_v9 val_main_v8 val_main_cst_7 val_main_cst_6 val_main_cst_5 val_main_cst_2
  pointwise []
  simp only [r7, r6, Finset.univ_unique, Finset.sum_singleton]
  rw [e]
  rfl

/-- The two forms agree. -/
theorem forms (x0 x1 : S4096x1024.Idx → EReal) (x2 : S1024.Idx → EReal) (i : S4096x1024.Idx) :
    RootMean.derived wide small half (fun k : Fin 1024 => x1 (ix2 (i 0) k)) (fun k => x0 (ix2 (i 0) k) * x2 (ix1 k)) (i 1)
      = RootMean.centred wide small (fun k : Fin 1024 => x1 (ix2 (i 0) k)) (fun k => x0 (ix2 (i 0) k) * x2 (ix1 k)) (i 1) := by
  obtain ⟨e, he, hs⟩ := RootMean.small_real
  rw [Norm.Own.wide_real, hs, RootMean.half_real]
  exact RootMean.derived_eq_centred (by norm_num) he _ _ _

variable (x0 x1 x3 : (⟨S4096x1024, .f32⟩ : BufTy).Contents (Elt Ideal)) (x2 : (⟨S1024, .f32⟩ : BufTy).Contents (Elt Ideal))

/-- The rows' gradient. -/
theorem ref36 :
    (val_main_v36 (F := Ideal) x0 x1 x2 x3 : S4096x1024.Idx → EReal) = rows x0 x1 x2 x3 := by
  funext i
  unfold val_main_v36
  pointwise []
  refine (add_comm (_ : EReal) _).trans ?_
  unfold rows
  exact congrArg _ ((ref35 x0 x1 x2 i).trans (forms x0 x1 x2 i))

/-- The rows' gradient, rounded. -/
theorem ref38 :
    (val_main_v38 (F := Ideal) x0 x1 x2 x3 : S4096x1024.Idx → EReal) = rows x0 x1 x2 x3 := by
  refine Eq.trans ?_ (ref36 x0 x1 x3 x2)
  funext i
  unfold val_main_v38 val_main_v37 val_main_v36
  pointwise []

end Cert.NormRefIdeal.Own

end
-- ==== Proof.GatedNorm.lean ====
/-
The gradient of the gated root-mean-square norm: of the rows, of the gates, and of the weight.
-/
module

public import proofs.«01_k».proof.Proof.Gen.GatedNormIdeal.Value
public import proofs.«01_k».proof.Proof.Gen.GatedNormRefIdeal.Read
public import Idealize.ShloMosaic.Lib.Pipeline.ValueKit
public import Idealize.ShloMosaic.Lib.Pipeline.ReadBack
public import Idealize.ShloMosaic.Lib.StableHlo.RunRead
public import proofs.«01_k».proof.Proof.RootMean

@[expose] public section

set_option maxRecDepth 16384

noncomputable section

namespace Cert.GatedNorm.Own

open Idealize.ShloMosaic
open Cert.RootMean (small half)

/-- The row's length, as the programs hold it. -/
def wide : EReal := Ideal.ofBits FTy.f32 0x45000000#32

/-- The sigmoid. -/
def sigmoid (z : EReal) : EReal := Ideal.div 1 (1 + Ideal.exp (-z))

/-- The gate. -/
def silu (z : EReal) : EReal := z * sigmoid z

abbrev Act := (⟨2, ![4096, 2048]⟩ : Shape).Idx → EReal
abbrev Proj := (⟨2, ![4096, 14336]⟩ : Shape).Idx → EReal
abbrev Vec1 := (⟨1, ![2048]⟩ : Shape).Idx → EReal

/-- The gate's argument, a column block of the projection. -/
def arg (p : Proj) (r : Fin 4096) (k : Fin 2048) : EReal := p (ix2 r ⟨6144 + k.val, by omega⟩)

/-- A gated row. -/
def feed (y : Act) (p : Proj) (r : Fin 4096) (k : Fin 2048) : EReal := y (ix2 r k) * silu (arg p r k)

/-- The gradient of the gated row. -/
def grad (d y : Act) (p : Proj) (w : Vec1) (i : (⟨2, ![4096, 2048]⟩ : Shape).Idx) : EReal :=
  RootMean.centred wide small (feed y p (i 0)) (fun k => d (ix2 (i 0) k) * w (ix1 k)) (i 1)

/-- The gradient of the row. -/
def rows (d y : Act) (p : Proj) (w : Vec1) : Act := fun i => grad d y p w i * silu (arg p (i 0) (i 1))

/-- The gradient of the gate's argument, of one entry. -/
def slope (q y z : EReal) : EReal := q * y * sigmoid z * (1 + z * (1 - sigmoid z))

def gates (d y : Act) (p : Proj) (w : Vec1) : Act := fun i => slope (grad d y p w i) (y i) (arg p (i 0) (i 1))

/-- One row's part of the weight's gradient. -/
def entry (d y : Act) (p : Proj) (r : Fin 4096) (a : Fin 2048) : EReal :=
  d (ix2 r a) * (feed y p r a * RootMean.scale wide small (feed y p r))

/-- The weight's gradient, a sum over the rows. -/
def weight (d y : Act) (p : Proj) : (⟨2, ![1, 2048]⟩ : Shape).Idx → EReal := fun i => ∑ r : Fin 4096, entry d y p r (i 1)

theorem bits_zero : Ideal.ofBits FTy.f32 0x00000000#32 = 0 := by
  simp [Ideal.ofBits, Ideal.ieee]

theorem sigmoid_real (z : ℝ) : ∃ s : ℝ, 0 < s ∧ sigmoid (z : EReal) = (s : EReal) := by
  unfold sigmoid
  rw [← EReal.coe_one, ← EReal.coe_neg, Ideal.exp_coe, ← EReal.coe_add, Ideal.div_coe (by positivity)]
  exact ⟨_, by positivity, (EReal.coe_mul _ _).symm⟩

theorem sigmoid_top : sigmoid ⊤ = 1 := by
  rw [sigmoid, EReal.neg_top, show Ideal.exp ⊥ = 0 from rfl, add_zero, ← EReal.coe_one, Ideal.div_coe one_ne_zero, ← EReal.coe_mul, one_div_one, mul_one]

theorem sigmoid_bot : sigmoid ⊥ = 0 := by
  rw [sigmoid, EReal.neg_bot, show Ideal.exp ⊤ = ⊤ from rfl, ← EReal.coe_one, EReal.coe_add_top]
  simp [Ideal.div]

/-- The derivative's form of the gate's gradient is the kernel's, on real numbers. -/
theorem slope_eq (q y z s : ℝ) (h : sigmoid (z : EReal) = (s : EReal)) :
    ((y : EReal) * (q : EReal)) * (s : EReal) + ((z : EReal) * ((y : EReal) * (q : EReal))) * ((s : EReal) * (1 - (s : EReal))) = slope q y z := by
  unfold slope
  rw [h, ← EReal.coe_one]
  simp only [← EReal.coe_mul, ← EReal.coe_add, ← EReal.coe_sub]
  congr 1
  ring

/-- The same with any row entry and any gate, where the row's gradient vanishes when the gated entry is infinite. -/
theorem slope_all (q : ℝ) (y z : EReal) (h : y * silu z = ⊤ ∨ y * silu z = ⊥ → q = 0) :
    (y * (q : EReal)) * sigmoid z + (z * (y * (q : EReal))) * (sigmoid z * (1 - sigmoid z)) = slope q y z := by
  have one : (1 : EReal) - 1 = 0 := by rw [← EReal.coe_one, ← EReal.coe_sub, sub_self, EReal.coe_zero]
  induction z with
  | bot => simp [slope, sigmoid_bot]
  | top => simp [slope, sigmoid_top, one, mul_comm]
  | coe z =>
    obtain ⟨s, p, hs⟩ := sigmoid_real z
    by_cases hz : z = 0
    · subst hz
      simp [slope, mul_comm]
    · have hzs : z * s ≠ 0 := mul_ne_zero hz p.ne'
      have e : silu (z : EReal) = ((z * s : ℝ) : EReal) := by rw [silu, hs, EReal.coe_mul]
      have inf : (y = ⊤ ∨ y = ⊥) → q = 0 := fun hy => h <| by
        rw [e]
        rcases lt_or_gt_of_ne hzs with l | l <;> rcases hy with rfl | rfl
        · exact .inr (EReal.top_mul_coe_of_neg l)
        · exact .inl (EReal.bot_mul_coe_of_neg l)
        · exact .inl (EReal.top_mul_coe_of_pos l)
        · exact .inr (EReal.bot_mul_coe_of_pos l)
      induction y with
      | bot => rw [inf (.inr rfl)]; simp [slope]
      | top => rw [inf (.inl rfl)]; simp [slope]
      | coe y => rw [hs]; exact slope_eq q y z s hs

end Cert.GatedNorm.Own

namespace Cert.GatedNormIdeal.Own

open Cert.GatedNormIdeal Cert.GatedNormIdeal.Gen Idealize.ShloMosaic Idealize.ShloMosaic.TcCoe Idealize.SL.Sem
open Cert.GatedNorm.Own (wide sigmoid silu arg feed grad rows slope gates weight entry bits_zero)
open Cert.RootMean (small)

theorem p6 (a : S256x2048.Idx → EReal) (y : S256x2048.Idx) : (k0_pay6 (F := Ideal) a : S256x2048.Idx → EReal) y = sigmoid (a y) := by
  unfold k0_pay6 k0_pay4
  pointwise []
  unfold sigmoid
  simp only [bits_zero, zero_sub]

theorem p7 (a : S256x2048.Idx → EReal) (y : S256x2048.Idx) : (k0_pay7 (F := Ideal) a : S256x2048.Idx → EReal) y = silu (a y) := by
  unfold k0_pay7 k0_pay4
  pointwise []
  rw [p6]
  rfl

theorem p8 (a b : S256x2048.Idx → EReal) (y : S256x2048.Idx) : (k0_pay8 (F := Ideal) a b : S256x2048.Idx → EReal) y = b y * silu (a y) := by
  unfold k0_pay8 k0_pay5
  pointwise []
  rw [p7]

theorem p9 (a b : S256x2048.Idx → EReal) (y : S256x1.Idx) :
    (k0_pay9 (F := Ideal) a b : S256x1.Idx → EReal) y = RootMean.scale wide small fun k : Fin 2048 => b (ix2 (y 0) k) * silu (a (ix2 (y 0) k)) := by
  unfold k0_pay9
  pointwise []
  simp only [p8]
  rfl

theorem p10 (a b : S256x2048.Idx → EReal) (y : S256x2048.Idx) :
    (k0_pay10 (F := Ideal) a b : S256x2048.Idx → EReal) y
      = b y * silu (a y) * RootMean.scale wide small fun k : Fin 2048 => b (ix2 (y 0) k) * silu (a (ix2 (y 0) k)) := by
  unfold k0_pay10
  pointwise []
  rw [p9, p8]
  rfl

theorem p12 (a b d : S256x2048.Idx → EReal) (w : S1x2048.Idx → EReal) (y : S256x2048.Idx) :
    (k0_pay12 (F := Ideal) a b d w : S256x2048.Idx → EReal) y
      = RootMean.centred wide small (fun k : Fin 2048 => b (ix2 (y 0) k) * silu (a (ix2 (y 0) k))) (fun k => d (ix2 (y 0) k) * w (ix2 0 k)) (y 1) := by
  have e : y = ix2 (y 0) (y 1) := (ix2_eta y).symm
  unfold k0_pay12 k0_pay11
  pointwise []
  simp only [p9, p10]
  rw [e]
  rfl

theorem p13 (a b d : S256x2048.Idx → EReal) (w : S1x2048.Idx → EReal) (y : S256x2048.Idx) :
    (k0_pay13 (F := Ideal) a b d w : S256x2048.Idx → EReal) y = (k0_pay12 (F := Ideal) a b d w : S256x2048.Idx → EReal) y * silu (a y) := by
  unfold k0_pay13
  pointwise []
  rw [p7]

theorem p1 (a b q : S256x2048.Idx → EReal) (y : S256x2048.Idx) :
    (k0_pay1 (F := Ideal) (k0_pay4 (F := Ideal) a) (k0_pay5 (F := Ideal) b) (k0_pay6 (F := Ideal) a) q : S256x2048.Idx → EReal) y = slope (q y) (b y) (a y) := by
  unfold k0_pay1 k0_pay4 k0_pay5
  pointwise []
  rw [p6]
  rfl

/-- One row's part of the weight's gradient, in a block. -/
def bit (a b d : S256x2048.Idx → EReal) (r : Fin 256) (k : Fin 2048) : EReal :=
  d (ix2 r k) * (b (ix2 r k) * silu (a (ix2 r k)) * RootMean.scale wide small fun j : Fin 2048 => b (ix2 r j) * silu (a (ix2 r j)))

/-- One block's part of the weight's gradient. -/
def sums (a b d : S256x2048.Idx → EReal) (y : S1x2048.Idx) : EReal := ∑ r : Fin 256, bit a b d r (y 1)

theorem p2 (a b d : S256x2048.Idx → EReal) (y : S1x2048.Idx) :
    (k0_pay2 (F := Ideal) (k0_pay10 (F := Ideal) a b) (k0_pay11 (F := Ideal) d) : S1x2048.Idx → EReal) y = sums a b d y := by
  unfold k0_pay2 k0_pay11
  pointwise []
  simp only [p10]
  rfl

theorem p3 (a b d : S256x2048.Idx → EReal) (o : S1x2048.Idx → EReal) (y : S1x2048.Idx) :
    (k0_pay3 (F := Ideal) (k0_pay10 (F := Ideal) a b) (k0_pay11 (F := Ideal) d) o : S1x2048.Idx → EReal) y = o y + sums a b d y := by
  unfold k0_pay3
  pointwise []
  rw [p2]

variable (m : (ℓ : Loc nD τ sig) → Buf (Elt Ideal) ℓ) (c : Dev nD)

/-- Where each window's block stands at a grid point. -/
theorem places : ∀ t : Fin cfg0.N,
    (cfg0.win 0).index t = ![t.val, 0] ∧ (cfg0.win 1).index t = ![t.val, 0] ∧ (cfg0.win 2).index t = ![t.val, 3]
    ∧ (cfg0.win 3).index t = ![0, 0] ∧ (cfg0.win 4).index t = ![t.val, 0] ∧ (cfg0.win 5).index t = ![t.val, 0]
    ∧ (cfg0.win 6).index t = ![0, 0] := by
  decide +kernel

def part (t : Fin cfg0.N) (y : S1x2048.Idx) : EReal := sums (iblk m c 2 t) (iblk m c 1 t) (iblk m c 0 t) y

theorem first (t : Fin cfg0.N) (h : t.val % 16 = 0) (y : S1x2048.Idx) :
    ((outsAt0 m c t.val t.isLt).2.2 : S1x2048.Idx → EReal) y = 0 + part m c t y := by
  have ht : t.val < 16 := t.isLt
  rw [outsAt0_A m c t h (by omega), zero_add]
  frame_out
  exact p2 _ _ _ y

theorem next (t : Fin cfg0.N) (h : ¬ t.val % 16 = 0) (y : S1x2048.Idx) :
    ((outsAt0 m c t.val t.isLt).2.2 : S1x2048.Idx → EReal) y = ((outsAt0 m c (t.val - 1) (Nat.lt_of_le_of_lt (Nat.sub_le _ _) t.isLt)).2.2 : S1x2048.Idx → EReal) y + part m c t y := by
  rw [outsAt0_B m c t h (by omega)]
  frame_out
  exact p3 _ _ _ _ y

theorem both (t : Fin cfg0.N) (y : S256x2048.Idx) :
    ((outsAt0 m c t.val t.isLt).1 : S256x2048.Idx → EReal) y = (k0_pay13 (F := Ideal) (iblk m c 2 t) (iblk m c 1 t) (iblk m c 0 t) (iblk m c 3 t) : S256x2048.Idx → EReal) y
    ∧ ((outsAt0 m c t.val t.isLt).2.1 : S256x2048.Idx → EReal) y = (k0_pay1 (F := Ideal) (k0_pay4 (F := Ideal) (iblk m c 2 t)) (k0_pay5 (F := Ideal) (iblk m c 1 t)) (k0_pay6 (F := Ideal) (iblk m c 2 t)) (k0_pay12 (F := Ideal) (iblk m c 2 t) (iblk m c 1 t) (iblk m c 0 t) (iblk m c 3 t)) : S256x2048.Idx → EReal) y := by
  by_cases h : t.val % 16 = 0
  · have ht : t.val < 16 := t.isLt
    rw [outsAt0_A m c t h (by omega)]
    frame_out
    trivial
  · rw [outsAt0_B m c t h (by omega)]
    frame_out
    trivial

/-- The host's row of weights is the argument. -/
theorem weights : (V m c main_v0 : S1x2048.Idx → EReal) = shapeCast S1x2048 (m ((c : Thread nD τ).loc main_arg3)) shapeCasts_S2048_S1x2048 := by
  unfold V
  simp only [hostOps0]
  after_reads_simp
  rfl

theorem weight_at (k : Fin 2048) : (V m c main_v0 : S1x2048.Idx → EReal) (ix2 0 k) = m ((c : Thread nD τ).loc main_arg3) (ix1 k) := by
  rw [weights]
  pointwise []

section AtPoint

variable (t : Fin cfg0.N) (y : S256x2048.Idx) (i : S4096x2048.Idx) (h0 : (i 0).val = 256 * t.val + (y 0).val) (h1 : (i 1).val = (y 1).val)

include h0

theorem q0 (k : Fin 2048) : (iblk m c 0 t : S256x2048.Idx → EReal) (ix2 (y 0) k) = m ((c : Thread nD τ).loc main_arg0) (ix2 (i 0) k) := by
  obtain ⟨e, -⟩ := places t
  rw [show i 0 = ⟨256 * t.val + (y 0).val, h0 ▸ (i 0).isLt⟩ from Fin.ext h0]
  blk_ext [iblk, V, e]

theorem q1 (k : Fin 2048) : (iblk m c 1 t : S256x2048.Idx → EReal) (ix2 (y 0) k) = m ((c : Thread nD τ).loc main_arg1) (ix2 (i 0) k) := by
  obtain ⟨-, e, -⟩ := places t
  rw [show i 0 = ⟨256 * t.val + (y 0).val, h0 ▸ (i 0).isLt⟩ from Fin.ext h0]
  blk_ext [iblk, V, e]

theorem q2 (k : Fin 2048) : (iblk m c 2 t : S256x2048.Idx → EReal) (ix2 (y 0) k) = arg (m ((c : Thread nD τ).loc main_arg2)) (i 0) k := by
  obtain ⟨-, -, e, -⟩ := places t
  unfold arg
  rw [show i 0 = ⟨256 * t.val + (y 0).val, h0 ▸ (i 0).isLt⟩ from Fin.ext h0]
  blk_ext [iblk, V, e]

include h1

theorem at_grad : (k0_pay12 (F := Ideal) (iblk m c 2 t) (iblk m c 1 t) (iblk m c 0 t) (iblk m c 3 t) : S256x2048.Idx → EReal) y
    = grad (m ((c : Thread nD τ).loc main_arg0)) (m ((c : Thread nD τ).loc main_arg1)) (m ((c : Thread nD τ).loc main_arg2)) (m ((c : Thread nD τ).loc main_arg3)) i := by
  obtain ⟨-, -, -, e3, -⟩ := places t
  have q3 : ∀ k : Fin 2048, (iblk m c 3 t : S1x2048.Idx → EReal) (ix2 0 k) = m ((c : Thread nD τ).loc main_arg3) (ix1 k) := by
    intro k
    refine Eq.trans ?_ (weight_at m c k)
    blk_ext [iblk, e3]
  refine (p12 _ _ _ _ y).trans ?_
  have h : y 1 = i 1 := Fin.ext h1.symm
  unfold grad
  rw [← h]
  congr 1
  · exact funext fun k => congr (congrArg HMul.hMul (q1 m c t y i h0 k)) (congrArg silu (q2 m c t y i h0 k))
  · exact funext fun k => congr (congrArg HMul.hMul (q0 m c t y i h0 k)) (q3 k)

theorem at_arg : (iblk m c 2 t : S256x2048.Idx → EReal) y = arg (m ((c : Thread nD τ).loc main_arg2)) (i 0) (i 1) := by
  have h : y 1 = i 1 := Fin.ext h1.symm
  rw [← h, ← q2 m c t y i h0 (y 1)]
  exact congrArg _ (ix2_eta y).symm

theorem at_row : (iblk m c 1 t : S256x2048.Idx → EReal) y = m ((c : Thread nD τ).loc main_arg1) i := by
  have h : y 1 = i 1 := Fin.ext h1.symm
  rw [← ix2_eta i, ← h, ← q1 m c t y i h0 (y 1)]
  exact congrArg _ (ix2_eta y).symm

end AtPoint

/-- One row's part of the weight's gradient, read from the blocks. -/
theorem term (t : Fin cfg0.N) (r : Fin 4096) (k : Fin 256) (a : Fin 2048) (h : r.val = 256 * t.val + k.val) :
    bit (iblk m c 2 t) (iblk m c 1 t) (iblk m c 0 t) k a
      = entry (m ((c : Thread nD τ).loc main_arg0)) (m ((c : Thread nD τ).loc main_arg1)) (m ((c : Thread nD τ).loc main_arg2)) r a := by
  have a0 := fun j => q0 m c t (ix2 k j) (ix2 r j) h j
  have a1 := fun j => q1 m c t (ix2 k j) (ix2 r j) h j
  have a2 := fun j => q2 m c t (ix2 k j) (ix2 r j) h j
  have f : (fun j : Fin 2048 => (HMul.hMul : EReal → EReal → EReal) ((iblk m c 1 t : S256x2048.Idx → EReal) (ix2 k j)) (silu ((iblk m c 2 t : S256x2048.Idx → EReal) (ix2 k j))))
      = feed (m ((c : Thread nD τ).loc main_arg1)) (m ((c : Thread nD τ).loc main_arg2)) r :=
    funext fun j => congr (congrArg HMul.hMul (a1 j)) (congrArg silu (a2 j))
  unfold bit entry
  exact congr (congrArg HMul.hMul (a0 a)) (congr (congrArg HMul.hMul (congrFun f a)) (congrArg (RootMean.scale wide small) f))

/-- The gradient of the rows. -/
theorem out4 : ((dats m 0 c).arrAt 4 cfg0.N : S4096x2048.Idx → EReal)
    = rows (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have e := (places t).2.2.2.2.1
  blk_simp
  rw [after0_4]
  refine (both m c t y).1.trans ((p13 _ _ _ _ y).trans ?_)
  unfold rows
  refine congr (congrArg HMul.hMul (at_grad m c t y _ ?_ ?_)) (congrArg silu (at_arg m c t y _ ?_ ?_))
  all_goals first
    | (blk_simp [e]; done)
    | (blk_simp [e]; exact congrArg (· + _) (Nat.mul_comm _ _))

/-- The gradient of the gates. -/
theorem out5 : ((dats m 0 c).arrAt 5 cfg0.N : S4096x2048.Idx → EReal)
    = gates (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have e := (places t).2.2.2.2.2.1
  blk_simp
  rw [after0_5]
  refine (both m c t y).2.trans ((p1 _ _ _ y).trans ?_)
  unfold gates
  refine congr (congr (congrArg slope (at_grad m c t y _ ?_ ?_)) (at_row m c t y _ ?_ ?_)) (at_arg m c t y _ ?_ ?_)
  all_goals first
    | (blk_simp [e]; done)
    | (blk_simp [e]; exact congrArg (· + _) (Nat.mul_comm _ _))

/-- The weight's gradient. -/
theorem out6 : ((dats m 0 c).arrAt 6 cfg0.N : S1x2048.Idx → EReal)
    = weight (m ((c : Thread nD τ).loc main_arg0)) (m ((c : Thread nD τ).loc main_arg1)) (m ((c : Thread nD τ).loc main_arg2)) := by
  refine (dats m 0 c).arrAt_eq_of_covers 6 _ (by decide +kernel) fun t hf y => ?_
  have hr := (flush0_6 t).1 hf
  have e := (places t).2.2.2.2.2.2
  blk_simp
  rw [after0_6]
  refine (Pipeline.eq_sum_fin_of_reset_step_apply_of_flush (fun n h => ((outsAt0 m c n h).2.2 : S1x2048.Idx → EReal)) 16 (fun _ => 0) (part m c)
    (first m c) (next m c) t hr y).trans ?_
  rw [zero_add]
  unfold weight
  rw [Fin.sum_univ_tiles 16 256 rfl]
  refine Finset.sum_congr rfl fun s _ => ?_
  unfold part sums
  refine Finset.sum_congr rfl fun k _ => ?_
  have ht : t.val < 16 := t.isLt
  refine (term m c _ _ k _ ?_).trans (congrArg (entry _ _ _ _) (Fin.ext ?_))
  · show s.val * 256 + k.val = 256 * (16 * (t.val / 16) + s.val) + k.val
    omega
  · blk_simp [e]

end Cert.GatedNormIdeal.Own

namespace Cert.GatedNormRefIdeal.Own

open Cert.GatedNormRefIdeal Cert.GatedNormRefIdeal.Gen Cert.GatedNormRefIdeal.Read Idealize.ShloMosaic Idealize.ShloMosaic.TcCoe Idealize.SL.Sem
open Cert.GatedNorm.Own (wide sigmoid silu arg feed grad rows slope gates weight entry)
open Cert.RootMean (small half)

section Ref

variable (x0 x1 : (⟨S4096x2048, .bf16⟩ : BufTy).Contents (Elt Ideal)) (x2 : (⟨S4096x14336, .bf16⟩ : BufTy).Contents (Elt Ideal)) (x3 : (⟨S2048, .f32⟩ : BufTy).Contents (Elt Ideal))

theorem r2 (i : S4096x2048.Idx) : (val_main_v2 (F := Ideal) x2 : S4096x2048.Idx → EReal) i = arg x2 (i 0) (i 1) := by
  unfold val_main_v2 val_main_v0
  pointwise []
  unfold arg
  rfl

theorem r3_2 (i : S4096x2048.Idx) : (val_main_v3_2 (F := Ideal) x2 : S4096x2048.Idx → EReal) i = sigmoid (arg x2 (i 0) (i 1)) := by
  unfold val_main_v3_2 val_main_call0_v4 val_main_call0_v3 val_main_call0_v2 val_main_call0_v1 val_main_call0_v0 val_main_call0_cst_0 val_main_call0_cst
  pointwise []
  rw [r2]
  rfl

theorem r3_0 (i : S4096x2048.Idx) : (val_main_v3_0 (F := Ideal) x2 : S4096x2048.Idx → EReal) i = silu (arg x2 (i 0) (i 1)) := by
  unfold val_main_v3_0
  pointwise []
  rw [r2, r3_2]
  rfl

theorem r3_1 (i : S4096x2048.Idx) : (val_main_v3_1 (F := Ideal) x2 : S4096x2048.Idx → EReal) i
    = sigmoid (arg x2 (i 0) (i 1)) * (1 - sigmoid (arg x2 (i 0) (i 1))) := by
  unfold val_main_v3_1 val_main_call0_v7 val_main_call0_v6 val_main_call0_cst_1
  pointwise []
  rw [r3_2]

theorem r4 (i : S4096x2048.Idx) : (val_main_v4 (F := Ideal) x1 x2 : S4096x2048.Idx → EReal) i = feed x1 x2 (i 0) (i 1) := by
  unfold val_main_v4 val_main_v1
  pointwise []
  rw [r3_0]
  unfold feed
  rw [ix2_eta]

theorem r11 (i : S4096x1.Idx) : (val_main_v11 (F := Ideal) x1 x2 : S4096x1.Idx → EReal) i = RootMean.mean wide small (feed x1 x2 (i 0)) := by
  unfold val_main_v11 val_main_v10 val_main_v9 val_main_v8 val_main_v7 val_main_v6 val_main_v5 val_main_cst val_main_cst_0 val_main_cst_1
  pointwise []
  simp only [r4]
  rfl

theorem r12 (i : S4096x1.Idx) : (val_main_v12 (F := Ideal) x1 x2 : S4096x1.Idx → EReal) i = RootMean.scale wide small (feed x1 x2 (i 0)) := by
  unfold val_main_v12
  pointwise []
  rw [r11]
  rfl

/-- The weight's gradient. -/
theorem ref48 : (val_main_v48 (F := Ideal) x0 x1 x2 : S1x2048.Idx → EReal) = weight x0 x1 x2 := by
  funext i
  unfold val_main_v48 val_main_v28 val_main_v25 val_main_v24 val_main_v23 val_main_v22 val_main_v17 val_main_v16 val_main_cst_3 val_main_cst_4
  pointwise []
  simp only [r4, r12, Finset.univ_unique, Finset.sum_singleton]
  exact Finset.sum_congr rfl fun r _ => mul_comm (_ : EReal) _

/-- The gradient of the gated row, as the derivative writes it. -/
theorem ref42 (i : S4096x2048.Idx) : (val_main_v42 (F := Ideal) x0 x1 x2 x3 : S4096x2048.Idx → EReal) i
    = RootMean.derived wide small half (feed x1 x2 (i 0)) (fun k => x0 (ix2 (i 0) k) * x3 (ix1 k)) (i 1) := by
  have e : i = ix2 (i 0) (i 1) := (ix2_eta i).symm
  unfold val_main_v42 val_main_v41 val_main_v40 val_main_v39 val_main_v38 val_main_v37 val_main_v36 val_main_v35 val_main_v34 val_main_v33 val_main_v32 val_main_v31 val_main_v30 val_main_v29 val_main_v27 val_main_v26 val_main_v22 val_main_v18 val_main_v15 val_main_v14 val_main_v13 val_main_cst_5 val_main_cst_2 val_main_cst_6 val_main_cst_7
  pointwise []
  simp only [r4, r11, r12, Finset.univ_unique, Finset.sum_singleton]
  rw [e]
  rfl

end Ref

section Forms

variable (x0 x1 : S4096x2048.Idx → EReal) (x2 : S4096x14336.Idx → EReal) (x3 : S2048.Idx → EReal)
  (h0 : ∀ i, ((EReal.toReal (x0 i) : ℝ) : EReal) = x0 i) (h3 : ∀ i, ((EReal.toReal (x3 i) : ℝ) : EReal) = x3 i)

/-- The two forms agree. -/
theorem forms (i : S4096x2048.Idx) :
    RootMean.derived wide small half (feed x1 x2 (i 0)) (fun k => x0 (ix2 (i 0) k) * x3 (ix1 k)) (i 1) = grad x0 x1 x2 x3 i := by
  obtain ⟨e, he, hs⟩ := RootMean.small_real
  have hw : wide = ((2048 : ℝ) : EReal) := RootMean.bits_2048
  unfold grad
  rw [hw, hs, RootMean.half_real]
  exact RootMean.derived_eq_centred (by norm_num) he _ _ _

/-- The gradient vanishes on a row with an infinite entry. -/
theorem grad_top (i : S4096x2048.Idx) (k : Fin 2048) (h : feed x1 x2 (i 0) k = ⊤ ∨ feed x1 x2 (i 0) k = ⊥) : grad x0 x1 x2 x3 i = 0 := by
  obtain ⟨e, he, hs⟩ := RootMean.small_real
  have hw : wide = ((2048 : ℝ) : EReal) := RootMean.bits_2048
  unfold grad
  rw [hw, hs]
  exact RootMean.centred_top e (by norm_num) _ _ _ k h

include h0 h3 in
/-- The gradient is a real number. -/
theorem grad_real (i : S4096x2048.Idx) : ∃ q : ℝ, grad x0 x1 x2 x3 i = (q : EReal) := by
  by_cases h : ∃ k, feed x1 x2 (i 0) k = ⊤ ∨ feed x1 x2 (i 0) k = ⊥
  · obtain ⟨k, hk⟩ := h
    exact ⟨0, grad_top x0 x1 x2 x3 i k hk⟩
  · obtain ⟨e, he, hs⟩ := RootMean.small_real
    have hf : feed x1 x2 (i 0) = fun k => ((EReal.toReal (feed x1 x2 (i 0) k) : ℝ) : EReal) := funext fun k =>
      (EReal.coe_toReal (fun t => h ⟨k, .inl t⟩) (fun t => h ⟨k, .inr t⟩)).symm
    have b : (fun k : Fin 2048 => x0 (ix2 (i 0) k) * x3 (ix1 k)) = fun k => ((EReal.toReal (x0 (ix2 (i 0) k)) * EReal.toReal (x3 (ix1 k)) : ℝ) : EReal) :=
      funext fun k => by rw [EReal.coe_mul, h0, h3]
    have hw : wide = ((2048 : ℝ) : EReal) := RootMean.bits_2048
    unfold grad
    rw [hf, b, hw, hs]
    exact RootMean.centred_coe (by norm_num) he _ _ _

end Forms

section Results

variable (x0 x1 : (⟨S4096x2048, .bf16⟩ : BufTy).Contents (Elt Ideal)) (x2 : (⟨S4096x14336, .bf16⟩ : BufTy).Contents (Elt Ideal)) (x3 : (⟨S2048, .f32⟩ : BufTy).Contents (Elt Ideal))

/-- The gradient of the rows. -/
theorem ref47 : (val_main_v47 (F := Ideal) x0 x1 x2 x3 : S4096x2048.Idx → EReal) = rows x0 x1 x2 x3 := by
  funext i
  unfold val_main_v47 val_main_v44
  pointwise []
  rw [ref42, r3_0, forms x0 x1 x2 x3 i]
  rfl

/-- The gradient of the gates. -/
theorem ref46 (h0 : ∀ i : S4096x2048.Idx, ((EReal.toReal (x0 i) : ℝ) : EReal) = x0 i) (h3 : ∀ i : S2048.Idx, ((EReal.toReal (x3 i) : ℝ) : EReal) = x3 i) :
    (val_main_v46 (F := Ideal) x0 x1 x2 x3 : S4096x2048.Idx → EReal) = gates x0 x1 x2 x3 := by
  funext i
  obtain ⟨q, hq⟩ := grad_real x0 x1 x2 x3 h0 h3 i
  have h : x1 i * GatedNorm.Own.silu (arg x2 (i 0) (i 1)) = ⊤ ∨ x1 i * GatedNorm.Own.silu (arg x2 (i 0) (i 1)) = ⊥ → q = 0 := fun t =>
    EReal.coe_eq_zero.1 (hq.symm.trans (grad_top x0 x1 x2 x3 i (i 1) (by unfold feed; rw [ix2_eta]; exact t)))
  unfold val_main_v46 val_main_v45 val_main_call1_v2 val_main_call1_v1 val_main_call1_v0 val_main_v43 val_main_v1
  pointwise []
  rw [ref42, r3_2, r3_1, r2, forms]
  unfold gates
  rw [hq]
  exact GatedNorm.Own.slope_all q _ _ h

end Results

end Cert.GatedNormRefIdeal.Own

end
-- ==== Proof.GatedForward.lean ====
/-
The forward gated norm: the kernel's result and the reference's are one function of the inputs.
-/
module

public import proofs.«01_k».proof.Proof.Gen.GatedForwardIdeal.Value
public import proofs.«01_k».proof.Proof.Gen.GatedForwardRefIdeal.Read
public import Idealize.ShloMosaic.Lib.Pipeline.ValueKit
public import Idealize.ShloMosaic.Lib.Pipeline.ReadBack
public import Idealize.ShloMosaic.Lib.StableHlo.RunRead
public import proofs.«01_k».proof.Proof.GatedNorm

@[expose] public section

set_option maxRecDepth 16384

noncomputable section

namespace Cert.GatedForward.Own

open Idealize.ShloMosaic
open Cert.RootMean (small)
open Cert.GatedNorm.Own (wide feed Act Proj Vec1)

/-- The normed gated rows. -/
def normed (y : Act) (p : Proj) (w : Vec1) : Act := fun i =>
  feed y p (i 0) (i 1) * RootMean.scale wide small (feed y p (i 0)) * w (ix1 (i 1))

end Cert.GatedForward.Own

namespace Cert.GatedForwardIdeal.Own

open Cert.GatedForwardIdeal Cert.GatedForwardIdeal.Gen Idealize.ShloMosaic Idealize.ShloMosaic.TcCoe Idealize.SL.Sem
open Cert.GatedForward.Own (normed)
open Cert.GatedNorm.Own (wide sigmoid silu arg feed bits_zero)
open Cert.RootMean (small)

/-- What a point stores at an index of its block. -/
theorem pay (a b : S256x2048.Idx → EReal) (w : S1x2048.Idx → EReal) (y : S256x2048.Idx) : (k0_pay1 (F := Ideal) a b w : S256x2048.Idx → EReal) y
    = b y * silu (a y) * RootMean.scale wide small (fun k : Fin 2048 => b (ix2 (y 0) k) * silu (a (ix2 (y 0) k))) * w (ix2 0 (y 1)) := by
  unfold k0_pay1
  pointwise []
  unfold RootMean.scale RootMean.mean silu sigmoid
  simp only [bits_zero, zero_sub, mul_assoc]
  rfl

variable (m : (ℓ : Loc nD τ sig) → Buf (Elt Ideal) ℓ) (c : Dev nD)

/-- Where each window's block stands at a grid point. -/
theorem places : ∀ t : Fin cfg0.N,
    (cfg0.win 0).index t = ![t.val, 0] ∧ (cfg0.win 1).index t = ![t.val, 3] ∧ (cfg0.win 2).index t = ![0, 0] ∧ (cfg0.win 3).index t = ![t.val, 0] := by
  decide +kernel

/-- The host's row of weights is the argument. -/
theorem weights : (V m c main_v0 : S1x2048.Idx → EReal) = shapeCast S1x2048 (m ((c : Thread nD τ).loc main_arg2)) shapeCasts_S2048_S1x2048 := by
  unfold V
  simp only [hostOps0]
  after_reads_simp
  rfl

theorem weight_at (k : Fin 2048) : (V m c main_v0 : S1x2048.Idx → EReal) (ix2 0 k) = m ((c : Thread nD τ).loc main_arg2) (ix1 k) := by
  rw [weights]
  pointwise []

theorem at_point (t : Fin cfg0.N) (y : S256x2048.Idx) (i : S4096x2048.Idx) (h0 : (i 0).val = 256 * t.val + (y 0).val) (h1 : (i 1).val = (y 1).val) :
    (k0_pay1 (F := Ideal) (iblk m c 1 t) (iblk m c 0 t) (iblk m c 2 t) : S256x2048.Idx → EReal) y
      = normed (m ((c : Thread nD τ).loc main_arg0)) (m ((c : Thread nD τ).loc main_arg1)) (m ((c : Thread nD τ).loc main_arg2)) i := by
  obtain ⟨e0, e1, e2, -⟩ := places t
  refine (pay _ _ _ y).trans ?_
  unfold normed
  have h : y 1 = i 1 := Fin.ext h1.symm
  have q0 : ∀ k : Fin 2048, (iblk m c 0 t : S256x2048.Idx → EReal) (ix2 (y 0) k) = m ((c : Thread nD τ).loc main_arg0) (ix2 (i 0) k) := by
    intro k
    rw [show i 0 = ⟨256 * t.val + (y 0).val, h0 ▸ (i 0).isLt⟩ from Fin.ext h0]
    blk_ext [iblk, V, e0]
  have q1 : ∀ k : Fin 2048, (iblk m c 1 t : S256x2048.Idx → EReal) (ix2 (y 0) k) = arg (m ((c : Thread nD τ).loc main_arg1)) (i 0) k := by
    intro k
    unfold arg
    rw [show i 0 = ⟨256 * t.val + (y 0).val, h0 ▸ (i 0).isLt⟩ from Fin.ext h0]
    blk_ext [iblk, V, e1]
  have q2 : ∀ k : Fin 2048, (iblk m c 2 t : S1x2048.Idx → EReal) (ix2 0 k) = m ((c : Thread nD τ).loc main_arg2) (ix1 k) := by
    intro k
    refine Eq.trans ?_ (weight_at m c k)
    blk_ext [iblk, e2]
  have z0 : (iblk m c 0 t : S256x2048.Idx → EReal) y = m ((c : Thread nD τ).loc main_arg0) (ix2 (i 0) (y 1)) :=
    (congrArg (iblk m c 0 t : S256x2048.Idx → EReal) (ix2_eta y).symm).trans (q0 (y 1))
  have z1 : (iblk m c 1 t : S256x2048.Idx → EReal) y = arg (m ((c : Thread nD τ).loc main_arg1)) (i 0) (y 1) :=
    (congrArg (iblk m c 1 t : S256x2048.Idx → EReal) (ix2_eta y).symm).trans (q1 (y 1))
  rw [← h]
  refine congr (congrArg HMul.hMul (congr (congrArg HMul.hMul (congr (congrArg HMul.hMul z0) (congrArg silu z1))) ?_)) (q2 _)
  congr 1
  exact funext fun k => congr (congrArg HMul.hMul (q0 k)) (congrArg silu (q1 k))

/-- The result array. -/
theorem out : ((dats m 0 c).arrAt 3 cfg0.N : S4096x2048.Idx → EReal)
    = normed (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨-, -, -, e⟩ := places t
  blk_simp
  rw [after0_3]
  unfold out0_3
  frame_out
  refine at_point m c t y _ ?_ ?_
  · blk_simp [e]
    exact congrArg (· + _) (Nat.mul_comm _ _)
  · blk_simp [e]

end Cert.GatedForwardIdeal.Own

namespace Cert.GatedForwardRefIdeal.Own

open Cert.GatedForwardRefIdeal Cert.GatedForwardRefIdeal.Gen Cert.GatedForwardRefIdeal.Read Idealize.ShloMosaic Idealize.ShloMosaic.TcCoe Idealize.SL.Sem
open Cert.GatedForward.Own (normed)
open Cert.GatedNorm.Own (wide sigmoid silu arg feed)
open Cert.RootMean (small)

variable (x0 : (⟨S4096x2048, .bf16⟩ : BufTy).Contents (Elt Ideal)) (x1 : (⟨S4096x14336, .bf16⟩ : BufTy).Contents (Elt Ideal)) (x2 : (⟨S2048, .f32⟩ : BufTy).Contents (Elt Ideal))

theorem r2 (i : S4096x2048.Idx) : (val_main_v2 (F := Ideal) x1 : S4096x2048.Idx → EReal) i = arg x1 (i 0) (i 1) := by
  unfold val_main_v2 val_main_v0
  pointwise []
  unfold arg
  rfl

theorem r3 (i : S4096x2048.Idx) : (val_main_v3 (F := Ideal) x1 : S4096x2048.Idx → EReal) i = silu (arg x1 (i 0) (i 1)) := by
  unfold val_main_v3 val_main_call0_v5 val_main_call0_v4 val_main_call0_v3 val_main_call0_v2 val_main_call0_v1 val_main_call0_v0 val_main_call0_cst_0 val_main_call0_cst
  pointwise []
  rw [r2]
  rfl

theorem r4 (i : S4096x2048.Idx) : (val_main_v4 (F := Ideal) x0 x1 : S4096x2048.Idx → EReal) i = feed x0 x1 (i 0) (i 1) := by
  unfold val_main_v4 val_main_v1
  pointwise []
  rw [r3]
  unfold feed
  rw [ix2_eta]

/-- The reference's result. -/
theorem ref (i : S4096x2048.Idx) : (val_main_v18 (F := Ideal) x0 x1 x2 : S4096x2048.Idx → EReal) i = normed x0 x1 x2 i := by
  unfold val_main_v18 val_main_v17 val_main_v16 val_main_v15 val_main_v14 val_main_v13 val_main_v12 val_main_v11 val_main_v10 val_main_v9 val_main_v8 val_main_v7 val_main_v6 val_main_v5 val_main_cst val_main_cst_0 val_main_cst_1
  pointwise []
  simp only [r4]
  rfl

end Cert.GatedForwardRefIdeal.Own

end
-- ==== Proof.NormForward.lean ====
/-
The forward norm of the rows: the kernel's result and the reference's are one function of the inputs.
-/
module

public import proofs.«01_k».proof.Proof.Gen.NormForwardIdeal.Value
public import proofs.«01_k».proof.Proof.Gen.NormForwardRefIdeal.Read
public import Idealize.ShloMosaic.Lib.Pipeline.ValueKit
public import Idealize.ShloMosaic.Lib.Pipeline.ReadBack
public import Idealize.ShloMosaic.Lib.StableHlo.RunRead
public import proofs.«01_k».proof.Proof.RootMean

@[expose] public section

set_option maxRecDepth 16384

noncomputable section

namespace Cert.NormForward.Own

open Idealize.ShloMosaic
open Cert.RootMean (small)

/-- The row's length, as the programs hold it. -/
def wide : EReal := Ideal.ofBits FTy.f32 0x44800000#32

/-- The normed rows. -/
def normed (x : (⟨2, ![4096, 1024]⟩ : Shape).Idx → EReal) (w : (⟨1, ![1024]⟩ : Shape).Idx → EReal) : (⟨2, ![4096, 1024]⟩ : Shape).Idx → EReal := fun i =>
  x i * RootMean.scale wide small (fun k : Fin 1024 => x (ix2 (i 0) k)) * w (ix1 (i 1))

end Cert.NormForward.Own

namespace Cert.NormForwardIdeal.Own

open Cert.NormForwardIdeal Cert.NormForwardIdeal.Gen Idealize.ShloMosaic Idealize.ShloMosaic.TcCoe Idealize.SL.Sem
open Cert.NormForward.Own (wide normed)
open Cert.RootMean (small)

/-- What a point stores at an index of its block. -/
theorem pay (a : S512x1024.Idx → EReal) (w : S1x1024.Idx → EReal) (y : S512x1024.Idx) : (k0_pay1 (F := Ideal) a w : S512x1024.Idx → EReal) y
    = a y * RootMean.scale wide small (fun k : Fin 1024 => a (ix2 (y 0) k)) * w (ix2 0 (y 1)) := by
  unfold k0_pay1
  pointwise []
  rfl

variable (m : (ℓ : Loc nD τ sig) → Buf (Elt Ideal) ℓ) (c : Dev nD)

/-- Where each window's block stands at a grid point. -/
theorem places : ∀ t : Fin cfg0.N,
    (cfg0.win 0).index t = ![t.val, 0] ∧ (cfg0.win 1).index t = ![0, 0] ∧ (cfg0.win 2).index t = ![t.val, 0] := by
  decide +kernel

/-- The host's row of weights is the argument. -/
theorem weights : (V m c main_v0 : S1x1024.Idx → EReal) = shapeCast S1x1024 (m ((c : Thread nD τ).loc main_arg1)) shapeCasts_S1024_S1x1024 := by
  unfold V
  simp only [hostOps0]
  after_reads_simp
  rfl

theorem weight_at (k : Fin 1024) : (V m c main_v0 : S1x1024.Idx → EReal) (ix2 0 k) = m ((c : Thread nD τ).loc main_arg1) (ix1 k) := by
  rw [weights]
  pointwise []

theorem at_point (t : Fin cfg0.N) (y : S512x1024.Idx) (i : S4096x1024.Idx) (h0 : (i 0).val = 512 * t.val + (y 0).val) (h1 : (i 1).val = (y 1).val) :
    (k0_pay1 (F := Ideal) (iblk m c 0 t) (iblk m c 1 t) : S512x1024.Idx → EReal) y
      = normed (m ((c : Thread nD τ).loc main_arg0)) (m ((c : Thread nD τ).loc main_arg1)) i := by
  obtain ⟨e0, e1, -⟩ := places t
  refine (pay _ _ y).trans ?_
  unfold normed
  have h : y 1 = i 1 := Fin.ext h1.symm
  have q0 : ∀ k : Fin 1024, (iblk m c 0 t : S512x1024.Idx → EReal) (ix2 (y 0) k) = m ((c : Thread nD τ).loc main_arg0) (ix2 (i 0) k) := by
    intro k
    rw [show i 0 = ⟨512 * t.val + (y 0).val, h0 ▸ (i 0).isLt⟩ from Fin.ext h0]
    blk_ext [iblk, V, e0]
  have q1 : ∀ k : Fin 1024, (iblk m c 1 t : S1x1024.Idx → EReal) (ix2 0 k) = m ((c : Thread nD τ).loc main_arg1) (ix1 k) := by
    intro k
    refine Eq.trans ?_ (weight_at m c k)
    blk_ext [iblk, e1]
  have q : (iblk m c 0 t : S512x1024.Idx → EReal) y = m ((c : Thread nD τ).loc main_arg0) i := by
    rw [← ix2_eta i, ← h, ← q0 (y 1), ix2_eta]
  rw [← h]
  refine congr (congrArg HMul.hMul (congr (congrArg HMul.hMul q) ?_)) (q1 _)
  congr 1
  exact funext q0

/-- The result array. -/
theorem out : ((dats m 0 c).arrAt 2 cfg0.N : S4096x1024.Idx → EReal) = normed (m ((c : Thread nD τ).loc main_arg0)) (m ((c : Thread nD τ).loc main_arg1)) := by
  refine (dats m 0 c).arrAt_eq_of_covers 2 _ (by decide +kernel) fun t hf y => ?_
  obtain ⟨-, -, e⟩ := places t
  blk_simp
  rw [after0_2]
  unfold out0_2
  frame_out
  refine at_point m c t y _ ?_ ?_
  · blk_simp [e]
    exact congrArg (· + _) (Nat.mul_comm _ _)
  · blk_simp [e]

end Cert.NormForwardIdeal.Own

namespace Cert.NormForwardRefIdeal.Own

open Cert.NormForwardRefIdeal Cert.NormForwardRefIdeal.Gen Cert.NormForwardRefIdeal.Read Idealize.ShloMosaic Idealize.ShloMosaic.TcCoe Idealize.SL.Sem
open Cert.NormForward.Own (wide normed)
open Cert.RootMean (small)

/-- The reference's result. -/
theorem ref (x0 : (⟨S4096x1024, .f32⟩ : BufTy).Contents (Elt Ideal)) (x1 : (⟨S1024, .f32⟩ : BufTy).Contents (Elt Ideal)) (i : S4096x1024.Idx) :
    (val_main_v13 (F := Ideal) x0 x1 : S4096x1024.Idx → EReal) i = normed x0 x1 i := by
  unfold val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise []
  rfl

end Cert.NormForwardRefIdeal.Own

end
-- ==== Proof.FiniteRows.lean ====
/-
What the precondition of the gated norm's gradient says of the cotangent and the weight: every entry is a real number.
-/
module

public import proofs.«01_k».proof.Proof.Gen.Pre_finite_gnorm
public import proofs.«01_k».proof.Proof.Finite
public import Idealize.ShloMosaic.Lib.Pipeline.ValueKit

@[expose] public section

noncomputable section

namespace Cert.Pre_finite_gnorm.Own

open Cert.Pre_finite_gnorm Cert.Pre_finite_gnorm.Gen Idealize.ShloMosaic
open Cert.Pre_finite.Own (real_of_flag bits_inf)

theorem reals (x0 x1 : FVec Ideal S4096x2048 .bf16) (x2 : FVec Ideal S4096x14336 .bf16) (x3 : FVec Ideal S2048 .f32) (h : fn x0 x1 x2 x3 = fun _ => 1#1) :
    (∀ i : S4096x2048.Idx, ((EReal.toReal (x0 i) : ℝ) : EReal) = x0 i) ∧ ∀ i : S2048.Idx, ((EReal.toReal (x3 i) : ℝ) : EReal) = x3 i := by
  have e := congrFun h (fun a => a.elim0)
  dsimp only [fn] at e
  obtain ⟨e0, e1⟩ := IntOp.andi_eq_one.1 e
  refine ⟨fun i => real_of_flag _ ?_, fun i => real_of_flag _ ?_⟩
  · have := Host.reduce_andi_all _ _ _ _ _ e0 i
    rw [← bits_inf]; exact this
  · have := Host.reduce_andi_all _ _ _ _ _ e1 i
    rw [← bits_inf]; exact this

end Cert.Pre_finite_gnorm.Own

end
-- ==== Proof.lean ====
/- The claims of `proofs.«01_k».proof.Defs`: the frames of the kernels and of the references, and the kernels' results
   equal to the references' over the extended reals; of the attention's gradient where
   the inputs are finite, and of the gated norm's where the cotangent and the weight are. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.InWeight.Frame
public import proofs.«01_k».proof.Proof.Gen.InWeightIdeal.Frame
public import proofs.«01_k».proof.Proof.Gen.InWeightIdeal.Value
public import proofs.«01_k».proof.Proof.Gen.InWeightRefIdeal.Run
public import proofs.«01_k».proof.Proof.Gen.InWeightRefIdeal.Read
public import proofs.«01_k».proof.Proof.Gen.InInput.Frame
public import proofs.«01_k».proof.Proof.Gen.InInputIdeal.Frame
public import proofs.«01_k».proof.Proof.Gen.InInputIdeal.Value
public import proofs.«01_k».proof.Proof.Gen.InInputRefIdeal.Run
public import proofs.«01_k».proof.Proof.Gen.InInputRefIdeal.Read
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.Pre_finite
public import proofs.«01_k».proof.Proof.Output
public import proofs.«01_k».proof.Proof.RefGrad
public import proofs.«01_k».proof.Proof.Finite
public import Idealize.ShloMosaic.Lib.Quiescent
public import Idealize.ShloMosaic.Adequacy
public import Idealize.ShloMosaic.Init
public import proofs.«01_k».proof.Proof.Gen.OutInput.Frame
public import proofs.«01_k».proof.Proof.Gen.OutInputIdeal.Frame
public import proofs.«01_k».proof.Proof.Gen.OutInputIdeal.Value
public import proofs.«01_k».proof.Proof.Gen.OutInputRefIdeal.Run
public import proofs.«01_k».proof.Proof.Gen.OutInputRefIdeal.Read
public import proofs.«01_k».proof.Proof.Gen.OutWeight.Frame
public import proofs.«01_k».proof.Proof.Gen.OutWeightIdeal.Frame
public import proofs.«01_k».proof.Proof.Gen.OutWeightIdeal.Value
public import proofs.«01_k».proof.Proof.Gen.OutWeightRefIdeal.Run
public import proofs.«01_k».proof.Proof.Gen.OutWeightRefIdeal.Read
public import proofs.«01_k».proof.Proof.Gen.SsmInput.Frame
public import proofs.«01_k».proof.Proof.Gen.SsmInputIdeal.Frame
public import proofs.«01_k».proof.Proof.Gen.SsmInputIdeal.Value
public import proofs.«01_k».proof.Proof.Gen.SsmInputRefIdeal.Run
public import proofs.«01_k».proof.Proof.Gen.SsmInputRefIdeal.Read
public import proofs.«01_k».proof.Proof.Gen.SsmWeight.Frame
public import proofs.«01_k».proof.Proof.Gen.SsmWeightIdeal.Frame
public import proofs.«01_k».proof.Proof.Gen.SsmWeightIdeal.Value
public import proofs.«01_k».proof.Proof.Gen.SsmWeightRefIdeal.Run
public import proofs.«01_k».proof.Proof.Gen.SsmWeightRefIdeal.Read
public import proofs.«01_k».proof.Proof.Gen.InProduct.Frame
public import proofs.«01_k».proof.Proof.Gen.InProductIdeal.Frame
public import proofs.«01_k».proof.Proof.Gen.InProductIdeal.Value
public import proofs.«01_k».proof.Proof.Gen.InProductRefIdeal.Run
public import proofs.«01_k».proof.Proof.Gen.InProductRefIdeal.Read
public import proofs.«01_k».proof.Proof.Gen.SsmProduct.Frame
public import proofs.«01_k».proof.Proof.Gen.SsmProductIdeal.Frame
public import proofs.«01_k».proof.Proof.Gen.SsmProductIdeal.Value
public import proofs.«01_k».proof.Proof.Gen.SsmProductRefIdeal.Run
public import proofs.«01_k».proof.Proof.Gen.SsmProductRefIdeal.Read
public import proofs.«01_k».proof.Proof.Gen.BranchProduct.Frame
public import proofs.«01_k».proof.Proof.Gen.BranchProductIdeal.Frame
public import proofs.«01_k».proof.Proof.Gen.BranchProductIdeal.Value
public import proofs.«01_k».proof.Proof.Gen.BranchProductRefIdeal.Run
public import proofs.«01_k».proof.Proof.Gen.BranchProductRefIdeal.Read
public import proofs.«01_k».proof.Proof.Gen.OutProduct.Frame
public import proofs.«01_k».proof.Proof.Gen.OutProductIdeal.Frame
public import proofs.«01_k».proof.Proof.Gen.OutProductIdeal.Value
public import proofs.«01_k».proof.Proof.Gen.OutProductRefIdeal.Run
public import proofs.«01_k».proof.Proof.Gen.OutProductRefIdeal.Read
public import proofs.«01_k».proof.Proof.Gen.Norm.Frame
public import proofs.«01_k».proof.Proof.Gen.NormIdeal.Frame
public import proofs.«01_k».proof.Proof.Gen.NormIdeal.Value
public import proofs.«01_k».proof.Proof.Gen.NormRefIdeal.Run
public import proofs.«01_k».proof.Proof.Gen.NormRefIdeal.Read
public import proofs.«01_k».proof.Proof.Gen.GatedNorm.Frame
public import proofs.«01_k».proof.Proof.Gen.GatedNormIdeal.Frame
public import proofs.«01_k».proof.Proof.Gen.GatedNormIdeal.Value
public import proofs.«01_k».proof.Proof.Gen.GatedNormRefIdeal.Run
public import proofs.«01_k».proof.Proof.Gen.GatedNormRefIdeal.Read
public import proofs.«01_k».proof.Proof.Gen.NormForward.Frame
public import proofs.«01_k».proof.Proof.Gen.NormForwardIdeal.Frame
public import proofs.«01_k».proof.Proof.Gen.NormForwardIdeal.Value
public import proofs.«01_k».proof.Proof.Gen.NormForwardRefIdeal.Run
public import proofs.«01_k».proof.Proof.Gen.NormForwardRefIdeal.Read
public import proofs.«01_k».proof.Proof.Gen.GatedForward.Frame
public import proofs.«01_k».proof.Proof.Gen.GatedForwardIdeal.Frame
public import proofs.«01_k».proof.Proof.Gen.GatedForwardIdeal.Value
public import proofs.«01_k».proof.Proof.Gen.GatedForwardRefIdeal.Run
public import proofs.«01_k».proof.Proof.Gen.GatedForwardRefIdeal.Read
public import proofs.«01_k».proof.Proof.Gen.Pre_finite_gnorm
public import proofs.«01_k».proof.Proof.InWeight
public import proofs.«01_k».proof.Proof.InInput
public import proofs.«01_k».proof.Proof.Merge
public import proofs.«01_k».proof.Proof.OutInput
public import proofs.«01_k».proof.Proof.OutWeight
public import proofs.«01_k».proof.Proof.SsmInput
public import proofs.«01_k».proof.Proof.SsmWeight
public import proofs.«01_k».proof.Proof.InProduct
public import proofs.«01_k».proof.Proof.SsmProduct
public import proofs.«01_k».proof.Proof.BranchProduct
public import proofs.«01_k».proof.Proof.OutProduct
public import proofs.«01_k».proof.Proof.Norm
public import proofs.«01_k».proof.Proof.GatedNorm
public import proofs.«01_k».proof.Proof.GatedForward
public import proofs.«01_k».proof.Proof.NormForward
public import proofs.«01_k».proof.Proof.FiniteRows

@[expose] public section

noncomputable section

namespace Cert.Proof

open Idealize.ShloMosaic Idealize.SL.Sem Cert.Kernel

/-- The reference's frame; it declares no semaphore. -/
theorem frame_reference : Cert.quiescent_ReferenceIdeal := fun m ρ _ =>
  (θ_run Cert.ReferenceIdeal.defs _ _).mono (fun r h => ⟨fun c => ⟨(h c).2.2.2.2.1, (h c).2.2.2.2.2⟩,
    sem_eq_zero_of_no_sems (by decide) r.2⟩) (Cert.ReferenceIdeal.Value.run m ρ)

/-- The kernel's gradients are the reference's. -/
theorem algebraic_holds : Cert.algebraic_KernelIdeal_ReferenceIdeal_pre_finite := by
  intro m g m' g' hpre hagree
  have hr := fun c => Cert.Pre_finite.Own.reals _ _ (hpre c)
  have t0 := fun c => Cert.Pre_finite.Own.table_eq _ (hr c).1
  have t1 := fun c => Cert.Pre_finite.Own.table_eq _ (hr c).2
  refine ⟨_, _, _, _, Cert.KernelIdeal.Value.run_blocks m g, ?_⟩
  refine (θ_run Cert.ReferenceIdeal.defs _ _).mono (fun r h c => ?_) (Cert.ReferenceIdeal.Value.run m' g')
  obtain ⟨e72, e69, e66, e63, a0, a1⟩ := h c
  obtain ⟨g0, g1⟩ := hagree c
  have s0 : ∀ i : Cert.ReferenceIdeal.S4096x1024.Idx, ((m' ((c.tc : Thread Cert.ReferenceIdeal.nD Cert.ReferenceIdeal.τ).loc Cert.ReferenceIdeal.main_arg0) : Cert.ReferenceIdeal.S4096x1024.Idx → EReal) i) = _ := fun i => (congrFun g0 i).trans (t0 c i)
  have s1 : ∀ i : Cert.ReferenceIdeal.S4096x14336.Idx, ((m' ((c.tc : Thread Cert.ReferenceIdeal.nD Cert.ReferenceIdeal.τ).loc Cert.ReferenceIdeal.main_arg1) : Cert.ReferenceIdeal.S4096x14336.Idx → EReal) i) = _ := fun i => (congrFun g1 i).trans (t1 c i)
  refine ⟨?_, ?_, ?_, ?_, a0, a1⟩
  · rw [e72]
    refine (Cert.ReferenceIdeal.Read.val_main_v72_eq _).trans ?_
    refine Eq.trans ?_ (Cert.KernelIdeal.Own.out_query _ _ m c (t0 c) (t1 c)).symm
    exact funext fun i => Cert.ReferenceIdeal.Own.r_dq _ _ _ _ s0 s1 i
  · rw [e69]
    refine (Cert.ReferenceIdeal.Read.val_main_v69_eq _).trans ?_
    refine Eq.trans ?_ (Cert.KernelIdeal.Own.out_keys _ _ m c (t0 c) (t1 c)).symm
    exact funext fun i => Cert.ReferenceIdeal.Own.r_dk _ _ _ _ s0 s1 i
  · rw [e66]
    refine (Cert.ReferenceIdeal.Read.val_main_v66_eq _).trans ?_
    refine Eq.trans ?_ (Cert.KernelIdeal.Own.out_vals _ _ m c (t0 c) (t1 c)).symm
    exact funext fun i => Cert.ReferenceIdeal.Own.r_dv _ _ _ _ s0 s1 i
  · rw [e63]
    refine (Cert.ReferenceIdeal.Read.val_main_v63_eq _).trans ?_
    refine Eq.trans ?_ (Cert.KernelIdeal.Own.out_gate _ _ m c (t0 c) (t1 c)).symm
    exact funext fun i => Cert.ReferenceIdeal.Own.r_dg _ _ _ _ s0 s1 i

/-- The frame of `InWeightRefIdeal`; it declares no semaphore. -/
theorem frame_InWeight : Cert.quiescent_InWeightRefIdeal := fun m ρ _ =>
  (θ_run Cert.InWeightRefIdeal.defs _ _).mono (fun r h => ⟨fun c => ⟨(h c).2.1, (h c).2.2⟩,
    sem_eq_zero_of_no_sems (by decide) r.2⟩) (Cert.InWeightRefIdeal.Value.run m ρ)

/-- The kernel's product for the gradient of the input projection's weight is the reference's. -/
theorem holds_InWeight : Cert.algebraic_InWeightIdeal_InWeightRefIdeal := by
  intro m g m' g' _ hagree
  refine ⟨_, Cert.InWeightIdeal.Value.run_blocks m g, ?_⟩
  refine (θ_run Cert.InWeightRefIdeal.defs _ _).mono (fun r h c => ?_) (Cert.InWeightRefIdeal.Value.run m' g')
  obtain ⟨e, a0, a1⟩ := h c
  obtain ⟨g0, g1⟩ := hagree c
  refine ⟨?_, a0, a1⟩
  rw [e]
  refine (Cert.InWeightRefIdeal.Read.val_main_v8_eq _ _).trans ?_
  rw [g0, g1]
  exact (funext fun i => Cert.InWeightRefIdeal.Own.ref _ _ i).trans (Cert.InWeightIdeal.Own.out m c).symm

/-- The frame of `InInputRefIdeal`; it declares no semaphore. -/
theorem frame_InInput : Cert.quiescent_InInputRefIdeal := fun m ρ _ =>
  (θ_run Cert.InInputRefIdeal.defs _ _).mono (fun r h => ⟨fun c => ⟨(h c).2.1, (h c).2.2⟩,
    sem_eq_zero_of_no_sems (by decide) r.2⟩) (Cert.InInputRefIdeal.Value.run m ρ)

/-- The kernel's product for the gradient of the normed input is the reference's. -/
theorem holds_InInput : Cert.algebraic_InInputIdeal_InInputRefIdeal := by
  intro m g m' g' _ hagree
  refine ⟨_, Cert.InInputIdeal.Value.run_blocks m g, ?_⟩
  refine (θ_run Cert.InInputRefIdeal.defs _ _).mono (fun r h c => ?_) (Cert.InInputRefIdeal.Value.run m' g')
  obtain ⟨e, a0, a1⟩ := h c
  obtain ⟨g0, g1⟩ := hagree c
  refine ⟨?_, a0, a1⟩
  rw [e]
  refine (Cert.InInputRefIdeal.Read.val_main_v5_eq _ _).trans ?_
  rw [g0, g1]
  exact (funext fun i => Cert.InInputRefIdeal.Own.ref _ _ i).trans (Cert.InInputIdeal.Own.out m c).symm

/-- The frame of `MergeRefIdeal`; it declares no semaphore. -/
theorem frame_Merge : Cert.quiescent_MergeRefIdeal := fun m ρ _ =>
  (θ_run Cert.MergeRefIdeal.defs _ _).mono (fun r h => ⟨fun c => ⟨(h c).2.2.2.2.1, (h c).2.2.2.2.2.1, (h c).2.2.2.2.2.2.1, (h c).2.2.2.2.2.2.2.1, (h c).2.2.2.2.2.2.2.2⟩,
    sem_eq_zero_of_no_sems (by decide) r.2⟩) (Cert.MergeRefIdeal.Value.run m ρ)

/-- The kernel's gradient of the merge is the reference's. -/
theorem holds_Merge : Cert.algebraic_MergeIdeal_MergeRefIdeal := by
  intro m g m' g' _ hagree
  refine ⟨_, _, _, _, Cert.MergeIdeal.Value.run_blocks m g, ?_⟩
  refine (θ_run Cert.MergeRefIdeal.defs _ _).mono (fun r h c => ?_) (Cert.MergeRefIdeal.Value.run m' g')
  obtain ⟨e0, e1, e2, e3, a⟩ := h c
  obtain ⟨g0, g1, g2, g3, g4⟩ := hagree c
  refine ⟨?_, ?_, ?_, ?_, a⟩
  · rw [e0]
    refine (Cert.MergeRefIdeal.Read.val_main_v52_eq _ _).trans ?_
    rw [g0, g1]
    exact (Cert.MergeRefIdeal.Own.ref52 _ _).trans (Cert.MergeIdeal.Own.out5 m c).symm
  · rw [e1]
    refine (Cert.MergeRefIdeal.Read.val_main_v50_eq _ _).trans ?_
    rw [g0, g1]
    exact (Cert.MergeRefIdeal.Own.ref50 _ _).trans (Cert.MergeIdeal.Own.out6 m c).symm
  · rw [e2]
    refine (Cert.MergeRefIdeal.Read.val_main_v48_eq _ _).trans ?_
    rw [g0, g1]
    exact (Cert.MergeRefIdeal.Own.ref48 _ _).trans (Cert.MergeIdeal.Own.out7 m c).symm
  · rw [e3]
    refine (Cert.MergeRefIdeal.Read.val_main_v55_eq _ _ _ _ _).trans ?_
    rw [g0, g1, g2, g3, g4]
    exact (Cert.MergeRefIdeal.Own.ref55 _ _ _ _ _).trans (Cert.MergeIdeal.Own.out8 m c).symm

/-- The frame of `OutInputRefIdeal`; it declares no semaphore. -/
theorem frame_OutInput : Cert.quiescent_OutInputRefIdeal := fun m ρ _ =>
  (θ_run Cert.OutInputRefIdeal.defs _ _).mono (fun r h => ⟨fun c => ⟨(h c).2.1, (h c).2.2⟩,
    sem_eq_zero_of_no_sems (by decide) r.2⟩) (Cert.OutInputRefIdeal.Value.run m ρ)

/-- The kernel's product for the gradient of a square projection's input is the reference's. -/
theorem holds_OutInput : Cert.algebraic_OutInputIdeal_OutInputRefIdeal := by
  intro m g m' g' _ hagree
  refine ⟨_, Cert.OutInputIdeal.Value.run_blocks m g, ?_⟩
  refine (θ_run Cert.OutInputRefIdeal.defs _ _).mono (fun r h c => ?_) (Cert.OutInputRefIdeal.Value.run m' g')
  obtain ⟨e, a0, a1⟩ := h c
  obtain ⟨g0, g1⟩ := hagree c
  refine ⟨?_, a0, a1⟩
  rw [e]
  refine (Cert.OutInputRefIdeal.Read.val_main_v5_eq _ _).trans ?_
  rw [g0, g1]
  exact (funext fun i => Cert.OutInputRefIdeal.Own.ref _ _ i).trans (Cert.OutInputIdeal.Own.out m c).symm

/-- The frame of `OutWeightRefIdeal`; it declares no semaphore. -/
theorem frame_OutWeight : Cert.quiescent_OutWeightRefIdeal := fun m ρ _ =>
  (θ_run Cert.OutWeightRefIdeal.defs _ _).mono (fun r h => ⟨fun c => ⟨(h c).2.1, (h c).2.2⟩,
    sem_eq_zero_of_no_sems (by decide) r.2⟩) (Cert.OutWeightRefIdeal.Value.run m ρ)

/-- The kernel's product for the gradient of a square projection's weight is the reference's. -/
theorem holds_OutWeight : Cert.algebraic_OutWeightIdeal_OutWeightRefIdeal := by
  intro m g m' g' _ hagree
  refine ⟨_, Cert.OutWeightIdeal.Value.run_blocks m g, ?_⟩
  refine (θ_run Cert.OutWeightRefIdeal.defs _ _).mono (fun r h c => ?_) (Cert.OutWeightRefIdeal.Value.run m' g')
  obtain ⟨e, a0, a1⟩ := h c
  obtain ⟨g0, g1⟩ := hagree c
  refine ⟨?_, a0, a1⟩
  rw [e]
  refine (Cert.OutWeightRefIdeal.Read.val_main_v6_eq _ _).trans ?_
  rw [g0, g1]
  exact (funext fun i => Cert.OutWeightRefIdeal.Own.ref _ _ i).trans (Cert.OutWeightIdeal.Own.out m c).symm

/-- The frame of `SsmInputRefIdeal`; it declares no semaphore. -/
theorem frame_SsmInput : Cert.quiescent_SsmInputRefIdeal := fun m ρ _ =>
  (θ_run Cert.SsmInputRefIdeal.defs _ _).mono (fun r h => ⟨fun c => ⟨(h c).2.1, (h c).2.2⟩,
    sem_eq_zero_of_no_sems (by decide) r.2⟩) (Cert.SsmInputRefIdeal.Value.run m ρ)

/-- The kernel's product for the gradient of the recurrence branch's output is the reference's. -/
theorem holds_SsmInput : Cert.algebraic_SsmInputIdeal_SsmInputRefIdeal := by
  intro m g m' g' _ hagree
  refine ⟨_, Cert.SsmInputIdeal.Value.run_blocks m g, ?_⟩
  refine (θ_run Cert.SsmInputRefIdeal.defs _ _).mono (fun r h c => ?_) (Cert.SsmInputRefIdeal.Value.run m' g')
  obtain ⟨e, a0, a1⟩ := h c
  obtain ⟨g0, g1⟩ := hagree c
  refine ⟨?_, a0, a1⟩
  rw [e]
  refine (Cert.SsmInputRefIdeal.Read.val_main_v5_eq _ _).trans ?_
  rw [g0, g1]
  exact (funext fun i => Cert.SsmInputRefIdeal.Own.ref _ _ i).trans (Cert.SsmInputIdeal.Own.out m c).symm

/-- The frame of `SsmWeightRefIdeal`; it declares no semaphore. -/
theorem frame_SsmWeight : Cert.quiescent_SsmWeightRefIdeal := fun m ρ _ =>
  (θ_run Cert.SsmWeightRefIdeal.defs _ _).mono (fun r h => ⟨fun c => ⟨(h c).2.1, (h c).2.2⟩,
    sem_eq_zero_of_no_sems (by decide) r.2⟩) (Cert.SsmWeightRefIdeal.Value.run m ρ)

/-- The kernel's product for the gradient of the recurrence branch's projection is the reference's. -/
theorem holds_SsmWeight : Cert.algebraic_SsmWeightIdeal_SsmWeightRefIdeal := by
  intro m g m' g' _ hagree
  refine ⟨_, Cert.SsmWeightIdeal.Value.run_blocks m g, ?_⟩
  refine (θ_run Cert.SsmWeightRefIdeal.defs _ _).mono (fun r h c => ?_) (Cert.SsmWeightRefIdeal.Value.run m' g')
  obtain ⟨e, a0, a1⟩ := h c
  obtain ⟨g0, g1⟩ := hagree c
  refine ⟨?_, a0, a1⟩
  rw [e]
  refine (Cert.SsmWeightRefIdeal.Read.val_main_v6_eq _ _).trans ?_
  rw [g0, g1]
  exact (funext fun i => Cert.SsmWeightRefIdeal.Own.ref _ _ i).trans (Cert.SsmWeightIdeal.Own.out m c).symm

/-- The frame of `InProductRefIdeal`; it declares no semaphore. -/
theorem frame_InProduct : Cert.quiescent_InProductRefIdeal := fun m ρ _ =>
  (θ_run Cert.InProductRefIdeal.defs _ _).mono (fun r h => ⟨fun c => ⟨(h c).2.1, (h c).2.2⟩,
    sem_eq_zero_of_no_sems (by decide) r.2⟩) (Cert.InProductRefIdeal.Value.run m ρ)

/-- The kernel's product for the input projection is the reference's. -/
theorem holds_InProduct : Cert.algebraic_InProductIdeal_InProductRefIdeal := by
  intro m g m' g' _ hagree
  refine ⟨_, Cert.InProductIdeal.Value.run_blocks m g, ?_⟩
  refine (θ_run Cert.InProductRefIdeal.defs _ _).mono (fun r h c => ?_) (Cert.InProductRefIdeal.Value.run m' g')
  obtain ⟨e, a0, a1⟩ := h c
  obtain ⟨g0, g1⟩ := hagree c
  refine ⟨?_, a0, a1⟩
  rw [e]
  refine (Cert.InProductRefIdeal.Read.val_main_v4_eq _ _).trans ?_
  rw [g0, g1]
  exact (funext fun i => Cert.InProductRefIdeal.Own.ref _ _ i).trans (Cert.InProductIdeal.Own.out m c).symm

/-- The frame of `SsmProductRefIdeal`; it declares no semaphore. -/
theorem frame_SsmProduct : Cert.quiescent_SsmProductRefIdeal := fun m ρ _ =>
  (θ_run Cert.SsmProductRefIdeal.defs _ _).mono (fun r h => ⟨fun c => ⟨(h c).2.1, (h c).2.2⟩,
    sem_eq_zero_of_no_sems (by decide) r.2⟩) (Cert.SsmProductRefIdeal.Value.run m ρ)

/-- The kernel's product for the recurrence branch's projection is the reference's. -/
theorem holds_SsmProduct : Cert.algebraic_SsmProductIdeal_SsmProductRefIdeal := by
  intro m g m' g' _ hagree
  refine ⟨_, Cert.SsmProductIdeal.Value.run_blocks m g, ?_⟩
  refine (θ_run Cert.SsmProductRefIdeal.defs _ _).mono (fun r h c => ?_) (Cert.SsmProductRefIdeal.Value.run m' g')
  obtain ⟨e, a0, a1⟩ := h c
  obtain ⟨g0, g1⟩ := hagree c
  refine ⟨?_, a0, a1⟩
  rw [e]
  refine (Cert.SsmProductRefIdeal.Read.val_main_v3_eq _ _).trans ?_
  rw [g0, g1]
  exact (funext fun i => Cert.SsmProductRefIdeal.Own.ref _ _ i).trans (Cert.SsmProductIdeal.Own.out m c).symm

/-- The frame of `BranchProductRefIdeal`; it declares no semaphore. -/
theorem frame_BranchProduct : Cert.quiescent_BranchProductRefIdeal := fun m ρ _ =>
  (θ_run Cert.BranchProductRefIdeal.defs _ _).mono (fun r h => ⟨fun c => ⟨(h c).2.1, (h c).2.2⟩,
    sem_eq_zero_of_no_sems (by decide) r.2⟩) (Cert.BranchProductRefIdeal.Value.run m ρ)

/-- The kernel's product for a square projection of a branch is the reference's. -/
theorem holds_BranchProduct : Cert.algebraic_BranchProductIdeal_BranchProductRefIdeal := by
  intro m g m' g' _ hagree
  refine ⟨_, Cert.BranchProductIdeal.Value.run_blocks m g, ?_⟩
  refine (θ_run Cert.BranchProductRefIdeal.defs _ _).mono (fun r h c => ?_) (Cert.BranchProductRefIdeal.Value.run m' g')
  obtain ⟨e, a0, a1⟩ := h c
  obtain ⟨g0, g1⟩ := hagree c
  refine ⟨?_, a0, a1⟩
  rw [e]
  refine (Cert.BranchProductRefIdeal.Read.val_main_v3_eq _ _).trans ?_
  rw [g0, g1]
  exact (funext fun i => Cert.BranchProductRefIdeal.Own.ref _ _ i).trans (Cert.BranchProductIdeal.Own.out m c).symm

/-- The frame of `OutProductRefIdeal`; it declares no semaphore. -/
theorem frame_OutProduct : Cert.quiescent_OutProductRefIdeal := fun m ρ _ =>
  (θ_run Cert.OutProductRefIdeal.defs _ _).mono (fun r h => ⟨fun c => ⟨(h c).2.1, (h c).2.2.1, (h c).2.2.2⟩,
    sem_eq_zero_of_no_sems (by decide) r.2⟩) (Cert.OutProductRefIdeal.Value.run m ρ)

/-- The kernel's product for the output projection with the layer's input added is the reference's. -/
theorem holds_OutProduct : Cert.algebraic_OutProductIdeal_OutProductRefIdeal := by
  intro m g m' g' _ hagree
  refine ⟨_, Cert.OutProductIdeal.Value.run_blocks m g, ?_⟩
  refine (θ_run Cert.OutProductRefIdeal.defs _ _).mono (fun r h c => ?_) (Cert.OutProductRefIdeal.Value.run m' g')
  obtain ⟨e, a0, a1, a2⟩ := h c
  obtain ⟨g0, g1, g2⟩ := hagree c
  refine ⟨?_, a0, a1, a2⟩
  rw [e]
  refine (Cert.OutProductRefIdeal.Read.val_main_v3_eq _ _ _).trans ?_
  rw [g0, g1, g2]
  exact (funext fun i => Cert.OutProductRefIdeal.Own.ref _ _ _ i).trans (Cert.OutProductIdeal.Own.out m c _ rfl).symm

/-- The frame of `NormRefIdeal`; it declares no semaphore. -/
theorem frame_Norm : Cert.quiescent_NormRefIdeal := fun m ρ _ =>
  (θ_run Cert.NormRefIdeal.defs _ _).mono (fun r h => ⟨fun c => ⟨(h c).2.2.2.1, (h c).2.2.2.2.1, (h c).2.2.2.2.2.1, (h c).2.2.2.2.2.2⟩,
    sem_eq_zero_of_no_sems (by decide) r.2⟩) (Cert.NormRefIdeal.Value.run m ρ)

/-- The kernel's gradient of the root-mean-square norm is the reference's. -/
theorem holds_Norm : Cert.algebraic_NormIdeal_NormRefIdeal := by
  intro m g m' g' _ hagree
  refine ⟨_, _, _, Cert.NormIdeal.Value.run_blocks m g, ?_⟩
  refine (θ_run Cert.NormRefIdeal.defs _ _).mono (fun r h c => ?_) (Cert.NormRefIdeal.Value.run m' g')
  obtain ⟨e0, e1, e2, a⟩ := h c
  obtain ⟨g0, g1, g2, g3⟩ := hagree c
  refine ⟨?_, ?_, ?_, a⟩
  · rw [e0]
    refine (Cert.NormRefIdeal.Read.val_main_v36_eq _ _ _ _).trans ?_
    rw [g0, g1, g2, g3]
    exact (Cert.NormRefIdeal.Own.ref36 _ _ _ _).trans (Cert.NormIdeal.Own.out4 m c).symm
  · rw [e1]
    refine (Cert.NormRefIdeal.Read.val_main_v38_eq _ _ _ _).trans ?_
    rw [g0, g1, g2, g3]
    exact (Cert.NormRefIdeal.Own.ref38 _ _ _ _).trans (Cert.NormIdeal.Own.out5 m c).symm
  · rw [e2]
    refine (Cert.NormRefIdeal.Read.val_main_v39_eq _ _).trans ?_
    rw [g0, g1]
    exact (funext fun i => Cert.NormRefIdeal.Own.ref39 _ _ i).trans (Cert.NormIdeal.Own.out6 m c).symm

/-- The frame of `GatedNormRefIdeal`; it declares no semaphore. -/
theorem frame_GatedNorm : Cert.quiescent_GatedNormRefIdeal := fun m ρ _ =>
  (θ_run Cert.GatedNormRefIdeal.defs _ _).mono (fun r h => ⟨fun c => ⟨(h c).2.2.2.1, (h c).2.2.2.2.1, (h c).2.2.2.2.2.1, (h c).2.2.2.2.2.2⟩,
    sem_eq_zero_of_no_sems (by decide) r.2⟩) (Cert.GatedNormRefIdeal.Value.run m ρ)

/-- The kernel's gradient of the gated norm is the reference's, of a cotangent and a weight whose entries are real numbers. -/
theorem holds_GatedNorm : Cert.algebraic_GatedNormIdeal_GatedNormRefIdeal_pre_finite_gnorm := by
  intro m g m' g' hpre hagree
  have hr := fun c => Cert.Pre_finite_gnorm.Own.reals _ _ _ _ (hpre c)
  refine ⟨_, _, _, Cert.GatedNormIdeal.Value.run_blocks m g, ?_⟩
  refine (θ_run Cert.GatedNormRefIdeal.defs _ _).mono (fun r h c => ?_) (Cert.GatedNormRefIdeal.Value.run m' g')
  obtain ⟨e0, e1, e2, a⟩ := h c
  obtain ⟨g0, g1, g2, g3⟩ := hagree c
  refine ⟨?_, ?_, ?_, a⟩
  · rw [e0]
    refine (Cert.GatedNormRefIdeal.Read.val_main_v47_eq _ _).trans ?_
    rw [g0, g1, g2, g3]
    exact (Cert.GatedNormRefIdeal.Own.ref47 _ _ _ _).trans (Cert.GatedNormIdeal.Own.out4 m c).symm
  · rw [e1]
    refine (Cert.GatedNormRefIdeal.Read.val_main_v46_eq _ _).trans ?_
    rw [g0, g1, g2, g3]
    exact (Cert.GatedNormRefIdeal.Own.ref46 _ _ _ _ (hr c).1 (hr c).2).trans (Cert.GatedNormIdeal.Own.out5 m c).symm
  · rw [e2]
    refine (Cert.GatedNormRefIdeal.Read.val_main_v48_eq _ _ _).trans ?_
    rw [g0, g1, g2]
    exact (Cert.GatedNormRefIdeal.Own.ref48 _ _ _).trans (Cert.GatedNormIdeal.Own.out6 m c).symm

/-- The frame of `NormForwardRefIdeal`; it declares no semaphore. -/
theorem frame_NormForward : Cert.quiescent_NormForwardRefIdeal := fun m ρ _ =>
  (θ_run Cert.NormForwardRefIdeal.defs _ _).mono (fun r h => ⟨fun c => (h c).2, sem_eq_zero_of_no_sems (by decide) r.2⟩) (Cert.NormForwardRefIdeal.Value.run m ρ)

/-- The kernel's normed rows are the reference's. -/
theorem holds_NormForward : Cert.algebraic_NormForwardIdeal_NormForwardRefIdeal := by
  intro m g m' g' _ hagree
  refine ⟨_, Cert.NormForwardIdeal.Value.run_blocks m g, ?_⟩
  refine (θ_run Cert.NormForwardRefIdeal.defs _ _).mono (fun r h c => ?_) (Cert.NormForwardRefIdeal.Value.run m' g')
  obtain ⟨e, a⟩ := h c
  obtain ⟨g0, g1⟩ := hagree c
  refine ⟨?_, a⟩
  rw [e]
  refine (Cert.NormForwardRefIdeal.Read.val_main_v13_eq _ _).trans ?_
  rw [g0, g1]
  exact (funext fun i => Cert.NormForwardRefIdeal.Own.ref _ _ i).trans (Cert.NormForwardIdeal.Own.out m c).symm

/-- The frame of `GatedForwardRefIdeal`; it declares no semaphore. -/
theorem frame_GatedForward : Cert.quiescent_GatedForwardRefIdeal := fun m ρ _ =>
  (θ_run Cert.GatedForwardRefIdeal.defs _ _).mono (fun r h => ⟨fun c => (h c).2, sem_eq_zero_of_no_sems (by decide) r.2⟩) (Cert.GatedForwardRefIdeal.Value.run m ρ)

/-- The kernel's normed gated rows are the reference's. -/
theorem holds_GatedForward : Cert.algebraic_GatedForwardIdeal_GatedForwardRefIdeal := by
  intro m g m' g' _ hagree
  refine ⟨_, Cert.GatedForwardIdeal.Value.run_blocks m g, ?_⟩
  refine (θ_run Cert.GatedForwardRefIdeal.defs _ _).mono (fun r h c => ?_) (Cert.GatedForwardRefIdeal.Value.run m' g')
  obtain ⟨e, a⟩ := h c
  obtain ⟨g0, g1, g2⟩ := hagree c
  refine ⟨?_, a⟩
  rw [e]
  refine (Cert.GatedForwardRefIdeal.Read.val_main_v18_eq _ _ _).trans ?_
  rw [g0, g1, g2]
  exact (funext fun i => Cert.GatedForwardRefIdeal.Own.ref _ _ _ i).trans (Cert.GatedForwardIdeal.Own.out m c).symm

theorem claim : Cert.Claim := ⟨Cert.Kernel.Gen.facts, Cert.KernelIdeal.Gen.facts, Cert.ReferenceIdeal.Gen.facts,
  Cert.InWeight.Gen.facts, Cert.InWeightIdeal.Gen.facts, Cert.InWeightRefIdeal.Gen.facts,
  Cert.InInput.Gen.facts, Cert.InInputIdeal.Gen.facts, Cert.InInputRefIdeal.Gen.facts,
  Cert.Merge.Gen.facts, Cert.MergeIdeal.Gen.facts, Cert.MergeRefIdeal.Gen.facts,
  Cert.OutInput.Gen.facts, Cert.OutInputIdeal.Gen.facts, Cert.OutInputRefIdeal.Gen.facts,
  Cert.OutWeight.Gen.facts, Cert.OutWeightIdeal.Gen.facts, Cert.OutWeightRefIdeal.Gen.facts,
  Cert.SsmInput.Gen.facts, Cert.SsmInputIdeal.Gen.facts, Cert.SsmInputRefIdeal.Gen.facts,
  Cert.SsmWeight.Gen.facts, Cert.SsmWeightIdeal.Gen.facts, Cert.SsmWeightRefIdeal.Gen.facts,
  Cert.InProduct.Gen.facts, Cert.InProductIdeal.Gen.facts, Cert.InProductRefIdeal.Gen.facts,
  Cert.SsmProduct.Gen.facts, Cert.SsmProductIdeal.Gen.facts, Cert.SsmProductRefIdeal.Gen.facts,
  Cert.BranchProduct.Gen.facts, Cert.BranchProductIdeal.Gen.facts, Cert.BranchProductRefIdeal.Gen.facts,
  Cert.OutProduct.Gen.facts, Cert.OutProductIdeal.Gen.facts, Cert.OutProductRefIdeal.Gen.facts,
  Cert.Norm.Gen.facts, Cert.NormIdeal.Gen.facts, Cert.NormRefIdeal.Gen.facts,
  Cert.GatedNorm.Gen.facts, Cert.GatedNormIdeal.Gen.facts, Cert.GatedNormRefIdeal.Gen.facts,
  Cert.NormForward.Gen.facts, Cert.NormForwardIdeal.Gen.facts, Cert.NormForwardRefIdeal.Gen.facts,
  Cert.GatedForward.Gen.facts, Cert.GatedForwardIdeal.Gen.facts, Cert.GatedForwardRefIdeal.Gen.facts,
  Cert.Pre_finite.Gen.facts, Cert.Pre_finite_gnorm.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.InWeight.Gen.frame m ρ,
  fun m ρ _ => Cert.InWeightIdeal.Gen.frame m ρ,
  frame_InWeight,
  fun m ρ _ => Cert.InInput.Gen.frame m ρ,
  fun m ρ _ => Cert.InInputIdeal.Gen.frame m ρ,
  frame_InInput,
  fun m ρ _ => Cert.Merge.Gen.frame m ρ,
  fun m ρ _ => Cert.MergeIdeal.Gen.frame m ρ,
  frame_Merge,
  fun m ρ _ => Cert.OutInput.Gen.frame m ρ,
  fun m ρ _ => Cert.OutInputIdeal.Gen.frame m ρ,
  frame_OutInput,
  fun m ρ _ => Cert.OutWeight.Gen.frame m ρ,
  fun m ρ _ => Cert.OutWeightIdeal.Gen.frame m ρ,
  frame_OutWeight,
  fun m ρ _ => Cert.SsmInput.Gen.frame m ρ,
  fun m ρ _ => Cert.SsmInputIdeal.Gen.frame m ρ,
  frame_SsmInput,
  fun m ρ _ => Cert.SsmWeight.Gen.frame m ρ,
  fun m ρ _ => Cert.SsmWeightIdeal.Gen.frame m ρ,
  frame_SsmWeight,
  fun m ρ _ => Cert.InProduct.Gen.frame m ρ,
  fun m ρ _ => Cert.InProductIdeal.Gen.frame m ρ,
  frame_InProduct,
  fun m ρ _ => Cert.SsmProduct.Gen.frame m ρ,
  fun m ρ _ => Cert.SsmProductIdeal.Gen.frame m ρ,
  frame_SsmProduct,
  fun m ρ _ => Cert.BranchProduct.Gen.frame m ρ,
  fun m ρ _ => Cert.BranchProductIdeal.Gen.frame m ρ,
  frame_BranchProduct,
  fun m ρ _ => Cert.OutProduct.Gen.frame m ρ,
  fun m ρ _ => Cert.OutProductIdeal.Gen.frame m ρ,
  frame_OutProduct,
  fun m ρ _ => Cert.Norm.Gen.frame m ρ,
  fun m ρ _ => Cert.NormIdeal.Gen.frame m ρ,
  frame_Norm,
  fun m ρ _ => Cert.GatedNorm.Gen.frame m ρ,
  fun m ρ _ => Cert.GatedNormIdeal.Gen.frame m ρ,
  fun m ρ _ => Cert.GatedNormIdeal.Gen.frame m ρ,
  frame_GatedNorm,
  fun m ρ _ => frame_GatedNorm m ρ trivial,
  fun m ρ _ => Cert.NormForward.Gen.frame m ρ,
  fun m ρ _ => Cert.NormForwardIdeal.Gen.frame m ρ,
  frame_NormForward,
  fun m ρ _ => Cert.GatedForward.Gen.frame m ρ,
  fun m ρ _ => Cert.GatedForwardIdeal.Gen.frame m ρ,
  frame_GatedForward,
  trivial,
  algebraic_holds,
  trivial,
  holds_InWeight,
  trivial,
  holds_InInput,
  trivial,
  holds_Merge,
  trivial,
  holds_OutInput,
  trivial,
  holds_OutWeight,
  trivial,
  holds_SsmInput,
  trivial,
  holds_SsmWeight,
  trivial,
  holds_InProduct,
  trivial,
  holds_SsmProduct,
  trivial,
  holds_BranchProduct,
  trivial,
  holds_OutProduct,
  trivial,
  holds_Norm,
  trivial,
  holds_GatedNorm,
  trivial,
  holds_NormForward,
  trivial,
  holds_GatedForward⟩

end Cert.Proof

end
